-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Experts [hPre_experts_named : Cert.Pre_experts_named.Facts] (m : (ℓ : Loc Cert.Experts.nD Cert.Experts.τ Cert.Experts.sig) → Buf (Elt Bits) ℓ) : Prop :=
  ∀ c : Dev Cert.Experts.nD,
    (Cert.Pre_experts_named.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_experts_named : Cert.Pre_experts_named.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_named.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_experts_named [hPre_experts_named : Cert.Pre_experts_named.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_experts_named.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))) = (fun _ => 1#1)

def Pre_NextExperts [hPre_experts_named : Cert.Pre_experts_named.Facts] (m : (ℓ : Loc Cert.NextExperts.nD Cert.NextExperts.τ Cert.NextExperts.sig) → Buf (Elt Bits) ℓ) : Prop :=
  ∀ c : Dev Cert.NextExperts.nD,
    (Cert.Pre_experts_named.fn (F := Bits) (m ((c.tc : Thread Cert.NextExperts.nD Cert.NextExperts.τ).loc Cert.NextExperts.main_arg0)) (m ((c.tc : Thread Cert.NextExperts.nD Cert.NextExperts.τ).loc Cert.NextExperts.main_arg1)) (m ((c.tc : Thread Cert.NextExperts.nD Cert.NextExperts.τ).loc Cert.NextExperts.main_arg2)) (m ((c.tc : Thread Cert.NextExperts.nD Cert.NextExperts.τ).loc Cert.NextExperts.main_arg3)) (m ((c.tc : Thread Cert.NextExperts.nD Cert.NextExperts.τ).loc Cert.NextExperts.main_arg4))) = (fun _ => 1#1)

def Pre_NextExpertsIdeal [hPre_experts_named : Cert.Pre_experts_named.Facts] (m : (ℓ : Loc Cert.NextExpertsIdeal.nD Cert.NextExpertsIdeal.τ Cert.NextExpertsIdeal.sig) → Buf (Elt Ideal) ℓ) : Prop :=
  ∀ c : Dev Cert.NextExpertsIdeal.nD,
    (Cert.Pre_experts_named.fn (F := Ideal) (m ((c.tc : Thread Cert.NextExpertsIdeal.nD Cert.NextExpertsIdeal.τ).loc Cert.NextExpertsIdeal.main_arg0)) (m ((c.tc : Thread Cert.NextExpertsIdeal.nD Cert.NextExpertsIdeal.τ).loc Cert.NextExpertsIdeal.main_arg1)) (m ((c.tc : Thread Cert.NextExpertsIdeal.nD Cert.NextExpertsIdeal.τ).loc Cert.NextExpertsIdeal.main_arg2)) (m ((c.tc : Thread Cert.NextExpertsIdeal.nD Cert.NextExpertsIdeal.τ).loc Cert.NextExpertsIdeal.main_arg3)) (m ((c.tc : Thread Cert.NextExpertsIdeal.nD Cert.NextExpertsIdeal.τ).loc Cert.NextExpertsIdeal.main_arg4))) = (fun _ => 1#1)

def Pre_NextExpertsReferenceIdeal (m : (ℓ : Loc Cert.NextExpertsReferenceIdeal.nD Cert.NextExpertsReferenceIdeal.τ Cert.NextExpertsReferenceIdeal.sig) → Buf (Elt Ideal) ℓ) : Prop :=
  True

def Pre_NextExpertsReferenceIdeal_experts_named [hPre_experts_named : Cert.Pre_experts_named.Facts] (m : (ℓ : Loc Cert.NextExpertsReferenceIdeal.nD Cert.NextExpertsReferenceIdeal.τ Cert.NextExpertsReferenceIdeal.sig) → Buf (Elt Ideal) ℓ) : Prop :=
  ∀ c : Dev Cert.NextExpertsReferenceIdeal.nD,
    (Cert.Pre_experts_named.fn (F := Ideal) (m ((c.tc : Thread Cert.NextExpertsReferenceIdeal.nD Cert.NextExpertsReferenceIdeal.τ).loc Cert.NextExpertsReferenceIdeal.main_arg0)) (m ((c.tc : Thread Cert.NextExpertsReferenceIdeal.nD Cert.NextExpertsReferenceIdeal.τ).loc Cert.NextExpertsReferenceIdeal.main_arg1)) (m ((c.tc : Thread Cert.NextExpertsReferenceIdeal.nD Cert.NextExpertsReferenceIdeal.τ).loc Cert.NextExpertsReferenceIdeal.main_arg2)) (m ((c.tc : Thread Cert.NextExpertsReferenceIdeal.nD Cert.NextExpertsReferenceIdeal.τ).loc Cert.NextExpertsReferenceIdeal.main_arg3)) (m ((c.tc : Thread Cert.NextExpertsReferenceIdeal.nD Cert.NextExpertsReferenceIdeal.τ).loc Cert.NextExpertsReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Experts [hExperts : Cert.Experts.Facts] [hPre_experts_named : Cert.Pre_experts_named.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_ExpertsReferenceIdeal_pre_experts_named [hExpertsReferenceIdeal : Cert.ExpertsReferenceIdeal.Facts] [hPre_experts_named : Cert.Pre_experts_named.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_experts_named m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_NextExperts [hNextExperts : Cert.NextExperts.Facts] [hPre_experts_named : Cert.Pre_experts_named.Facts] : Prop :=
  ∀ (m : (ℓ : Loc Cert.NextExperts.nD Cert.NextExperts.τ Cert.NextExperts.sig) → Buf (Elt Bits) ℓ) (g : Dev Cert.NextExperts.nD → PrngReg), Pre_NextExperts m →
    θ_run (Cert.NextExperts.defs (F := Bits)) (onTc (τ := Cert.NextExperts.τ) (Cert.NextExperts.main (F := Bits))) ⟨m, fun _ => 0, g⟩ (fun r => (∀ c : Dev Cert.NextExperts.nD,
      r.2.mem ((c.tc : Thread Cert.NextExperts.nD Cert.NextExperts.τ).loc Cert.NextExperts.main_arg0) = m ((c.tc : Thread Cert.NextExperts.nD Cert.NextExperts.τ).loc Cert.NextExperts.main_arg0)
      ∧ r.2.mem ((c.tc : Thread Cert.NextExperts.nD Cert.NextExperts.τ).loc Cert.NextExperts.main_arg1) = m ((c.tc : Thread Cert.NextExperts.nD Cert.NextExperts.τ).loc Cert.NextExperts.main_arg1)
      ∧ r.2.mem ((c.tc : Thread Cert.NextExperts.nD Cert.NextExperts.τ).loc Cert.NextExperts.main_arg2) = m ((c.tc : Thread Cert.NextExperts.nD Cert.NextExperts.τ).loc Cert.NextExperts.main_arg2)
      ∧ r.2.mem ((c.tc : Thread Cert.NextExperts.nD Cert.NextExperts.τ).loc Cert.NextExperts.main_arg3) = m ((c.tc : Thread Cert.NextExperts.nD Cert.NextExperts.τ).loc Cert.NextExperts.main_arg3)
      ∧ r.2.mem ((c.tc : Thread Cert.NextExperts.nD Cert.NextExperts.τ).loc Cert.NextExperts.main_arg4) = m ((c.tc : Thread Cert.NextExperts.nD Cert.NextExperts.τ).loc Cert.NextExperts.main_arg4))
      ∧ r.2.sem = fun _ => 0)

def quiescent_NextExpertsIdeal [hNextExpertsIdeal : Cert.NextExpertsIdeal.Facts] [hPre_experts_named : Cert.Pre_experts_named.Facts] : Prop :=
  ∀ (m : (ℓ : Loc Cert.NextExpertsIdeal.nD Cert.NextExpertsIdeal.τ Cert.NextExpertsIdeal.sig) → Buf (Elt Ideal) ℓ) (g : Dev Cert.NextExpertsIdeal.nD → PrngReg), Pre_NextExpertsIdeal m →
    θ_run (Cert.NextExpertsIdeal.defs (F := Ideal)) (onTc (τ := Cert.NextExpertsIdeal.τ) (Cert.NextExpertsIdeal.main (F := Ideal))) ⟨m, fun _ => 0, g⟩ (fun r => (∀ c : Dev Cert.NextExpertsIdeal.nD,
      r.2.mem ((c.tc : Thread Cert.NextExpertsIdeal.nD Cert.NextExpertsIdeal.τ).loc Cert.NextExpertsIdeal.main_arg0) = m ((c.tc : Thread Cert.NextExpertsIdeal.nD Cert.NextExpertsIdeal.τ).loc Cert.NextExpertsIdeal.main_arg0)
      ∧ r.2.mem ((c.tc : Thread Cert.NextExpertsIdeal.nD Cert.NextExpertsIdeal.τ).loc Cert.NextExpertsIdeal.main_arg1) = m ((c.tc : Thread Cert.NextExpertsIdeal.nD Cert.NextExpertsIdeal.τ).loc Cert.NextExpertsIdeal.main_arg1)
      ∧ r.2.mem ((c.tc : Thread Cert.NextExpertsIdeal.nD Cert.NextExpertsIdeal.τ).loc Cert.NextExpertsIdeal.main_arg2) = m ((c.tc : Thread Cert.NextExpertsIdeal.nD Cert.NextExpertsIdeal.τ).loc Cert.NextExpertsIdeal.main_arg2)
      ∧ r.2.mem ((c.tc : Thread Cert.NextExpertsIdeal.nD Cert.NextExpertsIdeal.τ).loc Cert.NextExpertsIdeal.main_arg3) = m ((c.tc : Thread Cert.NextExpertsIdeal.nD Cert.NextExpertsIdeal.τ).loc Cert.NextExpertsIdeal.main_arg3)
      ∧ r.2.mem ((c.tc : Thread Cert.NextExpertsIdeal.nD Cert.NextExpertsIdeal.τ).loc Cert.NextExpertsIdeal.main_arg4) = m ((c.tc : Thread Cert.NextExpertsIdeal.nD Cert.NextExpertsIdeal.τ).loc Cert.NextExpertsIdeal.main_arg4))
      ∧ r.2.sem = fun _ => 0)

def quiescent_NextExpertsReferenceIdeal [hNextExpertsReferenceIdeal : Cert.NextExpertsReferenceIdeal.Facts] : Prop :=
  ∀ (m : (ℓ : Loc Cert.NextExpertsReferenceIdeal.nD Cert.NextExpertsReferenceIdeal.τ Cert.NextExpertsReferenceIdeal.sig) → Buf (Elt Ideal) ℓ) (g : Dev Cert.NextExpertsReferenceIdeal.nD → PrngReg), Pre_NextExpertsReferenceIdeal m →
    θ_run (Cert.NextExpertsReferenceIdeal.defs (F := Ideal)) (onTc (τ := Cert.NextExpertsReferenceIdeal.τ) (Cert.NextExpertsReferenceIdeal.main (F := Ideal))) ⟨m, fun _ => 0, g⟩ (fun r => (∀ c : Dev Cert.NextExpertsReferenceIdeal.nD,
      r.2.mem ((c.tc : Thread Cert.NextExpertsReferenceIdeal.nD Cert.NextExpertsReferenceIdeal.τ).loc Cert.NextExpertsReferenceIdeal.main_arg0) = m ((c.tc : Thread Cert.NextExpertsReferenceIdeal.nD Cert.NextExpertsReferenceIdeal.τ).loc Cert.NextExpertsReferenceIdeal.main_arg0)
      ∧ r.2.mem ((c.tc : Thread Cert.NextExpertsReferenceIdeal.nD Cert.NextExpertsReferenceIdeal.τ).loc Cert.NextExpertsReferenceIdeal.main_arg1) = m ((c.tc : Thread Cert.NextExpertsReferenceIdeal.nD Cert.NextExpertsReferenceIdeal.τ).loc Cert.NextExpertsReferenceIdeal.main_arg1)
      ∧ r.2.mem ((c.tc : Thread Cert.NextExpertsReferenceIdeal.nD Cert.NextExpertsReferenceIdeal.τ).loc Cert.NextExpertsReferenceIdeal.main_arg2) = m ((c.tc : Thread Cert.NextExpertsReferenceIdeal.nD Cert.NextExpertsReferenceIdeal.τ).loc Cert.NextExpertsReferenceIdeal.main_arg2)
      ∧ r.2.mem ((c.tc : Thread Cert.NextExpertsReferenceIdeal.nD Cert.NextExpertsReferenceIdeal.τ).loc Cert.NextExpertsReferenceIdeal.main_arg3) = m ((c.tc : Thread Cert.NextExpertsReferenceIdeal.nD Cert.NextExpertsReferenceIdeal.τ).loc Cert.NextExpertsReferenceIdeal.main_arg3)
      ∧ r.2.mem ((c.tc : Thread Cert.NextExpertsReferenceIdeal.nD Cert.NextExpertsReferenceIdeal.τ).loc Cert.NextExpertsReferenceIdeal.main_arg4) = m ((c.tc : Thread Cert.NextExpertsReferenceIdeal.nD Cert.NextExpertsReferenceIdeal.τ).loc Cert.NextExpertsReferenceIdeal.main_arg4))
      ∧ r.2.sem = fun _ => 0)

def quiescent_NextExpertsReferenceIdeal_pre_experts_named [hNextExpertsReferenceIdeal : Cert.NextExpertsReferenceIdeal.Facts] [hPre_experts_named : Cert.Pre_experts_named.Facts] : Prop :=
  ∀ (m : (ℓ : Loc Cert.NextExpertsReferenceIdeal.nD Cert.NextExpertsReferenceIdeal.τ Cert.NextExpertsReferenceIdeal.sig) → Buf (Elt Ideal) ℓ) (g : Dev Cert.NextExpertsReferenceIdeal.nD → PrngReg), Pre_NextExpertsReferenceIdeal_experts_named m →
    θ_run (Cert.NextExpertsReferenceIdeal.defs (F := Ideal)) (onTc (τ := Cert.NextExpertsReferenceIdeal.τ) (Cert.NextExpertsReferenceIdeal.main (F := Ideal))) ⟨m, fun _ => 0, g⟩ (fun r => (∀ c : Dev Cert.NextExpertsReferenceIdeal.nD,
      r.2.mem ((c.tc : Thread Cert.NextExpertsReferenceIdeal.nD Cert.NextExpertsReferenceIdeal.τ).loc Cert.NextExpertsReferenceIdeal.main_arg0) = m ((c.tc : Thread Cert.NextExpertsReferenceIdeal.nD Cert.NextExpertsReferenceIdeal.τ).loc Cert.NextExpertsReferenceIdeal.main_arg0)
      ∧ r.2.mem ((c.tc : Thread Cert.NextExpertsReferenceIdeal.nD Cert.NextExpertsReferenceIdeal.τ).loc Cert.NextExpertsReferenceIdeal.main_arg1) = m ((c.tc : Thread Cert.NextExpertsReferenceIdeal.nD Cert.NextExpertsReferenceIdeal.τ).loc Cert.NextExpertsReferenceIdeal.main_arg1)
      ∧ r.2.mem ((c.tc : Thread Cert.NextExpertsReferenceIdeal.nD Cert.NextExpertsReferenceIdeal.τ).loc Cert.NextExpertsReferenceIdeal.main_arg2) = m ((c.tc : Thread Cert.NextExpertsReferenceIdeal.nD Cert.NextExpertsReferenceIdeal.τ).loc Cert.NextExpertsReferenceIdeal.main_arg2)
      ∧ r.2.mem ((c.tc : Thread Cert.NextExpertsReferenceIdeal.nD Cert.NextExpertsReferenceIdeal.τ).loc Cert.NextExpertsReferenceIdeal.main_arg3) = m ((c.tc : Thread Cert.NextExpertsReferenceIdeal.nD Cert.NextExpertsReferenceIdeal.τ).loc Cert.NextExpertsReferenceIdeal.main_arg3)
      ∧ r.2.mem ((c.tc : Thread Cert.NextExpertsReferenceIdeal.nD Cert.NextExpertsReferenceIdeal.τ).loc Cert.NextExpertsReferenceIdeal.main_arg4) = m ((c.tc : Thread Cert.NextExpertsReferenceIdeal.nD Cert.NextExpertsReferenceIdeal.τ).loc Cert.NextExpertsReferenceIdeal.main_arg4))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Experts_ExpertsIdeal : Prop :=
  IdealRules.bf16_pair.Statement Cert.ExpertsIdeal.S1x512x256 Cert.ExpertsIdeal.S1x256x256
  ∧ IdealRules.bf16_pair.Statement Cert.ExpertsIdeal.S512x256 Cert.ExpertsIdeal.S256x256
  ∧ IdealRules.bf16_pair.PackStatement Cert.ExpertsIdeal.S256x256

def algebraic_ExpertsIdeal_ExpertsReferenceIdeal_on_tiles_used [hExpertsIdeal : Cert.ExpertsIdeal.Facts] [hExpertsReferenceIdeal : Cert.ExpertsReferenceIdeal.Facts] [hPre_experts_named : Cert.Pre_experts_named.Facts] [hOn_tiles_used : Cert.On_tiles_used.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨3, ![2, 196608, 256]⟩ : Shape).Idx, (Cert.On_tiles_used.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) i = 1#1 → r.2.mem ((c.tc : Thread Cert.ExpertsIdeal.nD Cert.ExpertsIdeal.τ).loc Cert.ExpertsIdeal.main_v0) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          (∀ i : (⟨3, ![2, 196608, 256]⟩ : Shape).Idx, (Cert.On_tiles_used.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) i = 1#1 → r.2.mem ((c.tc : Thread Cert.ExpertsReferenceIdeal.nD Cert.ExpertsReferenceIdeal.τ).loc Cert.ExpertsReferenceIdeal.main_v28) i = v0 c i)
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4))

def preserves_NextExperts_NextExpertsIdeal : Prop :=
  IdealRules.bf16_pair.Statement Cert.NextExpertsIdeal.S1x512x256 Cert.NextExpertsIdeal.S1x256x256
  ∧ IdealRules.bf16_pair.Statement Cert.NextExpertsIdeal.S512x256 Cert.NextExpertsIdeal.S256x256
  ∧ IdealRules.bf16_pair.PackStatement Cert.NextExpertsIdeal.S256x256

def algebraic_NextExpertsIdeal_NextExpertsReferenceIdeal_on_tiles_used [hNextExpertsIdeal : Cert.NextExpertsIdeal.Facts] [hNextExpertsReferenceIdeal : Cert.NextExpertsReferenceIdeal.Facts] [hPre_experts_named : Cert.Pre_experts_named.Facts] [hOn_tiles_used : Cert.On_tiles_used.Facts] : Prop :=
  ∀ (m : (ℓ : Loc Cert.NextExpertsIdeal.nD Cert.NextExpertsIdeal.τ Cert.NextExpertsIdeal.sig) → Buf (Elt Ideal) ℓ) (g : Dev Cert.NextExpertsIdeal.nD → PrngReg)
    (m' : (ℓ : Loc Cert.NextExpertsReferenceIdeal.nD Cert.NextExpertsReferenceIdeal.τ Cert.NextExpertsReferenceIdeal.sig) → Buf (Elt Ideal) ℓ) (g' : Dev Cert.NextExpertsReferenceIdeal.nD → PrngReg), Pre_NextExpertsIdeal m →
    (∀ c : Dev Cert.NextExpertsIdeal.nD,
      m' ((c.tc : Thread Cert.NextExpertsReferenceIdeal.nD Cert.NextExpertsReferenceIdeal.τ).loc Cert.NextExpertsReferenceIdeal.main_arg0) = m ((c.tc : Thread Cert.NextExpertsIdeal.nD Cert.NextExpertsIdeal.τ).loc Cert.NextExpertsIdeal.main_arg0)
      ∧ m' ((c.tc : Thread Cert.NextExpertsReferenceIdeal.nD Cert.NextExpertsReferenceIdeal.τ).loc Cert.NextExpertsReferenceIdeal.main_arg1) = m ((c.tc : Thread Cert.NextExpertsIdeal.nD Cert.NextExpertsIdeal.τ).loc Cert.NextExpertsIdeal.main_arg1)
      ∧ m' ((c.tc : Thread Cert.NextExpertsReferenceIdeal.nD Cert.NextExpertsReferenceIdeal.τ).loc Cert.NextExpertsReferenceIdeal.main_arg2) = m ((c.tc : Thread Cert.NextExpertsIdeal.nD Cert.NextExpertsIdeal.τ).loc Cert.NextExpertsIdeal.main_arg2)
      ∧ m' ((c.tc : Thread Cert.NextExpertsReferenceIdeal.nD Cert.NextExpertsReferenceIdeal.τ).loc Cert.NextExpertsReferenceIdeal.main_arg3) = m ((c.tc : Thread Cert.NextExpertsIdeal.nD Cert.NextExpertsIdeal.τ).loc Cert.NextExpertsIdeal.main_arg3)
      ∧ m' ((c.tc : Thread Cert.NextExpertsReferenceIdeal.nD Cert.NextExpertsReferenceIdeal.τ).loc Cert.NextExpertsReferenceIdeal.main_arg4) = m ((c.tc : Thread Cert.NextExpertsIdeal.nD Cert.NextExpertsIdeal.τ).loc Cert.NextExpertsIdeal.main_arg4)) →
    ∃ (v0 : (c : Dev Cert.NextExpertsIdeal.nD) → Buf (Elt Ideal) ((c.tc : Thread Cert.NextExpertsIdeal.nD Cert.NextExpertsIdeal.τ).loc Cert.NextExpertsIdeal.main_v0)),
      θ_run (Cert.NextExpertsIdeal.defs (F := Ideal)) (onTc (τ := Cert.NextExpertsIdeal.τ) (Cert.NextExpertsIdeal.main (F := Ideal))) ⟨m, fun _ => 0, g⟩ (fun r => ∀ c : Dev Cert.NextExpertsIdeal.nD,
          (∀ i : (⟨3, ![2, 196608, 256]⟩ : Shape).Idx, (Cert.On_tiles_used.fn (F := Ideal) (m ((c.tc : Thread Cert.NextExpertsIdeal.nD Cert.NextExpertsIdeal.τ).loc Cert.NextExpertsIdeal.main_arg0)) (m ((c.tc : Thread Cert.NextExpertsIdeal.nD Cert.NextExpertsIdeal.τ).loc Cert.NextExpertsIdeal.main_arg1)) (m ((c.tc : Thread Cert.NextExpertsIdeal.nD Cert.NextExpertsIdeal.τ).loc Cert.NextExpertsIdeal.main_arg2)) (m ((c.tc : Thread Cert.NextExpertsIdeal.nD Cert.NextExpertsIdeal.τ).loc Cert.NextExpertsIdeal.main_arg3)) (m ((c.tc : Thread Cert.NextExpertsIdeal.nD Cert.NextExpertsIdeal.τ).loc Cert.NextExpertsIdeal.main_arg4))) i = 1#1 → r.2.mem ((c.tc : Thread Cert.NextExpertsIdeal.nD Cert.NextExpertsIdeal.τ).loc Cert.NextExpertsIdeal.main_v0) i = v0 c i)
          ∧ r.2.mem ((c.tc : Thread Cert.NextExpertsIdeal.nD Cert.NextExpertsIdeal.τ).loc Cert.NextExpertsIdeal.main_arg0) = m ((c.tc : Thread Cert.NextExpertsIdeal.nD Cert.NextExpertsIdeal.τ).loc Cert.NextExpertsIdeal.main_arg0)
          ∧ r.2.mem ((c.tc : Thread Cert.NextExpertsIdeal.nD Cert.NextExpertsIdeal.τ).loc Cert.NextExpertsIdeal.main_arg1) = m ((c.tc : Thread Cert.NextExpertsIdeal.nD Cert.NextExpertsIdeal.τ).loc Cert.NextExpertsIdeal.main_arg1)
          ∧ r.2.mem ((c.tc : Thread Cert.NextExpertsIdeal.nD Cert.NextExpertsIdeal.τ).loc Cert.NextExpertsIdeal.main_arg2) = m ((c.tc : Thread Cert.NextExpertsIdeal.nD Cert.NextExpertsIdeal.τ).loc Cert.NextExpertsIdeal.main_arg2)
          ∧ r.2.mem ((c.tc : Thread Cert.NextExpertsIdeal.nD Cert.NextExpertsIdeal.τ).loc Cert.NextExpertsIdeal.main_arg3) = m ((c.tc : Thread Cert.NextExpertsIdeal.nD Cert.NextExpertsIdeal.τ).loc Cert.NextExpertsIdeal.main_arg3)
          ∧ r.2.mem ((c.tc : Thread Cert.NextExpertsIdeal.nD Cert.NextExpertsIdeal.τ).loc Cert.NextExpertsIdeal.main_arg4) = m ((c.tc : Thread Cert.NextExpertsIdeal.nD Cert.NextExpertsIdeal.τ).loc Cert.NextExpertsIdeal.main_arg4))
      ∧ θ_run (Cert.NextExpertsReferenceIdeal.defs (F := Ideal)) (onTc (τ := Cert.NextExpertsReferenceIdeal.τ) (Cert.NextExpertsReferenceIdeal.main (F := Ideal))) ⟨m', fun _ => 0, g'⟩ (fun r => ∀ c : Dev Cert.NextExpertsReferenceIdeal.nD,
          (∀ i : (⟨3, ![2, 196608, 256]⟩ : Shape).Idx, (Cert.On_tiles_used.fn (F := Ideal) (m ((c.tc : Thread Cert.NextExpertsIdeal.nD Cert.NextExpertsIdeal.τ).loc Cert.NextExpertsIdeal.main_arg0)) (m ((c.tc : Thread Cert.NextExpertsIdeal.nD Cert.NextExpertsIdeal.τ).loc Cert.NextExpertsIdeal.main_arg1)) (m ((c.tc : Thread Cert.NextExpertsIdeal.nD Cert.NextExpertsIdeal.τ).loc Cert.NextExpertsIdeal.main_arg2)) (m ((c.tc : Thread Cert.NextExpertsIdeal.nD Cert.NextExpertsIdeal.τ).loc Cert.NextExpertsIdeal.main_arg3)) (m ((c.tc : Thread Cert.NextExpertsIdeal.nD Cert.NextExpertsIdeal.τ).loc Cert.NextExpertsIdeal.main_arg4))) i = 1#1 → r.2.mem ((c.tc : Thread Cert.NextExpertsReferenceIdeal.nD Cert.NextExpertsReferenceIdeal.τ).loc Cert.NextExpertsReferenceIdeal.main_v28) i = v0 c i)
          ∧ r.2.mem ((c.tc : Thread Cert.NextExpertsReferenceIdeal.nD Cert.NextExpertsReferenceIdeal.τ).loc Cert.NextExpertsReferenceIdeal.main_arg0) = m' ((c.tc : Thread Cert.NextExpertsReferenceIdeal.nD Cert.NextExpertsReferenceIdeal.τ).loc Cert.NextExpertsReferenceIdeal.main_arg0)
          ∧ r.2.mem ((c.tc : Thread Cert.NextExpertsReferenceIdeal.nD Cert.NextExpertsReferenceIdeal.τ).loc Cert.NextExpertsReferenceIdeal.main_arg1) = m' ((c.tc : Thread Cert.NextExpertsReferenceIdeal.nD Cert.NextExpertsReferenceIdeal.τ).loc Cert.NextExpertsReferenceIdeal.main_arg1)
          ∧ r.2.mem ((c.tc : Thread Cert.NextExpertsReferenceIdeal.nD Cert.NextExpertsReferenceIdeal.τ).loc Cert.NextExpertsReferenceIdeal.main_arg2) = m' ((c.tc : Thread Cert.NextExpertsReferenceIdeal.nD Cert.NextExpertsReferenceIdeal.τ).loc Cert.NextExpertsReferenceIdeal.main_arg2)
          ∧ r.2.mem ((c.tc : Thread Cert.NextExpertsReferenceIdeal.nD Cert.NextExpertsReferenceIdeal.τ).loc Cert.NextExpertsReferenceIdeal.main_arg3) = m' ((c.tc : Thread Cert.NextExpertsReferenceIdeal.nD Cert.NextExpertsReferenceIdeal.τ).loc Cert.NextExpertsReferenceIdeal.main_arg3)
          ∧ r.2.mem ((c.tc : Thread Cert.NextExpertsReferenceIdeal.nD Cert.NextExpertsReferenceIdeal.τ).loc Cert.NextExpertsReferenceIdeal.main_arg4) = m' ((c.tc : Thread Cert.NextExpertsReferenceIdeal.nD Cert.NextExpertsReferenceIdeal.τ).loc Cert.NextExpertsReferenceIdeal.main_arg4))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hNextExperts : Cert.NextExperts.Facts) (hNextExpertsIdeal : Cert.NextExpertsIdeal.Facts) (hNextExpertsReferenceIdeal : Cert.NextExpertsReferenceIdeal.Facts) (hPre_finite : Cert.Pre_finite.Facts) (hPre_experts_named : Cert.Pre_experts_named.Facts) (hOn_tiles_used : Cert.On_tiles_used.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_experts_named := hPre_experts_named)
    ∧ quiescent_ExpertsIdeal (hExpertsIdeal := hExpertsIdeal) (hPre_experts_named := hPre_experts_named)
    ∧ quiescent_ExpertsReferenceIdeal (hExpertsReferenceIdeal := hExpertsReferenceIdeal)
    ∧ quiescent_ExpertsReferenceIdeal_pre_experts_named (hExpertsReferenceIdeal := hExpertsReferenceIdeal) (hPre_experts_named := hPre_experts_named)
    ∧ quiescent_NextExperts (hNextExperts := hNextExperts) (hPre_experts_named := hPre_experts_named)
    ∧ quiescent_NextExpertsIdeal (hNextExpertsIdeal := hNextExpertsIdeal) (hPre_experts_named := hPre_experts_named)
    ∧ quiescent_NextExpertsReferenceIdeal (hNextExpertsReferenceIdeal := hNextExpertsReferenceIdeal)
    ∧ quiescent_NextExpertsReferenceIdeal_pre_experts_named (hNextExpertsReferenceIdeal := hNextExpertsReferenceIdeal) (hPre_experts_named := hPre_experts_named)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal_on_tiles_used (hExpertsIdeal := hExpertsIdeal) (hExpertsReferenceIdeal := hExpertsReferenceIdeal) (hPre_experts_named := hPre_experts_named) (hOn_tiles_used := hOn_tiles_used)
    ∧ preserves_NextExperts_NextExpertsIdeal
    ∧ algebraic_NextExpertsIdeal_NextExpertsReferenceIdeal_on_tiles_used (hNextExpertsIdeal := hNextExpertsIdeal) (hNextExpertsReferenceIdeal := hNextExpertsReferenceIdeal) (hPre_experts_named := hPre_experts_named) (hOn_tiles_used := hOn_tiles_used)
-- ==== On_tiles_used.lean ====
abbrev S2x196608x256 : Shape := ⟨3, ![2, 196608, 256]⟩
abbrev S96 : Shape := ⟨1, ![96]⟩
abbrev S1 : Shape := ⟨1, ![1]⟩
abbrev S2x32x1024x512 : Shape := ⟨4, ![2, 32, 1024, 512]⟩
abbrev S2x32x256x1024 : Shape := ⟨4, ![2, 32, 256, 1024]⟩
abbrev S2x96x2048x256 : Shape := ⟨4, ![2, 96, 2048, 256]⟩
abbrev S_ : Shape := ⟨0, ![]⟩

class Facts : Prop where
  shapeCasts_S1_S_ : S1.ShapeCasts S_
  bcast_S_S2x96x2048x256 : S_.BroadcastsInDim S2x96x2048x256 (![] : Fin 0 → Fin S2x96x2048x256.rank)
  shapeCasts_S2x96x2048x256_S2x196608x256 : S2x96x2048x256.ShapeCasts S2x196608x256

variable [Facts]

def fn {F : FTy → Type} [FloatOps F] (main_arg0 : FVec F S2x196608x256 .bf16) (main_arg1 : IVec S96 32) (main_arg2 : IVec S1 32) (main_arg3 : FVec F S2x32x1024x512 .f32) (main_arg4 : FVec F S2x32x256x1024 .f32) : IVec S2x196608x256 1 :=
  let main_v0 : IVec S2x96x2048x256 32 := iotaInDim S2x96x2048x256 32 1
  let main_v1 : IVec S_ 32 := shapeCast S_ main_arg2 shapeCasts_S1_S_
  let main_v2 : IVec S2x96x2048x256 32 := broadcastInDim S2x96x2048x256 ![] bcast_S_S2x96x2048x256 main_v1
  let main_v3 : IVec S2x96x2048x256 1 := cmpi .slt main_v0 main_v2
  let main_v4 : IVec S2x196608x256 1 := shapeCast S2x196608x256 main_v3 shapeCasts_S2x96x2048x256_S2x196608x256
  main_v4
-- ==== Pre_experts_named.lean ====
abbrev S2x196608x256 : Shape := ⟨3, ![2, 196608, 256]⟩
abbrev S96 : Shape := ⟨1, ![96]⟩
abbrev S1 : Shape := ⟨1, ![1]⟩
abbrev S2x32x1024x512 : Shape := ⟨4, ![2, 32, 1024, 512]⟩
abbrev S2x32x256x1024 : Shape := ⟨4, ![2, 32, 256, 1024]⟩
abbrev S_ : Shape := ⟨0, ![]⟩

class Facts : Prop where
  bcast_S_S96 : S_.BroadcastsInDim S96 (![] : Fin 0 → Fin S96.rank)
  reducesTo_S96_S_d0 : S96.ReducesTo [0] S_
  h_S_ : 0 < S_.numel

variable [Facts]

def fn {F : FTy → Type} [FloatOps F] (main_arg0 : FVec F S2x196608x256 .bf16) (main_arg1 : IVec S96 32) (main_arg2 : IVec S1 32) (main_arg3 : FVec F S2x32x1024x512 .f32) (main_arg4 : FVec F S2x32x256x1024 .f32) : IVec S_ 1 :=
  let main_c : IVec S_ 32 := constantI S_ 32 0#32
  let main_v0 : IVec S96 32 := broadcastInDim S96 ![] bcast_S_S96 main_c
  let main_v1 : IVec S96 1 := cmpi .sge main_arg1 main_v0
  let main_c_0 : IVec S_ 32 := constantI S_ 32 32#32
  let main_v2 : IVec S96 32 := broadcastInDim S96 ![] bcast_S_S96 main_c_0
  let main_v3 : IVec S96 1 := cmpi .slt main_arg1 main_v2
  let main_v4 : IVec S96 1 := andi main_v1 main_v3
  let main_c_1 : IVec S_ 1 := constantI S_ 1 1#1
  let main_v5 : IVec S_ 1 := (fun x v => Host.reduce IntOp.andi x v reducesTo_S96_S_d0 h_S_) main_v4 main_c_1
  main_v5
-- ==== Pre_finite.lean ====
abbrev S4x8192x3072 : Shape := ⟨3, ![4, 8192, 3072]⟩
abbrev S4x1024x8192 : Shape := ⟨3, ![4, 1024, 8192]⟩
abbrev S4x64 : Shape := ⟨2, ![4, 64]⟩
abbrev S128x1 : Shape := ⟨2, ![128, 1]⟩
abbrev S_ : Shape := ⟨0, ![]⟩

class Facts : Prop where
  bitsLt_bf16_f32 : FTy.bits .bf16 < FTy.bits .f32
  bcast_S_S4x1024x8192 : S_.BroadcastsInDim S4x1024x8192 (![] : Fin 0 → Fin S4x1024x8192.rank)
  reducesTo_S4x1024x8192_S_d0_1_2 : S4x1024x8192.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S4x8192x3072 .bf16) (main_arg1 : FVec F S4x1024x8192 .bf16) (main_arg2 : FVec F S4x64 .f32) (main_arg3 : FVec F S128x1 .f32) : IVec S_ 1 :=
  let main_v0 : FVec F S4x1024x8192 .f32 := (extf .f32 · bitsLt_bf16_f32) main_arg1
  let main_v1 : FVec F S4x1024x8192 .f32 := Host.absf main_v0
  let main_cst : FVec F S_ .f32 := constant S_ .f32 0x7F800000#32
  let main_v2 : FVec F S4x1024x8192 .f32 := broadcastInDim S4x1024x8192 ![] bcast_S_S4x1024x8192 main_cst
  let main_v3 : IVec S4x1024x8192 1 := cmpf .olt main_v1 main_v2
  let main_c : IVec S_ 1 := constantI S_ 1 1#1
  let main_v4 : IVec S_ 1 := (fun x v => Host.reduce IntOp.andi x v reducesTo_S4x1024x8192_S_d0_1_2 h_S_) main_v3 main_c
  let main_v5 : FVec F S4x64 .f32 := Host.absf main_arg2
  let main_cst_0 : FVec F S_ .f32 := constant S_ .f32 0x7F800000#32
  let main_v6 : FVec F S4x64 .f32 := broadcastInDim S4x64 ![] bcast_S_S4x64 main_cst_0
  let main_v7 : IVec S4x64 1 := cmpf .olt main_v5 main_v6
  let main_c_1 : IVec S_ 1 := constantI S_ 1 1#1
  let main_v8 : IVec S_ 1 := (fun x v => Host.reduce IntOp.andi x v reducesTo_S4x64_S_d0_1 h_S_) main_v7 main_c_1
  let main_v9 : IVec S_ 1 := andi main_v4 main_v8
  main_v9
-- ==== Kernel.lean ====
abbrev S4x8192x3072 : Shape := ⟨3, ![4, 8192, 3072]⟩
abbrev S4x1024x8192 : Shape := ⟨3, ![4, 1024, 8192]⟩
abbrev S4x64 : Shape := ⟨2, ![4, 64]⟩
abbrev S128x1 : Shape := ⟨2, ![128, 1]⟩
abbrev S4x8192x1024 : Shape := ⟨3, ![4, 8192, 1024]⟩
abbrev S1x2048x128 : Shape := ⟨3, ![1, 2048, 128]⟩
abbrev S1x8192x128 : Shape := ⟨3, ![1, 8192, 128]⟩
abbrev S1x128x8192 : Shape := ⟨3, ![1, 128, 8192]⟩
abbrev S4096x128 : Shape := ⟨2, ![4096, 128]⟩
abbrev S1x4096 : Shape := ⟨2, ![1, 4096]⟩
abbrev S128x4096 : Shape := ⟨2, ![128, 4096]⟩
abbrev S2048x128 : Shape := ⟨2, ![2048, 128]⟩
abbrev S512x128 : Shape := ⟨2, ![512, 128]⟩
abbrev S2048x512 : Shape := ⟨2, ![2048, 512]⟩
abbrev S512 : Shape := ⟨1, ![512]⟩
abbrev S1x512 : Shape := ⟨2, ![1, 512]⟩
abbrev S1x128x2048 : Shape := ⟨3, ![1, 128, 2048]⟩
abbrev S128x2048 : Shape := ⟨2, ![128, 2048]⟩
abbrev S128x512 : Shape := ⟨2, ![128, 512]⟩
abbrev S1 : Shape := ⟨1, ![1]⟩
abbrev S1x1 : Shape := ⟨2, ![1, 1]⟩
abbrev S1x1x1 : Shape := ⟨3, ![1, 1, 1]⟩
abbrev S1x512x128 : Shape := ⟨3, ![1, 512, 128]⟩
abbrev S512x512 : Shape := ⟨2, ![512, 512]⟩
abbrev S1x1024x128 : Shape := ⟨3, ![1, 1024, 128]⟩
abbrev S1024x128 : Shape := ⟨2, ![1024, 128]⟩
abbrev S1024x512 : Shape := ⟨2, ![1024, 512]⟩
abbrev S1x128x512 : Shape := ⟨3, ![1, 128, 512]⟩
abbrev S1x1536x128 : Shape := ⟨3, ![1, 1536, 128]⟩
abbrev S1536x128 : Shape := ⟨2, ![1536, 128]⟩
abbrev S1536x512 : Shape := ⟨2, ![1536, 512]⟩
abbrev S1x128x1024 : Shape := ⟨3, ![1, 128, 1024]⟩
abbrev S128x1024 : Shape := ⟨2, ![128, 1024]⟩
abbrev S1x128x1536 : Shape := ⟨3, ![1, 128, 1536]⟩
abbrev S128x1536 : Shape := ⟨2, ![128, 1536]⟩
abbrev S1x64 : Shape := ⟨2, ![1, 64]⟩
abbrev S2048 : Shape := ⟨1, ![2048]⟩
abbrev S1x2048 : Shape := ⟨2, ![1, 2048]⟩

abbrev nBuf : Space → Nat
  | .hbm => 5
  | .vmem => 15
  | .smem => 0
  | _ => 0

abbrev bufTy : (tb : Table) → Fin (tcTables nBuf tb) → BufTy
  | .hbm, ⟨0, _⟩ => ⟨S4x8192x3072, .bf16⟩
  | .hbm, ⟨1, _⟩ => ⟨S4x1024x8192, .bf16⟩
  | .hbm, ⟨2, _⟩ => ⟨S4x64, .f32⟩
  | .hbm, ⟨3, _⟩ => ⟨S128x1, .f32⟩
  | .hbm, ⟨4, _⟩ => ⟨S4x8192x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x128x8192, .bf16⟩
  | .local _ .vmem, ⟨5, _⟩ => ⟨S1x128x8192, .bf16⟩
  | .local _ .vmem, ⟨6, _⟩ => ⟨S4x64, .f32⟩
  | .local _ .vmem, ⟨7, _⟩ => ⟨S128x1, .f32⟩
  | .local _ .vmem, ⟨8, _⟩ => ⟨S1x2048x128, .bf16⟩
  | .local _ .vmem, ⟨9, _⟩ => ⟨S1x2048x128, .bf16⟩
  | .local _ .vmem, ⟨10, _⟩ => ⟨S4096x128, .bf16⟩
  | .local _ .vmem, ⟨11, _⟩ => ⟨S1x4096, .f32⟩
  | .local _ .vmem, ⟨12, _⟩ => ⟨S1x4096, .f32⟩
  | .local _ .vmem, ⟨13, _⟩ => ⟨S1x4096, .f32⟩
  | .local _ .vmem, ⟨14, _⟩ => ⟨S128x4096, .f32⟩
  | _, _ => ⟨S4x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 8, 4], ![false, false, false]⟩

@[reducible] def k0_t1_loop (i : grid0.Coords) : Scf.Loop 32 :=
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let c1_i32_21 : BitVec 32 := 1#32
  ⟨c0_i32_20, v42, c1_i32_21⟩
def k0_mult1 (i : grid0.Coords) (k0_t1 : Fin (k0_t1_loop i).trips) : BitVec 32 :=
  let c0_i32_20 : BitVec 32 := 0#32
  let c1_i32_21 : BitVec 32 := 1#32
  let arg14 : BitVec 32 := Scf.iv c0_i32_20 c1_i32_21 k0_t1
  let c2048_i32_308 : BitVec 32 := 2048#32
  let v731 : BitVec 32 := Scalar.muli arg14 c2048_i32_308
  v731
def k0_mult2 (i : grid0.Coords) (k0_t1 : Fin (k0_t1_loop i).trips) : BitVec 32 :=
  let c0_i32_20 : BitVec 32 := 0#32
  let c1_i32_21 : BitVec 32 := 1#32
  let arg14 : BitVec 32 := Scf.iv c0_i32_20 c1_i32_21 k0_t1
  let c2048_i32_309 : BitVec 32 := 2048#32
  let v733 : BitVec 32 := Scalar.muli arg14 c2048_i32_309
  v733
def k0_off1 (i : grid0.Coords) (k0_t1 : Fin (k0_t1_loop i).trips) : Fin 3 → Nat :=
  let c0_310 : Index := 0#32
  let c0_i32_20 : BitVec 32 := 0#32
  let c1_i32_21 : BitVec 32 := 1#32
  let arg14 : BitVec 32 := Scf.iv c0_i32_20 c1_i32_21 k0_t1
  let c2048_i32_309 : BitVec 32 := 2048#32
  let v733 : BitVec 32 := Scalar.muli arg14 c2048_i32_309
  let v734 : BitVec 32 := v733
  let v735 : Index := Scalar.indexCast v734
  let c0_311 : Index := 0#32
  ![0, v735.toNat, 0]
def k0_mult3 (i : grid0.Coords) (k0_t1 : Fin (k0_t1_loop i).trips) : BitVec 32 :=
  let c0_i32_20 : BitVec 32 := 0#32
  let c1_i32_21 : BitVec 32 := 1#32
  let arg14 : BitVec 32 := Scf.iv c0_i32_20 c1_i32_21 k0_t1
  let c2048_i32_316 : BitVec 32 := 2048#32
  let v742 : BitVec 32 := Scalar.muli arg14 c2048_i32_316
  v742
def k0_off2 (i : grid0.Coords) (k0_t1 : Fin (k0_t1_loop i).trips) : Fin 3 → Nat :=
  let c0_323 : Index := 0#32
  let c0_324 : Index := 0#32
  let c0_i32_20 : BitVec 32 := 0#32
  let c1_i32_21 : BitVec 32 := 1#32
  let arg14 : BitVec 32 := Scf.iv c0_i32_20 c1_i32_21 k0_t1
  let c2048_i32_308 : BitVec 32 := 2048#32
  let v731 : BitVec 32 := Scalar.muli arg14 c2048_i32_308
  let v732 : BitVec 32 := v731
  let v751 : Index := Scalar.indexCast v732
  ![0, 0, v751.toNat]
def k0_mult4 (i : grid0.Coords) (k0_t1 : Fin (k0_t1_loop i).trips) : BitVec 32 :=
  let c0_i32_20 : BitVec 32 := 0#32
  let c1_i32_21 : BitVec 32 := 1#32
  let arg14 : BitVec 32 := Scf.iv c0_i32_20 c1_i32_21 k0_t1
  let c2048_i32_331 : BitVec 32 := 2048#32
  let v763 : BitVec 32 := Scalar.muli arg14 c2048_i32_331
  v763
def k0_mult5 (i : grid0.Coords) (k0_t1 : Fin (k0_t1_loop i).trips) : BitVec 32 :=
  let c0_i32_20 : BitVec 32 := 0#32
  let c1_i32_21 : BitVec 32 := 1#32
  let arg14 : BitVec 32 := Scf.iv c0_i32_20 c1_i32_21 k0_t1
  let c2048_i32_346 : BitVec 32 := 2048#32
  let v784 : BitVec 32 := Scalar.muli arg14 c2048_i32_346
  v784
def k0_mult6 (i : grid0.Coords) (k0_t1 : Fin (k0_t1_loop i).trips) : BitVec 32 :=
  let c0_i32_20 : BitVec 32 := 0#32
  let c1_i32_21 : BitVec 32 := 1#32
  let arg14 : BitVec 32 := Scf.iv c0_i32_20 c1_i32_21 k0_t1
  let c2048_i32_361 : BitVec 32 := 2048#32
  let v805 : BitVec 32 := Scalar.muli arg14 c2048_i32_361
  v805
def k0_mult7 (i : grid0.Coords) (k0_t1 : Fin (k0_t1_loop i).trips) : BitVec 32 :=
  let c0_i32_20 : BitVec 32 := 0#32
  let c1_i32_21 : BitVec 32 := 1#32
  let arg14 : BitVec 32 := Scf.iv c0_i32_20 c1_i32_21 k0_t1
  let c2048_i32_376 : BitVec 32 := 2048#32
  let v826 : BitVec 32 := Scalar.muli arg14 c2048_i32_376
  v826
def k0_mult8 (i : grid0.Coords) (k0_t1 : Fin (k0_t1_loop i).trips) : BitVec 32 :=
  let c0_i32_20 : BitVec 32 := 0#32
  let c1_i32_21 : BitVec 32 := 1#32
  let arg14 : BitVec 32 := Scf.iv c0_i32_20 c1_i32_21 k0_t1
  let c2048_i32_391 : BitVec 32 := 2048#32
  let v847 : BitVec 32 := Scalar.muli arg14 c2048_i32_391
  v847
def k0_mult9 (i : grid0.Coords) (k0_t1 : Fin (k0_t1_loop i).trips) : BitVec 32 :=
  let c0_i32_20 : BitVec 32 := 0#32
  let c1_i32_21 : BitVec 32 := 1#32
  let arg14 : BitVec 32 := Scf.iv c0_i32_20 c1_i32_21 k0_t1
  let c2048_i32_406 : BitVec 32 := 2048#32
  let v868 : BitVec 32 := Scalar.muli arg14 c2048_i32_406
  v868
def k0_mult10 (i : grid0.Coords) (k0_t1 : Fin (k0_t1_loop i).trips) : BitVec 32 :=
  let c0_i32_20 : BitVec 32 := 0#32
  let c1_i32_21 : BitVec 32 := 1#32
  let arg14 : BitVec 32 := Scf.iv c0_i32_20 c1_i32_21 k0_t1
  let c2048_i32_562 : BitVec 32 := 2048#32
  let v1302 : BitVec 32 := Scalar.muli arg14 c2048_i32_562
  v1302
def k0_mult11 (i : grid0.Coords) (k0_t1 : Fin (k0_t1_loop i).trips) : BitVec 32 :=
  let c0_i32_20 : BitVec 32 := 0#32
  let c1_i32_21 : BitVec 32 := 1#32
  let arg14 : BitVec 32 := Scf.iv c0_i32_20 c1_i32_21 k0_t1
  let c2048_i32_563 : BitVec 32 := 2048#32
  let v1304 : BitVec 32 := Scalar.muli arg14 c2048_i32_563
  v1304
def k0_off3 (i : grid0.Coords) (k0_t1 : Fin (k0_t1_loop i).trips) : Fin 3 → Nat :=
  let c0_564 : Index := 0#32
  let c0_i32_20 : BitVec 32 := 0#32
  let c1_i32_21 : BitVec 32 := 1#32
  let arg14 : BitVec 32 := Scf.iv c0_i32_20 c1_i32_21 k0_t1
  let c2048_i32_563 : BitVec 32 := 2048#32
  let v1304 : BitVec 32 := Scalar.muli arg14 c2048_i32_563
  let v1305 : BitVec 32 := v1304
  let v1306 : Index := Scalar.indexCast v1305
  let c0_565 : Index := 0#32
  ![0, v1306.toNat, 0]
def k0_mult12 (i : grid0.Coords) (k0_t1 : Fin (k0_t1_loop i).trips) : BitVec 32 :=
  let c0_i32_20 : BitVec 32 := 0#32
  let c1_i32_21 : BitVec 32 := 1#32
  let arg14 : BitVec 32 := Scf.iv c0_i32_20 c1_i32_21 k0_t1
  let c2048_i32_570 : BitVec 32 := 2048#32
  let v1313 : BitVec 32 := Scalar.muli arg14 c2048_i32_570
  v1313
def k0_off4 (i : grid0.Coords) (k0_t1 : Fin (k0_t1_loop i).trips) : Fin 3 → Nat :=
  let c0_577 : Index := 0#32
  let c0_578 : Index := 0#32
  let c0_i32_20 : BitVec 32 := 0#32
  let c1_i32_21 : BitVec 32 := 1#32
  let arg14 : BitVec 32 := Scf.iv c0_i32_20 c1_i32_21 k0_t1
  let c2048_i32_562 : BitVec 32 := 2048#32
  let v1302 : BitVec 32 := Scalar.muli arg14 c2048_i32_562
  let v1303 : BitVec 32 := v1302
  let v1322 : Index := Scalar.indexCast v1303
  ![0, 0, v1322.toNat]
def k0_mult13 (i : grid0.Coords) (k0_t1 : Fin (k0_t1_loop i).trips) : BitVec 32 :=
  let c0_i32_20 : BitVec 32 := 0#32
  let c1_i32_21 : BitVec 32 := 1#32
  let arg14 : BitVec 32 := Scf.iv c0_i32_20 c1_i32_21 k0_t1
  let c2048_i32_599 : BitVec 32 := 2048#32
  let v1360 : BitVec 32 := Scalar.muli arg14 c2048_i32_599
  v1360
def k0_mult14 (i : grid0.Coords) (k0_t1 : Fin (k0_t1_loop i).trips) : BitVec 32 :=
  let c0_i32_20 : BitVec 32 := 0#32
  let c1_i32_21 : BitVec 32 := 1#32
  let arg14 : BitVec 32 := Scf.iv c0_i32_20 c1_i32_21 k0_t1
  let c2048_i32_628 : BitVec 32 := 2048#32
  let v1407 : BitVec 32 := Scalar.muli arg14 c2048_i32_628
  v1407
def k0_mult15 (i : grid0.Coords) (k0_t1 : Fin (k0_t1_loop i).trips) : BitVec 32 :=
  let c0_i32_20 : BitVec 32 := 0#32
  let c1_i32_21 : BitVec 32 := 1#32
  let arg14 : BitVec 32 := Scf.iv c0_i32_20 c1_i32_21 k0_t1
  let c2048_i32_657 : BitVec 32 := 2048#32
  let v1454 : BitVec 32 := Scalar.muli arg14 c2048_i32_657
  v1454
def k0_mult16 (i : grid0.Coords) (k0_t1 : Fin (k0_t1_loop i).trips) : BitVec 32 :=
  let c0_i32_20 : BitVec 32 := 0#32
  let c1_i32_21 : BitVec 32 := 1#32
  let arg14 : BitVec 32 := Scf.iv c0_i32_20 c1_i32_21 k0_t1
  let c2048_i32_686 : BitVec 32 := 2048#32
  let v1501 : BitVec 32 := Scalar.muli arg14 c2048_i32_686
  v1501
def k0_mult17 (i : grid0.Coords) (k0_t1 : Fin (k0_t1_loop i).trips) : BitVec 32 :=
  let c0_i32_20 : BitVec 32 := 0#32
  let c1_i32_21 : BitVec 32 := 1#32
  let arg14 : BitVec 32 := Scf.iv c0_i32_20 c1_i32_21 k0_t1
  let c2048_i32_715 : BitVec 32 := 2048#32
  let v1548 : BitVec 32 := Scalar.muli arg14 c2048_i32_715
  v1548
def k0_mult18 (i : grid0.Coords) (k0_t1 : Fin (k0_t1_loop i).trips) : BitVec 32 :=
  let c0_i32_20 : BitVec 32 := 0#32
  let c1_i32_21 : BitVec 32 := 1#32
  let arg14 : BitVec 32 := Scf.iv c0_i32_20 c1_i32_21 k0_t1
  let c2048_i32_744 : BitVec 32 := 2048#32
  let v1595 : BitVec 32 := Scalar.muli arg14 c2048_i32_744
  v1595
@[reducible] def k0_t2_loop (i : grid0.Coords) : Scf.Loop 32 :=
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let v39 : BitVec 32 := Scalar.addi c0_i32_20 v38
  let c1_i32_22 : BitVec 32 := 1#32
  ⟨v42, v39, c1_i32_22⟩
def k0_mult19 (i : grid0.Coords) (k0_t2 : Fin (k0_t2_loop i).trips) : BitVec 32 :=
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let c1_i32_22 : BitVec 32 := 1#32
  let arg14 : BitVec 32 := Scf.iv v42 c1_i32_22 k0_t2
  let c2048_i32_308 : BitVec 32 := 2048#32
  let v731 : BitVec 32 := Scalar.muli arg14 c2048_i32_308
  v731
def k0_mult20 (i : grid0.Coords) (k0_t2 : Fin (k0_t2_loop i).trips) : BitVec 32 :=
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let c1_i32_22 : BitVec 32 := 1#32
  let arg14 : BitVec 32 := Scf.iv v42 c1_i32_22 k0_t2
  let c2048_i32_309 : BitVec 32 := 2048#32
  let v733 : BitVec 32 := Scalar.muli arg14 c2048_i32_309
  v733
def k0_off5 (i : grid0.Coords) (k0_t2 : Fin (k0_t2_loop i).trips) : Fin 3 → Nat :=
  let c0_310 : Index := 0#32
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let c1_i32_22 : BitVec 32 := 1#32
  let arg14 : BitVec 32 := Scf.iv v42 c1_i32_22 k0_t2
  let c2048_i32_309 : BitVec 32 := 2048#32
  let v733 : BitVec 32 := Scalar.muli arg14 c2048_i32_309
  let v734 : BitVec 32 := v733
  let v735 : Index := Scalar.indexCast v734
  let c0_311 : Index := 0#32
  ![0, v735.toNat, 0]
def k0_mult21 (i : grid0.Coords) (k0_t2 : Fin (k0_t2_loop i).trips) : BitVec 32 :=
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let c1_i32_22 : BitVec 32 := 1#32
  let arg14 : BitVec 32 := Scf.iv v42 c1_i32_22 k0_t2
  let c2048_i32_316 : BitVec 32 := 2048#32
  let v742 : BitVec 32 := Scalar.muli arg14 c2048_i32_316
  v742
def k0_off6 (i : grid0.Coords) (k0_t2 : Fin (k0_t2_loop i).trips) : Fin 3 → Nat :=
  let c0_323 : Index := 0#32
  let c0_324 : Index := 0#32
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let c1_i32_22 : BitVec 32 := 1#32
  let arg14 : BitVec 32 := Scf.iv v42 c1_i32_22 k0_t2
  let c2048_i32_308 : BitVec 32 := 2048#32
  let v731 : BitVec 32 := Scalar.muli arg14 c2048_i32_308
  let v732 : BitVec 32 := v731
  let v751 : Index := Scalar.indexCast v732
  ![0, 0, v751.toNat]
def k0_mult22 (i : grid0.Coords) (k0_t2 : Fin (k0_t2_loop i).trips) : BitVec 32 :=
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let c1_i32_22 : BitVec 32 := 1#32
  let arg14 : BitVec 32 := Scf.iv v42 c1_i32_22 k0_t2
  let c2048_i32_331 : BitVec 32 := 2048#32
  let v763 : BitVec 32 := Scalar.muli arg14 c2048_i32_331
  v763
def k0_mult23 (i : grid0.Coords) (k0_t2 : Fin (k0_t2_loop i).trips) : BitVec 32 :=
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let c1_i32_22 : BitVec 32 := 1#32
  let arg14 : BitVec 32 := Scf.iv v42 c1_i32_22 k0_t2
  let c2048_i32_346 : BitVec 32 := 2048#32
  let v784 : BitVec 32 := Scalar.muli arg14 c2048_i32_346
  v784
def k0_mult24 (i : grid0.Coords) (k0_t2 : Fin (k0_t2_loop i).trips) : BitVec 32 :=
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let c1_i32_22 : BitVec 32 := 1#32
  let arg14 : BitVec 32 := Scf.iv v42 c1_i32_22 k0_t2
  let c2048_i32_361 : BitVec 32 := 2048#32
  let v805 : BitVec 32 := Scalar.muli arg14 c2048_i32_361
  v805
def k0_mult25 (i : grid0.Coords) (k0_t2 : Fin (k0_t2_loop i).trips) : BitVec 32 :=
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let c1_i32_22 : BitVec 32 := 1#32
  let arg14 : BitVec 32 := Scf.iv v42 c1_i32_22 k0_t2
  let c2048_i32_376 : BitVec 32 := 2048#32
  let v826 : BitVec 32 := Scalar.muli arg14 c2048_i32_376
  v826
def k0_mult26 (i : grid0.Coords) (k0_t2 : Fin (k0_t2_loop i).trips) : BitVec 32 :=
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let c1_i32_22 : BitVec 32 := 1#32
  let arg14 : BitVec 32 := Scf.iv v42 c1_i32_22 k0_t2
  let c2048_i32_391 : BitVec 32 := 2048#32
  let v847 : BitVec 32 := Scalar.muli arg14 c2048_i32_391
  v847
def k0_mult27 (i : grid0.Coords) (k0_t2 : Fin (k0_t2_loop i).trips) : BitVec 32 :=
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let c1_i32_22 : BitVec 32 := 1#32
  let arg14 : BitVec 32 := Scf.iv v42 c1_i32_22 k0_t2
  let c2048_i32_406 : BitVec 32 := 2048#32
  let v868 : BitVec 32 := Scalar.muli arg14 c2048_i32_406
  v868
def k0_mult28 (i : grid0.Coords) (k0_t2 : Fin (k0_t2_loop i).trips) : BitVec 32 :=
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let c1_i32_22 : BitVec 32 := 1#32
  let arg14 : BitVec 32 := Scf.iv v42 c1_i32_22 k0_t2
  let c2048_i32_562 : BitVec 32 := 2048#32
  let v1302 : BitVec 32 := Scalar.muli arg14 c2048_i32_562
  v1302
def k0_mult29 (i : grid0.Coords) (k0_t2 : Fin (k0_t2_loop i).trips) : BitVec 32 :=
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let c1_i32_22 : BitVec 32 := 1#32
  let arg14 : BitVec 32 := Scf.iv v42 c1_i32_22 k0_t2
  let c2048_i32_563 : BitVec 32 := 2048#32
  let v1304 : BitVec 32 := Scalar.muli arg14 c2048_i32_563
  v1304
def k0_off7 (i : grid0.Coords) (k0_t2 : Fin (k0_t2_loop i).trips) : Fin 3 → Nat :=
  let c0_564 : Index := 0#32
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let c1_i32_22 : BitVec 32 := 1#32
  let arg14 : BitVec 32 := Scf.iv v42 c1_i32_22 k0_t2
  let c2048_i32_563 : BitVec 32 := 2048#32
  let v1304 : BitVec 32 := Scalar.muli arg14 c2048_i32_563
  let v1305 : BitVec 32 := v1304
  let v1306 : Index := Scalar.indexCast v1305
  let c0_565 : Index := 0#32
  ![0, v1306.toNat, 0]
def k0_mult30 (i : grid0.Coords) (k0_t2 : Fin (k0_t2_loop i).trips) : BitVec 32 :=
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let c1_i32_22 : BitVec 32 := 1#32
  let arg14 : BitVec 32 := Scf.iv v42 c1_i32_22 k0_t2
  let c2048_i32_570 : BitVec 32 := 2048#32
  let v1313 : BitVec 32 := Scalar.muli arg14 c2048_i32_570
  v1313
def k0_off8 (i : grid0.Coords) (k0_t2 : Fin (k0_t2_loop i).trips) : Fin 3 → Nat :=
  let c0_577 : Index := 0#32
  let c0_578 : Index := 0#32
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let c1_i32_22 : BitVec 32 := 1#32
  let arg14 : BitVec 32 := Scf.iv v42 c1_i32_22 k0_t2
  let c2048_i32_562 : BitVec 32 := 2048#32
  let v1302 : BitVec 32 := Scalar.muli arg14 c2048_i32_562
  let v1303 : BitVec 32 := v1302
  let v1322 : Index := Scalar.indexCast v1303
  ![0, 0, v1322.toNat]
def k0_mult31 (i : grid0.Coords) (k0_t2 : Fin (k0_t2_loop i).trips) : BitVec 32 :=
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let c1_i32_22 : BitVec 32 := 1#32
  let arg14 : BitVec 32 := Scf.iv v42 c1_i32_22 k0_t2
  let c2048_i32_599 : BitVec 32 := 2048#32
  let v1360 : BitVec 32 := Scalar.muli arg14 c2048_i32_599
  v1360
def k0_mult32 (i : grid0.Coords) (k0_t2 : Fin (k0_t2_loop i).trips) : BitVec 32 :=
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let c1_i32_22 : BitVec 32 := 1#32
  let arg14 : BitVec 32 := Scf.iv v42 c1_i32_22 k0_t2
  let c2048_i32_628 : BitVec 32 := 2048#32
  let v1407 : BitVec 32 := Scalar.muli arg14 c2048_i32_628
  v1407
def k0_mult33 (i : grid0.Coords) (k0_t2 : Fin (k0_t2_loop i).trips) : BitVec 32 :=
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let c1_i32_22 : BitVec 32 := 1#32
  let arg14 : BitVec 32 := Scf.iv v42 c1_i32_22 k0_t2
  let c2048_i32_657 : BitVec 32 := 2048#32
  let v1454 : BitVec 32 := Scalar.muli arg14 c2048_i32_657
  v1454
def k0_mult34 (i : grid0.Coords) (k0_t2 : Fin (k0_t2_loop i).trips) : BitVec 32 :=
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let c1_i32_22 : BitVec 32 := 1#32
  let arg14 : BitVec 32 := Scf.iv v42 c1_i32_22 k0_t2
  let c2048_i32_686 : BitVec 32 := 2048#32
  let v1501 : BitVec 32 := Scalar.muli arg14 c2048_i32_686
  v1501
def k0_mult35 (i : grid0.Coords) (k0_t2 : Fin (k0_t2_loop i).trips) : BitVec 32 :=
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let c1_i32_22 : BitVec 32 := 1#32
  let arg14 : BitVec 32 := Scf.iv v42 c1_i32_22 k0_t2
  let c2048_i32_715 : BitVec 32 := 2048#32
  let v1548 : BitVec 32 := Scalar.muli arg14 c2048_i32_715
  v1548
def k0_mult36 (i : grid0.Coords) (k0_t2 : Fin (k0_t2_loop i).trips) : BitVec 32 :=
  let c0_i32_20 : BitVec 32 := 0#32
  let arg2 : BitVec 32 := BitVec.ofNat 32 (i 2).val
  let v38 : BitVec 32 := Scalar.subi arg2 c0_i32_20
  let c1_i32 : BitVec 32 := 1#32
  let v40 : BitVec 32 := Scalar.divsi v38 c1_i32
  let v41 : BitVec 32 := Scalar.muli v40 c1_i32
  let v42 : BitVec 32 := Scalar.addi c0_i32_20 v41
  let c1_i32_22 : BitVec 32 := 1#32
  let arg14 : BitVec 32 := Scf.iv v42 c1_i32_22 k0_t2
  let c2048_i32_744 : BitVec 32 := 2048#32
  let v1595 : BitVec 32 := Scalar.muli arg14 c2048_i32_744
  v1595
def k0_mult37 (i : grid0.Coords) : BitVec 32 :=
  let arg2 : BitVec 32 := BitVec.ofNat 32 (i 2).val
  let c2048_i32 : BitVec 32 := 2048#32
  let v43 : BitVec 32 := Scalar.muli arg2 c2048_i32
  v43
def k0_mult38 (i : grid0.Coords) : BitVec 32 :=
  let arg2 : BitVec 32 := BitVec.ofNat 32 (i 2).val
  let c2048_i32_23 : BitVec 32 := 2048#32
  let v45 : BitVec 32 := Scalar.muli arg2 c2048_i32_23
  v45
def k0_off9 (i : grid0.Coords) : Fin 3 → Nat :=
  let c0_24 : Index := 0#32
  let arg2 : BitVec 32 := BitVec.ofNat 32 (i 2).val
  let c2048_i32_23 : BitVec 32 := 2048#32
  let v45 : BitVec 32 := Scalar.muli arg2 c2048_i32_23
  let v46 : BitVec 32 := v45
  let v47 : Index := Scalar.indexCast v46
  let c0_25 : Index := 0#32
  ![0, v47.toNat, 0]
def k0_mult39 (i : grid0.Coords) : BitVec 32 :=
  let arg2 : BitVec 32 := BitVec.ofNat 32 (i 2).val
  let c2048_i32_33 : BitVec 32 := 2048#32
  let v63 : BitVec 32 := Scalar.muli arg2 c2048_i32_33
  v63
def k0_off10 (i : grid0.Coords) : Fin 3 → Nat :=
  let c0_34 : Index := 0#32
  let arg2 : BitVec 32 := BitVec.ofNat 32 (i 2).val
  let c2048_i32_33 : BitVec 32 := 2048#32
  let v63 : BitVec 32 := Scalar.muli arg2 c2048_i32_33
  let v64 : BitVec 32 := v63
  let v65 : Index := Scalar.indexCast v64
  let c0_35 : Index := 0#32
  ![0, v65.toNat, 0]
def k0_off11 (i : grid0.Coords) : Fin 3 → Nat :=
  let c0_41 : Index := 0#32
  let c0_42 : Index := 0#32
  let arg2 : BitVec 32 := BitVec.ofNat 32 (i 2).val
  let c2048_i32 : BitVec 32 := 2048#32
  let v43 : BitVec 32 := Scalar.muli arg2 c2048_i32
  let v44 : BitVec 32 := v43
  let v81 : Index := Scalar.indexCast v44
  ![0, 0, v81.toNat]
def k0_mult40 (i : grid0.Coords) : BitVec 32 :=
  let arg2 : BitVec 32 := BitVec.ofNat 32 (i 2).val
  let c2048_i32_49 : BitVec 32 := 2048#32
  let v93 : BitVec 32 := Scalar.muli arg2 c2048_i32_49
  v93
def k0_off12 (i : grid0.Coords) : Fin 3 → Nat :=
  let c0_50 : Index := 0#32
  let arg2 : BitVec 32 := BitVec.ofNat 32 (i 2).val
  let c2048_i32_49 : BitVec 32 := 2048#32
  let v93 : BitVec 32 := Scalar.muli arg2 c2048_i32_49
  let v94 : BitVec 32 := v93
  let v95 : Index := Scalar.indexCast v94
  let c0_51 : Index := 0#32
  ![0, v95.toNat, 0]
def k0_off13 (i : grid0.Coords) : Fin 3 → Nat :=
  let c0_57 : Index := 0#32
  let c0_58 : Index := 0#32
  let arg2 : BitVec 32 := BitVec.ofNat 32 (i 2).val
  let c2048_i32 : BitVec 32 := 2048#32
  let v43 : BitVec 32 := Scalar.muli arg2 c2048_i32
  let v44 : BitVec 32 := v43
  let v111 : Index := Scalar.indexCast v44
  ![0, 0, v111.toNat]
def k0_mult41 (i : grid0.Coords) : BitVec 32 :=
  let arg2 : BitVec 32 := BitVec.ofNat 32 (i 2).val
  let c2048_i32_65 : BitVec 32 := 2048#32
  let v123 : BitVec 32 := Scalar.muli arg2 c2048_i32_65
  v123
def k0_off14 (i : grid0.Coords) : Fin 3 → Nat :=
  let c0_66 : Index := 0#32
  let arg2 : BitVec 32 := BitVec.ofNat 32 (i 2).val
  let c2048_i32_65 : BitVec 32 := 2048#32
  let v123 : BitVec 32 := Scalar.muli arg2 c2048_i32_65
  let v124 : BitVec 32 := v123
  let v125 : Index := Scalar.indexCast v124
  let c0_67 : Index := 0#32
  ![0, v125.toNat, 0]
def k0_off15 (i : grid0.Coords) : Fin 3 → Nat :=
  let c0_73 : Index := 0#32
  let c0_74 : Index := 0#32
  let arg2 : BitVec 32 := BitVec.ofNat 32 (i 2).val
  let c2048_i32 : BitVec 32 := 2048#32
  let v43 : BitVec 32 := Scalar.muli arg2 c2048_i32
  let v44 : BitVec 32 := v43
  let v141 : Index := Scalar.indexCast v44
  ![0, 0, v141.toNat]
def k0_mult42 (i : grid0.Coords) : BitVec 32 :=
  let arg2 : BitVec 32 := BitVec.ofNat 32 (i 2).val
  let c2048_i32_81 : BitVec 32 := 2048#32
  let v153 : BitVec 32 := Scalar.muli arg2 c2048_i32_81
  v153
def k0_off16 (i : grid0.Coords) : Fin 3 → Nat :=
  let c0_91 : Index := 0#32
  let c0_92 : Index := 0#32
  let arg2 : BitVec 32 := BitVec.ofNat 32 (i 2).val
  let c2048_i32 : BitVec 32 := 2048#32
  let v43 : BitVec 32 := Scalar.muli arg2 c2048_i32
  let v44 : BitVec 32 := v43
  let v171 : Index := Scalar.indexCast v44
  ![0, 0, v171.toNat]
def k0_mult43 (i : grid0.Coords) : BitVec 32 :=
  let arg2 : BitVec 32 := BitVec.ofNat 32 (i 2).val
  let c2048_i32_99 : BitVec 32 := 2048#32
  let v183 : BitVec 32 := Scalar.muli arg2 c2048_i32_99
  v183
def k0_mult44 (i : grid0.Coords) : BitVec 32 :=
  let arg2 : BitVec 32 := BitVec.ofNat 32 (i 2).val
  let c2048_i32_116 : BitVec 32 := 2048#32
  let v213 : BitVec 32 := Scalar.muli arg2 c2048_i32_116
  v213
def k0_mult45 (i : grid0.Coords) : BitVec 32 :=
  let arg2 : BitVec 32 := BitVec.ofNat 32 (i 2).val
  let c2048_i32_133 : BitVec 32 := 2048#32
  let v243 : BitVec 32 := Scalar.muli arg2 c2048_i32_133
  v243
def k0_mult46 (i : grid0.Coords) : BitVec 32 :=
  let arg2 : BitVec 32 := BitVec.ofNat 32 (i 2).val
  let c2048_i32_308 : BitVec 32 := 2048#32
  let v731 : BitVec 32 := Scalar.muli arg2 c2048_i32_308
  v731
def k0_mult47 (i : grid0.Coords) : BitVec 32 :=
  let arg2 : BitVec 32 := BitVec.ofNat 32 (i 2).val
  let c2048_i32_309 : BitVec 32 := 2048#32
  let v733 : BitVec 32 := Scalar.muli arg2 c2048_i32_309
  v733
def k0_off17 (i : grid0.Coords) : Fin 3 → Nat :=
  let c0_310 : Index := 0#32
  let arg2 : BitVec 32 := BitVec.ofNat 32 (i 2).val
  let c2048_i32_309 : BitVec 32 := 2048#32
  let v733 : BitVec 32 := Scalar.muli arg2 c2048_i32_309
  let v734 : BitVec 32 := v733
  let v735 : Index := Scalar.indexCast v734
  let c0_311 : Index := 0#32
  ![0, v735.toNat, 0]
def k0_mult48 (i : grid0.Coords) : BitVec 32 :=
  let arg2 : BitVec 32 := BitVec.ofNat 32 (i 2).val
  let c2048_i32_319 : BitVec 32 := 2048#32
  let v751 : BitVec 32 := Scalar.muli arg2 c2048_i32_319
  v751
def k0_off18 (i : grid0.Coords) : Fin 3 → Nat :=
  let c0_320 : Index := 0#32
  let arg2 : BitVec 32 := BitVec.ofNat 32 (i 2).val
  let c2048_i32_319 : BitVec 32 := 2048#32
  let v751 : BitVec 32 := Scalar.muli arg2 c2048_i32_319
  let v752 : BitVec 32 := v751
  let v753 : Index := Scalar.indexCast v752
  let c0_321 : Index := 0#32
  ![0, v753.toNat, 0]
def k0_off19 (i : grid0.Coords) : Fin 3 → Nat :=
  let c0_329 : Index := 0#32
  let c0_330 : Index := 0#32
  let arg2 : BitVec 32 := BitVec.ofNat 32 (i 2).val
  let c2048_i32_308 : BitVec 32 := 2048#32
  let v731 : BitVec 32 := Scalar.muli arg2 c2048_i32_308
  let v732 : BitVec 32 := v731
  let v769 : Index := Scalar.indexCast v732
  ![0, 0, v769.toNat]
def k0_mult49 (i : grid0.Coords) : BitVec 32 :=
  let arg2 : BitVec 32 := BitVec.ofNat 32 (i 2).val
  let c2048_i32_351 : BitVec 32 := 2048#32
  let v807 : BitVec 32 := Scalar.muli arg2 c2048_i32_351
  v807
def k0_off20 (i : grid0.Coords) : Fin 3 → Nat :=
  let c0_352 : Index := 0#32
  let arg2 : BitVec 32 := BitVec.ofNat 32 (i 2).val
  let c2048_i32_351 : BitVec 32 := 2048#32
  let v807 : BitVec 32 := Scalar.muli arg2 c2048_i32_351
  let v808 : BitVec 32 := v807
  let v809 : Index := Scalar.indexCast v808
  let c0_353 : Index := 0#32
  ![0, v809.toNat, 0]
def k0_off21 (i : grid0.Coords) : Fin 3 → Nat :=
  let c0_361 : Index := 0#32
  let c0_362 : Index := 0#32
  let arg2 : BitVec 32 := BitVec.ofNat 32 (i 2).val
  let c2048_i32_308 : BitVec 32 := 2048#32
  let v731 : BitVec 32 := Scalar.muli arg2 c2048_i32_308
  let v732 : BitVec 32 := v731
  let v825 : Index := Scalar.indexCast v732
  ![0, 0, v825.toNat]
def k0_mult50 (i : grid0.Coords) : BitVec 32 :=
  let arg2 : BitVec 32 := BitVec.ofNat 32 (i 2).val
  let c2048_i32_383 : BitVec 32 := 2048#32
  let v863 : BitVec 32 := Scalar.muli arg2 c2048_i32_383
  v863
def k0_off22 (i : grid0.Coords) : Fin 3 → Nat :=
  let c0_384 : Index := 0#32
  let arg2 : BitVec 32 := BitVec.ofNat 32 (i 2).val
  let c2048_i32_383 : BitVec 32 := 2048#32
  let v863 : BitVec 32 := Scalar.muli arg2 c2048_i32_383
  let v864 : BitVec 32 := v863
  let v865 : Index := Scalar.indexCast v864
  let c0_385 : Index := 0#32
  ![0, v865.toNat, 0]
def k0_off23 (i : grid0.Coords) : Fin 3 → Nat :=
  let c0_393 : Index := 0#32
  let c0_394 : Index := 0#32
  let arg2 : BitVec 32 := BitVec.ofNat 32 (i 2).val
  let c2048_i32_308 : BitVec 32 := 2048#32
  let v731 : BitVec 32 := Scalar.muli arg2 c2048_i32_308
  let v732 : BitVec 32 := v731
  let v881 : Index := Scalar.indexCast v732
  ![0, 0, v881.toNat]
def k0_mult51 (i : grid0.Coords) : BitVec 32 :=
  let arg2 : BitVec 32 := BitVec.ofNat 32 (i 2).val
  let c2048_i32_415 : BitVec 32 := 2048#32
  let v919 : BitVec 32 := Scalar.muli arg2 c2048_i32_415
  v919
def k0_off24 (i : grid0.Coords) : Fin 3 → Nat :=
  let c0_425 : Index := 0#32
  let c0_426 : Index := 0#32
  let arg2 : BitVec 32 := BitVec.ofNat 32 (i 2).val
  let c2048_i32_308 : BitVec 32 := 2048#32
  let v731 : BitVec 32 := Scalar.muli arg2 c2048_i32_308
  let v732 : BitVec 32 := v731
  let v937 : Index := Scalar.indexCast v732
  ![0, 0, v937.toNat]
def k0_mult52 (i : grid0.Coords) : BitVec 32 :=
  let arg2 : BitVec 32 := BitVec.ofNat 32 (i 2).val
  let c2048_i32_447 : BitVec 32 := 2048#32
  let v975 : BitVec 32 := Scalar.muli arg2 c2048_i32_447
  v975
def k0_mult53 (i : grid0.Coords) : BitVec 32 :=
  let arg2 : BitVec 32 := BitVec.ofNat 32 (i 2).val
  let c2048_i32_479 : BitVec 32 := 2048#32
  let v1031 : BitVec 32 := Scalar.muli arg2 c2048_i32_479
  v1031
def k0_mult54 (i : grid0.Coords) : BitVec 32 :=
  let arg2 : BitVec 32 := BitVec.ofNat 32 (i 2).val
  let c2048_i32_511 : BitVec 32 := 2048#32
  let v1087 : BitVec 32 := Scalar.muli arg2 c2048_i32_511
  v1087
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "scale" => some (((1 / 8) * (Real.log 2)⁻¹ : ℝ) : EReal)
  | _ => none
-- ==== ReferenceIdeal.lean ====
abbrev S4x8192x3072 : Shape := ⟨3, ![4, 8192, 3072]⟩
abbrev S4x1024x8192 : Shape := ⟨3, ![4, 1024, 8192]⟩
abbrev S4x64 : Shape := ⟨2, ![4, 64]⟩
abbrev S128x1 : Shape := ⟨2, ![128, 1]⟩
abbrev S4x8192x1024 : Shape := ⟨3, ![4, 8192, 1024]⟩
abbrev S4x8192x8x2x64 : Shape := ⟨5, ![4, 8192, 8, 2, 64]⟩
abbrev S_ : Shape := ⟨0, ![]⟩
abbrev S4x8x128x8192 : Shape := ⟨4, ![4, 8, 128, 8192]⟩
abbrev S1x64 : Shape := ⟨2, ![1, 64]⟩
abbrev S64 : Shape := ⟨1, ![64]⟩
abbrev S4x8x2x8192x8192 : Shape := ⟨5, ![4, 8, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8x2x8192 : Shape := ⟨4, ![4, 8, 2, 8192]⟩
abbrev S4x8x2x8192x1 : Shape := ⟨5, ![4, 8, 2, 8192, 1]⟩
abbrev S4x8x1x8192x8192 : Shape := ⟨5, ![4, 8, 1, 8192, 8192]⟩
abbrev S4x8x8192x8192 : Shape := ⟨4, ![4, 8, 8192, 8192]⟩
abbrev S4x8192x8x128 : Shape := ⟨4, ![4, 8192, 8, 128]⟩
abbrev S4x8192x8 : Shape := ⟨3, ![4, 8192, 8]⟩
abbrev S4x8192x8x1 : Shape := ⟨4, ![4, 8192, 8, 1]⟩
abbrev S128 : Shape := ⟨1, ![128]⟩
abbrev S1x1x1x128 : Shape := ⟨4, ![1, 1, 1, 128]⟩

abbrev nBuf : Space → Nat
  | .hbm => 90
  | .vmem => 0
  | .smem => 0
  | _ => 0

abbrev bufTy : (tb : Table) → Fin (tcTables nBuf tb) → BufTy
  | .hbm, ⟨0, _⟩ => ⟨S4x8192x3072, .bf16⟩
  | .hbm, ⟨1, _⟩ => ⟨S4x1024x8192, .bf16⟩
  | .hbm, ⟨2, _⟩ => ⟨S4x64, .f32⟩
  | .hbm, ⟨3, _⟩ => ⟨S128x1, .f32⟩
  | .hbm, ⟨4, _⟩ => ⟨S4x8192x3072, .f32⟩
  | .hbm, ⟨5, _⟩ => ⟨S4x8192x1024, .f32⟩
  | .hbm, ⟨6, _⟩ => ⟨S4x8192x8x2x64, .f32⟩
  | .hbm, ⟨7, _⟩ => ⟨S_, .f32⟩
  | .hbm, ⟨8, _⟩ => ⟨S4x8192x8x2x64, .f32⟩
  | .hbm, ⟨9, _⟩ => ⟨S4x8192x8x2x64, .f32⟩
  | .hbm, ⟨10, _⟩ => ⟨S4x8192x1024, .f32⟩
  | .hbm, ⟨11, _⟩ => ⟨S4x8192x8x2x64, .f32⟩
  | .hbm, ⟨12, _⟩ => ⟨S4x1024x8192, .f32⟩
  | .hbm, ⟨13, _⟩ => ⟨S4x8x128x8192, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4x8x2x8192x8192, .f32⟩
  | .hbm, ⟨34, _⟩ => ⟨S8192, .i32⟩
  | .hbm, ⟨35, _⟩ => ⟨S1x8192, .i32⟩
  | .hbm, ⟨36, _⟩ => ⟨S8192x1, .i32⟩
  | .hbm, ⟨37, _⟩ => ⟨S8192x8192, .i32⟩
  | .hbm, ⟨38, _⟩ => ⟨S8192x8192, .i32⟩
  | .hbm, ⟨39, _⟩ => ⟨S8192x8192, .i1⟩
  | .hbm, ⟨40, _⟩ => ⟨S_, .f32⟩
  | .hbm, ⟨41, _⟩ => ⟨S_, .f32⟩
  | .hbm, ⟨42, _⟩ => ⟨S4x8x2x8192x8192, .i1⟩
  | .hbm, ⟨43, _⟩ => ⟨S4x8x2x8192x8192, .f32⟩
  | .hbm, ⟨44, _⟩ => ⟨S4x8x2x8192x8192, .f32⟩
  | .hbm, ⟨45, _⟩ => ⟨S_, .f32⟩
  | .hbm, ⟨46, _⟩ => ⟨S4x8x2x8192, .f32⟩
  | .hbm, ⟨47, _⟩ => ⟨S_, .f32⟩
  | .hbm, ⟨48, _⟩ => ⟨S4x8x2x8192, .f32⟩
  | .hbm, ⟨49, _⟩ => ⟨S4x8x2x8192, .f32⟩
  | .hbm, ⟨50, _⟩ => ⟨S4x8x2x8192x1, .f32⟩
  | .hbm, ⟨51, _⟩ => ⟨S4x8x2x8192x8192, .f32⟩
  | .hbm, ⟨52, _⟩ => ⟨S4x8x2x8192x8192, .f32⟩
  | .hbm, ⟨53, _⟩ => ⟨S4x8x2x8192x8192, .f32⟩
  | .hbm, ⟨54, _⟩ => ⟨S_, .f32⟩
  | .hbm, ⟨55, _⟩ => ⟨S4x8x2x8192, .f32⟩
  | .hbm, ⟨56, _⟩ => ⟨S4x8x2x8192x1, .f32⟩
  | .hbm, ⟨57, _⟩ => ⟨S4x8x2x8192x8192, .f32⟩
  | .hbm, ⟨58, _⟩ => ⟨S4x8x2x8192x8192, .f32⟩
  | .hbm, ⟨59, _⟩ => ⟨S4x8x1x8192x8192, .f32⟩
  | .hbm, ⟨60, _⟩ => ⟨S4x8x8192x8192, .f32⟩
  | .hbm, ⟨61, _⟩ => ⟨S4x8x1x8192x8192, .f32⟩
  | .hbm, ⟨62, _⟩ => ⟨S4x8x8192x8192, .f32⟩
  | .hbm, ⟨63, _⟩ => ⟨S4x8x8192x8192, .f32⟩
  | .hbm, ⟨64, _⟩ => ⟨S4x8x8192x8192, .f32⟩
  | .hbm, ⟨65, _⟩ => ⟨S4x8x8192x8192, .f32⟩
  | .hbm, ⟨66, _⟩ => ⟨S4x8x128x8192, .f32⟩
  | .hbm, ⟨67, _⟩ => ⟨S4x8192x8x128, .f32⟩
  | .hbm, ⟨68, _⟩ => ⟨S4x8192x8x128, .f32⟩
  | .hbm, ⟨69, _⟩ => ⟨S_, .f32⟩
  | .hbm, ⟨70, _⟩ => ⟨S4x8192x8, .f32⟩
  | .hbm, ⟨71, _⟩ => ⟨S4x8192x8x1, .f32⟩
  | .hbm, ⟨72, _⟩ => ⟨S_, .f32⟩
  | .hbm, ⟨73, _⟩ => ⟨S4x8192x8x1, .f32⟩
  | .hbm, ⟨74, _⟩ => ⟨S4x8192x8x1, .f32⟩
  | .hbm, ⟨75, _⟩ => ⟨S_, .f32⟩
  | .hbm, ⟨76, _⟩ => ⟨S4x8192x8x1, .f32⟩
  | .hbm, ⟨77, _⟩ => ⟨S4x8192x8x1, .f32⟩
  | .hbm, ⟨78, _⟩ => ⟨S4x8192x8x1, .f32⟩
  | .hbm, ⟨79, _⟩ => ⟨S4x8192x8x128, .f32⟩
  | .hbm, ⟨80, _⟩ => ⟨S4x8192x8x128, .f32⟩
  | .hbm, ⟨81, _⟩ => ⟨S128, .f32⟩
  | .hbm, ⟨82, _⟩ => ⟨S1x1x1x128, .f32⟩
  | .hbm, ⟨83, _⟩ => ⟨S4x8192x8x128, .f32⟩
  | .hbm, ⟨84, _⟩ => ⟨S4x8192x8x128, .f32⟩
  | .hbm, ⟨85, _⟩ => ⟨S_, .f32⟩
  | .hbm, ⟨86, _⟩ => ⟨S4x8192x8x128, .f32⟩
  | .hbm, ⟨87, _⟩ => ⟨S4x8192x8x128, .f32⟩
  | .hbm, ⟨88, _⟩ => ⟨S4x8192x1024, .f32⟩
  | .hbm, ⟨89, _⟩ => ⟨S4x8192x1024, .bf16⟩
  | _, _ => ⟨S4x8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_10 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== Experts.lean ====
abbrev S2x196608x256 : Shape := ⟨3, ![2, 196608, 256]⟩
abbrev S96 : Shape := ⟨1, ![96]⟩
abbrev S1 : Shape := ⟨1, ![1]⟩
abbrev S2x32x1024x512 : Shape := ⟨4, ![2, 32, 1024, 512]⟩
abbrev S2x32x256x1024 : Shape := ⟨4, ![2, 32, 256, 1024]⟩
abbrev S2x2048x256 : Shape := ⟨3, ![2, 2048, 256]⟩
abbrev S1x1x1024x512 : Shape := ⟨4, ![1, 1, 1024, 512]⟩
abbrev S1x1x256x1024 : Shape := ⟨4, ![1, 1, 256, 1024]⟩
abbrev S1024x512 : Shape := ⟨2, ![1024, 512]⟩
abbrev S256x1024 : Shape := ⟨2, ![256, 1024]⟩
abbrev S2x1024x256 : Shape := ⟨3, ![2, 1024, 256]⟩
abbrev S1x256x256 : Shape := ⟨3, ![1, 256, 256]⟩
abbrev S1x512x256 : Shape := ⟨3, ![1, 512, 256]⟩
abbrev S256x256 : Shape := ⟨2, ![256, 256]⟩
abbrev S256x512 : Shape := ⟨2, ![256, 512]⟩

abbrev nBuf : Space → Nat
  | .hbm => 4
  | .vmem => 10
  | .smem => 2
  | _ => 0

abbrev bufTy : (tb : Table) → Fin (tcTables nBuf tb) → BufTy
  | .hbm, ⟨0, _⟩ => ⟨S2x196608x256, .bf16⟩
  | .hbm, ⟨1, _⟩ => ⟨S2x32x1024x512, .f32⟩
  | .hbm, ⟨2, _⟩ => ⟨S2x32x256x1024, .f32⟩
  | .hbm, ⟨3, _⟩ => ⟨S2x196608x256, .bf16⟩
  | .local _ .vmem, ⟨0, _⟩ => ⟨S2x2048x256, .bf16⟩
  | .local _ .vmem, ⟨1, _⟩ => ⟨S2x2048x256, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x256x1024, .f32⟩
  | .local _ .vmem, ⟨5, _⟩ => ⟨S1x1x256x1024, .f32⟩
  | .local _ .vmem, ⟨6, _⟩ => ⟨S2x2048x256, .bf16⟩
  | .local _ .vmem, ⟨7, _⟩ => ⟨S2x2048x256, .bf16⟩
  | .local _ .vmem, ⟨8, _⟩ => ⟨S1024x512, .bf16⟩
  | .local _ .vmem, ⟨9, _⟩ => ⟨S256x1024, .bf16⟩
  | .local _ .smem, ⟨0, _⟩ => ⟨S96, .i32⟩
  | .local _ .smem, ⟨1, _⟩ => ⟨S1, .i32⟩
  | _, _ => ⟨S2x196608x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨1, ![96], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let c1_i32 : BitVec 32 := 1#32
  let v7 : BitVec 32 := Scalar.subi arg0 c1_i32
  let c0_i32_1 : BitVec 32 := 0#32
  let v8 : BitVec 32 := Scalar.maxsi v7 c0_i32_1
  let v9 : Index := Scalar.indexCast v8
  ![v9.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsIdeal.lean ====
abbrev S512x256 : Shape := ⟨2, ![512, 256]⟩
variable {F : FTy → Type} [FloatOps F]
-- ==== ExpertsReferenceIdeal.lean ====
abbrev S2x196608x256 : Shape := ⟨3, ![2, 196608, 256]⟩
abbrev S96 : Shape := ⟨1, ![96]⟩
abbrev S1 : Shape := ⟨1, ![1]⟩
abbrev S2x32x1024x512 : Shape := ⟨4, ![2, 32, 1024, 512]⟩
abbrev S2x32x256x1024 : Shape := ⟨4, ![2, 32, 256, 1024]⟩
abbrev S2x96x1024x2x256 : Shape := ⟨5, ![2, 96, 1024, 2, 256]⟩
abbrev S96x1024x2x2x256 : Shape := ⟨5, ![96, 1024, 2, 2, 256]⟩
abbrev S96x1024x1024 : Shape := ⟨3, ![96, 1024, 1024]⟩
abbrev S96x1 : Shape := ⟨2, ![96, 1]⟩
abbrev S32 : Shape := ⟨1, ![32]⟩
abbrev S1x32 : Shape := ⟨2, ![1, 32]⟩
abbrev S96x32 : Shape := ⟨2, ![96, 32]⟩
abbrev S1x32x1024x512 : Shape := ⟨4, ![1, 32, 1024, 512]⟩
abbrev S32x1024x512 : Shape := ⟨3, ![32, 1024, 512]⟩
abbrev S96x1024x32x512 : Shape := ⟨4, ![96, 1024, 32, 512]⟩
abbrev S96x1024x32x256 : Shape := ⟨4, ![96, 1024, 32, 256]⟩
abbrev S_ : Shape := ⟨0, ![]⟩
abbrev S96x1x32x1 : Shape := ⟨4, ![96, 1, 32, 1]⟩
abbrev S1x32x256x1024 : Shape := ⟨4, ![1, 32, 256, 1024]⟩
abbrev S32x256x1024 : Shape := ⟨3, ![32, 256, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x196608x256, .bf16⟩
  | .hbm, ⟨1, _⟩ => ⟨S96, .i32⟩
  | .hbm, ⟨2, _⟩ => ⟨S1, .i32⟩
  | .hbm, ⟨3, _⟩ => ⟨S2x32x1024x512, .f32⟩
  | .hbm, ⟨4, _⟩ => ⟨S2x32x256x1024, .f32⟩
  | .hbm, ⟨5, _⟩ => ⟨S2x196608x256, .f32⟩
  | .hbm, ⟨6, _⟩ => ⟨S2x96x1024x2x256, .f32⟩
  | .hbm, ⟨7, _⟩ => ⟨S96x1024x2x2x256, .f32⟩
  | .hbm, ⟨8, _⟩ => ⟨S96x1024x1024, .f32⟩
  | .hbm, ⟨9, _⟩ => ⟨S96x1, .i32⟩
  | .hbm, ⟨10, _⟩ => ⟨S32, .i32⟩
  | .hbm, ⟨11, _⟩ => ⟨S1x32, .i32⟩
  | .hbm, ⟨12, _⟩ => ⟨S96x32, .i32⟩
  | .hbm, ⟨13, _⟩ => ⟨S96x32, .i32⟩
  | .hbm, ⟨14, _⟩ => ⟨S96x32, .i1⟩
  | .hbm, ⟨15, _⟩ => ⟨S96x32, .i32⟩
  | .hbm, ⟨16, _⟩ => ⟨S96x32, .f32⟩
  | .hbm, ⟨17, _⟩ => ⟨S1x32x1024x512, .f32⟩
  | .hbm, ⟨18, _⟩ => ⟨S32x1024x512, .f32⟩
  | .hbm, ⟨19, _⟩ => ⟨S96x1024x32x512, .f32⟩
  | .hbm, ⟨20, _⟩ => ⟨S96x1024x32x256, .f32⟩
  | .hbm, ⟨21, _⟩ => ⟨S96x1024x32x256, .f32⟩
  | .hbm, ⟨22, _⟩ => ⟨S96x1024x32x256, .f32⟩
  | .hbm, ⟨23, _⟩ => ⟨S_, .f32⟩
  | .hbm, ⟨24, _⟩ => ⟨S96x1024x32x256, .f32⟩
  | .hbm, ⟨25, _⟩ => ⟨S96x1024x32x256, .f32⟩
  | .hbm, ⟨26, _⟩ => ⟨S_, .f32⟩
  | .hbm, ⟨27, _⟩ => ⟨S96x1024x32x256, .f32⟩
  | .hbm, ⟨28, _⟩ => ⟨S96x1024x32x256, .f32⟩
  | .hbm, ⟨29, _⟩ => ⟨S96x1024x32x256, .f32⟩
  | .hbm, ⟨30, _⟩ => ⟨S96x1024x32x256, .f32⟩
  | .hbm, ⟨31, _⟩ => ⟨S96x1024x32x256, .f32⟩
  | .hbm, ⟨32, _⟩ => ⟨S96x1x32x1, .f32⟩
  | .hbm, ⟨33, _⟩ => ⟨S96x1024x32x256, .f32⟩
  | .hbm, ⟨34, _⟩ => ⟨S96x1024x32x256, .f32⟩
  | .hbm, ⟨35, _⟩ => ⟨S1x32x256x1024, .f32⟩
  | .hbm, ⟨36, _⟩ => ⟨S32x256x1024, .f32⟩
  | .hbm, ⟨37, _⟩ => ⟨S96x1024x1024, .f32⟩
  | .hbm, ⟨38, _⟩ => ⟨S96x1024x2x2x256, .f32⟩
  | .hbm, ⟨39, _⟩ => ⟨S2x96x1024x2x256, .f32⟩
  | .hbm, ⟨40, _⟩ => ⟨S2x196608x256, .f32⟩
  | .hbm, ⟨41, _⟩ => ⟨S2x196608x256, .bf16⟩
  | _, _ => ⟨S2x196608x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== NextExperts.lean ====
abbrev S2x196608x256 : Shape := ⟨3, ![2, 196608, 256]⟩
abbrev S96 : Shape := ⟨1, ![96]⟩
abbrev S1 : Shape := ⟨1, ![1]⟩
abbrev S2x32x1024x512 : Shape := ⟨4, ![2, 32, 1024, 512]⟩
abbrev S2x32x256x1024 : Shape := ⟨4, ![2, 32, 256, 1024]⟩
abbrev S2x2048x256 : Shape := ⟨3, ![2, 2048, 256]⟩
abbrev S1x1x1024x512 : Shape := ⟨4, ![1, 1, 1024, 512]⟩
abbrev S1x1x256x1024 : Shape := ⟨4, ![1, 1, 256, 1024]⟩
abbrev S1024x512 : Shape := ⟨2, ![1024, 512]⟩
abbrev S256x1024 : Shape := ⟨2, ![256, 1024]⟩
abbrev S2x1024x256 : Shape := ⟨3, ![2, 1024, 256]⟩
abbrev S1x256x256 : Shape := ⟨3, ![1, 256, 256]⟩
abbrev S1x512x256 : Shape := ⟨3, ![1, 512, 256]⟩
abbrev S256x256 : Shape := ⟨2, ![256, 256]⟩
abbrev S256x512 : Shape := ⟨2, ![256, 512]⟩

abbrev nBuf : Space → Nat
  | .hbm => 4
  | .vmem => 10
  | .smem => 2
  | _ => 0

abbrev bufTy : (tb : Table) → Fin (tcTables nBuf tb) → BufTy
  | .hbm, ⟨0, _⟩ => ⟨S2x196608x256, .bf16⟩
  | .hbm, ⟨1, _⟩ => ⟨S2x32x1024x512, .f32⟩
  | .hbm, ⟨2, _⟩ => ⟨S2x32x256x1024, .f32⟩
  | .hbm, ⟨3, _⟩ => ⟨S2x196608x256, .bf16⟩
  | .local _ .vmem, ⟨0, _⟩ => ⟨S2x2048x256, .bf16⟩
  | .local _ .vmem, ⟨1, _⟩ => ⟨S2x2048x256, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x256x1024, .f32⟩
  | .local _ .vmem, ⟨5, _⟩ => ⟨S1x1x256x1024, .f32⟩
  | .local _ .vmem, ⟨6, _⟩ => ⟨S2x2048x256, .bf16⟩
  | .local _ .vmem, ⟨7, _⟩ => ⟨S2x2048x256, .bf16⟩
  | .local _ .vmem, ⟨8, _⟩ => ⟨S1024x512, .bf16⟩
  | .local _ .vmem, ⟨9, _⟩ => ⟨S256x1024, .bf16⟩
  | .local _ .smem, ⟨0, _⟩ => ⟨S96, .i32⟩
  | .local _ .smem, ⟨1, _⟩ => ⟨S1, .i32⟩
  | _, _ => ⟨S2x196608x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨1, ![96], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let c1_i32 : BitVec 32 := 1#32
  let v7 : BitVec 32 := Scalar.subi arg0 c1_i32
  let c0_i32_1 : BitVec 32 := 0#32
  let v8 : BitVec 32 := Scalar.maxsi v7 c0_i32_1
  let v9 : Index := Scalar.indexCast v8
  ![v9.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NextExpertsIdeal.lean ====
abbrev S512x256 : Shape := ⟨2, ![512, 256]⟩
variable {F : FTy → Type} [FloatOps F]
-- ==== NextExpertsReferenceIdeal.lean ====
abbrev S2x196608x256 : Shape := ⟨3, ![2, 196608, 256]⟩
abbrev S96 : Shape := ⟨1, ![96]⟩
abbrev S1 : Shape := ⟨1, ![1]⟩
abbrev S2x32x1024x512 : Shape := ⟨4, ![2, 32, 1024, 512]⟩
abbrev S2x32x256x1024 : Shape := ⟨4, ![2, 32, 256, 1024]⟩
abbrev S2x96x1024x2x256 : Shape := ⟨5, ![2, 96, 1024, 2, 256]⟩
abbrev S96x1024x2x2x256 : Shape := ⟨5, ![96, 1024, 2, 2, 256]⟩
abbrev S96x1024x1024 : Shape := ⟨3, ![96, 1024, 1024]⟩
abbrev S96x1 : Shape := ⟨2, ![96, 1]⟩
abbrev S32 : Shape := ⟨1, ![32]⟩
abbrev S1x32 : Shape := ⟨2, ![1, 32]⟩
abbrev S96x32 : Shape := ⟨2, ![96, 32]⟩
abbrev S1x32x1024x512 : Shape := ⟨4, ![1, 32, 1024, 512]⟩
abbrev S32x1024x512 : Shape := ⟨3, ![32, 1024, 512]⟩
abbrev S96x1024x32x512 : Shape := ⟨4, ![96, 1024, 32, 512]⟩
abbrev S96x1024x32x256 : Shape := ⟨4, ![96, 1024, 32, 256]⟩
abbrev S_ : Shape := ⟨0, ![]⟩
abbrev S96x1x32x1 : Shape := ⟨4, ![96, 1, 32, 1]⟩
abbrev S1x32x256x1024 : Shape := ⟨4, ![1, 32, 256, 1024]⟩
abbrev S32x256x1024 : Shape := ⟨3, ![32, 256, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x196608x256, .bf16⟩
  | .hbm, ⟨1, _⟩ => ⟨S96, .i32⟩
  | .hbm, ⟨2, _⟩ => ⟨S1, .i32⟩
  | .hbm, ⟨3, _⟩ => ⟨S2x32x1024x512, .f32⟩
  | .hbm, ⟨4, _⟩ => ⟨S2x32x256x1024, .f32⟩
  | .hbm, ⟨5, _⟩ => ⟨S2x196608x256, .f32⟩
  | .hbm, ⟨6, _⟩ => ⟨S2x96x1024x2x256, .f32⟩
  | .hbm, ⟨7, _⟩ => ⟨S96x1024x2x2x256, .f32⟩
  | .hbm, ⟨8, _⟩ => ⟨S96x1024x1024, .f32⟩
  | .hbm, ⟨9, _⟩ => ⟨S96x1, .i32⟩
  | .hbm, ⟨10, _⟩ => ⟨S32, .i32⟩
  | .hbm, ⟨11, _⟩ => ⟨S1x32, .i32⟩
  | .hbm, ⟨12, _⟩ => ⟨S96x32, .i32⟩
  | .hbm, ⟨13, _⟩ => ⟨S96x32, .i32⟩
  | .hbm, ⟨14, _⟩ => ⟨S96x32, .i1⟩
  | .hbm, ⟨15, _⟩ => ⟨S96x32, .i32⟩
  | .hbm, ⟨16, _⟩ => ⟨S96x32, .f32⟩
  | .hbm, ⟨17, _⟩ => ⟨S1x32x1024x512, .f32⟩
  | .hbm, ⟨18, _⟩ => ⟨S32x1024x512, .f32⟩
  | .hbm, ⟨19, _⟩ => ⟨S96x1024x32x512, .f32⟩
  | .hbm, ⟨20, _⟩ => ⟨S96x1024x32x256, .f32⟩
  | .hbm, ⟨21, _⟩ => ⟨S96x1024x32x256, .f32⟩
  | .hbm, ⟨22, _⟩ => ⟨S96x1024x32x256, .f32⟩
  | .hbm, ⟨23, _⟩ => ⟨S_, .f32⟩
  | .hbm, ⟨24, _⟩ => ⟨S96x1024x32x256, .f32⟩
  | .hbm, ⟨25, _⟩ => ⟨S96x1024x32x256, .f32⟩
  | .hbm, ⟨26, _⟩ => ⟨S_, .f32⟩
  | .hbm, ⟨27, _⟩ => ⟨S96x1024x32x256, .f32⟩
  | .hbm, ⟨28, _⟩ => ⟨S96x1024x32x256, .f32⟩
  | .hbm, ⟨29, _⟩ => ⟨S96x1024x32x256, .f32⟩
  | .hbm, ⟨30, _⟩ => ⟨S96x1024x32x256, .f32⟩
  | .hbm, ⟨31, _⟩ => ⟨S96x1024x32x256, .f32⟩
  | .hbm, ⟨32, _⟩ => ⟨S96x1x32x1, .f32⟩
  | .hbm, ⟨33, _⟩ => ⟨S96x1024x32x256, .f32⟩
  | .hbm, ⟨34, _⟩ => ⟨S96x1024x32x256, .f32⟩
  | .hbm, ⟨35, _⟩ => ⟨S1x32x256x1024, .f32⟩
  | .hbm, ⟨36, _⟩ => ⟨S32x256x1024, .f32⟩
  | .hbm, ⟨37, _⟩ => ⟨S96x1024x1024, .f32⟩
  | .hbm, ⟨38, _⟩ => ⟨S96x1024x2x2x256, .f32⟩
  | .hbm, ⟨39, _⟩ => ⟨S2x96x1024x2x256, .f32⟩
  | .hbm, ⟨40, _⟩ => ⟨S2x196608x256, .f32⟩
  | .hbm, ⟨41, _⟩ => ⟨S2x196608x256, .bf16⟩
  | _, _ => ⟨S2x196608x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Proof.Bits.lean ====
module

public import proofs.«01_k».proof.Proof.Gen.Kernel.Skeleton
public import proofs.«01_k».proof.Proof.Gen.Kernel.Loops
public import proofs.«01_k».proof.Proof.Gen.Kernel.Frame
public import proofs.«01_k».proof.Proof.Gen.Kernel.Points
public import proofs.«01_k».proof.Proof.Gen.Kernel.Launch
public import Idealize.ShloMosaic.Lib.Pipeline.DatRel
public import Idealize.ShloMosaic.Lib.Tactic

@[expose] public section

set_option maxRecDepth 65536

noncomputable section

/-! The program as printed, at any floats: it runs, its arguments end unchanged. Nothing is said of what it computes, so
    the scratch buffers and the result block are held at some contents throughout. -/

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

variable {F : FTy → Type} [FloatOps F]
local notation "𝕄" => MT nD τ sig Unit (Elt F) ℕ (UR sig nD τ) ℕ

abbrev UU (nD : Nat) (τ : Topo) : Type := UR sig nD τ
abbrev 𝒱₀ : Variants := Variants.none

/-- A buffer held whole, at some contents; -/
abbrev some' (c : Dev nD) {sp : Space} {S : Shape} {e : EltTy} (M : Memref sig .tc sp S e) : sProp 𝕄 :=
  iprop(∃ f : Buf (Elt F) (M.view.loc (c : Thread nD τ)), M.view.loc (c : Thread nD τ) ↦{fullShare} f)

/-- at the contents `f`. -/
abbrev at' (c : Dev nD) {sp : Space} {S : Shape} {e : EltTy} (M : Memref sig .tc sp S e) (f : Buf (Elt F) (M.view.loc (c : Thread nD τ))) : sProp 𝕄 :=
  M.view.loc (c : Thread nD τ) ↦{fullShare} f

/-- One trip of the loop over the earlier key blocks. -/
theorem trip (c : Dev nD) (i : grid0.Coords) (arg3 : Memref sig .tc .vmem S1x2048x128 .bf16) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1x2048x128 .bf16) (harg8 : arg8.IsWhole) (arg9 : Memref sig .tc .vmem S4096x128 .bf16) (harg9 : arg9.IsWhole) (arg10 : Memref sig .tc .vmem S1x4096 .f32) (harg10 : arg10.IsWhole) (arg11 : Memref sig .tc .vmem S1x4096 .f32) (harg11 : arg11.IsWhole) (arg12 : Memref sig .tc .vmem S1x4096 .f32) (harg12 : arg12.IsWhole) (arg13 : Memref sig .tc .vmem S128x4096 .f32) (harg13 : arg13.IsWhole) (arg2 : BitVec 32) (v30 : FVec F S1x4096 .f32) (v31 : Vec F S1x4096 .f32)
    (k : Fin (k0_t1_loop i).trips) (fk : Buf (Elt F) ((arg4 : Memref sig .tc _ _ _).view.loc (c : Thread nD τ))) (fv : Buf (Elt F) ((arg5 : Memref sig .tc _ _ _).view.loc (c : Thread nD τ))) (fq : Buf (Elt F) ((arg9 : Memref sig .tc _ _ _).view.loc (c : Thread nD τ))) (Q : Unit → sProp 𝕄) :
    iprop(at' c arg4 fk ∗ at' c arg5 fv ∗ at' c arg9 fq ∗ some' c arg10 ∗ some' c arg11 ∗ some' c arg12 ∗ some' c arg13
      ∗ (iprop(at' c arg4 fk ∗ at' c arg5 fv ∗ at' c arg9 fq ∗ some' c arg10 ∗ some' c arg11 ∗ some' c arg12 ∗ some' c arg13) -∗ Q ()))
    ⊢ wp frame (wpE (defs₀ (F := F)) 𝒱₀ c none) Set.univ (k0_t1_body (F := F) i arg3 harg3 arg4 harg4 arg5 harg5 arg6 harg6 arg7 harg7 arg8 harg8 arg9 harg9 arg10 harg10 arg11 harg11 arg12 harg12 arg13 harg13 arg2 v30 v31 k ()) Q := by
  iintro ⟨Hk, Hv, Hq, ⟨%fr, Hr⟩, ⟨%fm, Hm⟩, ⟨%fl, Hl⟩, ⟨%fa, Ha⟩, HQ⟩
  unfold k0_t1_body
  set_option sl_exec.stopBefore "v1301" in
  sl_exec
  generalize View.writes arg10.view (Elt F) fr _ = gr
  generalize View.writes arg11.view (Elt F) fm _ = gm
  generalize View.writes arg12.view (Elt F) fl _ = gl
  generalize View.writes arg13.view (Elt F) fa _ = ga
  rcases Classical.em (_root_.Cert.Proof.Kernel.trip.sl.v1301 (F := F) c i arg4 arg9 arg10 arg11 k fk fq fr fm = 1#1) with hc | hc
  · rw [if_pos hc]
    sl_exec
    sl_step
    iapply HQ
    iframe
    isplitl [Hr]; · iexists _; iexact Hr
    isplitl [Hm]; · iexists _; iexact Hm
    isplitl [Hl]; · iexists _; iexact Hl
    iexists _; iexact Ha
  · rw [if_neg hc]
    sl_exec
    sl_step
    iapply HQ
    iframe
    isplitl [Hr]; · iexists gr; iexact Hr
    isplitl [Hm]; · iexists gm; iexact Hm
    isplitl [Hl]; · iexists gl; iexact Hl
    iexists ga; iexact Ha

set_option warn.classDefReducibility false in
/-- The loop's invariant: the scratch buffers hold something. -/
def loopInv_k0_t1 (c : Dev nD) (i : grid0.Coords) (arg3 : Memref sig .tc .vmem S1x2048x128 .bf16) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1x2048x128 .bf16) (harg8 : arg8.IsWhole) (arg9 : Memref sig .tc .vmem S4096x128 .bf16) (harg9 : arg9.IsWhole) (arg10 : Memref sig .tc .vmem S1x4096 .f32) (harg10 : arg10.IsWhole) (arg11 : Memref sig .tc .vmem S1x4096 .f32) (harg11 : arg11.IsWhole) (arg12 : Memref sig .tc .vmem S1x4096 .f32) (harg12 : arg12.IsWhole) (arg13 : Memref sig .tc .vmem S128x4096 .f32) (harg13 : arg13.IsWhole)
    (fk : Buf (Elt F) ((arg4 : Memref sig .tc _ _ _).view.loc (c : Thread nD τ))) (fv : Buf (Elt F) ((arg5 : Memref sig .tc _ _ _).view.loc (c : Thread nD τ))) (fq : Buf (Elt F) ((arg9 : Memref sig .tc _ _ _).view.loc (c : Thread nD τ))) :
    Gen.LoopInvTy_k0_t1 (F := F) Unit ℕ (UU nD τ) ℕ 𝒱₀ c none Set.univ i arg3 harg3 arg4 harg4 arg5 harg5 arg6 harg6 arg7 harg7 arg8 harg8 arg9 harg9 arg10 harg10 arg11 harg11 arg12 harg12 arg13 harg13 0#32 k0_pay470 k0_pay470 where
  inv := fun _ _ => iprop(at' c arg4 fk ∗ at' c arg5 fv ∗ at' c arg9 fq ∗ some' c arg10 ∗ some' c arg11 ∗ some' c arg12 ∗ some' c arg13)
  step := fun k _ => by
    iintro ⟨Hk, Hv, Hq, Hr, Hm, Hl, Ha⟩
    iapply (trip c i arg3 harg3 arg4 harg4 arg5 harg5 arg6 harg6 arg7 harg7 arg8 harg8 arg9 harg9 arg10 harg10 arg11 harg11 arg12 harg12 arg13 harg13 0#32 k0_pay470 k0_pay470 k fk fv fq)
    iframe
    iintro H
    iexact H

/-- The remainder loop has no trips. -/
theorem trips2 (i : grid0.Coords) : (k0_t2_loop i).trips = 0 := by
  have h : ∀ a : Fin 4, (Scf.Loop.mk (Scalar.addi 0#32 (Scalar.muli (Scalar.divsi (Scalar.subi (BitVec.ofNat 32 a.val) 0#32) 1#32) 1#32)) (Scalar.addi 0#32 (Scalar.subi (BitVec.ofNat 32 a.val) 0#32)) 1#32).trips = 0 := by decide
  exact h (i 2)

set_option maxHeartbeats 4000000 in
/-- The body at a point. -/
theorem body (c : Dev nD) (i : grid0.Coords) (arg3 : Memref sig .tc .vmem S1x2048x128 .bf16) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1x2048x128 .bf16) (harg8 : arg8.IsWhole) (arg9 : Memref sig .tc .vmem S4096x128 .bf16) (harg9 : arg9.IsWhole) (arg10 : Memref sig .tc .vmem S1x4096 .f32) (harg10 : arg10.IsWhole) (arg11 : Memref sig .tc .vmem S1x4096 .f32) (harg11 : arg11.IsWhole) (arg12 : Memref sig .tc .vmem S1x4096 .f32) (harg12 : arg12.IsWhole) (arg13 : Memref sig .tc .vmem S128x4096 .f32) (harg13 : arg13.IsWhole)
    (fx : Buf (Elt F) ((arg3 : Memref sig .tc _ _ _).view.loc (c : Thread nD τ))) (fk : Buf (Elt F) ((arg4 : Memref sig .tc _ _ _).view.loc (c : Thread nD τ))) (fv : Buf (Elt F) ((arg5 : Memref sig .tc _ _ _).view.loc (c : Thread nD τ))) (fl0 : Buf (Elt F) ((arg6 : Memref sig .tc _ _ _).view.loc (c : Thread nD τ))) (fg : Buf (Elt F) ((arg7 : Memref sig .tc _ _ _).view.loc (c : Thread nD τ))) (Q : Unit → sProp 𝕄) :
    at' c arg3 fx ∗ at' c arg4 fk ∗ at' c arg5 fv ∗ at' c arg6 fl0 ∗ at' c arg7 fg ∗ some' c arg8 ∗ some' c arg9 ∗ some' c arg10 ∗ some' c arg11 ∗ some' c arg12 ∗ some' c arg13 ∗
      (at' c arg3 fx ∗ at' c arg4 fk ∗ at' c arg5 fv ∗ at' c arg6 fl0 ∗ at' c arg7 fg ∗ some' c arg8 ∗ some' c arg9 ∗ some' c arg10 ∗ some' c arg11 ∗ some' c arg12 ∗ some' c arg13 -∗ Q ()) ⊢
    wp (M := 𝕄) Idealize.ShloMosaic.frame (wpE (defs₀ (F := F)) 𝒱₀ (c : Thread nD τ) none) Set.univ
      (cc0_diff_attn i arg3 harg3 arg4 harg4 arg5 harg5 arg6 harg6 arg7 harg7 arg8 harg8 arg9 harg9 arg10 harg10 arg11 harg11 arg12 harg12 arg13 harg13) Q := by
  iintro ⟨Hx, Hk, Hv, Hp, Hg, ⟨%fo, Ho⟩, ⟨%fq, Hq⟩, ⟨%fr, Hr⟩, ⟨%fm, Hm⟩, ⟨%fl, Hl⟩, ⟨%fa, Ha⟩, HQ⟩
  sl_exec
  generalize View.writes arg9.view (Elt F) _ _ = gq
  generalize View.writes arg10.view (Elt F) _ _ = gr
  generalize View.writes arg11.view (Elt F) _ _ = gm
  generalize View.writes arg12.view (Elt F) _ _ = gl
  generalize View.writes arg13.view (Elt F) _ _ = ga
  have htr := trips2 i
  let L := loopInv_k0_t1 c i arg3 harg3 arg4 harg4 arg5 harg5 arg6 harg6 arg7 harg7 arg8 harg8 arg9 harg9 arg10 harg10 arg11 harg11 arg12 harg12 arg13 harg13 fk fv gq
  set_option sl_exec.stopBefore "v685" in
  sl_exec

  generalize View.writes arg10.view (Elt F) _ _ = br
  generalize View.writes arg11.view (Elt F) _ _ = bm
  generalize View.writes arg12.view (Elt F) _ _ = bl
  generalize View.writes arg13.view (Elt F) _ _ = ba
  split
  all_goals
    sl_exec
    sl_step
    iapply HQ
    iframe
    isplitl [Ho]; · iexists _; iexact Ho
    isplitl [Hq]; · iexists _; iexact Hq
    isplitl [Hr]; · iexists _; iexact Hr
    isplitl [Hm]; · iexists _; iexact Hm
    isplitl [Hl]; · iexists _; iexact Hl
    iexists _; iexact Ha

/-- A whole memref owned at what it reads is its buffer held whole, at some contents that read so; -/
theorem owns_at (c : Dev nD) {sp : Space} {S : Shape} {e : EltTy} (M : Memref sig .tc sp S e) (h : M.IsWhole) (X : S.Idx → Elt F e) :
    (owns (c : Thread nD τ) M fullShare X : sProp 𝕄) ⊢ iprop(∃ f, ⌜M.view.read (Elt F) f = X⌝ ∗ at' c M f) := by
  unfold owns at'
  rw [Memref.IsWhole.set_eq_univ h]

/-- and back. -/
theorem at_owns (c : Dev nD) {sp : Space} {S : Shape} {e : EltTy} (M : Memref sig .tc sp S e) (h : M.IsWhole) (f : Buf (Elt F) (M.view.loc (c : Thread nD τ))) :
    at' c M f ⊢ (owns (c : Thread nD τ) M fullShare (M.view.read (Elt F) f) : sProp 𝕄) := by
  unfold owns at'
  rw [Memref.IsWhole.set_eq_univ h]
  iintro H
  iexists f
  isplitr
  · ipureintro; rfl
  iexact H

variable (m : (ℓ : Loc nD τ sig) → Buf (Elt F) ℓ) (ρ : Dev nD → PrngReg)

/-- The proof data: the input windows hold their blocks and keep them; -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun _ => Classical.choice inferInstance
  Φ _ := Pipeline.ΦA spec0 c
  q w := Pipeline.shareOf spec0 w
  owed _ := 0

/-- of the output window nothing is said. -/
def fgt : Fin cfg0.W → Bool := fun w => match w with
  | ⟨5, _⟩ => true
  | _ => false

/-- The body called at a point is the body at the blocks of that point. -/
theorem defs₀_row (t : Fin cfg0.N) : defs₀ (F := F) .tc cfg0.body (cfg0.bodyArgs t (cfg0.slots t)) = bodyAt0 t := by
  unfold defs₀; rw [Defs.onTc_tc]

/-- The body at a point, on what the pipeline hands it. -/
theorem body_at (c : Dev nD) (t : Fin cfg0.N) (x0 : FVec F S1x2048x128 .bf16) (x1 : FVec F S1x8192x128 .bf16) (x2 : FVec F S1x128x8192 .bf16)
    (x3 : FVec F S4x64 .f32) (x4 : FVec F S128x1 .f32) (x5 : FVec F S1x2048x128 .bf16) (R : sProp 𝕄) :
    iprop((Pipeline.ΦA spec0 c : sProp 𝕄) ∗ R ∗ owns (c : Thread nD τ) (st0_0 t) fullShare x0 ∗ owns (c : Thread nD τ) (st0_1 t) fullShare x1 ∗ owns (c : Thread nD τ) (st0_2 t) fullShare x2 ∗ owns (c : Thread nD τ) (st0_3 t) fullShare x3 ∗ owns (c : Thread nD τ) (st0_4 t) fullShare x4 ∗ owns (c : Thread nD τ) (st0_5 t) fullShare x5) ⊢
    wp (M := 𝕄) Idealize.ShloMosaic.frame (wpE (defs₀ (F := F)) 𝒱₀ (c : Thread nD τ) none) Set.univ (bodyAt0 t) fun _ =>
      iprop((Pipeline.ΦA spec0 c : sProp 𝕄) ∗ R ∗ owns (c : Thread nD τ) (st0_0 t) fullShare x0 ∗ owns (c : Thread nD τ) (st0_1 t) fullShare x1 ∗ owns (c : Thread nD τ) (st0_2 t) fullShare x2 ∗ owns (c : Thread nD τ) (st0_3 t) fullShare x3 ∗ owns (c : Thread nD τ) (st0_4 t) fullShare x4 ∗ ∃ X, ⌜True⌝ ∗ owns (c : Thread nD τ) (st0_5 t) fullShare X) := by
  unfold Pipeline.ΦA
  rw [scopedRest0_eq]
  iintro ⟨⟨⟨⟨%f9, H9⟩, ⟨%f10, H10⟩, ⟨%f11, H11⟩, ⟨%f12, H12⟩, ⟨%f13, H13⟩⟩, Hρ⟩, HR, H0, H1, H2, H3, H4, H5⟩
  ihave H0 := owns_at c (st0_0 t) (hstage0_0 _) x0 $$ H0
  icases H0 with ⟨%g0, %e0, H0⟩
  ihave H1 := owns_at c (st0_1 t) (hstage0_1 _) x1 $$ H1
  icases H1 with ⟨%g1, %e1, H1⟩
  ihave H2 := owns_at c (st0_2 t) (hstage0_2 _) x2 $$ H2
  icases H2 with ⟨%g2, %e2, H2⟩
  ihave H3 := owns_at c (st0_3 t) (hstage0_3 _) x3 $$ H3
  icases H3 with ⟨%g3, %e3, H3⟩
  ihave H4 := owns_at c (st0_4 t) (hstage0_4 _) x4 $$ H4
  icases H4 with ⟨%g4, %e4, H4⟩
  ihave H5 := owns_at c (st0_5 t) (hstage0_5 _) x5 $$ H5
  icases H5 with ⟨%g5, -, H5⟩
  subst e0 e1 e2 e3 e4
  iapply body (F := F) c (grid0.coords t) (st0_0 t) _ (st0_1 t) _ (st0_2 t) _ (st0_3 t) _ (st0_4 t) _ (st0_5 t) _
    (Memref.whole cc0_scratch0) _ (Memref.whole cc0_scratch1) _ (Memref.whole cc0_scratch2) _ (Memref.whole cc0_scratch3) _ (Memref.whole cc0_scratch4) _
    g0 g1 g2 g3 g4
  isplitl [H0]; · iexact H0
  isplitl [H1]; · iexact H1
  isplitl [H2]; · iexact H2
  isplitl [H3]; · iexact H3
  isplitl [H4]; · iexact H4
  isplitl [H5]; · iexists _; iexact H5
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, ⟨%g, H5⟩, H9, H10, H11, H12, H13⟩
  isplitl [H9 H10 H11 H12 H13 Hρ]
  · isplitr [Hρ]
    · isplitl [H9]; · iexact H9
      isplitl [H10]; · iexact H10
      isplitl [H11]; · iexact H11
      isplitl [H12]; · iexact H12
      iexact H13
    · iexact Hρ
  isplitl [HR]; · iexact HR
  isplitl [H0]; · iapply at_owns c _ (hstage0_0 _) g0; iexact H0
  isplitl [H1]; · iapply at_owns c _ (hstage0_1 _) g1; iexact H1
  isplitl [H2]; · iapply at_owns c _ (hstage0_2 _) g2; iexact H2
  isplitl [H3]; · iapply at_owns c _ (hstage0_3 _) g3; iexact H3
  isplitl [H4]; · iapply at_owns c _ (hstage0_4 _) g4; iexact H4
  iexists ((st0_5 t).view.read (Elt F) g)
  isplitr; · ipureintro; trivial
  iapply at_owns c _ (hstage0_5 _) g; iexact H5

/-- The body meets its obligation at every point. -/
theorem obligation (c : Dev nD) : BodyObligationRel (dat m c) (defs₀ (F := F)) 𝒱₀ () Set.univ fgt (fun _ _ _ => True) := fun t => by
  rw [bigSep_W0, bigSep_W0, defs₀_row]
  have hb0 := fun d => before0_0_of m (dat m c) rfl (fun _ => rfl) t d
  have hb1 := fun d => before0_1_of m (dat m c) rfl (fun _ => rfl) t d
  have hb2 := fun d => before0_2_of m (dat m c) rfl (fun _ => rfl) t d
  have hb3 := fun d => before0_3_of m (dat m c) rfl (fun _ => rfl) t d
  have hb4 := fun d => before0_4_of m (dat m c) rfl (fun _ => rfl) t d
  have hP : iprop((Pipeline.ΦA spec0 c : sProp 𝕄) ∗ (dat m c).owesAt () t.castSucc ∗ (∃ d, owns (c : Thread nD τ) (st0_0 t) fullShare ((dat m c).before 0 t d)) ∗ (∃ d, owns (c : Thread nD τ) (st0_1 t) fullShare ((dat m c).before 1 t d)) ∗ (∃ d, owns (c : Thread nD τ) (st0_2 t) fullShare ((dat m c).before 2 t d)) ∗ (∃ d, owns (c : Thread nD τ) (st0_3 t) fullShare ((dat m c).before 3 t d)) ∗ (∃ d, owns (c : Thread nD τ) (st0_4 t) fullShare ((dat m c).before 4 t d)) ∗
      (∃ Y, ⌜((dat m c).toRRel fgt (fun _ _ _ => True)).Finds 5 t Y⌝ ∗ owns (c : Thread nD τ) (st0_5 t) fullShare Y)) ⊢
      wp (M := 𝕄) Idealize.ShloMosaic.frame (wpE (defs₀ (F := F)) 𝒱₀ (c : Thread nD τ) none) Set.univ (bodyAt0 t) fun _ =>
      iprop((Pipeline.ΦA spec0 c : sProp 𝕄) ∗ (dat m c).owesAt () t.castSucc ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ ∃ X, ⌜True⌝ ∗ owns (c : Thread nD τ) (st0_5 t) fullShare X) := by
    iintro ⟨HΦ, Ho, ⟨%d0, H0⟩, ⟨%d1, H1⟩, ⟨%d2, H2⟩, ⟨%d3, H3⟩, ⟨%d4, H4⟩, ⟨%Y, -, H5⟩⟩
    rw [hb0, hb1, hb2, hb3, hb4]
    iapply body_at c t (iblk m c 0 t) (iblk m c 1 t) (iblk m c 2 t) (iblk m c 3 t) (iblk m c 4 t) Y ((dat m c).owesAt () t.castSucc)
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  exact triple_restated hP rfl .rfl fun _ => .rfl

/-- The program runs; its arguments and its semaphores end as they were. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  Pipeline.RDat.θ_run_frame_track_shared cfgs 0 launch₀0 defs₀ 𝒱₀ (fun c => (dat m c).toRRel fgt (fun _ _ _ => True)) m ρ main
    (fun c => (obligation m c).toRRel) (fun _ _ _ => rfl) (fun _ _ => rfl) (V m) (hmain m 𝒱₀) (fun _ _ => rfl)
    (fun _ => .rfl) (fun _ => .rfl) _ fun _ h => ⟨fun c => ⟨h.1.arr_in c 1 rfl, h.1.arr_in c 2 rfl, h.1.arr_in c 3 rfl, h.1.arr_in c 4 rfl⟩, h.2⟩

end Cert.Proof.Kernel

end
-- ==== Proof.Chunk.lean ====
module

public import proofs.«01_k».proof.Proof.Gen.KernelIdeal.Frame
public import proofs.«01_k».proof.Proof.Gen.KernelIdeal.Loops
public import Idealize.ShloMosaic.Lib.Pipeline.FrameBody

@[expose] public section

set_option maxRecDepth 65536

noncomputable section

/-! The arithmetic of one key block, per chunk of 512 score columns, over any floats: what a block
    contributes, the lazy update (a tentative one, kept where the block was safe) and the exact
    update (the textbook online softmax), and the relation between the four scratch buffers before
    and after a block. -/

namespace Cert.Proof.Attn

open Cert.KernelIdeal
open Idealize.ShloMosaic Idealize.ShloMosaic.TcCoe
open Facts₀

variable {F : FTy → Type} [FloatOps F]

/-- What a key block contributes to a chunk of columns: the columns' maxima, and — for a reference
    row `r` — the sums of `2^(s - r)` and the value rows weighted by it. -/
structure Blk (F : FTy → Type) where
  bm : FVec F S1x512 .f32
  ls : FVec F S1x512 .f32 → FVec F S1x512 .f32
  av : FVec F S1x512 .f32 → FVec F S128x512 .f32

/-- The contribution of a block of `n` keys with scores `s` and (transposed) values `V`. -/
def mkBlk (n : ℕ) (hr : (⟨2, ![n, 512]⟩ : Shape).Reduces [0] S512) (hb : S1x512.Broadcasts ⟨2, ![n, 512]⟩)
    (s : FVec F ⟨2, ![n, 512]⟩ .f32) (V : FVec F ⟨2, ![128, n]⟩ .bf16) : Blk F where
  bm := shapeCast S1x512 (multiReduction .maximumf [0] S512 s 0xFF800000#32 hr (.inl rfl) rfl) shapeCasts_S512_S1x512
  ls r := shapeCast S1x512 (multiReduction .add [0] S512 (exp2 (subf s (broadcastTo ⟨2, ![n, 512]⟩ r hb)))
    0x00000000#32 hr (.inl rfl) rfl) shapeCasts_S512_S1x512
  av r := matmul (DotDims.plain 128 n 512) none V
    (truncf .bf16 (exp2 (subf s (broadcastTo ⟨2, ![n, 512]⟩ r hb))) bitsLt_bf16_f32) (constant S128x512 .f32 0x00000000#32)

/-- The scores of `n` keys against a chunk of 512 queries. -/
def score (n : ℕ) (K : FVec F ⟨2, ![n, 128]⟩ .bf16) (q : FVec F S512x128 .bf16) : FVec F ⟨2, ![n, 512]⟩ .f32 :=
  matmul (DotDims.transposedRhs n 128 512) none K q (constant ⟨2, ![n, 512]⟩ .f32 0x00000000#32)

/-- The scores of the block on the diagonal, the chunk's queries starting at `w`: a key after the
    query does not count. -/
def masked (n : ℕ) (w : BitVec 32) (h0 : (⟨2, ![n, 512]⟩ : Shape).Iotas .tc 32 [0]) (h1 : (⟨2, ![n, 512]⟩ : Shape).Iotas .tc 32 [1])
    (s : FVec F ⟨2, ![n, 512]⟩ .f32) : FVec F ⟨2, ![n, 512]⟩ .f32 :=
  select (cmpi .sle (addi (iota .tc ⟨2, ![n, 512]⟩ 32 [0] h0) (broadcast ⟨2, ![n, 512]⟩ 0#32))
      (addi (iota .tc ⟨2, ![n, 512]⟩ 32 [1] h1) (broadcast ⟨2, ![n, 512]⟩ w)))
    s (broadcast ⟨2, ![n, 512]⟩ (Scalar.ofBits .f32 0xFF800000#32))

/-- A chunk's rows of the four scratch buffers: reference, maximum, denominator, numerator. -/
structure Ch (F : FTy → Type) where
  r : FVec F S1x512 .f32
  m : FVec F S1x512 .f32
  l : FVec F S1x512 .f32
  a : FVec F S128x512 .f32

/-- The lazy update of a chunk, kept where `sM` holds. -/
def fastU (sM : IVec S1x1 1) (B : Blk F) (x : Ch F) : Ch F where
  r := shapeCast S1x512 (select (broadcastTo S1x512 (shapeCast S1x1 sM shapeCasts_S1x1_S1x1) broadcasts_S1x1_S1x512)
    (select (cmpf .ogt (absf (subf (maximumf x.m B.bm) x.r)) (broadcast S1x512 (Scalar.ofBits .f32 0x41000000#32)))
      (maximumf x.m B.bm) x.r) x.r) shapeCasts_S1x512_S1x512
  m := shapeCast S1x512 (select (broadcastTo S1x512 (shapeCast S1x1 sM shapeCasts_S1x1_S1x1) broadcasts_S1x1_S1x512)
    (maximumf x.m B.bm) x.m) shapeCasts_S1x512_S1x512
  l := shapeCast S1x512 (select (broadcastTo S1x512 (shapeCast S1x1 sM shapeCasts_S1x1_S1x1) broadcasts_S1x1_S1x512)
    (mulf (addf x.l (B.ls x.r)) (exp2 (subf x.r
      (select (cmpf .ogt (absf (subf (maximumf x.m B.bm) x.r)) (broadcast S1x512 (Scalar.ofBits .f32 0x41000000#32)))
        (maximumf x.m B.bm) x.r)))) x.l) shapeCasts_S1x512_S1x512
  a := shapeCast S128x512 (select (broadcastTo S128x512 (shapeCast S1x1 sM shapeCasts_S1x1_S1x1) broadcasts_S1x1_S128x512)
    (mulf (addf x.a (B.av x.r)) (broadcastTo S128x512 (exp2 (subf x.r
      (select (cmpf .ogt (absf (subf (maximumf x.m B.bm) x.r)) (broadcast S1x512 (Scalar.ofBits .f32 0x41000000#32)))
        (maximumf x.m B.bm) x.r))) broadcasts_S1x512_S128x512)) x.a) shapeCasts_S128x512_S128x512

/-- The exact update of a chunk. -/
def exactU (B : Blk F) (x : Ch F) : Ch F where
  r := shapeCast S1x512 (maximumf x.m B.bm) shapeCasts_S1x512_S1x512
  m := shapeCast S1x512 (maximumf x.m B.bm) shapeCasts_S1x512_S1x512
  l := shapeCast S1x512 (addf (mulf (select (cmpf .oeq x.m (broadcast S1x512 (Scalar.ofBits .f32 0xFF800000#32)))
      (broadcast S1x512 (Scalar.ofBits .f32 0x00000000#32)) (exp2 (subf x.r (maximumf x.m B.bm)))) x.l)
    (B.ls (maximumf x.m B.bm))) shapeCasts_S1x512_S1x512
  a := shapeCast S128x512 (addf (mulf (broadcastTo S128x512 (select (cmpf .oeq x.m (broadcast S1x512 (Scalar.ofBits .f32 0xFF800000#32)))
      (broadcast S1x512 (Scalar.ofBits .f32 0x00000000#32)) (exp2 (subf x.r (maximumf x.m B.bm)))) broadcasts_S1x512_S128x512) x.a)
    (B.av (maximumf x.m B.bm))) shapeCasts_S128x512_S128x512

/-- A chunk's worst difference: how far a column's maximum lies above the reference row, or, before any key, below it. -/
def worstCh (B : Blk F) (x : Ch F) : FVec F S1x1 .f32 :=
  shapeCast S1x1 (multiReduction .maximumf [1] S1 (maximumf (subf B.bm x.r)
    (select (cmpf .oeq x.m (broadcast S1x512 (Scalar.ofBits .f32 0xFF800000#32))) (subf x.r B.bm) (broadcast S1x512 (Scalar.ofBits .f32 0xFF800000#32))))
    0xFF800000#32 reduces_S1x512_S1 (.inl rfl) rfl) shapeCasts_S1_S1x1

/-- The worst of the eight chunks. -/
def worstOf (B : Fin 8 → Blk F) (x : Fin 8 → Ch F) : FVec F S1x1 .f32 :=
  maximumf (maximumf (maximumf (maximumf (maximumf (maximumf (maximumf (worstCh (B 0) (x 0)) (worstCh (B 1) (x 1))) (worstCh (B 2) (x 2)))
    (worstCh (B 3) (x 3))) (worstCh (B 4) (x 4))) (worstCh (B 5) (x 5))) (worstCh (B 6) (x 6))) (worstCh (B 7) (x 7))

/-- Where the lazy update is kept: the worst difference is at most 64. -/
def safe (worst : FVec F S1x1 .f32) : IVec S1x1 1 := cmpf .ole worst (broadcast S1x1 (Scalar.ofBits .f32 0x42800000#32))

/-- The word the exact update is run on. -/
def unsafeWord (worst : FVec F S1x1 .f32) : BitVec 1 :=
  Scalar.cmpi .ne (Scalar.extui (Scalar.xori (Scalar.cmpf .ole
    (extractAt ![0, 0, 0] (shapeCast S1x1x1 (multiReduction .maximumf [1, 2] S1 (shapeCast S1x1x1 worst shapeCasts_S1x1_S1x1x1)
      0xFF800000#32 reduces_S1x1x1_S1 (.inl rfl) rfl) shapeCasts_S1_S1x1x1) inpos_S1x1x1_p0_0_0 : F .f32)
    (Scalar.ofBits .f32 0x42800000#32)) 1#1) : BitVec 32) 0#32

/-! ## Chunks of columns -/

/-- Chunk `c`: columns `512 c` and on of a buffer of 4096 columns. -/
@[reducible] def colRect (a : ℕ) (c : Fin 8) : Rect (⟨2, ![a, 4096]⟩ : Shape) :=
  Rect.unit ![0, 512 * c.val] ![a, 512] fun x => by
    have := c.isLt
    fin_cases x
    · show 0 + a ≤ a; omega
    · show 512 * c.val + 512 ≤ 4096; omega

/-- A chunk of a buffer of 4096 columns. -/
def col {α : Type} (a : ℕ) (c : Fin 8) (X : (⟨2, ![a, 4096]⟩ : Shape).Idx → α) : (⟨2, ![a, 512]⟩ : Shape).Idx → α :=
  fun x => X ((colRect a c).emb x)

/-- Chunks, put back together. -/
def glue {α : Type} (a : ℕ) (w : Fin 8 → (⟨2, ![a, 512]⟩ : Shape).Idx → α) : (⟨2, ![a, 4096]⟩ : Shape).Idx → α :=
  fun y => w ⟨(y 1).val / 512, by have : (y 1).val < 4096 := (y 1).isLt; omega⟩
    (fun b => ⟨if b = 0 then (y 0).val else (y 1).val % 512, by
      fin_cases b
      · exact (y 0).isLt
      · show (y 1).val % 512 < 512; omega⟩)

/-- Eight chunks side by side, read at a column of one of them. -/
theorem glue_emb {α : Type} (a : ℕ) (w : Fin 8 → (⟨2, ![a, 512]⟩ : Shape).Idx → α) (c : Fin 8) (x : (⟨2, ![a, 512]⟩ : Shape).Idx) :
    glue a w ((colRect a c).emb x) = w c x := by
  have h0 : (((colRect a c).emb x) 0).val = (x 0).val := by show 0 + 1 * (x 0).val = _; omega
  have h1 : (((colRect a c).emb x) 1).val = 512 * c.val + (x 1).val := by show 512 * c.val + 1 * (x 1).val = _; omega
  have hx : (x 1).val < 512 := (x 1).isLt
  unfold glue
  congr 1
  · apply Fin.ext; show _ / 512 = c.val; rw [h1]; omega
  · funext b
    apply Fin.ext
    fin_cases b
    · exact h0
    · show _ % 512 = (x 1).val; rw [h1]; omega

/-- A chunk of chunks put together is that chunk; -/
theorem col_glue {α : Type} (a : ℕ) (w : Fin 8 → (⟨2, ![a, 512]⟩ : Shape).Idx → α) (c : Fin 8) : col a c (glue a w) = w c :=
  funext fun x => glue_emb a w c x

/-- every column is in a chunk. -/
theorem exists_col (a : ℕ) (y : (⟨2, ![a, 4096]⟩ : Shape).Idx) : ∃ (c : Fin 8) (x : (⟨2, ![a, 512]⟩ : Shape).Idx), (colRect a c).emb x = y := by
  have h1 : (y 1).val < 4096 := (y 1).isLt
  refine ⟨⟨(y 1).val / 512, by omega⟩, fun b => ⟨if b = 0 then (y 0).val else (y 1).val % 512, ?_⟩, ?_⟩
  · fin_cases b
    · exact (y 0).isLt
    · show (y 1).val % 512 < 512; omega
  · funext b
    apply Fin.ext
    fin_cases b
    · show 0 + 1 * (y 0).val = _; simp
    · show 512 * ((y 1).val / 512) + 1 * ((y 1).val % 512) = (y 1).val; omega

/-- The stores of the eight chunks, the last first. -/
def pieces {Val : EltTy → Type} {e : EltTy} (a : ℕ) (w : Fin 8 → (⟨2, ![a, 512]⟩ : Shape).Idx → Val e) : List (View.Piece Val ⟨2, ![a, 4096]⟩ e) :=
  [⟨colRect a 7, w 7⟩, ⟨colRect a 6, w 6⟩, ⟨colRect a 5, w 5⟩, ⟨colRect a 4, w 4⟩,
   ⟨colRect a 3, w 3⟩, ⟨colRect a 2, w 2⟩, ⟨colRect a 1, w 1⟩, ⟨colRect a 0, w 0⟩]

/-- A piece is the store of one of the eight chunks. -/
theorem mem_pieces {Val : EltTy → Type} {e : EltTy} (a : ℕ) (w : Fin 8 → (⟨2, ![a, 512]⟩ : Shape).Idx → Val e)
    (p : View.Piece Val ⟨2, ![a, 4096]⟩ e) : p ∈ pieces a w ↔ ∃ c, p = ⟨colRect a c, w c⟩ := by
  constructor
  · intro h
    simp only [pieces, List.mem_cons, List.not_mem_nil, or_false] at h
    rcases h with h | h | h | h | h | h | h | h <;> exact ⟨_, h⟩
  · rintro ⟨c, rfl⟩
    fin_cases c <;> simp [pieces]

/-- What a piece holds is the glued array there. -/
theorem pieces_pay {Val : EltTy → Type} {e : EltTy} (a : ℕ) (w : Fin 8 → (⟨2, ![a, 512]⟩ : Shape).Idx → Val e) :
    ∀ p ∈ pieces a w, ∀ x : p.1.shape.Idx, p.2 x = glue a w (p.1.emb x) := by
  intro p hp x
  obtain ⟨c, rfl⟩ := (mem_pieces a w p).1 hp
  exact (glue_emb a w c x).symm

/-- The pieces cover the array. -/
theorem pieces_cover {Val : EltTy → Type} {e : EltTy} (a : ℕ) (w : Fin 8 → (⟨2, ![a, 512]⟩ : Shape).Idx → Val e)
    (y : (⟨2, ![a, 4096]⟩ : Shape).Idx) : ∃ p ∈ pieces a w, y ∈ p.1.set := by
  obtain ⟨c, x, rfl⟩ := exists_col a y
  exact ⟨_, (mem_pieces a w _).2 ⟨c, rfl⟩, (colRect a c).idx_mem x⟩

/-- What the eight stores leave. -/
theorem read_pieces {sig : RefSig} {κ : Kind} {sp : Space} {Val : EltTy → Type} {e : EltTy} (a : ℕ) (v : View sig κ sp ⟨2, ![a, 4096]⟩ e)
    (f : v.ty.Contents Val) (w : Fin 8 → (⟨2, ![a, 512]⟩ : Shape).Idx → Val e) :
    v.read Val (v.writes Val f (pieces a w)) = glue a w :=
  funext fun y => v.read_writes_apply_of_pieces f (glue a w) _ (pieces_pay a w) y (pieces_cover a w y)

/-- The four buffers, read whole. -/
structure St (F : FTy → Type) where
  R : FVec F S1x4096 .f32
  M : FVec F S1x4096 .f32
  L : FVec F S1x4096 .f32
  A : FVec F S128x4096 .f32

/-- A chunk of the four buffers. -/
def ch (c : Fin 8) (S : St F) : Ch F := ⟨col 1 c S.R, col 1 c S.M, col 1 c S.L, col 128 c S.A⟩

/-- One key block: every chunk is updated lazily and, where some column was not safe, exactly
    after that. `B c` is what the block contributes to chunk `c`. -/
def Step (B : Fin 8 → Blk F) (S S' : St F) : Prop :=
  ∃ worst : FVec F S1x1 .f32, worst = worstOf B (fun c => ch c S) ∧
    ((unsafeWord worst = 1#1 ∧ ∃ G : St F, (∀ c, ch c G = fastU (safe worst) (B c) (ch c S)) ∧ ∀ c, ch c S' = exactU (B c) (ch c G)) ∨
    (unsafeWord worst ≠ 1#1 ∧ ∀ c, ch c S' = fastU (safe worst) (B c) (ch c S)))

/-- Chunk `c` of the queries, both maps' halves stacked. -/
def qch (c : Fin 8) (Q : FVec F S4096x128 .bf16) : FVec F S512x128 .bf16 :=
  fun x => Q ((Rect.unit (s := S4096x128) ![512 * c.val, 0] ![512, 128] fun a => by
    have := c.isLt
    fin_cases a
    · show 512 * c.val + 512 ≤ 4096; omega
    · show 0 + 128 ≤ 128; omega).emb x)

/-- The contributions of a block that is wholly before the queries. -/
def full (K : FVec F S2048x128 .bf16) (V : FVec F S128x2048 .bf16) (Q : FVec F S4096x128 .bf16) (c : Fin 8) : Blk F :=
  mkBlk 2048 reduces_S2048x512_S512 broadcasts_S1x512_S2048x512 (score 2048 K (qch c Q)) V

end Cert.Proof.Attn
-- ==== Proof.Trip.lean ====
module

public import proofs.«01_k».proof.Proof.Chunk
public import Idealize.ShloMosaic.Lib.Tactic

@[expose] public section

set_option maxRecDepth 65536

noncomputable section

/-! One trip of the loop over the key blocks before the queries: what it leaves in the four scratch
    buffers, related to what it found there by `Attn.Step`. -/

namespace Cert.Proof.KernelIdeal

open Cert.KernelIdeal Cert.KernelIdeal.Gen Cert.Proof.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU (nD : Nat) (τ : Topo) : Type := UR sig nD τ
abbrev 𝒱₀ : Variants := Variants.none
local notation "𝕄" => MT nD τ sig Unit (Elt F) ℕ (UR sig nD τ) ℕ

/-- The contents of a memref's buffer; -/
abbrev Bf (c : Dev nD) {sp : Space} {S : Shape} {e : EltTy} (M : Memref sig .tc sp S e) : Type :=
  Buf (Elt F) (M.view.loc (c : Thread nD τ))

/-- the buffer held whole, with those contents. -/
abbrev pt (c : Dev nD) {sp : Space} {S : Shape} {e : EltTy} (M : Memref sig .tc sp S e) (f : Bf (F := F) c M) : sProp 𝕄 :=
  M.view.loc (c : Thread nD τ) ↦{fullShare} f

/-- The four scratch buffers' contents, read. -/
def stOf (c : Dev nD) {sp : Space} (arg10 arg11 arg12 : Memref sig .tc sp S1x4096 .f32) (arg13 : Memref sig .tc sp S128x4096 .f32)
    (fr : Bf (F := F) c arg10) (fm : Bf (F := F) c arg11) (fl : Bf (F := F) c arg12) (fa : Bf (F := F) c arg13) : St F :=
  ⟨arg10.view.read (Elt F) fr, arg11.view.read (Elt F) fm, arg12.view.read (Elt F) fl, arg13.view.read (Elt F) fa⟩

/-- Key block `k` of the row's keys; -/
def keys (i : grid0.Coords) (k : Fin (k0_t1_loop i).trips) (X : FVec F S1x8192x128 .bf16) : FVec F S2048x128 .bf16 :=
  shapeCast S2048x128 (View.ld (Val := Elt F) (e' := .bf16) X (Rect.unit (s := S1x8192x128) (k0_off1 i k) S1x2048x128.size (k0_off1_inb i k)))
    shapeCasts_S1x2048x128_S2048x128

/-- and of the (transposed) values. -/
def vals (i : grid0.Coords) (k : Fin (k0_t1_loop i).trips) (X : FVec F S1x128x8192 .bf16) : FVec F S128x2048 .bf16 :=
  shapeCast S128x2048 (View.ld (Val := Elt F) (e' := .bf16) X (Rect.unit (s := S1x128x8192) (k0_off2 i k) S1x128x2048.size (k0_off2_inb i k)))
    shapeCasts_S1x128x2048_S128x2048

/-- What trip `k` contributes to each chunk. -/
def blkAt (c : Dev nD) (i : grid0.Coords) (k : Fin (k0_t1_loop i).trips) {sp : Space} (arg4 : Memref sig .tc sp S1x8192x128 .bf16)
    (arg5 : Memref sig .tc sp S1x128x8192 .bf16) (arg9 : Memref sig .tc sp S4096x128 .bf16) (fk : Bf (F := F) c arg4) (fv : Bf (F := F) c arg5)
    (fq : Bf (F := F) c arg9) : Fin 8 → Blk F :=
  full (keys i k (arg4.view.read (Elt F) fk)) (vals i k (arg5.view.read (Elt F) fv)) (arg9.view.read (Elt F) fq)

/-- A chunk of what eight stores left is what was stored there. -/
theorem ch_pieces (c : Dev nD) {sp : Space} (arg10 arg11 arg12 : Memref sig .tc sp S1x4096 .f32) (arg13 : Memref sig .tc sp S128x4096 .f32)
    (fr : Bf (F := F) c arg10) (fm : Bf (F := F) c arg11) (fl : Bf (F := F) c arg12) (fa : Bf (F := F) c arg13) (w : Fin 8 → Ch F) (x : Fin 8) :
    ch x (stOf c arg10 arg11 arg12 arg13 (arg10.view.writes (Elt F) fr (pieces 1 fun c => (w c).r))
      (arg11.view.writes (Elt F) fm (pieces 1 fun c => (w c).m)) (arg12.view.writes (Elt F) fl (pieces 1 fun c => (w c).l))
      (arg13.view.writes (Elt F) fa (pieces 128 fun c => (w c).a))) = w x := by
  unfold ch stOf
  simp only [read_pieces, col_glue]

/-- One trip of the loop is one step from the state before it. -/
theorem trip (c : Dev nD) (i : grid0.Coords) (arg3 : Memref sig .tc .vmem S1x2048x128 .bf16) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1x2048x128 .bf16) (harg8 : arg8.IsWhole) (arg9 : Memref sig .tc .vmem S4096x128 .bf16) (harg9 : arg9.IsWhole) (arg10 : Memref sig .tc .vmem S1x4096 .f32) (harg10 : arg10.IsWhole) (arg11 : Memref sig .tc .vmem S1x4096 .f32) (harg11 : arg11.IsWhole) (arg12 : Memref sig .tc .vmem S1x4096 .f32) (harg12 : arg12.IsWhole) (arg13 : Memref sig .tc .vmem S128x4096 .f32) (harg13 : arg13.IsWhole) (arg2 : BitVec 32) (v30 : FVec F S1x4096 .f32) (v31 : Vec F S1x4096 .f32)
    (k : Fin (k0_t1_loop i).trips)
    (fk : Bf (F := F) c arg4) (fv : Bf (F := F) c arg5) (fq : Bf (F := F) c arg9) (fr : Bf (F := F) c arg10) (fm : Bf (F := F) c arg11) (fl : Bf (F := F) c arg12) (fa : Bf (F := F) c arg13) (Q : Unit → sProp 𝕄) :
    iprop(pt c arg4 fk ∗ pt c arg5 fv ∗ pt c arg9 fq ∗ pt c arg10 fr ∗ pt c arg11 fm ∗ pt c arg12 fl ∗ pt c arg13 fa
      ∗ (iprop(pt c arg4 fk ∗ pt c arg5 fv ∗ pt c arg9 fq ∗ ∃ fr' fm' fl' fa', pt c arg10 fr' ∗ pt c arg11 fm' ∗ pt c arg12 fl' ∗ pt c arg13 fa'
        ∗ ⌜Step (blkAt c i k arg4 arg5 arg9 fk fv fq) (stOf c arg10 arg11 arg12 arg13 fr fm fl fa) (stOf c arg10 arg11 arg12 arg13 fr' fm' fl' fa')⌝) -∗ Q ()))
    ⊢ wp frame (wpE (defs₀ (F := F)) 𝒱₀ c none) Set.univ
       (k0_t1_body (F := F) i arg3 harg3 arg4 harg4 arg5 harg5 arg6 harg6 arg7 harg7 arg8 harg8 arg9 harg9 arg10 harg10 arg11 harg11 arg12 harg12 arg13 harg13 arg2 v30 v31 k ()) Q := by
  iintro ⟨Hk, Hv, Hq, Hr, Hm, Hl, Ha, HQ⟩
  unfold k0_t1_body
  set_option sl_exec.stopBefore "v1301" in
  sl_exec
  generalize hr : View.writes arg10.view (Elt F) fr _ = gr
  generalize hm : View.writes arg11.view (Elt F) fm _ = gm
  generalize hl : View.writes arg12.view (Elt F) fl _ = gl
  generalize ha : View.writes arg13.view (Elt F) fa _ = ga
  have hS : ∃ worst : FVec F S1x1 .f32, worst = worstOf (blkAt c i k arg4 arg5 arg9 fk fv fq) (fun x => ch x (stOf c arg10 arg11 arg12 arg13 fr fm fl fa)) ∧
      unsafeWord worst = _root_.Cert.Proof.KernelIdeal.trip.sl.v1301 (F := F) c i arg4 arg9 arg10 arg11 k fk fq fr fm ∧
      ∀ x, ch x (stOf c arg10 arg11 arg12 arg13 gr gm gl ga)
        = fastU (safe worst) (blkAt c i k arg4 arg5 arg9 fk fv fq x) (ch x (stOf c arg10 arg11 arg12 arg13 fr fm fl fa)) := by
    refine ⟨_root_.Cert.Proof.KernelIdeal.trip.sl.v979 (F := F) c i arg4 arg9 arg10 arg11 k fk fq fr fm, ?_, rfl, ?_⟩
    · dsimp only [worstOf, worstCh, ch, stOf, blkAt, full, mkBlk]; rfl
    generalize hx : (fun x => fastU (safe (F := F) (_root_.Cert.Proof.KernelIdeal.trip.sl.v979 (F := F) c i arg4 arg9 arg10 arg11 k fk fq fr fm)) (blkAt c i k arg4 arg5 arg9 fk fv fq x) (ch x (stOf c arg10 arg11 arg12 arg13 fr fm fl fa))) = X
    have er : gr = arg10.view.writes (Elt F) fr (pieces (Val := Elt F) (e := .f32) 1 fun x => (X x).r) := by
      rw [← hr, ← hx]; dsimp only [pieces, fastU, ch, stOf, blkAt, full, mkBlk, safe]; rfl
    have em : gm = arg11.view.writes (Elt F) fm (pieces (Val := Elt F) (e := .f32) 1 fun x => (X x).m) := by
      rw [← hm, ← hx]; dsimp only [pieces, fastU, ch, stOf, blkAt, full, mkBlk, safe]; rfl
    have el : gl = arg12.view.writes (Elt F) fl (pieces (Val := Elt F) (e := .f32) 1 fun x => (X x).l) := by
      rw [← hl, ← hx]; dsimp only [pieces, fastU, ch, stOf, blkAt, full, mkBlk, safe]; rfl
    have ea : ga = arg13.view.writes (Elt F) fa (pieces (Val := Elt F) (e := .f32) 128 fun x => (X x).a) := by
      rw [← ha, ← hx]; dsimp only [pieces, fastU, ch, stOf, blkAt, full, mkBlk, safe]; rfl
    intro x
    rw [er, em, el, ea, ch_pieces, ← hx]
  clear hr hm hl ha
  obtain ⟨worst, hworst, hw, hS⟩ := hS
  rcases Classical.em (_root_.Cert.Proof.KernelIdeal.trip.sl.v1301 (F := F) c i arg4 arg9 arg10 arg11 k fk fq fr fm = 1#1) with hc | hc
  · rw [if_pos hc]
    sl_exec
    generalize hr' : View.writes arg10.view (Elt F) gr _ = hr
    generalize hm' : View.writes arg11.view (Elt F) gm _ = hm
    generalize hl' : View.writes arg12.view (Elt F) gl _ = hl
    generalize ha' : View.writes arg13.view (Elt F) ga _ = ha
    have hE : ∀ x, ch x (stOf c arg10 arg11 arg12 arg13 hr hm hl ha) = exactU (blkAt c i k arg4 arg5 arg9 fk fv fq x) (ch x (stOf c arg10 arg11 arg12 arg13 gr gm gl ga)) := by
      generalize hx : (fun x => exactU (blkAt c i k arg4 arg5 arg9 fk fv fq x) (ch x (stOf c arg10 arg11 arg12 arg13 gr gm gl ga))) = X
      have er : hr = arg10.view.writes (Elt F) gr (pieces (Val := Elt F) (e := .f32) 1 fun x => (X x).r) := by
        rw [← hr', ← hx]; dsimp only [pieces, exactU, ch, stOf, blkAt, full, mkBlk]; rfl
      have em : hm = arg11.view.writes (Elt F) gm (pieces (Val := Elt F) (e := .f32) 1 fun x => (X x).m) := by
        rw [← hm', ← hx]; dsimp only [pieces, exactU, ch, stOf, blkAt, full, mkBlk]; rfl
      have el : hl = arg12.view.writes (Elt F) gl (pieces (Val := Elt F) (e := .f32) 1 fun x => (X x).l) := by
        rw [← hl', ← hx]; dsimp only [pieces, exactU, ch, stOf, blkAt, full, mkBlk]; rfl
      have ea : ha = arg13.view.writes (Elt F) ga (pieces (Val := Elt F) (e := .f32) 128 fun x => (X x).a) := by
        rw [← ha', ← hx]; dsimp only [pieces, exactU, ch, stOf, blkAt, full, mkBlk]; rfl
      intro x
      rw [er, em, el, ea, ch_pieces, ← hx]
    sl_step
    iapply HQ
    iframe
    iexists hr, hm, hl, ha
    iframe
    ipureintro
    exact ⟨worst, hworst, .inl ⟨hw.trans hc, _, hS, hE⟩⟩
  · rw [if_neg hc]
    sl_exec
    sl_step
    iapply HQ
    iframe
    iexists gr, gm, gl, ga
    iframe
    ipureintro
    exact ⟨worst, hworst, .inr ⟨fun h => hc (hw.symm.trans h), hS⟩⟩

end Cert.Proof.KernelIdeal
-- ==== Proof.Body.lean ====
module

public import proofs.«01_k».proof.Proof.Trip

@[expose] public section

set_option maxRecDepth 65536

noncomputable section

/-! The kernel's body: the loop by its invariant (the state reached after `k` key blocks), the block on the
    diagonal, and the result. -/

namespace Cert.Proof.KernelIdeal

open Cert.KernelIdeal Cert.KernelIdeal.Gen Cert.Proof.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-- The states the four scratch buffers may be in after `k` of `n` blocks, from `S₀`. -/
def Reach {n : ℕ} (B : Fin n → Fin 8 → Blk F) (S₀ : St F) : ℕ → St F → Prop
  | 0, S => S = S₀
  | k + 1, S' => ∃ (h : k < n) (S : St F), Reach B S₀ k S ∧ Step (B ⟨k, h⟩) S S'

/-- The state the loop starts from. -/
def S₀ : St F := ⟨k0_pay468, k0_pay469, k0_pay471 k0_pay470, k0_pay472⟩

set_option warn.classDefReducibility false in
/-- The loop's invariant: the four scratch buffers are in a state reached. -/
def loopInv_k0_t1 (c : Dev nD) (i : grid0.Coords) (arg3 : Memref sig .tc .vmem S1x2048x128 .bf16) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1x2048x128 .bf16) (harg8 : arg8.IsWhole) (arg9 : Memref sig .tc .vmem S4096x128 .bf16) (harg9 : arg9.IsWhole) (arg10 : Memref sig .tc .vmem S1x4096 .f32) (harg10 : arg10.IsWhole) (arg11 : Memref sig .tc .vmem S1x4096 .f32) (harg11 : arg11.IsWhole) (arg12 : Memref sig .tc .vmem S1x4096 .f32) (harg12 : arg12.IsWhole) (arg13 : Memref sig .tc .vmem S128x4096 .f32) (harg13 : arg13.IsWhole)
    (fk : Bf (F := F) c arg4) (fv : Bf (F := F) c arg5) (fq : Bf (F := F) c arg9) :
    Gen.LoopInvTy_k0_t1 (F := F) Unit ℕ (UU nD τ) ℕ 𝒱₀ c none Set.univ i arg3 harg3 arg4 harg4 arg5 harg5 arg6 harg6 arg7 harg7 arg8 harg8 arg9 harg9 arg10 harg10 arg11 harg11 arg12 harg12 arg13 harg13 0#32 k0_pay470 k0_pay470 where
  inv := fun k _ => iprop(∃ fr fm fl fa, pt c arg4 fk ∗ pt c arg5 fv ∗ pt c arg9 fq ∗ pt c arg10 fr ∗ pt c arg11 fm ∗ pt c arg12 fl ∗ pt c arg13 fa ∗
      ⌜Reach (fun j => blkAt c i j arg4 arg5 arg9 fk fv fq) S₀ k (stOf c arg10 arg11 arg12 arg13 fr fm fl fa)⌝)
  step := fun k _ => by
    iintro ⟨%fr, %fm, %fl, %fa, Hk, Hv, Hq, Hr, Hm, Hl, Ha, %hR⟩
    iapply (trip c i arg3 harg3 arg4 harg4 arg5 harg5 arg6 harg6 arg7 harg7 arg8 harg8 arg9 harg9 arg10 harg10 arg11 harg11 arg12 harg12 arg13 harg13 0#32 k0_pay470 k0_pay470 k fk fv fq fr fm fl fa)
    iframe
    iintro ⟨Hk, Hv, Hq, %gr, %gm, %gl, %ga, Hr, Hm, Hl, Ha, %hS⟩
    iexists gr, gm, gl, ga
    iframe
    ipureintro
    exact ⟨k.isLt, _, hR, hS⟩

/-- The loop runs once per query block before this one; -/
theorem trips1 (i : grid0.Coords) : (k0_t1_loop i).trips = (i 2).val := by
  have h : ∀ a : Fin 4, (Scf.Loop.mk 0#32 (Scalar.addi 0#32 (Scalar.muli (Scalar.divsi (Scalar.subi (BitVec.ofNat 32 a.val) 0#32) 1#32) 1#32)) 1#32).trips = a.val := by decide
  exact h (i 2)

/-- the remainder loop has no trips. -/
theorem trips2 (i : grid0.Coords) : (k0_t2_loop i).trips = 0 := by
  have h : ∀ a : Fin 4, (Scf.Loop.mk (Scalar.addi 0#32 (Scalar.muli (Scalar.divsi (Scalar.subi (BitVec.ofNat 32 a.val) 0#32) 1#32) 1#32)) (Scalar.addi 0#32 (Scalar.subi (BitVec.ofNat 32 a.val) 0#32)) 1#32).trips = 0 := by decide
  exact h (i 2)

/-- The first 512 keys of the block on the diagonal, and their values. -/
def dk512 (i : grid0.Coords) (X : FVec F S1x8192x128 .bf16) : FVec F S512x128 .bf16 :=
  shapeCast S512x128 (View.ld (Val := Elt F) (e' := .bf16) X (Rect.unit (s := S1x8192x128) (k0_off9 i) S1x512x128.size (k0_off9_inb i)))
    shapeCasts_S1x512x128_S512x128
def dv512 (i : grid0.Coords) (X : FVec F S1x128x8192 .bf16) : FVec F S128x512 .bf16 :=
  shapeCast S128x512 (View.ld (Val := Elt F) (e' := .bf16) X (Rect.unit (s := S1x128x8192) (k0_off11 i) S1x128x512.size (k0_off11_inb i)))
    shapeCasts_S1x128x512_S128x512

/-- The first 1024 keys of the block on the diagonal, and their values. -/
def dk1024 (i : grid0.Coords) (X : FVec F S1x8192x128 .bf16) : FVec F S1024x128 .bf16 :=
  shapeCast S1024x128 (View.ld (Val := Elt F) (e' := .bf16) X (Rect.unit (s := S1x8192x128) (k0_off10 i) S1x1024x128.size (k0_off10_inb i)))
    shapeCasts_S1x1024x128_S1024x128
def dv1024 (i : grid0.Coords) (X : FVec F S1x128x8192 .bf16) : FVec F S128x1024 .bf16 :=
  shapeCast S128x1024 (View.ld (Val := Elt F) (e' := .bf16) X (Rect.unit (s := S1x128x8192) (k0_off13 i) S1x128x1024.size (k0_off13_inb i)))
    shapeCasts_S1x128x1024_S128x1024

/-- The first 1536 keys of the block on the diagonal, and their values. -/
def dk1536 (i : grid0.Coords) (X : FVec F S1x8192x128 .bf16) : FVec F S1536x128 .bf16 :=
  shapeCast S1536x128 (View.ld (Val := Elt F) (e' := .bf16) X (Rect.unit (s := S1x8192x128) (k0_off12 i) S1x1536x128.size (k0_off12_inb i)))
    shapeCasts_S1x1536x128_S1536x128
def dv1536 (i : grid0.Coords) (X : FVec F S1x128x8192 .bf16) : FVec F S128x1536 .bf16 :=
  shapeCast S128x1536 (View.ld (Val := Elt F) (e' := .bf16) X (Rect.unit (s := S1x128x8192) (k0_off15 i) S1x128x1536.size (k0_off15_inb i)))
    shapeCasts_S1x128x1536_S128x1536

/-- The first 2048 keys of the block on the diagonal, and their values. -/
def dk2048 (i : grid0.Coords) (X : FVec F S1x8192x128 .bf16) : FVec F S2048x128 .bf16 :=
  shapeCast S2048x128 (View.ld (Val := Elt F) (e' := .bf16) X (Rect.unit (s := S1x8192x128) (k0_off14 i) S1x2048x128.size (k0_off14_inb i)))
    shapeCasts_S1x2048x128_S2048x128
def dv2048 (i : grid0.Coords) (X : FVec F S1x128x8192 .bf16) : FVec F S128x2048 .bf16 :=
  shapeCast S128x2048 (View.ld (Val := Elt F) (e' := .bf16) X (Rect.unit (s := S1x128x8192) (k0_off16 i) S1x128x2048.size (k0_off16_inb i)))
    shapeCasts_S1x128x2048_S128x2048

/-- What the block on the diagonal contributes: each chunk only needs the keys up to its last query. -/
def diagB (i : grid0.Coords) (K : FVec F S1x8192x128 .bf16) (V : FVec F S1x128x8192 .bf16) (Q : FVec F S4096x128 .bf16) : Fin 8 → Blk F :=
  ![mkBlk 512 reduces_S512x512_S512 broadcasts_S1x512_S512x512 (masked 512 0#32 iota_S512x512_d0_w32 iota_S512x512_d1_w32 (score 512 (dk512 i K) (qch 0 Q))) (dv512 i V),
    mkBlk 1024 reduces_S1024x512_S512 broadcasts_S1x512_S1024x512 (masked 1024 512#32 iota_S1024x512_d0_w32 iota_S1024x512_d1_w32 (score 1024 (dk1024 i K) (qch 1 Q))) (dv1024 i V),
    mkBlk 1536 reduces_S1536x512_S512 broadcasts_S1x512_S1536x512 (masked 1536 1024#32 iota_S1536x512_d0_w32 iota_S1536x512_d1_w32 (score 1536 (dk1536 i K) (qch 2 Q))) (dv1536 i V),
    mkBlk 2048 reduces_S2048x512_S512 broadcasts_S1x512_S2048x512 (masked 2048 1536#32 iota_S2048x512_d0_w32 iota_S2048x512_d1_w32 (score 2048 (dk2048 i K) (qch 3 Q))) (dv2048 i V),
    mkBlk 512 reduces_S512x512_S512 broadcasts_S1x512_S512x512 (masked 512 0#32 iota_S512x512_d0_w32 iota_S512x512_d1_w32 (score 512 (dk512 i K) (qch 4 Q))) (dv512 i V),
    mkBlk 1024 reduces_S1024x512_S512 broadcasts_S1x512_S1024x512 (masked 1024 512#32 iota_S1024x512_d0_w32 iota_S1024x512_d1_w32 (score 1024 (dk1024 i K) (qch 5 Q))) (dv1024 i V),
    mkBlk 1536 reduces_S1536x512_S512 broadcasts_S1x512_S1536x512 (masked 1536 1024#32 iota_S1536x512_d0_w32 iota_S1536x512_d1_w32 (score 1536 (dk1536 i K) (qch 6 Q))) (dv1536 i V),
    mkBlk 2048 reduces_S2048x512_S512 broadcasts_S1x512_S2048x512 (masked 2048 1536#32 iota_S2048x512_d0_w32 iota_S2048x512_d1_w32 (score 2048 (dk2048 i K) (qch 7 Q))) (dv2048 i V)]

/-- The result block from the last state. -/
def outOf (lam : FVec F S4x64 .f32) (ng : FVec F S128x1 .f32) (S : St F) : FVec F S1x2048x128 .bf16 :=
  k0_pay1 (k0_pay610 lam S.A S.L) (k0_pay611 lam S.A S.L) k0_pay612 ng

/-- The scaled queries, both maps' halves: the first 2048 rows the one, the last 2048 the other. -/
def qOf (X : FVec F S1x2048x128 .bf16) (Q : FVec F S4096x128 .bf16) : Prop :=
  (∀ x, Q ((Rect.unit (s := S4096x128) ![0, 0] S2048x128.size inb_S4096x128_S2048x128_0_0).emb x) = k0_pay466 X x) ∧
  (∀ x, Q ((Rect.unit (s := S4096x128) ![2048, 0] S2048x128.size inb_S4096x128_S2048x128_2048_0).emb x) = k0_pay467 X x)

/-- What a point's body leaves in its result block. -/
def Out (i : grid0.Coords) (X : FVec F S1x2048x128 .bf16) (K : FVec F S1x8192x128 .bf16) (V : FVec F S1x128x8192 .bf16)
    (lam : FVec F S4x64 .f32) (ng : FVec F S128x1 .f32) (o : FVec F S1x2048x128 .bf16) : Prop :=
  ∃ Q, qOf X Q ∧ ∃ S S', Reach (n := (k0_t1_loop i).trips) (fun j => full (keys i j K) (vals i j V) Q) S₀ (k0_t1_loop i).trips S ∧
    Step (diagB i K V Q) S S' ∧ o = outOf lam ng S'

/-- Reading after one store of a whole buffer is what was stored; -/
theorem read_whole {sig : RefSig} {κ : Kind} {sp : Space} {Val : EltTy → Type} {e : EltTy} {s : Shape} (v : View sig κ sp s e)
    (f : v.ty.Contents Val) (off : Fin s.rank → ℕ) (h : ∀ a, off a + s.size a ≤ s.size a) (w : s.Idx → Val e) :
    v.read Val (v.writes Val f [⟨Rect.unit off s.size h, w⟩]) = w := by
  funext y
  have hy : (Rect.unit off s.size h).emb y = y := by
    funext a
    apply Fin.ext
    show off a + 1 * (y a).val = _
    have := h a
    omega
  exact (congrArg _ hy.symm).trans (v.read_writes_cons_emb f (Rect.unit off s.size h) w [] y)

/-- a whole load reads the buffer; -/
theorem readAt_whole {sig : RefSig} {κ : Kind} {sp : Space} {Val : EltTy → Type} {e : EltTy} {s : Shape} (v : View sig κ sp s e)
    (f : v.ty.Contents Val) (off : Fin s.rank → ℕ) (h : ∀ a, off a + s.size a ≤ s.size a) :
    v.readAt Val (Rect.unit off s.size h).toLoadRect f = v.read Val f := by
  funext y
  have hy : (Rect.unit off s.size h).emb y = y := by
    funext a
    apply Fin.ext
    show off a + 1 * (y a).val = _
    have := h a
    omega
  exact congrArg (v.read Val f) hy

/-- also after the eight stores that cover it. -/
theorem readCov_pieces {sig : RefSig} {κ : Kind} {sp : Space} {Val : EltTy → Type} [∀ e, Nonempty (Val e)] {e : EltTy} (a : ℕ)
    (v : View sig κ sp ⟨2, ![a, 4096]⟩ e) (f : v.ty.Contents Val) (w : Fin 8 → (⟨2, ![a, 512]⟩ : Shape).Idx → Val e)
    (off : Fin 2 → ℕ) (h : ∀ x, off x + ![a, 4096] x ≤ ![a, 4096] x) :
    v.readCov (pieces a w) (Rect.unit (s := ⟨2, ![a, 4096]⟩) off ![a, 4096] h).toLoadRect = v.read Val (v.writes Val f (pieces a w)) :=
  (readAt_whole v _ off h).trans ((read_pieces a v _ w).trans (read_pieces a v f w).symm)

set_option maxHeartbeats 4000000 in
/-- The body at a point, over the contents of its buffers. -/
theorem body (c : Dev nD) (i : grid0.Coords) (arg3 : Memref sig .tc .vmem S1x2048x128 .bf16) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1x2048x128 .bf16) (harg8 : arg8.IsWhole) (arg9 : Memref sig .tc .vmem S4096x128 .bf16) (harg9 : arg9.IsWhole) (arg10 : Memref sig .tc .vmem S1x4096 .f32) (harg10 : arg10.IsWhole) (arg11 : Memref sig .tc .vmem S1x4096 .f32) (harg11 : arg11.IsWhole) (arg12 : Memref sig .tc .vmem S1x4096 .f32) (harg12 : arg12.IsWhole) (arg13 : Memref sig .tc .vmem S128x4096 .f32) (harg13 : arg13.IsWhole)
    (fx : Bf (F := F) c arg3) (fk : Bf (F := F) c arg4) (fv : Bf (F := F) c arg5) (fl0 : Bf (F := F) c arg6) (fg : Bf (F := F) c arg7) (fo : Bf (F := F) c arg8) (fq : Bf (F := F) c arg9) (fr : Bf (F := F) c arg10) (fm : Bf (F := F) c arg11) (fl : Bf (F := F) c arg12) (fa : Bf (F := F) c arg13) (Q : Unit → sProp 𝕄) :
    pt c arg3 fx ∗ pt c arg4 fk ∗ pt c arg5 fv ∗ pt c arg6 fl0 ∗ pt c arg7 fg ∗ pt c arg8 fo ∗ pt c arg9 fq ∗ pt c arg10 fr ∗ pt c arg11 fm ∗ pt c arg12 fl ∗ pt c arg13 fa ∗
      (pt c arg3 fx ∗ pt c arg4 fk ∗ pt c arg5 fv ∗ pt c arg6 fl0 ∗ pt c arg7 fg ∗
        (∃ fo', pt c arg8 fo' ∗ ⌜Out i (arg3.view.read (Elt F) fx) (arg4.view.read (Elt F) fk) (arg5.view.read (Elt F) fv) (arg6.view.read (Elt F) fl0)
          (arg7.view.read (Elt F) fg) (arg8.view.read (Elt F) fo')⌝) ∗
        (∃ f, pt c arg9 f) ∗ (∃ f, pt c arg10 f) ∗ (∃ f, pt c arg11 f) ∗ (∃ f, pt c arg12 f) ∗ (∃ f, pt c arg13 f) -∗ Q ()) ⊢
    wp (M := 𝕄) Idealize.ShloMosaic.frame (wpE (defs₀ (F := F)) 𝒱₀ (c : Thread nD τ) none) Set.univ
      (cc0_diff_attn i arg3 harg3 arg4 harg4 arg5 harg5 arg6 harg6 arg7 harg7 arg8 harg8 arg9 harg9 arg10 harg10 arg11 harg11 arg12 harg12 arg13 harg13) Q := by
  iintro ⟨Hx, Hk, Hv, Hp, Hg, Ho, Hq, Hr, Hm, Hl, Ha, HQ⟩
  sl_exec
  generalize hgq : View.writes arg9.view (Elt F) _ _ = gq
  generalize hgr : View.writes arg10.view (Elt F) _ _ = gr
  generalize hgm : View.writes arg11.view (Elt F) _ _ = gm
  generalize hgl : View.writes arg12.view (Elt F) _ _ = gl
  generalize hga : View.writes arg13.view (Elt F) _ _ = ga
  have hQ : qOf (arg3.view.read (Elt F) fx) (arg9.view.read (Elt F) gq) := by
    rw [← hgq]
    rw [← readAt_whole arg3.view fx ![0, 0, 0] inb_S1x2048x128_S1x2048x128_0_0_0]
    refine ⟨fun x => ?_, fun x => ?_⟩
    · refine (arg9.view.read_writes_cons_miss_of_axis _ _ _ _ (0 : Fin 2) 2048 2048 rfl rfl rfl (.inl ?_)).trans
        (arg9.view.read_writes_cons_emb _ (Rect.unit (s := S4096x128) ![0, 0] S2048x128.size inb_S4096x128_S2048x128_0_0) _ [] x)
      have : (x 0).val < 2048 := (x 0).isLt
      show 0 + 1 * (x 0).val < 2048
      omega
    · exact arg9.view.read_writes_cons_emb _ (Rect.unit (s := S4096x128) ![2048, 0] S2048x128.size inb_S4096x128_S2048x128_2048_0) _ _ x
  have hR : Reach (fun j => blkAt c i j arg4 arg5 arg9 fk fv gq) S₀ 0 (stOf c arg10 arg11 arg12 arg13 gr gm gl ga) := by
    show stOf c arg10 arg11 arg12 arg13 gr gm gl ga = S₀
    rw [← hgr, ← hgm, ← hgl, ← hga]
    unfold stOf S₀
    congr 1
    · exact read_whole _ _ _ _ _
    · exact read_whole _ _ _ _ _
    · exact read_whole _ _ _ _ _
    · exact read_whole _ _ _ _ _
  clear hgq hgr hgm hgl hga
  have htr := trips2 i
  let L := loopInv_k0_t1 c i arg3 harg3 arg4 harg4 arg5 harg5 arg6 harg6 arg7 harg7 arg8 harg8 arg9 harg9 arg10 harg10 arg11 harg11 arg12 harg12 arg13 harg13 fk fv gq
  set_option sl_exec.stopBefore "v685" in
  sl_exec
  generalize hr : View.writes arg10.view (Elt F) frL0 _ = br
  generalize hm : View.writes arg11.view (Elt F) fmL1 _ = bm
  generalize hl : View.writes arg12.view (Elt F) flL2 _ = bl
  generalize ha : View.writes arg13.view (Elt F) faL3 _ = ba
  have hS : ∃ worst : FVec F S1x1 .f32, worst = worstOf (diagB i (arg4.view.read (Elt F) fk) (arg5.view.read (Elt F) fv) (arg9.view.read (Elt F) gq)) (fun x => ch x (stOf c arg10 arg11 arg12 arg13 frL0 fmL1 flL2 faL3)) ∧
      unsafeWord worst = _root_.Cert.Proof.KernelIdeal.body.sl.v685 (F := F) c i arg4 arg9 arg10 arg11 fk gq frL0 fmL1 ∧
      ∀ x, ch x (stOf c arg10 arg11 arg12 arg13 br bm bl ba)
        = fastU (safe worst) (diagB i (arg4.view.read (Elt F) fk) (arg5.view.read (Elt F) fv) (arg9.view.read (Elt F) gq) x) (ch x (stOf c arg10 arg11 arg12 arg13 frL0 fmL1 flL2 faL3)) := by
    refine ⟨_root_.Cert.Proof.KernelIdeal.body.sl.v363 (F := F) c i arg4 arg9 arg10 arg11 fk gq frL0 fmL1, ?_, rfl, ?_⟩
    · dsimp only [worstOf, worstCh, ch, stOf, diagB, Matrix.cons_val, dk512, dk1024, dk1536, dk2048, dv512, dv1024, dv1536, dv2048, masked, score, mkBlk]; rfl
    generalize hx : (fun x => fastU (safe (F := F) (_root_.Cert.Proof.KernelIdeal.body.sl.v363 (F := F) c i arg4 arg9 arg10 arg11 fk gq frL0 fmL1)) (diagB i (arg4.view.read (Elt F) fk) (arg5.view.read (Elt F) fv) (arg9.view.read (Elt F) gq) x) (ch x (stOf c arg10 arg11 arg12 arg13 frL0 fmL1 flL2 faL3))) = X
    have er : br = arg10.view.writes (Elt F) frL0 (pieces (Val := Elt F) (e := .f32) 1 fun x => (X x).r) := by
      rw [← hr, ← hx]; dsimp only [pieces, fastU, exactU, ch, stOf, diagB, Matrix.cons_val, dk512, dk1024, dk1536, dk2048, dv512, dv1024, dv1536, dv2048, masked, score, mkBlk, safe]; rfl
    have em : bm = arg11.view.writes (Elt F) fmL1 (pieces (Val := Elt F) (e := .f32) 1 fun x => (X x).m) := by
      rw [← hm, ← hx]; dsimp only [pieces, fastU, exactU, ch, stOf, diagB, Matrix.cons_val, dk512, dk1024, dk1536, dk2048, dv512, dv1024, dv1536, dv2048, masked, score, mkBlk, safe]; rfl
    have el : bl = arg12.view.writes (Elt F) flL2 (pieces (Val := Elt F) (e := .f32) 1 fun x => (X x).l) := by
      rw [← hl, ← hx]; dsimp only [pieces, fastU, exactU, ch, stOf, diagB, Matrix.cons_val, dk512, dk1024, dk1536, dk2048, dv512, dv1024, dv1536, dv2048, masked, score, mkBlk, safe]; rfl
    have ea : ba = arg13.view.writes (Elt F) faL3 (pieces (Val := Elt F) (e := .f32) 128 fun x => (X x).a) := by
      rw [← ha, ← hx]; dsimp only [pieces, fastU, exactU, ch, stOf, diagB, Matrix.cons_val, dk512, dk1024, dk1536, dk2048, dv512, dv1024, dv1536, dv2048, masked, score, mkBlk, safe]; rfl
    intro x
    rw [er, em, el, ea, ch_pieces, ← hx]
  clear hr hm hl ha
  obtain ⟨worst, hworst, hw, hS⟩ := hS
  rcases Classical.em (_root_.Cert.Proof.KernelIdeal.body.sl.v685 (F := F) c i arg4 arg9 arg10 arg11 fk gq frL0 fmL1 = 1#1) with hc | hc
  · rw [if_pos hc]
    sl_exec
    generalize hx : (fun x => exactU (diagB i (arg4.view.read (Elt F) fk) (arg5.view.read (Elt F) fv) (arg9.view.read (Elt F) gq) x) (ch x (stOf c arg10 arg11 arg12 arg13 br bm bl ba))) = X
    generalize hr : View.writes arg10.view (Elt F) br _ = er
    generalize hm : View.writes arg11.view (Elt F) bm _ = em
    generalize hl : View.writes arg12.view (Elt F) bl _ = el
    generalize ha : View.writes arg13.view (Elt F) ba _ = ea
    have Er : er = arg10.view.writes (Elt F) br (pieces (Val := Elt F) (e := .f32) 1 fun x => (X x).r) := by
      rw [← hr, ← hx]; dsimp only [pieces, fastU, exactU, ch, stOf, diagB, Matrix.cons_val, dk512, dk1024, dk1536, dk2048, dv512, dv1024, dv1536, dv2048, masked, score, mkBlk, safe]; rfl
    have Em : em = arg11.view.writes (Elt F) bm (pieces (Val := Elt F) (e := .f32) 1 fun x => (X x).m) := by
      rw [← hm, ← hx]; dsimp only [pieces, fastU, exactU, ch, stOf, diagB, Matrix.cons_val, dk512, dk1024, dk1536, dk2048, dv512, dv1024, dv1536, dv2048, masked, score, mkBlk, safe]; rfl
    have El : el = arg12.view.writes (Elt F) bl (pieces (Val := Elt F) (e := .f32) 1 fun x => (X x).l) := by
      rw [← hl, ← hx]; dsimp only [pieces, fastU, exactU, ch, stOf, diagB, Matrix.cons_val, dk512, dk1024, dk1536, dk2048, dv512, dv1024, dv1536, dv2048, masked, score, mkBlk, safe]; rfl
    have Ea : ea = arg13.view.writes (Elt F) ba (pieces (Val := Elt F) (e := .f32) 128 fun x => (X x).a) := by
      rw [← ha, ← hx]; dsimp only [pieces, fastU, exactU, ch, stOf, diagB, Matrix.cons_val, dk512, dk1024, dk1536, dk2048, dv512, dv1024, dv1536, dv2048, masked, score, mkBlk, safe]; rfl
    generalize ho : View.writes arg8.view (Elt F) fo _ = eo
    have hO : arg8.view.read (Elt F) eo = outOf (arg6.view.read (Elt F) fl0) (arg7.view.read (Elt F) fg) (stOf c arg10 arg11 arg12 arg13 er em el ea) := by
      rw [← ho]
      refine (read_whole _ _ _ _ _).trans (Eq.trans (b := k0_pay1 (k0_pay610 (arg6.view.readAt (Elt F) (Rect.unit (s := S4x64) ![0, 0] S4x64.size inb_S4x64_S4x64_0_0).toLoadRect fl0) (arg13.view.readCov (Val := Elt F) (pieces (Val := Elt F) (e := .f32) 128 fun x => (X x).a) (Rect.unit (s := S128x4096) ![0, 0] S128x4096.size inb_S128x4096_S128x4096_0_0).toLoadRect) (arg12.view.readCov (Val := Elt F) (pieces (Val := Elt F) (e := .f32) 1 fun x => (X x).l) (Rect.unit (s := S1x4096) ![0, 0] S1x4096.size inb_S1x4096_S1x4096_0_0).toLoadRect)) (k0_pay611 (arg6.view.readAt (Elt F) (Rect.unit (s := S4x64) ![0, 0] S4x64.size inb_S4x64_S4x64_0_0).toLoadRect fl0) (arg13.view.readCov (Val := Elt F) (pieces (Val := Elt F) (e := .f32) 128 fun x => (X x).a) (Rect.unit (s := S128x4096) ![0, 0] S128x4096.size inb_S128x4096_S128x4096_0_0).toLoadRect) (arg12.view.readCov (Val := Elt F) (pieces (Val := Elt F) (e := .f32) 1 fun x => (X x).l) (Rect.unit (s := S1x4096) ![0, 0] S1x4096.size inb_S1x4096_S1x4096_0_0).toLoadRect)) k0_pay612 (arg7.view.readAt (Elt F) (Rect.unit (s := S128x1) ![0, 0] S128x1.size inb_S128x1_S128x1_0_0).toLoadRect fg)) ?_ ?_)
      · rw [← hx]; dsimp only [pieces, fastU, exactU, ch, stOf, diagB, Matrix.cons_val, dk512, dk1024, dk1536, dk2048, dv512, dv1024, dv1536, dv2048, masked, score, mkBlk, safe]; rfl
      · rw [readAt_whole, readAt_whole, readCov_pieces 128 arg13.view ba, readCov_pieces 1 arg12.view bl, ← Ea, ← El]; rfl
    have hE : ∀ x, ch x (stOf c arg10 arg11 arg12 arg13 er em el ea) = exactU (diagB i (arg4.view.read (Elt F) fk) (arg5.view.read (Elt F) fv) (arg9.view.read (Elt F) gq) x) (ch x (stOf c arg10 arg11 arg12 arg13 br bm bl ba)) := by
      intro x
      rw [Er, Em, El, Ea, ch_pieces, ← hx]
    sl_step
    iapply HQ
    iframe
    isplitl [Ho]
    · iexists eo
      iframe
      ipureintro
      exact ⟨_, hQ, _, _, hL7, ⟨worst, hworst, .inl ⟨hw.trans hc, _, hS, hE⟩⟩, hO⟩
    isplitl [Hq]
    · iexists gq; iframe
    isplitl [Hr]
    · iexists er; iframe
    isplitl [Hm]
    · iexists em; iframe
    isplitl [Hl]
    · iexists el; iframe
    · iexists ea; iframe
  · rw [if_neg hc]
    sl_exec
    generalize ho : View.writes arg8.view (Elt F) fo _ = eo
    have hO : arg8.view.read (Elt F) eo = outOf (arg6.view.read (Elt F) fl0) (arg7.view.read (Elt F) fg) (stOf c arg10 arg11 arg12 arg13 br bm bl ba) := by
      rw [← ho]
      refine (read_whole _ _ _ _ _).trans (Eq.trans (b := k0_pay1 (k0_pay610 (arg6.view.readAt (Elt F) (Rect.unit (s := S4x64) ![0, 0] S4x64.size inb_S4x64_S4x64_0_0).toLoadRect fl0) (arg13.view.readAt (Elt F) (Rect.unit (s := S128x4096) ![0, 0] S128x4096.size inb_S128x4096_S128x4096_0_0).toLoadRect ba) (arg12.view.readAt (Elt F) (Rect.unit (s := S1x4096) ![0, 0] S1x4096.size inb_S1x4096_S1x4096_0_0).toLoadRect bl)) (k0_pay611 (arg6.view.readAt (Elt F) (Rect.unit (s := S4x64) ![0, 0] S4x64.size inb_S4x64_S4x64_0_0).toLoadRect fl0) (arg13.view.readAt (Elt F) (Rect.unit (s := S128x4096) ![0, 0] S128x4096.size inb_S128x4096_S128x4096_0_0).toLoadRect ba) (arg12.view.readAt (Elt F) (Rect.unit (s := S1x4096) ![0, 0] S1x4096.size inb_S1x4096_S1x4096_0_0).toLoadRect bl)) k0_pay612 (arg7.view.readAt (Elt F) (Rect.unit (s := S128x1) ![0, 0] S128x1.size inb_S128x1_S128x1_0_0).toLoadRect fg)) ?_ ?_)
      · rfl
      · rw [readAt_whole, readAt_whole, readAt_whole, readAt_whole]; rfl
    sl_step
    iapply HQ
    iframe
    isplitl [Ho]
    · iexists eo
      iframe
      ipureintro
      exact ⟨_, hQ, _, _, hL7, ⟨worst, hworst, .inr ⟨fun h => hc (hw.symm.trans h), hS⟩⟩, hO⟩
    isplitl [Hq]
    · iexists gq; iframe
    isplitl [Hr]
    · iexists br; iframe
    isplitl [Hm]
    · iexists bm; iframe
    isplitl [Hl]
    · iexists bl; iframe
    · iexists ba; iframe

end Cert.Proof.KernelIdeal
-- ==== Proof.Launch.lean ====
module

public import proofs.«01_k».proof.Proof.Body
public import proofs.«01_k».proof.Proof.Gen.KernelIdeal.Frame
public import proofs.«01_k».proof.Proof.Gen.KernelIdeal.Points
public import proofs.«01_k».proof.Proof.Gen.KernelIdeal.Launch
public import Idealize.ShloMosaic.Lib.Pipeline.DatRel
public import Idealize.ShloMosaic.Lib.Pipeline.ArrRel

@[expose] public section

set_option maxRecDepth 65536

noncomputable section

/-! The launch: the body at a grid point, the proof data, and the run of the whole program. -/

namespace Cert.Proof.KernelIdeal

open Cert.KernelIdeal Cert.KernelIdeal.Gen Cert.Proof.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

variable {F : FTy → Type} [FloatOps F] [Named F]
local notation "𝕄" => MT nD τ sig Unit (Elt F) ℕ (UR sig nD τ) ℕ

/-- A whole memref owned at what it reads is its buffer held whole, at some contents that read so; -/
theorem owns_pt (c : Dev nD) {sp : Space} {S : Shape} {e : EltTy} (M : Memref sig .tc sp S e) (h : M.IsWhole) (X : S.Idx → Elt F e) :
    (owns (c : Thread nD τ) M fullShare X : sProp 𝕄) ⊢ iprop(∃ f, ⌜M.view.read (Elt F) f = X⌝ ∗ pt c M f) := by
  unfold owns pt
  rw [Memref.IsWhole.set_eq_univ h]

/-- and back. -/
theorem pt_owns (c : Dev nD) {sp : Space} {S : Shape} {e : EltTy} (M : Memref sig .tc sp S e) (h : M.IsWhole) (f : Bf (F := F) c M) :
    pt c M f ⊢ (owns (c : Thread nD τ) M fullShare (M.view.read (Elt F) f) : sProp 𝕄) := by
  unfold owns pt
  rw [Memref.IsWhole.set_eq_univ h]
  iintro H
  iexists f
  isplitr
  · ipureintro; rfl
  iexact H

variable (m : (ℓ : Loc nD τ sig) → Buf (Elt F) ℓ) (ρ : Dev nD → PrngReg)

/-- The proof data: the input windows hold their blocks and keep them; -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun _ => Classical.choice inferInstance
  Φ _ := Pipeline.ΦA spec0 c
  q w := Pipeline.shareOf spec0 w
  owed _ := 0

/-- the output window is the one held to a relation, -/
def fgt : Fin cfg0.W → Bool := fun w => match w with
  | ⟨5, _⟩ => true
  | _ => false

/-- what the body writes from the inputs' blocks. -/
def Rl (c : Dev nD) : (w : Fin cfg0.W) → Fin cfg0.N → ((cfg0.win w).block.Idx → Elt F (cfg0.win w).elt) → Prop := fun w => match w with
  | ⟨5, _⟩ => fun t X => Out (grid0.coords t) (iblk m c 0 t) (iblk m c 1 t) (iblk m c 2 t) (iblk m c 3 t) (iblk m c 4 t) X
  | _ => fun _ _ => True

/-- The body called at a point is the body at the blocks of that point. -/
theorem defs₀_row (t : Fin cfg0.N) : defs₀ (F := F) .tc cfg0.body (cfg0.bodyArgs t (cfg0.slots t)) = bodyAt0 t := by
  unfold defs₀; rw [Defs.onTc_tc]

/-- The body at a point, on what the pipeline hands it. -/
theorem body_at (c : Dev nD) (t : Fin cfg0.N) (x0 : FVec F S1x2048x128 .bf16) (x1 : FVec F S1x8192x128 .bf16) (x2 : FVec F S1x128x8192 .bf16)
    (x3 : FVec F S4x64 .f32) (x4 : FVec F S128x1 .f32) (x5 : FVec F S1x2048x128 .bf16) (R : sProp 𝕄) :
    iprop((Pipeline.ΦA spec0 c : sProp 𝕄) ∗ R ∗ owns (c : Thread nD τ) (st0_0 t) fullShare x0 ∗ owns (c : Thread nD τ) (st0_1 t) fullShare x1 ∗
      owns (c : Thread nD τ) (st0_2 t) fullShare x2 ∗ owns (c : Thread nD τ) (st0_3 t) fullShare x3 ∗ owns (c : Thread nD τ) (st0_4 t) fullShare x4 ∗
      owns (c : Thread nD τ) (st0_5 t) fullShare x5) ⊢
    wp (M := 𝕄) Idealize.ShloMosaic.frame (wpE (defs₀ (F := F)) 𝒱₀ (c : Thread nD τ) none) Set.univ (bodyAt0 t) fun _ =>
      iprop((Pipeline.ΦA spec0 c : sProp 𝕄) ∗ R ∗ owns (c : Thread nD τ) (st0_0 t) fullShare x0 ∗ owns (c : Thread nD τ) (st0_1 t) fullShare x1 ∗
      owns (c : Thread nD τ) (st0_2 t) fullShare x2 ∗ owns (c : Thread nD τ) (st0_3 t) fullShare x3 ∗ owns (c : Thread nD τ) (st0_4 t) fullShare x4 ∗
      ∃ X, ⌜Out (grid0.coords t) x0 x1 x2 x3 x4 X⌝ ∗ owns (c : Thread nD τ) (st0_5 t) fullShare X) := by
  unfold Pipeline.ΦA
  rw [scopedRest0_eq]
  iintro ⟨⟨⟨⟨%f9, H9⟩, ⟨%f10, H10⟩, ⟨%f11, H11⟩, ⟨%f12, H12⟩, ⟨%f13, H13⟩⟩, Hρ⟩, HR, H0, H1, H2, H3, H4, H5⟩
  ihave H0 := owns_pt c (st0_0 t) (hstage0_0 _) x0 $$ H0
  ihave H1 := owns_pt c (st0_1 t) (hstage0_1 _) x1 $$ H1
  ihave H2 := owns_pt c (st0_2 t) (hstage0_2 _) x2 $$ H2
  ihave H3 := owns_pt c (st0_3 t) (hstage0_3 _) x3 $$ H3
  ihave H4 := owns_pt c (st0_4 t) (hstage0_4 _) x4 $$ H4
  ihave H5 := owns_pt c (st0_5 t) (hstage0_5 _) x5 $$ H5
  icases H0 with ⟨%g0, %e0, H0⟩
  icases H1 with ⟨%g1, %e1, H1⟩
  icases H2 with ⟨%g2, %e2, H2⟩
  icases H3 with ⟨%g3, %e3, H3⟩
  icases H4 with ⟨%g4, %e4, H4⟩
  icases H5 with ⟨%g5, -, H5⟩
  subst e0 e1 e2 e3 e4
  iapply body (F := F) c (grid0.coords t) (st0_0 t) _ (st0_1 t) _ (st0_2 t) _ (st0_3 t) _ (st0_4 t) _ (st0_5 t) _
    (Memref.whole cc0_scratch0) _ (Memref.whole cc0_scratch1) _ (Memref.whole cc0_scratch2) _ (Memref.whole cc0_scratch3) _ (Memref.whole cc0_scratch4) _
    g0 g1 g2 g3 g4 g5 f9 f10 f11 f12 f13
  isplitl [H0]; · iexact H0
  isplitl [H1]; · iexact H1
  isplitl [H2]; · iexact H2
  isplitl [H3]; · iexact H3
  isplitl [H4]; · iexact H4
  isplitl [H5]; · iexact H5
  isplitl [H9]; · iexact H9
  isplitl [H10]; · iexact H10
  isplitl [H11]; · iexact H11
  isplitl [H12]; · iexact H12
  isplitl [H13]; · iexact H13
  iintro ⟨H0, H1, H2, H3, H4, ⟨%g, H5, %hO⟩, H9, H10, H11, H12, H13⟩
  isplitl [H9 H10 H11 H12 H13 Hρ]
  · isplitr [Hρ]
    · isplitl [H9]; · iexact H9
      isplitl [H10]; · iexact H10
      isplitl [H11]; · iexact H11
      isplitl [H12]; · iexact H12
      iexact H13
    · iexact Hρ
  isplitl [HR]; · iexact HR
  isplitl [H0]; · iapply pt_owns c _ (hstage0_0 _) g0; iexact H0
  isplitl [H1]; · iapply pt_owns c _ (hstage0_1 _) g1; iexact H1
  isplitl [H2]; · iapply pt_owns c _ (hstage0_2 _) g2; iexact H2
  isplitl [H3]; · iapply pt_owns c _ (hstage0_3 _) g3; iexact H3
  isplitl [H4]; · iapply pt_owns c _ (hstage0_4 _) g4; iexact H4
  iexists ((st0_5 t).view.read (Elt F) g)
  isplitr; · ipureintro; exact hO
  iapply pt_owns c _ (hstage0_5 _) g; iexact H5

/-- The body meets its obligation at every point. -/
theorem obligation (c : Dev nD) : BodyObligationRel (dat m c) (defs₀ (F := F)) 𝒱₀ () Set.univ fgt (Rl m c) := fun t => by
  rw [bigSep_W0, bigSep_W0, defs₀_row]
  have hb0 := fun d => before0_0_of m (dat m c) rfl (fun _ => rfl) t d
  have hb1 := fun d => before0_1_of m (dat m c) rfl (fun _ => rfl) t d
  have hb2 := fun d => before0_2_of m (dat m c) rfl (fun _ => rfl) t d
  have hb3 := fun d => before0_3_of m (dat m c) rfl (fun _ => rfl) t d
  have hb4 := fun d => before0_4_of m (dat m c) rfl (fun _ => rfl) t d
  have hP : iprop((Pipeline.ΦA spec0 c : sProp 𝕄) ∗ (dat m c).owesAt () t.castSucc ∗ (∃ d, owns (c : Thread nD τ) (st0_0 t) fullShare ((dat m c).before 0 t d)) ∗
      (∃ d, owns (c : Thread nD τ) (st0_1 t) fullShare ((dat m c).before 1 t d)) ∗ (∃ d, owns (c : Thread nD τ) (st0_2 t) fullShare ((dat m c).before 2 t d)) ∗
      (∃ d, owns (c : Thread nD τ) (st0_3 t) fullShare ((dat m c).before 3 t d)) ∗ (∃ d, owns (c : Thread nD τ) (st0_4 t) fullShare ((dat m c).before 4 t d)) ∗
      (∃ Y, ⌜((dat m c).toRRel fgt (Rl m c)).Finds 5 t Y⌝ ∗ owns (c : Thread nD τ) (st0_5 t) fullShare Y)) ⊢
      wp (M := 𝕄) Idealize.ShloMosaic.frame (wpE (defs₀ (F := F)) 𝒱₀ (c : Thread nD τ) none) Set.univ (bodyAt0 t) fun _ =>
      iprop((Pipeline.ΦA spec0 c : sProp 𝕄) ∗ (dat m c).owesAt () t.castSucc ∗ owns (c : Thread nD τ) (st0_0 t) fullShare (iblk m c 0 t) ∗ owns (c : Thread nD τ) (st0_1 t) fullShare (iblk m c 1 t) ∗
      owns (c : Thread nD τ) (st0_2 t) fullShare (iblk m c 2 t) ∗ owns (c : Thread nD τ) (st0_3 t) fullShare (iblk m c 3 t) ∗ owns (c : Thread nD τ) (st0_4 t) fullShare (iblk m c 4 t) ∗
      ∃ X, ⌜Out (grid0.coords t) (iblk m c 0 t) (iblk m c 1 t) (iblk m c 2 t) (iblk m c 3 t) (iblk m c 4 t) X⌝ ∗ owns (c : Thread nD τ) (st0_5 t) fullShare X) := by
    iintro ⟨HΦ, Ho, ⟨%d0, H0⟩, ⟨%d1, H1⟩, ⟨%d2, H2⟩, ⟨%d3, H3⟩, ⟨%d4, H4⟩, ⟨%Y, -, H5⟩⟩
    rw [hb0, hb1, hb2, hb3, hb4]
    iapply body_at c t (iblk m c 0 t) (iblk m c 1 t) (iblk m c 2 t) (iblk m c 3 t) (iblk m c 4 t) Y ((dat m c).owesAt () t.castSucc)
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  exact triple_restated hP rfl .rfl fun _ => .rfl

/-- The whole program runs, to what the proof data say, and leaves every semaphore at zero. -/
theorem run : θ_run (defs (F := F)) (onTc (τ := τ) (main (F := F))) ⟨m, fun _ => 0, ρ⟩
    (fun r => RDat.FramePost cfg0 (fun c => (dat m c).toRRel fgt (Rl m c)) (V m) r ∧ r.2.sem = fun _ => 0) :=
  Pipeline.RDat.θ_run_frame_track_shared cfgs 0 launch₀0 defs₀ 𝒱₀ (fun c => (dat m c).toRRel fgt (Rl m c)) m ρ main
    (fun c => (obligation m c).toRRel) (fun _ _ _ => rfl) (fun _ _ => rfl) (V m) (hmain m 𝒱₀) (fun _ _ => rfl)
    (fun _ => .rfl) (fun _ => .rfl) _ (fun _ h => h)

/-- What a run to that says of the argument arrays: unchanged. -/
theorem args_of {r : PUnit × MemSt nD τ sig (Elt F)} (h : RDat.FramePost cfg0 (fun c => (dat m c).toRRel fgt (Rl m c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨h.arr_in c 1 rfl, h.arr_in c 2 rfl, h.arr_in c 3 rfl, h.arr_in c 4 rfl⟩

end Cert.Proof.KernelIdeal

end
-- ==== Proof.Consts.lean ====
module

public import Idealize.ShloMosaic.PureOps.Ideal

@[expose] public section

noncomputable section

/-! The constants of the two programs, as the extended reals their patterns denote. -/

namespace Cert.Consts

open Idealize.ShloMosaic

/-- Minus infinity. -/
theorem ofBits_negInf : Ideal.ofBits .f32 0xFF800000#32 = ⊥ := by
  simp [Ideal.ofBits, Ideal.ieee]

/-- One eighth. -/
theorem ofBits_eighth : Ideal.ofBits .f32 0x3E000000#32 = ((1 / 8 : ℝ) : EReal) := by
  simp [Ideal.ofBits, Ideal.ieee, -EReal.coe_mul]; norm_num

/-- The initial value of the second map's weight is a real. -/
theorem ofBits_lambda : ∃ r : ℝ, Ideal.ofBits .f32 0x3EB60549#32 = (r : EReal) := by
  simp [Ideal.ofBits, Ideal.ieee, -EReal.coe_mul]

/-- The bound of the lazy update is a real. -/
theorem ofBits_limit : ∃ r : ℝ, Ideal.ofBits .f32 0x42800000#32 = (r : EReal) := by
  simp [Ideal.ofBits, Ideal.ieee, -EReal.coe_mul]

/-- The norm divides by 128, -/
theorem ofBits_128 : Ideal.ofBits .f32 0x43000000#32 = ((128 : ℝ) : EReal) := by
  simp [Ideal.ofBits, Ideal.ieee, -EReal.coe_mul]; norm_num

/-- and adds a real. -/
theorem ofBits_eps : ∃ r : ℝ, Ideal.ofBits .f32 0x3727C5AC#32 = (r : EReal) := by
  simp [Ideal.ofBits, Ideal.ieee, -EReal.coe_mul]

end Cert.Consts
-- ==== Proof.Column.lean ====
module

public import proofs.«01_k».proof.Proof.Chunk
public import proofs.«01_k».proof.Proof.Consts
public import Idealize.ShloMosaic.Lib.Pointwise
public import Idealize.ShloMosaic.Lib.MatmulPlain

@[expose] public section

set_option maxRecDepth 65536

noncomputable section

/-! One score column over the extended reals: what a key block contributes to it, and what the lazy and the exact
    update keep true of it. -/

namespace Cert.Proof.Attn

open Cert.KernelIdeal
open Idealize.ShloMosaic Idealize.ShloMosaic.TcCoe
open Facts₀

/-- Two to the power of a score, an infinite score counting nothing. -/
def e2 (x : EReal) : ℝ := if x = ⊤ then 0 else (Ideal.exp2 x).toReal

/-- The sum over the keys of `T` of the weights `w`, times two to the power of the score less `ρ`. -/
def W (T : Finset ℕ) (s : ℕ → EReal) (w : ℕ → ℝ) (ρ : ℝ) : ℝ := ∑ k ∈ T, w k * (e2 (s k) * (2 : ℝ) ^ (-ρ))

/-- A finite sum of reals is the same over the extended reals. -/
theorem coe_sum {ι : Type} (T : Finset ι) (f : ι → ℝ) : ((∑ k ∈ T, f k : ℝ) : EReal) = ∑ k ∈ T, (f k : EReal) := by
  classical
  induction T using Finset.induction_on with
  | empty => simp
  | insert a T ha ih => rw [Finset.sum_insert ha, Finset.sum_insert ha, EReal.coe_add, ih]

/-- Weighted sums over disjoint sets of keys add up. -/
theorem W_union {T T' : Finset ℕ} (h : Disjoint T T') (s : ℕ → EReal) (w : ℕ → ℝ) (ρ : ℝ) : W (T ∪ T') s w ρ = W T s w ρ + W T' s w ρ :=
  Finset.sum_union h

/-- Moving the reference from `ρ` to `ρ'`. -/
theorem W_shift (T : Finset ℕ) (s : ℕ → EReal) (w : ℕ → ℝ) (ρ ρ' : ℝ) : W T s w ρ * (2 : ℝ) ^ (ρ - ρ') = W T s w ρ' := by
  unfold W
  rw [Finset.sum_mul]
  refine Finset.sum_congr rfl fun k _ => ?_
  rw [mul_assoc, mul_assoc, ← Real.rpow_add (by norm_num)]
  congr 3; ring

/-- Keys of score `-∞` weigh nothing. -/
theorem W_bot {T : Finset ℕ} {s : ℕ → EReal} (h : ∀ k ∈ T, s k = ⊥) (w : ℕ → ℝ) (ρ : ℝ) : W T s w ρ = 0 := by
  refine Finset.sum_eq_zero fun k hk => ?_
  rw [h k hk, e2, if_neg bot_ne_top, Ideal.exp2_bot, EReal.toReal_zero, zero_mul, mul_zero]

/-- A power of two of a difference of reals. -/
theorem exp2_sub (x y : ℝ) : Ideal.exp2 ((x : EReal) - (y : EReal)) = (((2 : ℝ) ^ (x - y) : ℝ) : EReal) := by
  rw [← EReal.coe_sub]; rfl

/-- A power of two of a score less a real, the score not being `∞`. -/
theorem exp2_e2 {x : EReal} (hx : x ≠ ⊤) (ρ : ℝ) : Ideal.exp2 (x - (ρ : EReal)) = ((e2 x * (2 : ℝ) ^ (-ρ) : ℝ) : EReal) := by
  induction x using EReal.rec with
  | bot => rw [EReal.bot_sub, e2, if_neg bot_ne_top, Ideal.exp2_bot, EReal.toReal_zero, zero_mul]; rfl
  | top => exact absurd rfl hx
  | coe x =>
    rw [exp2_sub, e2, if_neg (EReal.coe_ne_top x), Ideal.exp2_coe, EReal.toReal_coe, sub_eq_add_neg, Real.rpow_add (by norm_num)]
    rfl

/-- Less `∞` every power is zero, -/
theorem exp2_sub_top (x : EReal) : Ideal.exp2 (x - ⊤) = 0 := by
  rw [sub_eq_add_neg, EReal.neg_top, EReal.add_bot, Ideal.exp2_bot]

/-- and so is that of `-∞` less anything. -/
theorem exp2_bot_sub (x : EReal) : Ideal.exp2 (⊥ - x) = 0 := by
  rw [EReal.bot_sub, Ideal.exp2_bot]

/-- A masked key's share of a sum is its weight times two to the power of its score, or nothing. -/
theorem sum_masked (n off cnt : ℕ) (hc : cnt ≤ n) (s : ℕ → EReal) (w : ℕ → ℝ) (ρ : ℝ) (σ v : Fin n → EReal)
    (hσ : ∀ k, σ k = if k.val < cnt then s (off + k.val) else ⊥) (hs : ∀ k ∈ Finset.Ico off (off + cnt), s k ≠ ⊤)
    (hv : ∀ k, v k = ((w (off + k.val) : ℝ) : EReal)) :
    (∑ k, v k * Ideal.exp2 (σ k - (ρ : EReal))) = ((W (Finset.Ico off (off + cnt)) s w ρ : ℝ) : EReal) := by
  have h : ∀ k : Fin n, v k * Ideal.exp2 (σ k - (ρ : EReal))
      = (((if k.val < cnt then w (off + k.val) * (e2 (s (off + k.val)) * (2 : ℝ) ^ (-ρ)) else 0) : ℝ) : EReal) := by
    intro k
    rw [hσ, hv]
    split
    · rw [exp2_e2 (hs _ (Finset.mem_Ico.2 ⟨by omega, by omega⟩)), ← EReal.coe_mul]
    · rw [exp2_bot_sub, mul_zero]; rfl
  rw [Finset.sum_congr rfl fun k _ => h k, ← coe_sum]
  congr 1
  rw [Fin.sum_univ_eq_sum_range (fun k => if k < cnt then w (off + k) * (e2 (s (off + k)) * (2 : ℝ) ^ (-ρ)) else 0) n, ← Finset.sum_filter]
  unfold W
  rw [Finset.sum_Ico_eq_sum_range]
  refine Finset.sum_congr ?_ fun k _ => rfl
  ext k
  simp only [Finset.mem_filter, Finset.mem_range]
  omega

/-- `μ` is `∞` just where a score of `T` is, and `-∞` just where all are. -/
def Top (T : Finset ℕ) (s : ℕ → EReal) (μ : EReal) : Prop := (μ = ⊤ ↔ ∃ k ∈ T, s k = ⊤) ∧ (μ = ⊥ ↔ ∀ k ∈ T, s k = ⊥)

/-- The largest of the scores that are not masked is such. -/
theorem fold_max_top (n off cnt : ℕ) (hc : cnt ≤ n) (s : ℕ → EReal) (σ : Fin n → EReal)
    (hσ : ∀ k, σ k = if k.val < cnt then s (off + k.val) else ⊥) :
    Top (Finset.Ico off (off + cnt)) s ((Finset.univ : Finset (Fin n)).fold max ⊥ σ) := by
  constructor
  · rw [← top_le_iff, Finset.le_fold_max]
    constructor
    · rintro (h | ⟨k, -, h⟩)
      · exact absurd (top_le_iff.1 h) bot_ne_top
      · rw [hσ, top_le_iff] at h
        split at h
        · exact ⟨_, Finset.mem_Ico.2 ⟨by omega, by omega⟩, h⟩
        · exact absurd h bot_ne_top
    · rintro ⟨k, hk, h⟩
      rw [Finset.mem_Ico] at hk
      refine .inr ⟨⟨k - off, by omega⟩, Finset.mem_univ _, ?_⟩
      rw [hσ, if_pos (by dsimp only; omega), top_le_iff]
      dsimp only
      rw [show off + (k - off) = k by omega, h]
  · rw [← le_bot_iff, Finset.fold_max_le]
    constructor
    · rintro ⟨-, h⟩ k hk
      rw [Finset.mem_Ico] at hk
      have h := h ⟨k - off, by omega⟩ (Finset.mem_univ _)
      rw [hσ, if_pos (by dsimp only; omega), le_bot_iff] at h
      dsimp only at h
      rwa [show off + (k - off) = k by omega] at h
    · intro h
      refine ⟨le_rfl, fun k _ => ?_⟩
      rw [hσ]
      split
      · rw [h _ (Finset.mem_Ico.2 ⟨by omega, by omega⟩)]
      · exact le_rfl

/-- The larger of two such is such for the keys of both. -/
theorem Top.max {T T' : Finset ℕ} {s : ℕ → EReal} {μ β : EReal} (h : Top T s μ) (h' : Top T' s β) : Top (T ∪ T') s (Max.max μ β) := by
  constructor
  · rw [max_eq_top, h.1, h'.1]
    simp only [Finset.mem_union]
    constructor
    · rintro (⟨k, hk, h⟩ | ⟨k, hk, h⟩)
      · exact ⟨k, .inl hk, h⟩
      · exact ⟨k, .inr hk, h⟩
    · rintro ⟨k, hk | hk, h⟩
      · exact .inl ⟨k, hk, h⟩
      · exact .inr ⟨k, hk, h⟩
  · rw [max_eq_bot, h.2, h'.2]
    simp only [Finset.mem_union]
    exact ⟨fun h k hk => hk.elim (h.1 k) (h.2 k), fun h => ⟨fun k hk => h k (.inl hk), fun k hk => h k (.inr hk)⟩⟩

/-- A product read at an index; -/
theorem plain_at {M K N : ℕ} {φ₁ φ₂ : FTy} (lhs : FVec Ideal ⟨2, ![M, K]⟩ φ₁) (rhs : FVec Ideal ⟨2, ![K, N]⟩ φ₂) (r : Fin M) (c : Fin N) :
    matmul (DotDims.plain M K N) none lhs rhs (constant ⟨2, ![M, N]⟩ .f32 0x00000000#32) (ix2 r c) = ∑ k : Fin K, lhs (ix2 r k) * rhs (ix2 k c) := by
  simp only [ix2_eq_valueIdx]
  refine (Ideal.matmul_plain_apply none lhs rhs _ r c).trans ?_
  rw [show constant (F := Ideal) ⟨2, ![M, N]⟩ .f32 0x00000000#32 (ValueIdx.ix2 r c) = 0 from Ideal.ofBits_zero .f32, zero_add]

/-- and one with the right side transposed. -/
theorem transposed_at {M K N : ℕ} {φ₁ φ₂ : FTy} (lhs : FVec Ideal ⟨2, ![M, K]⟩ φ₁) (rhs : FVec Ideal ⟨2, ![N, K]⟩ φ₂) (r : Fin M) (c : Fin N) :
    matmul (DotDims.transposedRhs M K N) none lhs rhs (constant ⟨2, ![M, N]⟩ .f32 0x00000000#32) (ix2 r c) = ∑ k : Fin K, lhs (ix2 r k) * rhs (ix2 c k) := by
  simp only [ix2_eq_valueIdx]
  refine (Ideal.matmul_transposedRhs_apply none lhs rhs _ r c).trans ?_
  rw [show constant (F := Ideal) ⟨2, ![M, N]⟩ .f32 0x00000000#32 (ValueIdx.ix2 r c) = 0 from Ideal.ofBits_zero .f32, zero_add]

/-- What lane `y` of a block's contribution is, the block's keys being `T`: the sums for a real reference, for `∞`, and for `-∞`. -/
structure BlkAt (B : Blk Ideal) (y : Fin 512) (T : Finset ℕ) (s : ℕ → EReal) (v : Fin 128 → ℕ → ℝ) : Prop where
  top : Top T s (B.bm (ix2 (0 : Fin 1) y))
  real : ∀ (r : FVec Ideal S1x512 .f32) (ρ : ℝ), r (ix2 (0 : Fin 1) y) = (ρ : EReal) → (∀ k ∈ T, s k ≠ ⊤) →
    B.ls r (ix2 (0 : Fin 1) y) = ((W T s (fun _ => 1) ρ : ℝ) : EReal) ∧ ∀ e : Fin 128, B.av r (ix2 e y) = ((W T s (v e) ρ : ℝ) : EReal)
  inf : ∀ r : FVec Ideal S1x512 .f32, (r (ix2 (0 : Fin 1) y) = (⊤ : EReal) ∨ ∀ k ∈ T, s k = ⊥) →
    B.ls r (ix2 (0 : Fin 1) y) = (0 : EReal) ∧ ∀ e : Fin 128, B.av r (ix2 e y) = (0 : EReal)

/-- The contribution of a block with any scores up to a mask, and real values. -/
theorem mkBlk_at (n : ℕ) (hr : (⟨2, ![n, 512]⟩ : Shape).Reduces [0] S512) (hb : S1x512.Broadcasts ⟨2, ![n, 512]⟩)
    (σ : FVec Ideal ⟨2, ![n, 512]⟩ .f32) (V : FVec Ideal ⟨2, ![128, n]⟩ .bf16) (y : Fin 512) (off cnt : ℕ) (hc : cnt ≤ n)
    (s : ℕ → EReal) (v : Fin 128 → ℕ → ℝ)
    (hσ : ∀ k : Fin n, σ (ix2 k y) = if k.val < cnt then s (off + k.val) else ⊥)
    (hV : ∀ (e : Fin 128) (k : Fin n), V (ix2 e k) = ((v e (off + k.val) : ℝ) : EReal)) :
    BlkAt (mkBlk n hr hb σ V) y (Finset.Ico off (off + cnt)) s v := by
  have hbr : ∀ (r : FVec Ideal S1x512 .f32) (k : Fin n), broadcastTo ⟨2, ![n, 512]⟩ r hb (ix2 k y) = r (ix2 (0 : Fin 1) y) := by
    intro r k
    pointwise
  have hls : ∀ r : FVec Ideal S1x512 .f32, (mkBlk n hr hb σ V).ls r (ix2 (0 : Fin 1) y)
      = ∑ k : Fin n, (1 : EReal) * Ideal.exp2 (σ (ix2 k y) - r (ix2 (0 : Fin 1) y)) := by
    intro r
    unfold mkBlk
    pointwise
    refine Finset.sum_congr rfl fun k _ => ?_
    rfl
  have hav : ∀ (r : FVec Ideal S1x512 .f32) (e : Fin 128), (mkBlk n hr hb σ V).av r (ix2 e y)
      = ∑ k : Fin n, V (ix2 e k) * Ideal.exp2 (σ (ix2 k y) - r (ix2 (0 : Fin 1) y)) := by
    intro r e
    refine (plain_at _ _ e y).trans ?_
    refine Finset.sum_congr rfl fun k _ => congrArg (V (ix2 e k) * ·) ?_
    show Ideal.exp2 (σ (ix2 k y) - broadcastTo ⟨2, ![n, 512]⟩ r hb (ix2 k y)) = _
    rw [hbr]
  refine ⟨?_, fun r ρ hρ hs => ⟨?_, fun e => ?_⟩, fun r hr => ?_⟩
  · have h := fold_max_top n off cnt hc s _ hσ
    rw [show (mkBlk n hr hb σ V).bm (ix2 (0 : Fin 1) y) = (Finset.univ : Finset (Fin n)).fold max ⊥ fun k => σ (ix2 k y) by
      unfold mkBlk
      pointwise
      rw [Cert.Consts.ofBits_negInf]]
    exact h
  · rw [hls, hρ]
    exact sum_masked n off cnt hc s (fun _ => 1) ρ (fun k => σ (ix2 k y)) (fun _ => 1) hσ hs fun _ => rfl
  · rw [hav, hρ]
    exact sum_masked n off cnt hc s (v e) ρ (fun k => σ (ix2 k y)) (fun k => V (ix2 e k)) hσ hs (hV e)
  · have hz : ∀ k : Fin n, Ideal.exp2 (σ (ix2 k y) - r (ix2 (0 : Fin 1) y)) = 0 := by
      intro k
      rcases hr with hr | hr
      · rw [hr]; exact exp2_sub_top _
      · rw [hσ]
        split
        · rw [hr _ (Finset.mem_Ico.2 ⟨by omega, by omega⟩)]; exact exp2_bot_sub _
        · exact exp2_bot_sub _
    refine ⟨?_, fun e => ?_⟩
    · rw [hls]; exact Finset.sum_eq_zero fun k _ => by rw [hz, mul_zero]
    · rw [hav]; exact Finset.sum_eq_zero fun k _ => by rw [hz, mul_zero]

/-- What is true of lane `y` of a chunk after the keys of `T`: the sums are those of `T` less a real reference, or nothing counts
    and the reference is infinite. -/
def Holds (T : Finset ℕ) (s : ℕ → EReal) (v : Fin 128 → ℕ → ℝ) (x : Ch Ideal) (y : Fin 512) : Prop :=
  Top T s (x.m (ix2 (0 : Fin 1) y)) ∧
    ((x.r (ix2 (0 : Fin 1) y) = x.m (ix2 (0 : Fin 1) y) ∧ (x.m (ix2 (0 : Fin 1) y) = (⊤ : EReal) ∨ x.m (ix2 (0 : Fin 1) y) = (⊥ : EReal)) ∧
        x.l (ix2 (0 : Fin 1) y) = (0 : EReal) ∧ ∀ e : Fin 128, x.a (ix2 e y) = (0 : EReal)) ∨
      (x.m (ix2 (0 : Fin 1) y) ≠ (⊤ : EReal) ∧ ∃ ρ : ℝ, x.r (ix2 (0 : Fin 1) y) = (ρ : EReal) ∧
        x.l (ix2 (0 : Fin 1) y) = ((W T s (fun _ => 1) ρ : ℝ) : EReal) ∧ ∀ e : Fin 128, x.a (ix2 e y) = ((W T s (v e) ρ : ℝ) : EReal)))

/-- No score is `∞` where the largest is not. -/
theorem Top.ne {T : Finset ℕ} {s : ℕ → EReal} {μ : EReal} (h : Top T s μ) (hμ : μ ≠ ⊤) : ∀ k ∈ T, s k ≠ ⊤ :=
  fun k hk hs => hμ (h.1.2 ⟨k, hk, hs⟩)

/-- A sum grown by a block's, moved to a new reference. -/
theorem grow {T T' : Finset ℕ} (h : Disjoint T T') (s : ℕ → EReal) (w : ℕ → ℝ) (ρ ρ' : ℝ) :
    (((W T s w ρ : ℝ) : EReal) + ((W T' s w ρ : ℝ) : EReal)) * Ideal.exp2 ((ρ : EReal) - (ρ' : EReal)) = ((W (T ∪ T') s w ρ' : ℝ) : EReal) := by
  rw [exp2_sub, ← EReal.coe_add, ← EReal.coe_mul, ← W_union h, W_shift]

/-- Where the lazy update is not kept nothing changes; -/
theorem fastU_off (sM : IVec S1x1 1) (hs : sM (ix2 (0 : Fin 1) (0 : Fin 1)) = 0#1) (B : Blk Ideal) (x : Ch Ideal) (y : Fin 512) (T : Finset ℕ) (s : ℕ → EReal)
    (v : Fin 128 → ℕ → ℝ) (hx : Holds T s v x y) : Holds T s v (fastU sM B x) y := by
  have er : (fastU sM B x).r (ix2 (0 : Fin 1) y) = x.r (ix2 (0 : Fin 1) y) := by unfold fastU; pointwise; rw [hs]; rfl
  have em : (fastU sM B x).m (ix2 (0 : Fin 1) y) = x.m (ix2 (0 : Fin 1) y) := by unfold fastU; pointwise; rw [hs]; rfl
  have el : (fastU sM B x).l (ix2 (0 : Fin 1) y) = x.l (ix2 (0 : Fin 1) y) := by unfold fastU; pointwise; rw [hs]; rfl
  have ea : ∀ e : Fin 128, (fastU sM B x).a (ix2 e y) = x.a (ix2 e y) := by intro e; unfold fastU; pointwise; rw [hs]; rfl
  unfold Holds at hx ⊢
  rw [er, em, el]
  simp only [ea]
  exact hx

/-- where it is, the block's keys are added; -/
theorem fastU_on (sM : IVec S1x1 1) (hs : sM (ix2 (0 : Fin 1) (0 : Fin 1)) = 1#1) (B : Blk Ideal) (x : Ch Ideal) (y : Fin 512) (T T' : Finset ℕ) (hT : Disjoint T T')
    (s : ℕ → EReal) (v : Fin 128 → ℕ → ℝ) (hB : BlkAt B y T' s v) (hw : (B.bm (ix2 (0 : Fin 1) y) - x.r (ix2 (0 : Fin 1) y) : EReal) ≠ ⊤)
    (hx : Holds T s v x y) : Holds (T ∪ T') s v (fastU sM B x) y := by
  obtain ⟨hm, hx⟩ := hx
  have hM := hm.max hB.top
  generalize hsel : (if Ideal.ofBits .f32 0x41000000#32 < FloatOps.absf (F := Ideal) (φ := .f32) (max (x.m (ix2 (0 : Fin 1) y)) (B.bm (ix2 (0 : Fin 1) y)) - x.r (ix2 (0 : Fin 1) y))
    then max (x.m (ix2 (0 : Fin 1) y)) (B.bm (ix2 (0 : Fin 1) y)) else x.r (ix2 (0 : Fin 1) y) : EReal) = z
  have er : (fastU sM B x).r (ix2 (0 : Fin 1) y) = z := by unfold fastU; pointwise; rw [hs, ← hsel]; rfl
  have em : (fastU sM B x).m (ix2 (0 : Fin 1) y) = max (x.m (ix2 (0 : Fin 1) y)) (B.bm (ix2 (0 : Fin 1) y)) := by unfold fastU; pointwise; rw [hs]; rfl
  have el : (fastU sM B x).l (ix2 (0 : Fin 1) y) = (x.l (ix2 (0 : Fin 1) y) + B.ls x.r (ix2 (0 : Fin 1) y)) * Ideal.exp2 (x.r (ix2 (0 : Fin 1) y) - z) := by
    unfold fastU; pointwise; rw [hs, ← hsel]; rfl
  have ea : ∀ e : Fin 128, (fastU sM B x).a (ix2 e y) = (x.a (ix2 e y) + B.av x.r (ix2 e y)) * Ideal.exp2 (x.r (ix2 (0 : Fin 1) y) - z) := by
    intro e; unfold fastU; pointwise; rw [hs, ← hsel]; rfl
  unfold Holds
  rw [er, em, el]
  simp only [ea]
  refine ⟨hM, ?_⟩
  clear er em el ea hM
  have hz := ite_eq_or_eq (Ideal.ofBits .f32 0x41000000#32 < FloatOps.absf (F := Ideal) (φ := .f32) (max (x.m (ix2 (0 : Fin 1) y)) (B.bm (ix2 (0 : Fin 1) y)) - x.r (ix2 (0 : Fin 1) y)))
    (max (x.m (ix2 (0 : Fin 1) y)) (B.bm (ix2 (0 : Fin 1) y)) : EReal) (x.r (ix2 (0 : Fin 1) y))
  rw [hsel] at hz
  clear hsel
  rcases hx with ⟨hr, hi | hi, hl, ha⟩ | ⟨hi, ρ, hr, hl, ha⟩
  · rw [hr, hi, max_eq_left le_top] at hz
    have hz : z = ⊤ := hz.elim id id
    refine .inl ⟨?_, .inl ?_, ?_, fun e => ?_⟩
    · rw [hz, hi, max_eq_left le_top]
    · rw [hi, max_eq_left le_top]
    · rw [hz, exp2_sub_top, mul_zero]
    · rw [hz, exp2_sub_top, mul_zero]
  · have hb : B.bm (ix2 (0 : Fin 1) y) = (⊥ : EReal) := by
      by_contra hb
      rw [hr, hi, sub_eq_add_neg, EReal.neg_bot] at hw
      exact hw (EReal.add_top_of_ne_bot hb)
    rw [hr, hi, hb, max_self] at hz
    have hz : z = ⊥ := hz.elim id id
    refine .inl ⟨?_, .inr ?_, ?_, fun e => ?_⟩
    · rw [hz, hi, hb, max_self]
    · rw [hi, hb, max_self]
    · rw [hr, hi, exp2_bot_sub, mul_zero]
    · rw [hr, hi, exp2_bot_sub, mul_zero]
  · have hb : B.bm (ix2 (0 : Fin 1) y) ≠ (⊤ : EReal) := by
      intro hb
      rw [hr, hb] at hw
      exact hw (EReal.top_sub_coe ρ)
    have hμ : (max (x.m (ix2 (0 : Fin 1) y)) (B.bm (ix2 (0 : Fin 1) y)) : EReal) ≠ ⊤ := fun h => (max_eq_top.1 h).elim hi hb
    obtain ⟨hBl, hBa⟩ := hB.real x.r ρ hr (hB.top.ne hb)
    have hreal : ∀ ρ' : ℝ, z = (ρ' : EReal) → (max (x.m (ix2 (0 : Fin 1) y)) (B.bm (ix2 (0 : Fin 1) y)) : EReal) ≠ ⊤ ∧ ∃ ρ : ℝ, z = (ρ : EReal) ∧
        (x.l (ix2 (0 : Fin 1) y) + B.ls x.r (ix2 (0 : Fin 1) y)) * Ideal.exp2 (x.r (ix2 (0 : Fin 1) y) - z) = ((W (T ∪ T') s (fun _ => 1) ρ : ℝ) : EReal) ∧
        ∀ e : Fin 128, (x.a (ix2 e y) + B.av x.r (ix2 e y)) * Ideal.exp2 (x.r (ix2 (0 : Fin 1) y) - z) = ((W (T ∪ T') s (v e) ρ : ℝ) : EReal) := by
      intro ρ' hρ'
      refine ⟨hμ, ρ', hρ', ?_, fun e => ?_⟩
      · rw [hl, hBl, hr, hρ', grow hT]
      · rw [ha, hBa, hr, hρ', grow hT]
    by_cases hμb : (max (x.m (ix2 (0 : Fin 1) y)) (B.bm (ix2 (0 : Fin 1) y)) : EReal) = ⊥
    · rcases hz with hz | hz
      · obtain ⟨h1, h2⟩ := max_eq_bot.1 hμb
        refine .inl ⟨hz, .inr hμb, ?_, fun e => ?_⟩
        · rw [hl, hBl, W_bot (hm.2.1 h1), W_bot (hB.top.2.1 h2), EReal.coe_zero, add_zero, zero_mul]
        · rw [ha, hBa, W_bot (hm.2.1 h1), W_bot (hB.top.2.1 h2), EReal.coe_zero, add_zero, zero_mul]
      · exact .inr (hreal ρ (hz.trans hr))
    · rcases hz with hz | hz
      · exact .inr (hreal _ (hz.trans (EReal.coe_toReal hμ hμb).symm))
      · exact .inr (hreal ρ (hz.trans hr))

/-- A sum moved to a new reference, a block's added. -/
theorem regrow {T T' : Finset ℕ} (h : Disjoint T T') (s : ℕ → EReal) (w : ℕ → ℝ) (ρ μ : ℝ) (α : EReal)
    (hα : α = Ideal.exp2 ((ρ : EReal) - (μ : EReal)) ∨ (α = 0 ∧ ∀ k ∈ T, s k = ⊥)) :
    α * ((W T s w ρ : ℝ) : EReal) + ((W T' s w μ : ℝ) : EReal) = ((W (T ∪ T') s w μ : ℝ) : EReal) := by
  rcases hα with rfl | ⟨rfl, hb⟩
  · rw [exp2_sub, mul_comm, ← EReal.coe_mul, W_shift, ← EReal.coe_add, ← W_union h]
  · rw [zero_mul, zero_add, W_union h, W_bot hb, zero_add]

/-- and the exact update adds them. -/
theorem exactU_holds (B : Blk Ideal) (x : Ch Ideal) (y : Fin 512) (T T' : Finset ℕ) (hT : Disjoint T T')
    (s : ℕ → EReal) (v : Fin 128 → ℕ → ℝ) (hB : BlkAt B y T' s v) (hx : Holds T s v x y) : Holds (T ∪ T') s v (exactU B x) y := by
  obtain ⟨hm, hx⟩ := hx
  have hM := hm.max hB.top
  generalize hsel : (if x.m (ix2 (0 : Fin 1) y) = Ideal.ofBits .f32 0xFF800000#32 then (0 : EReal)
    else Ideal.exp2 (x.r (ix2 (0 : Fin 1) y) - max (x.m (ix2 (0 : Fin 1) y)) (B.bm (ix2 (0 : Fin 1) y)))) = α
  have er : (exactU B x).r (ix2 (0 : Fin 1) y) = max (x.m (ix2 (0 : Fin 1) y)) (B.bm (ix2 (0 : Fin 1) y)) := by unfold exactU; pointwise
  have em : (exactU B x).m (ix2 (0 : Fin 1) y) = max (x.m (ix2 (0 : Fin 1) y)) (B.bm (ix2 (0 : Fin 1) y)) := by unfold exactU; pointwise
  have el : (exactU B x).l (ix2 (0 : Fin 1) y) = α * x.l (ix2 (0 : Fin 1) y) + B.ls (maximumf x.m B.bm) (ix2 (0 : Fin 1) y) := by
    unfold exactU; pointwise; rw [← hsel]; rfl
  have ea : ∀ e : Fin 128, (exactU B x).a (ix2 e y) = α * x.a (ix2 e y) + B.av (maximumf x.m B.bm) (ix2 e y) := by
    intro e; unfold exactU; pointwise; rw [← hsel]; rfl
  rw [Cert.Consts.ofBits_negInf] at hsel
  unfold Holds
  rw [er, em, el]
  simp only [ea]
  refine ⟨hM, ?_⟩
  clear er em el ea hM
  have hmx : maximumf x.m B.bm (ix2 (0 : Fin 1) y) = (max (x.m (ix2 (0 : Fin 1) y)) (B.bm (ix2 (0 : Fin 1) y)) : EReal) := rfl
  by_cases hμ : (max (x.m (ix2 (0 : Fin 1) y)) (B.bm (ix2 (0 : Fin 1) y)) : EReal) = ⊤
  · obtain ⟨h1, h2⟩ := hB.inf (maximumf x.m B.bm) (.inl (hmx.trans hμ))
    have hα : α = 0 := by
      rw [← hsel, hμ, exp2_sub_top]; exact ite_self _
    refine .inl ⟨trivial, .inl hμ, ?_, fun e => ?_⟩
    · rw [hα, h1, zero_mul, add_zero]
    · rw [hα, h2, zero_mul, add_zero]
  by_cases hμb : (max (x.m (ix2 (0 : Fin 1) y)) (B.bm (ix2 (0 : Fin 1) y)) : EReal) = ⊥
  · obtain ⟨b1, b2⟩ := max_eq_bot.1 hμb
    obtain ⟨h1, h2⟩ := hB.inf (maximumf x.m B.bm) (.inr (hB.top.2.1 b2))
    have hα : α = 0 := by rw [← hsel, if_pos b1]
    refine .inl ⟨trivial, .inr hμb, ?_, fun e => ?_⟩
    · rw [hα, h1, zero_mul, add_zero]
    · rw [hα, h2, zero_mul, add_zero]
  obtain ⟨μ, hμr⟩ : ∃ μ : ℝ, (max (x.m (ix2 (0 : Fin 1) y)) (B.bm (ix2 (0 : Fin 1) y)) : EReal) = (μ : EReal) := ⟨_, (EReal.coe_toReal hμ hμb).symm⟩
  have hmt : x.m (ix2 (0 : Fin 1) y) ≠ (⊤ : EReal) := fun h => hμ (max_eq_top.2 (.inl h))
  have hbt : B.bm (ix2 (0 : Fin 1) y) ≠ (⊤ : EReal) := fun h => hμ (max_eq_top.2 (.inr h))
  obtain ⟨h1, h2⟩ := hB.real (maximumf x.m B.bm) μ (hmx.trans hμr) (hB.top.ne hbt)
  refine .inr ⟨hμ, μ, hμr, ?_⟩
  rw [h1]
  simp only [h2]
  rcases hx with ⟨-, hi | hi, hl, ha⟩ | ⟨-, ρ, hr, hl, ha⟩
  · exact absurd hi hmt
  · rw [hl]
    simp only [ha]
    simp only [mul_zero, zero_add, W_union hT, W_bot (hm.2.1 hi), implies_true, and_self]
  · have hα : α = Ideal.exp2 ((ρ : EReal) - (μ : EReal)) ∨ (α = 0 ∧ ∀ k ∈ T, s k = ⊥) := by
      rw [← hsel, hμr, hr]
      by_cases hb : x.m (ix2 (0 : Fin 1) y) = (⊥ : EReal)
      · exact .inr ⟨if_pos hb, hm.2.1 hb⟩
      · exact .inl (if_neg hb)
    refine ⟨?_, fun e => ?_⟩
    · rw [hl, regrow hT s _ ρ μ α hα]
    · rw [ha, regrow hT s _ ρ μ α hα]

/-- The largest of equal values. -/
theorem fold_const {ι : Type} [Fintype ι] [Nonempty ι] (w : EReal) : (Finset.univ : Finset ι).fold max ⊥ (fun _ => w) = w :=
  le_antisymm (Finset.fold_max_le _ |>.2 ⟨bot_le, fun _ _ => le_rfl⟩)
    (Finset.le_fold_max _ |>.2 (.inr ⟨Classical.arbitrary ι, Finset.mem_univ _, le_rfl⟩))

/-- The exact update runs just where the lazy one is not kept. -/
theorem unsafeWord_eq (worst : FVec Ideal S1x1 .f32) :
    (unsafeWord worst = 1#1 ∧ safe worst (ix2 (0 : Fin 1) (0 : Fin 1)) = 0#1) ∨ (unsafeWord worst ≠ 1#1 ∧ safe worst (ix2 (0 : Fin 1) (0 : Fin 1)) = 1#1) := by
  have h1 : unsafeWord worst = Scalar.cmpi .ne (Scalar.extui (Scalar.xori (safe worst (ix2 (0 : Fin 1) (0 : Fin 1))) 1#1) : BitVec 32) 0#32 := by
    unfold unsafeWord safe
    pointwise
    rw [Cert.Consts.ofBits_negInf]
    rw [fold_const]
  rw [h1]
  have h : ∀ b : BitVec 1, (Scalar.cmpi .ne (Scalar.extui (Scalar.xori b 1#1) : BitVec 32) 0#32 = 1#1 ∧ b = 0#1) ∨
      (Scalar.cmpi .ne (Scalar.extui (Scalar.xori b 1#1) : BitVec 32) 0#32 ≠ 1#1 ∧ b = 1#1) := by decide
  exact h _

/-- The worst difference of a chunk is not under that of a lane, -/
theorem worstCh_ge (B : Blk Ideal) (x : Ch Ideal) (y : Fin 512) :
    (B.bm (ix2 (0 : Fin 1) y) - x.r (ix2 (0 : Fin 1) y) : EReal) ≤ worstCh B x (ix2 (0 : Fin 1) (0 : Fin 1)) := by
  have h : worstCh B x (ix2 (0 : Fin 1) (0 : Fin 1)) = (Finset.univ : Finset (Fin 512)).fold max ⊥ fun y =>
      max (B.bm (ix2 (0 : Fin 1) y) - x.r (ix2 (0 : Fin 1) y) : EReal) (if x.m (ix2 (0 : Fin 1) y) = (⊥ : EReal) then x.r (ix2 (0 : Fin 1) y) - B.bm (ix2 (0 : Fin 1) y) else (⊥ : EReal)) := by
    unfold worstCh
    pointwise
    rw [Cert.Consts.ofBits_negInf]
  rw [h]
  exact Finset.le_fold_max _ |>.2 (.inr ⟨y, Finset.mem_univ _, le_max_left _ _⟩)

/-- nor is the worst of all chunks; -/
theorem worstOf_ge (B : Fin 8 → Blk Ideal) (x : Fin 8 → Ch Ideal) (c : Fin 8) :
    worstCh (B c) (x c) (ix2 (0 : Fin 1) (0 : Fin 1)) ≤ (worstOf B x (ix2 (0 : Fin 1) (0 : Fin 1)) : EReal) := by
  have h : worstOf B x (ix2 (0 : Fin 1) (0 : Fin 1)) = (max (max (max (max (max (max (max (worstCh (B 0) (x 0) (ix2 (0 : Fin 1) (0 : Fin 1)) : EReal) (worstCh (B 1) (x 1) (ix2 (0 : Fin 1) (0 : Fin 1)))) (worstCh (B 2) (x 2) (ix2 (0 : Fin 1) (0 : Fin 1))))
      (worstCh (B 3) (x 3) (ix2 (0 : Fin 1) (0 : Fin 1)))) (worstCh (B 4) (x 4) (ix2 (0 : Fin 1) (0 : Fin 1)))) (worstCh (B 5) (x 5) (ix2 (0 : Fin 1) (0 : Fin 1)))) (worstCh (B 6) (x 6) (ix2 (0 : Fin 1) (0 : Fin 1)))) (worstCh (B 7) (x 7) (ix2 (0 : Fin 1) (0 : Fin 1)))) := rfl
  rw [h]
  simp only [le_max_iff]
  fin_cases c <;> simp

/-- so where the lazy update is kept no lane's difference is `∞`. -/
theorem safe_ne (B : Fin 8 → Blk Ideal) (x : Fin 8 → Ch Ideal) (hs : safe (worstOf B x) (ix2 (0 : Fin 1) (0 : Fin 1)) = 1#1) (c : Fin 8) (y : Fin 512) :
    ((B c).bm (ix2 (0 : Fin 1) y) - (x c).r (ix2 (0 : Fin 1) y) : EReal) ≠ ⊤ := by
  intro h
  have hle := (worstCh_ge (B c) (x c) y).trans (worstOf_ge B x c)
  rw [h, top_le_iff] at hle
  have h2 : safe (worstOf B x) (ix2 (0 : Fin 1) (0 : Fin 1)) = Ideal.cmp .ole (worstOf B x (ix2 (0 : Fin 1) (0 : Fin 1))) (Ideal.ofBits .f32 0x42800000#32) := rfl
  obtain ⟨z, hz⟩ := Cert.Consts.ofBits_limit
  rw [hs, hle, hz] at h2
  have h3 : Ideal.cmp .ole (⊤ : EReal) (z : EReal) = 0#1 := by simp [Ideal.cmp]
  rw [h3] at h2
  exact absurd h2 (by decide)

/-- A key block, at a lane of a chunk. -/
theorem step_holds (B : Fin 8 → Blk Ideal) (S S' : St Ideal) (h : Step B S S') (c : Fin 8) (y : Fin 512) (T T' : Finset ℕ) (hT : Disjoint T T')
    (s : ℕ → EReal) (v : Fin 128 → ℕ → ℝ) (hB : BlkAt (B c) y T' s v) (hx : Holds T s v (ch c S) y) : Holds (T ∪ T') s v (ch c S') y := by
  obtain ⟨worst, hworst, h⟩ := h
  rcases unsafeWord_eq worst with ⟨hu, hs⟩ | ⟨hu, hs⟩
  · rcases h with ⟨-, G, hG, hS⟩ | ⟨h, -⟩
    · rw [hS]
      refine exactU_holds _ _ _ _ _ hT _ _ hB ?_
      rw [hG]
      exact fastU_off _ hs _ _ _ _ _ _ hx
    · exact absurd hu h
  · rcases h with ⟨h, -⟩ | ⟨-, hS⟩
    · exact absurd h hu
    · rw [hS]
      refine fastU_on _ hs _ _ _ _ _ hT _ _ hB ?_ hx
      rw [hworst] at hs
      exact safe_ne B (fun c => ch c S) hs c y

end Cert.Proof.Attn
-- ==== Proof.Blocks.lean ====
module

public import proofs.«01_k».proof.Proof.Column
public import proofs.«01_k».proof.Proof.Body
public import Idealize.ShloMosaic.Lib.ValueLayout
public import Idealize.ShloMosaic.Lib.Affine

@[expose] public section

set_option maxRecDepth 65536

noncomputable section

/-! The key blocks of a grid point over the extended reals: the scores as sums of products, the loads as the keys and values
    from the block's first key on. -/

namespace Cert.Proof.KernelIdeal

open Cert.KernelIdeal Cert.KernelIdeal.Gen Cert.Proof.Attn
open Idealize.ShloMosaic Idealize.ShloMosaic.TcCoe

/-- The scores' scale. -/
def scl : ℝ := 1 / 8 * (Real.log 2)⁻¹

/-- The named constant is that real. -/
theorem scale_eq : Named.named (F := Ideal) Cert.KernelIdeal.κ "scale" (φ := .f32) 0x3E38AA3B#32 = ((scl : ℝ) : EReal) :=
  IdealRules.named_const.ideal_named_scalar _ _ _ _ rfl

/-- `n` rows of the keys, from row `o` on; -/
theorem rows_at {n : ℕ} (off : Fin 3 → ℕ) (o : ℕ) (ho : off = ![0, o, 0]) (hin : ∀ a, off a + ![1, n, 128] a ≤ S1x8192x128.size a)
    (hc : (⟨3, ![1, n, 128]⟩ : Shape).ShapeCasts ⟨2, ![n, 128]⟩) (X : FVec Ideal S1x8192x128 .bf16) (kr : ℕ → ℕ → EReal)
    (hX : ∀ (j : Fin 8192) (d : Fin 128), X (ix3 (0 : Fin 1) j d) = kr j.val d.val) (k : Fin n) (d : Fin 128) :
    shapeCast ⟨2, ![n, 128]⟩ (View.ld (Val := Elt Ideal) (e' := .bf16) X (Rect.unit (s := S1x8192x128) off ![1, n, 128] hin)) hc (ix2 k d)
      = kr (o + k.val) d.val := by
  subst ho
  have h1 : o + n ≤ 8192 := hin 1
  have hk := k.isLt
  refine Eq.trans ?_ (hX ⟨o + k.val, by omega⟩ d)
  rw [ix2_eq_valueIdx]
  refine (ValueIdx.shapeCast_1ab_ab_apply _ hc k d).trans (congrArg X ?_)
  funext a
  apply Fin.ext
  fin_cases a
  · rfl
  · show o + 1 * k.val = o + k.val; omega
  · show 0 + 1 * d.val = d.val; omega

/-- `n` columns of the values, from column `o` on. -/
theorem cols_at {n : ℕ} (off : Fin 3 → ℕ) (o : ℕ) (ho : off = ![0, 0, o]) (hin : ∀ a, off a + ![1, 128, n] a ≤ S1x128x8192.size a)
    (hc : (⟨3, ![1, 128, n]⟩ : Shape).ShapeCasts ⟨2, ![128, n]⟩) (X : FVec Ideal S1x128x8192 .bf16) (vr : Fin 128 → ℕ → ℝ)
    (hX : ∀ (e : Fin 128) (j : Fin 8192), X (ix3 (0 : Fin 1) e j) = ((vr e j.val : ℝ) : EReal)) (e : Fin 128) (k : Fin n) :
    shapeCast ⟨2, ![128, n]⟩ (View.ld (Val := Elt Ideal) (e' := .bf16) X (Rect.unit (s := S1x128x8192) off ![1, 128, n] hin)) hc (ix2 e k)
      = ((vr e (o + k.val) : ℝ) : EReal) := by
  subst ho
  have h1 : o + n ≤ 8192 := hin 2
  have hk := k.isLt
  refine Eq.trans ?_ (hX e ⟨o + k.val, by omega⟩)
  rw [ix2_eq_valueIdx]
  refine (ValueIdx.shapeCast_1ab_ab_apply _ hc e k).trans (congrArg X ?_)
  funext a
  apply Fin.ext
  fin_cases a
  · rfl
  · show 0 + 1 * e.val = e.val; omega
  · show o + 1 * k.val = o + k.val; omega

/-- The scaled queries at an index. -/
theorem pay465_at (X : FVec Ideal S1x2048x128 .bf16) (q : Fin 2048) (d : Fin 128) :
    (k0_pay465 (F := Ideal) X (ix2 q d) : EReal) = (X (ix3 (0 : Fin 1) q d) : EReal) * ((scl : ℝ) : EReal) := by
  rw [← scale_eq, ix2_eq_valueIdx, ix3_eq_valueIdx]
  exact congrArg (fun z : EReal => z * (Named.named (F := Ideal) Cert.KernelIdeal.κ "scale" (φ := .f32) 0x3E38AA3B#32 : EReal)) (ValueIdx.shapeCast_1ab_ab_apply X shapeCasts_S1x2048x128_S2048x128 q d)

/-- A lane is below the half, or not. -/
theorem lane_lt : ∀ d : Fin 128, IntOp.cmpi .slt (BitVec.ofNat 32 d.val) 64#32 = if d.val / 64 = 0 then 1#1 else 0#1 := by decide
/-- A lane compared with 64 tells which map it belongs to. -/
theorem lane_ge : ∀ d : Fin 128, IntOp.cmpi .sge (BitVec.ofNat 32 d.val) 64#32 = if d.val / 64 = 1 then 1#1 else 0#1 := by decide

/-- The first map's queries: scaled on its own lanes, zero on the others. -/
theorem pay466_at (X : FVec Ideal S1x2048x128 .bf16) (q : Fin 2048) (d : Fin 128) :
    (k0_pay466 (F := Ideal) X (ix2 q d) : EReal) = if d.val / 64 = 0 then (X (ix3 (0 : Fin 1) q d) : EReal) * ((scl : ℝ) : EReal) else 0 := by
  rw [← pay465_at]
  unfold k0_pay466
  dsimp only
  rw [shapeCast_id]
  show Scalar.select (IntOp.cmpi .slt (iota .tc S2048x128 32 [1] iota_S2048x128_d1_w32 (ix2 q d)) 64#32) (k0_pay465 (F := Ideal) X (ix2 q d)) (Ideal.ofBits .f32 0x00000000#32) = _
  rw [iota_single_apply, show ((ix2 q d : S2048x128.Idx) 1).val = d.val from rfl, lane_lt, Ideal.ofBits_zero]
  split <;> rfl

/-- The second map's queries: likewise. -/
theorem pay467_at (X : FVec Ideal S1x2048x128 .bf16) (q : Fin 2048) (d : Fin 128) :
    (k0_pay467 (F := Ideal) X (ix2 q d) : EReal) = if d.val / 64 = 1 then (X (ix3 (0 : Fin 1) q d) : EReal) * ((scl : ℝ) : EReal) else 0 := by
  rw [← pay465_at]
  unfold k0_pay467
  dsimp only
  rw [shapeCast_id]
  show Scalar.select (IntOp.cmpi .sge (iota .tc S2048x128 32 [1] iota_S2048x128_d1_w32 (ix2 q d)) 64#32) (k0_pay465 (F := Ideal) X (ix2 q d)) (Ideal.ofBits .f32 0x00000000#32) = _
  rw [iota_single_apply, show ((ix2 q d : S2048x128.Idx) 1).val = d.val from rfl, lane_ge, Ideal.ofBits_zero]
  split <;> rfl

/-- A chunk of the queries at an index: the chunk's map is `c / 4`, its queries start at `512 (c % 4)`. -/
theorem qch_at (X : FVec Ideal S1x2048x128 .bf16) (Q : FVec Ideal S4096x128 .bf16) (hQ : qOf X Q) (xr : ℕ → ℕ → EReal)
    (hX : ∀ (q : Fin 2048) (d : Fin 128), X (ix3 (0 : Fin 1) q d) = xr q.val d.val) (c : Fin 8) (y : Fin 512) (d : Fin 128) :
    qch c Q (ix2 y d) = if d.val / 64 = c.val / 4 then xr (512 * (c.val % 4) + y.val) d.val * ((scl : ℝ) : EReal) else 0 := by
  have hc := c.isLt
  have hy := y.isLt
  have hx := hX ⟨512 * (c.val % 4) + y.val, by omega⟩ d
  have hcase : c.val / 4 = 0 ∨ c.val / 4 = 1 := by omega
  have fin : ∀ m, (if d.val / 64 = m then X (ix3 (0 : Fin 1) ⟨512 * (c.val % 4) + y.val, by omega⟩ d) * ((scl : ℝ) : EReal) else 0)
      = if d.val / 64 = m then xr (512 * (c.val % 4) + y.val) d.val * ((scl : ℝ) : EReal) else 0 := by
    intro m
    rw [hx]
  rcases hcase with h | h
  · rw [h, ← fin 0, ← pay466_at, ← hQ.1]
    unfold qch
    refine congrArg Q ?_
    funext a
    apply Fin.ext
    fin_cases a
    · show 512 * c.val + 1 * y.val = 0 + 1 * (512 * (c.val % 4) + y.val); omega
    · rfl
  · rw [h, ← fin 1, ← pay467_at, ← hQ.2]
    unfold qch
    refine congrArg Q ?_
    funext a
    apply Fin.ext
    fin_cases a
    · show 512 * c.val + 1 * y.val = 2048 + 1 * (512 * (c.val % 4) + y.val); omega
    · rfl

/-- The score of a query and a key in one of the two maps, for powers of two. -/
def sc (xr kr : ℕ → ℕ → EReal) (m q k : ℕ) : EReal := ∑ d ∈ Finset.range 64, kr k (64 * m + d) * (xr q (64 * m + d) * ((scl : ℝ) : EReal))

/-- The lanes of one map. -/
theorem sum_half (m : ℕ) (hm : m < 2) (f : ℕ → EReal) : (∑ d : Fin 128, if d.val / 64 = m then f d.val else 0) = ∑ d ∈ Finset.range 64, f (64 * m + d) := by
  rw [Fin.sum_univ_eq_sum_range (fun d => if d / 64 = m then f d else 0) 128, ← Finset.sum_filter,
    show (Finset.range 128).filter (fun d => d / 64 = m) = Finset.Ico (64 * m) (64 * m + 64) by
      ext d; simp only [Finset.mem_filter, Finset.mem_range, Finset.mem_Ico]; omega, Finset.sum_Ico_eq_sum_range]
  simp

/-- The scores of a chunk against `n` keys. -/
theorem score_at (X : FVec Ideal S1x2048x128 .bf16) (Q : FVec Ideal S4096x128 .bf16) (hQ : qOf X Q) (xr kr : ℕ → ℕ → EReal)
    (hX : ∀ (q : Fin 2048) (d : Fin 128), X (ix3 (0 : Fin 1) q d) = xr q.val d.val) (c : Fin 8) (y : Fin 512)
    {n : ℕ} (o : ℕ) (K : FVec Ideal ⟨2, ![n, 128]⟩ .bf16) (hK : ∀ (k : Fin n) (d : Fin 128), K (ix2 k d) = kr (o + k.val) d.val) (k : Fin n) :
    score n K (qch c Q) (ix2 k y) = sc xr kr (c.val / 4) (512 * (c.val % 4) + y.val) (o + k.val) := by
  have hc := c.isLt
  unfold score sc
  refine (transposed_at _ _ k y).trans ?_
  rw [← sum_half (c.val / 4) (by omega) (fun d => kr (o + k.val) d * (xr (512 * (c.val % 4) + y.val) d * ((scl : ℝ) : EReal)))]
  refine Finset.sum_congr rfl fun d _ => ?_
  rw [hK, qch_at X Q hQ xr hX, mul_ite, mul_zero]

/-- A key of the block on the diagonal is not after the query. -/
theorem sle_at (n w k y : ℕ) (hn : n ≤ 2048) (hk : k < n) (hw : w ≤ 2048) (hy : y < 512) :
    IntOp.cmpi .sle (IntOp.addi (BitVec.ofNat 32 k) 0#32) (IntOp.addi (BitVec.ofNat 32 y) (BitVec.ofNat 32 w)) = if k < w + y + 1 then 1#1 else 0#1 := by
  have h : IntOp.cmpi .sle (IntOp.addi (BitVec.ofNat 32 k) 0#32) (IntOp.addi (BitVec.ofNat 32 y) (BitVec.ofNat 32 w)) = 1#1 ↔ k < w + y + 1 := by
    rw [IntOp.cmpi_sle]
    unfold IntOp.addi
    rw [BitVec.add_zero, ← BitVec.ofNat_add]
    simp only [BitVec.toInt_eq_toNat_cond, BitVec.toNat_ofNat]
    omega
  split
  · exact h.2 ‹_›
  · exact ValueIdx.eq_zero_of_ne_one fun h' => absurd (h.1 h') ‹_›

/-- The block on the diagonal, a chunk's share. -/
theorem diag_at (X : FVec Ideal S1x2048x128 .bf16) (Q : FVec Ideal S4096x128 .bf16) (hQ : qOf X Q) (xr kr : ℕ → ℕ → EReal) (vr : Fin 128 → ℕ → ℝ)
    (hX : ∀ (q : Fin 2048) (d : Fin 128), X (ix3 (0 : Fin 1) q d) = xr q.val d.val) (c : Fin 8) (y : Fin 512)
    {n : ℕ} (hn : n = 512 * (c.val % 4) + 512) (w : BitVec 32) (hw : w = BitVec.ofNat 32 (512 * (c.val % 4))) (o : ℕ)
    (hr : (⟨2, ![n, 512]⟩ : Shape).Reduces [0] S512) (hb : S1x512.Broadcasts ⟨2, ![n, 512]⟩)
    (h0 : (⟨2, ![n, 512]⟩ : Shape).Iotas .tc 32 [0]) (h1 : (⟨2, ![n, 512]⟩ : Shape).Iotas .tc 32 [1])
    (K : FVec Ideal ⟨2, ![n, 128]⟩ .bf16) (V : FVec Ideal ⟨2, ![128, n]⟩ .bf16)
    (hK : ∀ (k : Fin n) (d : Fin 128), K (ix2 k d) = kr (o + k.val) d.val)
    (hV : ∀ (e : Fin 128) (k : Fin n), V (ix2 e k) = ((vr e (o + k.val) : ℝ) : EReal)) :
    BlkAt (mkBlk n hr hb (masked n w h0 h1 (score n K (qch c Q))) V) y (Finset.Ico o (o + (512 * (c.val % 4) + y.val + 1)))
      (sc xr kr (c.val / 4) (512 * (c.val % 4) + y.val)) vr := by
  have hy := y.isLt
  refine mkBlk_at n hr hb _ V y o _ (by omega) _ vr (fun k => ?_) hV
  subst hw
  rw [← score_at X Q hQ xr kr hX c y o K hK k]
  have hk := k.isLt
  unfold masked
  pointwise
  rw [sle_at n _ _ _ (by omega) hk (by omega) hy, Cert.Consts.ofBits_negInf]
  split <;> rfl

/-- An earlier block. -/
theorem full_at (X : FVec Ideal S1x2048x128 .bf16) (Q : FVec Ideal S4096x128 .bf16) (hQ : qOf X Q) (xr kr : ℕ → ℕ → EReal) (vr : Fin 128 → ℕ → ℝ)
    (hX : ∀ (q : Fin 2048) (d : Fin 128), X (ix3 (0 : Fin 1) q d) = xr q.val d.val) (c : Fin 8) (y : Fin 512) (o : ℕ)
    (K : FVec Ideal S2048x128 .bf16) (V : FVec Ideal S128x2048 .bf16)
    (hK : ∀ (k : Fin 2048) (d : Fin 128), K (ix2 k d) = kr (o + k.val) d.val)
    (hV : ∀ (e : Fin 128) (k : Fin 2048), V (ix2 e k) = ((vr e (o + k.val) : ℝ) : EReal)) :
    BlkAt (full K V Q c) y (Finset.Ico o (o + 2048)) (sc xr kr (c.val / 4) (512 * (c.val % 4) + y.val)) vr := by
  refine mkBlk_at 2048 _ _ _ V y o 2048 le_rfl _ vr (fun k => ?_) hV
  rw [if_pos k.isLt]
  exact score_at X Q hQ xr kr hX c y o K hK k

end Cert.Proof.KernelIdeal
-- ==== Proof.Point.lean ====
module

public import proofs.«01_k».proof.Proof.Blocks

@[expose] public section

set_option maxRecDepth 65536

noncomputable section

/-! What a grid point leaves in its result block, over the extended reals. -/

namespace Cert.Proof.KernelIdeal

open Cert.KernelIdeal Cert.KernelIdeal.Gen Cert.Proof.Attn
open Idealize.ShloMosaic Idealize.ShloMosaic.TcCoe

/-- The weight of the second map, from its four rows of parameters. -/
def lamE (l : Fin 4 → Fin 64 → EReal) : EReal :=
  Ideal.exp (∑ d, l 0 d * l 1 d) - Ideal.exp (∑ d, l 2 d * l 3 d) + Ideal.ofBits .f32 0x3EB60549#32

/-- The norm of a column and its two factors. -/
def normE (o g : Fin 128 → EReal) (e : Fin 128) : EReal :=
  o e * Ideal.rsqrt (Ideal.div (∑ e', o e' * o e') (Ideal.ofBits .f32 0x43000000#32) + Ideal.ofBits .f32 0x3727C5AC#32) * g e * Ideal.ofBits .f32 0x3F24FD5C#32

/-- The difference of the two maps' quotients at a query `q` and a value row `e`. -/
theorem pay610_at (lam : FVec Ideal S4x64 .f32) (A : FVec Ideal S128x4096 .f32) (L : FVec Ideal S1x4096 .f32) (e : Fin 128) (q : Fin 2048) (q0 q1 : Fin 4096)
    (h0 : q0.val = q.val) (h1 : q1.val = 2048 + q.val) :
    (k0_pay610 (F := Ideal) lam A L (ix2 e q) : EReal) = Ideal.div (A (ix2 e q0)) (L (ix2 (0 : Fin 1) q0))
      - lamE (fun a d => lam (ix2 a d)) * Ideal.div (A (ix2 e q1)) (L (ix2 (0 : Fin 1) q1)) := by
  have hq := q.isLt
  have b0 : q.val < 4096 := by omega
  have b1 : 2048 + q.val < 4096 := by omega
  obtain rfl : q0 = ⟨q.val, b0⟩ := Fin.ext h0
  obtain rfl : q1 = ⟨2048 + q.val, b1⟩ := Fin.ext h1
  unfold k0_pay610 lamE
  pointwise

/-- The result block is the norm of that difference. -/
theorem outOf_at (lam : FVec Ideal S4x64 .f32) (ng : FVec Ideal S128x1 .f32) (S : St Ideal) (q : Fin 2048) (e : Fin 128) :
    (outOf (F := Ideal) lam ng S (ix3 (0 : Fin 1) q e) : EReal) = normE (fun e => k0_pay610 (F := Ideal) lam S.A S.L (ix2 e q)) (fun e => ng (ix2 e (0 : Fin 1))) e := by
  unfold outOf k0_pay1 k0_pay611 k0_pay612 normE
  generalize k0_pay610 (F := Ideal) lam S.A S.L = o
  pointwise

/-- The exponential of a score, an infinite score counting nothing. -/
def e1 (x : EReal) : ℝ := if x = ⊤ then 0 else (Ideal.exp x).toReal

/-- It is that of a real score, -/
theorem e1_coe (x : ℝ) : e1 (x : EReal) = Real.exp x := by
  rw [e1, if_neg (EReal.coe_ne_top x), Ideal.exp_coe, EReal.toReal_coe]

/-- zero for `-∞`, -/
theorem e1_bot : e1 ⊥ = 0 := by
  rw [e1, if_neg bot_ne_top, Ideal.exp_bot, EReal.toReal_zero]

/-- never below zero, -/
theorem e1_nonneg (x : EReal) : 0 ≤ e1 x := by
  induction x using EReal.rec with
  | bot => rw [e1_bot]
  | top => rw [e1, if_pos rfl]
  | coe x => rw [e1_coe]; exact (Real.exp_pos x).le

/-- and above it for a real score. -/
theorem e1_pos {x : EReal} (ht : x ≠ ⊤) (hb : x ≠ ⊥) : 0 < e1 x := by
  induction x using EReal.rec with
  | bot => exact absurd rfl hb
  | top => exact absurd rfl ht
  | coe x => rw [e1_coe]; exact Real.exp_pos x

/-- The keys' scores have a softmax: none is `∞`, and not all are `-∞`. -/
def Ok (T : Finset ℕ) (t : ℕ → EReal) : Prop := (∀ k ∈ T, t k ≠ ⊤) ∧ ∃ k ∈ T, t k ≠ ⊥

/-- Then the exponentials' sum is positive. -/
theorem Ok.pos {T : Finset ℕ} {t : ℕ → EReal} (h : Ok T t) : 0 < ∑ k ∈ T, e1 (t k) := by
  obtain ⟨ht, k, hk, hb⟩ := h
  exact Finset.sum_pos' (fun k _ => e1_nonneg _) ⟨k, hk, e1_pos (ht k hk) hb⟩

/-- The mean of the weights `w` under the softmax of the scores `t`. -/
def Qt (T : Finset ℕ) (t : ℕ → EReal) (w : ℕ → ℝ) : ℝ := (∑ k ∈ T, w k * e1 (t k)) / ∑ k ∈ T, e1 (t k)

open Classical in
/-- The quotient of the two sums: that mean, or zero by zero. -/
def QtE (T : Finset ℕ) (t : ℕ → EReal) (w : ℕ → ℝ) : EReal := if Ok T t then ((Qt T t w : ℝ) : EReal) else ⊥

/-- The score of a query and a key in one of the two maps. -/
def tt (xr kr : ℕ → ℕ → EReal) (m q k : ℕ) : EReal := ∑ d ∈ Finset.range 64, kr k (64 * m + d) * (xr q (64 * m + d) * ((1 / 8 : ℝ) : EReal))

/-- A sum of extended reals times a real that is not negative. -/
theorem sum_mul_coe {ι : Type} (T : Finset ι) (f : ι → EReal) (r : ℝ) (hr : 0 ≤ r) : (∑ k ∈ T, f k) * (r : EReal) = ∑ k ∈ T, f k * (r : EReal) := by
  classical
  induction T using Finset.induction_on with
  | empty => simp
  | insert a T ha ih =>
    rw [Finset.sum_insert ha, Finset.sum_insert ha, EReal.right_distrib_of_nonneg_of_ne_top (EReal.coe_nonneg.2 hr) (EReal.coe_ne_top r), ih]

/-- The logarithm's inverse is positive. -/
theorem inv_log_pos : 0 < (Real.log 2)⁻¹ := inv_pos.2 (Real.log_pos (by norm_num))

/-- The kernel's score is the reference's over the logarithm of two. -/
theorem sc_eq (xr kr : ℕ → ℕ → EReal) (m q k : ℕ) : sc xr kr m q k = tt xr kr m q k * (((Real.log 2)⁻¹ : ℝ) : EReal) := by
  unfold sc tt scl
  rw [sum_mul_coe _ _ _ inv_log_pos.le]
  refine Finset.sum_congr rfl fun d _ => ?_
  rw [EReal.coe_mul, mul_assoc, mul_assoc]

/-- Their powers and exponentials are the same numbers; -/
theorem e2_mul (x : EReal) : e2 (x * (((Real.log 2)⁻¹ : ℝ) : EReal)) = e1 x := by
  induction x using EReal.rec with
  | bot => rw [EReal.bot_mul_coe_of_pos inv_log_pos, e1_bot, e2, if_neg bot_ne_top, Ideal.exp2_bot, EReal.toReal_zero]
  | top => rw [EReal.top_mul_coe_of_pos inv_log_pos, e2, e1, if_pos rfl, if_pos rfl]
  | coe x =>
    rw [← EReal.coe_mul, e1_coe, e2, if_neg (EReal.coe_ne_top _), Ideal.exp2_coe, EReal.toReal_coe]
    have hl : Real.log 2 ≠ 0 := (Real.log_pos (by norm_num)).ne'
    show (2 : ℝ) ^ (x * (Real.log 2)⁻¹) = _
    rw [Real.rpow_def_of_pos (by norm_num)]
    congr 1
    field_simp

/-- they are infinite together. -/
theorem mul_eq_top (x : EReal) : x * (((Real.log 2)⁻¹ : ℝ) : EReal) = ⊤ ↔ x = ⊤ := by
  induction x using EReal.rec with
  | bot => rw [EReal.bot_mul_coe_of_pos inv_log_pos]
  | top => rw [EReal.top_mul_coe_of_pos inv_log_pos]
  | coe x => rw [← EReal.coe_mul]; exact iff_of_false (EReal.coe_ne_top _) (EReal.coe_ne_top _)

/-- So below. -/
theorem mul_eq_bot (x : EReal) : x * (((Real.log 2)⁻¹ : ℝ) : EReal) = ⊥ ↔ x = ⊥ := by
  induction x using EReal.rec with
  | bot => rw [EReal.bot_mul_coe_of_pos inv_log_pos]
  | top => rw [EReal.top_mul_coe_of_pos inv_log_pos]
  | coe x => rw [← EReal.coe_mul]; exact iff_of_false (EReal.coe_ne_bot _) (EReal.coe_ne_bot _)

/-- So weighted sums of powers of two are weighted sums of exponentials. -/
theorem W_exp (T : Finset ℕ) (s t : ℕ → EReal) (w : ℕ → ℝ) (ρ : ℝ) (h : ∀ k, s k = t k * (((Real.log 2)⁻¹ : ℝ) : EReal)) :
    W T s w ρ = (∑ k ∈ T, w k * e1 (t k)) * (2 : ℝ) ^ (-ρ) := by
  unfold W
  rw [Finset.sum_mul]
  refine Finset.sum_congr rfl fun k _ => ?_
  rw [h, e2_mul, mul_assoc]

/-- The quotient of the two running sums does not depend on the reference. -/
theorem W_div (T : Finset ℕ) (s t : ℕ → EReal) (hT : Ok T t) (w : ℕ → ℝ) (ρ : ℝ) (h : ∀ k, s k = t k * (((Real.log 2)⁻¹ : ℝ) : EReal)) :
    Ideal.div ((W T s w ρ : ℝ) : EReal) ((W T s (fun _ => 1) ρ : ℝ) : EReal) = ((Qt T t w : ℝ) : EReal) := by
  have hp := hT.pos
  have hρ : (0 : ℝ) < (2 : ℝ) ^ (-ρ) := Real.rpow_pos_of_pos (by norm_num) _
  rw [W_exp T s t w ρ h, W_exp T s t _ ρ h]
  simp only [one_mul]
  rw [Ideal.div_coe (mul_pos hp hρ).ne', ← EReal.coe_mul]
  unfold Qt
  congr 1
  field_simp

/-- Zero by zero. -/
theorem div_zero_zero : Ideal.div 0 0 = ⊥ := by simp [Ideal.div]

/-- The quotient of a lane's sums. -/
theorem quot (T : Finset ℕ) (s t : ℕ → EReal) (v : Fin 128 → ℕ → ℝ) (x : Ch Ideal) (y : Fin 512) (hx : Holds T s v x y)
    (h : ∀ k, s k = t k * (((Real.log 2)⁻¹ : ℝ) : EReal)) (e : Fin 128) :
    Ideal.div (x.a (ix2 e y)) (x.l (ix2 (0 : Fin 1) y)) = QtE T t (v e) := by
  obtain ⟨hm, hx⟩ := hx
  have htop : ∀ k, s k = ⊤ ↔ t k = ⊤ := fun k => by rw [h]; exact mul_eq_top _
  have hbot : ∀ k, s k = ⊥ ↔ t k = ⊥ := fun k => by rw [h]; exact mul_eq_bot _
  unfold QtE
  rcases hx with ⟨-, hi, hl, ha⟩ | ⟨hi, ρ, -, hl, ha⟩
  · rw [hl, ha, if_neg, div_zero_zero]
    rintro ⟨ht, k, hk, hb⟩
    rcases hi with hi | hi
    · obtain ⟨j, hj, hjt⟩ := hm.1.1 hi
      exact ht j hj ((htop j).1 hjt)
    · exact hb ((hbot k).1 (hm.2.1 hi k hk))
  · rw [hl, ha]
    by_cases hT : Ok T t
    · rw [if_pos hT, W_div T s t hT (v e) ρ h]
    · have hb : ∀ k ∈ T, s k = ⊥ := by
        intro k hk
        by_contra hb
        exact hT ⟨fun j hj hjt => hm.ne hi j hj ((htop j).2 hjt), k, hk, fun hk' => hb ((hbot k).2 hk')⟩
      rw [if_neg hT, W_bot hb, W_bot hb, EReal.coe_zero, div_zero_zero]

/-- The state the loop starts from has seen no key. -/
theorem start_holds (c : Fin 8) (y : Fin 512) (s : ℕ → EReal) (v : Fin 128 → ℕ → ℝ) : Holds ∅ s v (ch c (S₀ (F := Ideal))) y := by
  have hz : Ideal.ofBits .f32 0x00000000#32 = ((0 : ℝ) : EReal) := Ideal.ofBits_zero .f32
  have hm : (ch c (S₀ (F := Ideal))).m (ix2 (0 : Fin 1) y) = (⊥ : EReal) := Cert.Consts.ofBits_negInf
  unfold Holds
  rw [hm]
  refine ⟨⟨iff_of_false bot_ne_top (by simp), iff_of_true rfl (by simp)⟩, .inr ⟨bot_ne_top, 0, hz, ?_, fun e => ?_⟩⟩
  · exact hz
  · exact hz

section
variable (i : grid0.Coords) (X : FVec Ideal S1x2048x128 .bf16) (K : FVec Ideal S1x8192x128 .bf16) (V : FVec Ideal S1x128x8192 .bf16)
  (Q : FVec Ideal S4096x128 .bf16) (hQ : qOf X Q) (xr kr : ℕ → ℕ → EReal) (vr : Fin 128 → ℕ → ℝ)
  (hX : ∀ (q : Fin 2048) (d : Fin 128), X (ix3 (0 : Fin 1) q d) = xr q.val d.val)
  (hK : ∀ (j : Fin 8192) (d : Fin 128), K (ix3 (0 : Fin 1) j d) = kr j.val d.val)
  (hV : ∀ (e : Fin 128) (j : Fin 8192), V (ix3 (0 : Fin 1) e j) = ((vr e j.val : ℝ) : EReal))
include hQ hX hK hV

/-- After `k` blocks the keys of those blocks have been seen. -/
theorem reach_holds (c : Fin 8) (y : Fin 512) : ∀ (k : ℕ) (S : St Ideal),
    Reach (n := (k0_t1_loop i).trips) (fun j => full (keys i j K) (vals i j V) Q) S₀ k S →
    Holds (Finset.range (2048 * k)) (sc xr kr (c.val / 4) (512 * (c.val % 4) + y.val)) vr (ch c S) y := by
  intro k
  induction k with
  | zero =>
    intro S h
    rw [show S = S₀ from h]
    exact start_holds c y _ _
  | succ k ih =>
    rintro S' ⟨hk, S, hS, hstep⟩
    have hu : Finset.range (2048 * (k + 1)) = Finset.range (2048 * k) ∪ Finset.Ico (2048 * k) (2048 * k + 2048) := by
      ext j; simp only [Finset.mem_range, Finset.mem_union, Finset.mem_Ico]; omega
    rw [hu]
    refine step_holds _ S S' hstep c y _ _ ?_ _ _ ?_ (ih S hS)
    · rw [Finset.disjoint_left]; intro j; simp only [Finset.mem_range, Finset.mem_Ico]; omega
    · exact full_at X Q hQ xr kr vr hX c y (2048 * k) _ _
        (rows_at _ _ (k0_off1_eq i ⟨k, hk⟩) _ _ K kr hK) (cols_at _ _ (k0_off2_eq i ⟨k, hk⟩) _ _ V vr hV)

/-- The block on the diagonal. -/
theorem diagB_at (c : Fin 8) (y : Fin 512) :
    BlkAt (diagB i K V Q c) y (Finset.Ico (2048 * (i 2).val) (2048 * (i 2).val + (512 * (c.val % 4) + y.val + 1)))
      (sc xr kr (c.val / 4) (512 * (c.val % 4) + y.val)) vr := by
  have d0 : ∀ c : Fin 8, c.val % 4 = 0 → _ := fun c hc => diag_at X Q hQ xr kr vr hX c y (n := 512) (by omega) 0#32 (by rw [hc]) (2048 * (i 2).val)
    reduces_S512x512_S512 broadcasts_S1x512_S512x512 iota_S512x512_d0_w32 iota_S512x512_d1_w32
    (dk512 i K) (dv512 i V) (rows_at _ _ (k0_off9_eq i) _ _ K kr hK) (cols_at _ _ (k0_off11_eq i) _ _ V vr hV)
  have d1 : ∀ c : Fin 8, c.val % 4 = 1 → _ := fun c hc => diag_at X Q hQ xr kr vr hX c y (n := 1024) (by omega) 512#32 (by rw [hc]) (2048 * (i 2).val)
    reduces_S1024x512_S512 broadcasts_S1x512_S1024x512 iota_S1024x512_d0_w32 iota_S1024x512_d1_w32
    (dk1024 i K) (dv1024 i V) (rows_at _ _ (k0_off10_eq i) _ _ K kr hK) (cols_at _ _ (k0_off13_eq i) _ _ V vr hV)
  have d2 : ∀ c : Fin 8, c.val % 4 = 2 → _ := fun c hc => diag_at X Q hQ xr kr vr hX c y (n := 1536) (by omega) 1024#32 (by rw [hc]) (2048 * (i 2).val)
    reduces_S1536x512_S512 broadcasts_S1x512_S1536x512 iota_S1536x512_d0_w32 iota_S1536x512_d1_w32
    (dk1536 i K) (dv1536 i V) (rows_at _ _ (k0_off12_eq i) _ _ K kr hK) (cols_at _ _ (k0_off15_eq i) _ _ V vr hV)
  have d3 : ∀ c : Fin 8, c.val % 4 = 3 → _ := fun c hc => diag_at X Q hQ xr kr vr hX c y (n := 2048) (by omega) 1536#32 (by rw [hc]) (2048 * (i 2).val)
    reduces_S2048x512_S512 broadcasts_S1x512_S2048x512 iota_S2048x512_d0_w32 iota_S2048x512_d1_w32
    (dk2048 i K) (dv2048 i V) (rows_at _ _ (k0_off14_eq i) _ _ K kr hK) (cols_at _ _ (k0_off16_eq i) _ _ V vr hV)
  fin_cases c
  · exact d0 0 rfl
  · exact d1 1 rfl
  · exact d2 2 rfl
  · exact d3 3 rfl
  · exact d0 4 rfl
  · exact d1 5 rfl
  · exact d2 6 rfl
  · exact d3 7 rfl

/-- The quotient of a column after the last block. -/
theorem last_quot (S S' : St Ideal) (hR : Reach (n := (k0_t1_loop i).trips) (fun j => full (keys i j K) (vals i j V) Q) S₀ (k0_t1_loop i).trips S)
    (hS : Step (diagB i K V Q) S S') (m : ℕ) (hm : m < 2) (q : Fin 2048) (col : Fin 4096) (hcol : col.val = 2048 * m + q.val) (e : Fin 128) :
    Ideal.div (S'.A (ix2 e col)) (S'.L (ix2 (0 : Fin 1) col)) = QtE (Finset.range (2048 * (i 2).val + q.val + 1)) (tt xr kr m q.val) (vr e) := by
  have hq := q.isLt
  obtain ⟨c, y, hc, hy⟩ : ∃ (c : Fin 8) (y : Fin 512), c.val / 4 = m ∧ 512 * (c.val % 4) + y.val = q.val :=
    ⟨⟨4 * m + q.val / 512, by omega⟩, ⟨q.val % 512, by omega⟩, by show (4 * m + q.val / 512) / 4 = m; omega,
      by show 512 * ((4 * m + q.val / 512) % 4) + q.val % 512 = q.val; omega⟩
  have hy' := y.isLt
  have h := reach_holds i X K V Q hQ xr kr vr hX hK hV c y _ S hR
  rw [trips1] at h
  have hH := step_holds _ S S' hS c y _ _
    (by rw [Finset.disjoint_left]; intro j; simp only [Finset.mem_range, Finset.mem_Ico]; omega) _ _ (diagB_at i X K V Q hQ xr kr vr hX hK hV c y) h
  have hu : Finset.range (2048 * (i 2).val) ∪ Finset.Ico (2048 * (i 2).val) (2048 * (i 2).val + (512 * (c.val % 4) + y.val + 1))
      = Finset.range (2048 * (i 2).val + q.val + 1) := by
    ext j; simp only [Finset.mem_range, Finset.mem_union, Finset.mem_Ico]; omega
  rw [hu, hc, hy] at hH
  have el : S'.L (ix2 (0 : Fin 1) col) = (ch c S').l (ix2 (0 : Fin 1) y) := by
    refine congrArg S'.L ?_
    funext a
    apply Fin.ext
    fin_cases a
    · rfl
    · show col.val = 512 * c.val + 1 * y.val; omega
  have ea : S'.A (ix2 e col) = (ch c S').a (ix2 e y) := by
    refine congrArg S'.A ?_
    funext a
    apply Fin.ext
    fin_cases a
    · show e.val = 0 + 1 * e.val; omega
    · show col.val = 512 * c.val + 1 * y.val; omega
  rw [el, ea]
  exact quot _ _ _ _ _ _ hH (sc_eq xr kr m q.val) e

end

/-- What a grid point leaves in its result block. -/
theorem out_at (i : grid0.Coords) (X : FVec Ideal S1x2048x128 .bf16) (K : FVec Ideal S1x8192x128 .bf16) (V : FVec Ideal S1x128x8192 .bf16)
    (lam : FVec Ideal S4x64 .f32) (ng : FVec Ideal S128x1 .f32) (o : FVec Ideal S1x2048x128 .bf16) (hO : Out i X K V lam ng o)
    (xr kr : ℕ → ℕ → EReal) (vr : Fin 128 → ℕ → ℝ)
    (hX : ∀ (q : Fin 2048) (d : Fin 128), X (ix3 (0 : Fin 1) q d) = xr q.val d.val)
    (hK : ∀ (j : Fin 8192) (d : Fin 128), K (ix3 (0 : Fin 1) j d) = kr j.val d.val)
    (hV : ∀ (e : Fin 128) (j : Fin 8192), V (ix3 (0 : Fin 1) e j) = ((vr e j.val : ℝ) : EReal)) (q : Fin 2048) (e : Fin 128) :
    o (ix3 (0 : Fin 1) q e) = normE (fun e =>
      QtE (Finset.range (2048 * (i 2).val + q.val + 1)) (tt xr kr 0 q.val) (vr e) - lamE (fun a d => lam (ix2 a d)) *
        QtE (Finset.range (2048 * (i 2).val + q.val + 1)) (tt xr kr 1 q.val) (vr e)) (fun e => ng (ix2 e (0 : Fin 1))) e := by
  obtain ⟨Q, hQ, S, S', hR, hS, rfl⟩ := hO
  have hq := q.isLt
  rw [outOf_at]
  congr 1
  funext e
  rw [pay610_at lam S'.A S'.L e q ⟨q.val, by omega⟩ ⟨2048 + q.val, by omega⟩ rfl rfl,
    last_quot i X K V Q hQ xr kr vr hX hK hV S S' hR hS 0 (by omega) q _ (by simp) e,
    last_quot i X K V Q hQ xr kr vr hX hK hV S S' hR hS 1 (by omega) q _ (by simp) e]

end Cert.Proof.KernelIdeal
-- ==== Proof.RefValue.lean ====
module

public import proofs.«01_k».proof.Proof.Point
public import proofs.«01_k».proof.Proof.Gen.ReferenceIdeal.Run
public import Idealize.ShloMosaic.Lib.Pointwise
public import Idealize.ShloMosaic.Lib.IdealHost

@[expose] public section

set_option maxRecDepth 65536

noncomputable section

/-! The reference stage by stage: for real values and parameters its result is the norm of the two maps' quotients'
    difference. -/

namespace Cert.Proof.ReferenceIdeal

open Cert.ReferenceIdeal Cert.ReferenceIdeal.Gen Cert.ReferenceIdeal.Value Cert.Proof.Attn
open Cert.Proof.KernelIdeal (lamE normE Qt QtE Ok tt e1 e1_coe e1_bot div_zero_zero)
open Idealize.ShloMosaic Idealize.ShloMosaic.TcCoe

/-- The queries, cut into heads and maps and scaled. -/
def qh (p : FVec Ideal S4x8192x3072 .bf16) : FVec Ideal S4x8192x8x2x64 .f32 :=
  mulf (shapeCast _ (extractStridedSlice S4x8192x1024 ![0, 0, 0] (extf .f32 p bitsLt_bf16_f32) slices_S4x8192x3072_S4x8192x1024_0_0_0) shapeCasts_S4x8192x1024_S4x8192x8x2x64) (broadcastInDim S4x8192x8x2x64 ![] bcast_S_S4x8192x8x2x64 (constant S_ .f32 0x3E000000#32))

/-- The keys, cut into heads and maps. -/
def kh (p : FVec Ideal S4x8192x3072 .bf16) : FVec Ideal S4x8192x8x2x64 .f32 :=
  shapeCast _ (extractStridedSlice S4x8192x1024 ![0, 0, 1024] (extf .f32 p bitsLt_bf16_f32) slices_S4x8192x3072_S4x8192x1024_0_0_1024) shapeCasts_S4x8192x1024_S4x8192x8x2x64

/-- The masked scores. -/
def sh (q k : FVec Ideal S4x8192x8x2x64 .f32) : FVec Ideal S4x8x2x8192x8192 .f32 :=
  select (broadcastInDim S4x8x2x8192x8192 ![3, 4] bcast_S8192x8192_S4x8x2x8192x8192_3_4 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (Host.dotGeneral dot_S4x8192x8x2x64_S4x8192x8x2x64_S4x8x2x8192x8192_4_4_1_1_023_023 none q k) (broadcastInDim S4x8x2x8192x8192 ![] bcast_S_S4x8x2x8192x8192 (id (constant S_ .f32 0xFF800000#32)))

/-- Each row's largest score. -/
def mh (s : FVec Ideal S4x8x2x8192x8192 .f32) : FVec Ideal S4x8x2x8192 .f32 :=
  Host.reduce FloatOps.maximumf s (constant S_ .f32 0xFF800000#32) reducesTo_S4x8x2x8192x8192_S4x8x2x8192_d4 h_S_

/-- The exponentials of the scores under their row's largest. -/
def eh (s : FVec Ideal S4x8x2x8192x8192 .f32) (m : FVec Ideal S4x8x2x8192 .f32) : FVec Ideal S4x8x2x8192x8192 .f32 :=
  Host.exp (subf s (broadcastInDim S4x8x2x8192x8192 ![0, 1, 2, 3, 4] bcast_S4x8x2x8192x1_S4x8x2x8192x8192_0_1_2_3_4 (broadcastInDim S4x8x2x8192x1 ![0, 1, 2, 3] bcast_S4x8x2x8192_S4x8x2x8192x1_0_1_2_3 (maximumf (broadcastInDim S4x8x2x8192 ![] bcast_S_S4x8x2x8192 (constant S_ .f32 0xFF800000#32)) m))))

/-- Each row over its sum. -/
def ph (x : FVec Ideal S4x8x2x8192x8192 .f32) : FVec Ideal S4x8x2x8192x8192 .f32 :=
  Host.divf x (broadcastInDim S4x8x2x8192x8192 ![0, 1, 2, 3, 4] bcast_S4x8x2x8192x1_S4x8x2x8192x8192_0_1_2_3_4 (broadcastInDim S4x8x2x8192x1 ![0, 1, 2, 3] bcast_S4x8x2x8192_S4x8x2x8192x1_0_1_2_3 (Host.reduceAdd x (constant S_ .f32 0x00000000#32) reducesTo_S4x8x2x8192x8192_S4x8x2x8192_d4 h_S_)))

/-- The weights of both maps, from the scores. -/
def wh (s : FVec Ideal S4x8x2x8192x8192 .f32) : FVec Ideal S4x8x2x8192x8192 .f32 := ph (eh s (mh s))

/-- The mixing weight of the second map. -/
def lh (l : FVec Ideal S4x64 .f32) : FVec Ideal S_ .f32 :=
  addf (subf (Host.exp (Host.reduceAdd (mulf (shapeCast _ (extractStridedSlice S1x64 ![0, 0] l slices_S4x64_S1x64_0_0) shapeCasts_S1x64_S64) (shapeCast _ (extractStridedSlice S1x64 ![1, 0] l slices_S4x64_S1x64_1_0) shapeCasts_S1x64_S64)) (constant S_ .f32 0x00000000#32) reducesTo_S64_S_d0 h_S_)) (Host.exp (Host.reduceAdd (mulf (shapeCast _ (extractStridedSlice S1x64 ![2, 0] l slices_S4x64_S1x64_2_0) shapeCasts_S1x64_S64) (shapeCast _ (extractStridedSlice S1x64 ![3, 0] l slices_S4x64_S1x64_3_0) shapeCasts_S1x64_S64)) (constant S_ .f32 0x00000000#32) reducesTo_S64_S_d0 h_S_))) (constant S_ .f32 0x3EB60549#32)

/-- The difference of the two maps' weights. -/
def ah (w : FVec Ideal S4x8x2x8192x8192 .f32) (l : FVec Ideal S_ .f32) : FVec Ideal S4x8x8192x8192 .f32 :=
  subf (shapeCast _ (extractStridedSlice S4x8x1x8192x8192 ![0, 0, 0, 0, 0] w slices_S4x8x2x8192x8192_S4x8x1x8192x8192_0_0_0_0_0) shapeCasts_S4x8x1x8192x8192_S4x8x8192x8192) (mulf (broadcastInDim S4x8x8192x8192 ![] bcast_S_S4x8x8192x8192 l) (shapeCast _ (extractStridedSlice S4x8x1x8192x8192 ![0, 0, 1, 0, 0] w slices_S4x8x2x8192x8192_S4x8x1x8192x8192_0_0_1_0_0) shapeCasts_S4x8x1x8192x8192_S4x8x8192x8192))

/-- The values mixed. -/
def oh (v : FVec Ideal S4x1024x8192 .bf16) (a : FVec Ideal S4x8x8192x8192 .f32) : FVec Ideal S4x8192x8x128 .f32 :=
  transpose S4x8192x8x128 [0, 3, 1, 2] (Host.dotGeneral dot_S4x8x128x8192_S4x8x8192x8192_S4x8x128x8192_3_3_2_2_01_01 none (shapeCast _ (extf .f32 v bitsLt_bf16_f32) shapeCasts_S4x1024x8192_S4x8x128x8192) a) transposes_S4x8x128x8192_S4x8192x8x128_0_3_1_2

/-- The norm of each head, scaled, with the heads side by side. -/
def nh (o : FVec Ideal S4x8192x8x128 .f32) (g : FVec Ideal S128x1 .f32) : FVec Ideal S4x8192x1024 .bf16 :=
  truncf .bf16 (shapeCast _ (mulf (mulf (mulf o (broadcastInDim S4x8192x8x128 ![0, 1, 2, 3] bcast_S4x8192x8x1_S4x8192x8x128_0_1_2_3 (Host.rsqrt (addf (Host.divf (broadcastInDim S4x8192x8x1 ![0, 1, 2] bcast_S4x8192x8_S4x8192x8x1_0_1_2 (Host.reduceAdd (mulf o o) (constant S_ .f32 0x00000000#32) reducesTo_S4x8192x8x128_S4x8192x8_d3 h_S_)) (broadcastInDim S4x8192x8x1 ![] bcast_S_S4x8192x8x1 (constant S_ .f32 0x43000000#32))) (broadcastInDim S4x8192x8x1 ![] bcast_S_S4x8192x8x1 (constant S_ .f32 0x3727C5AC#32)))))) (broadcastInDim S4x8192x8x128 ![0, 1, 2, 3] bcast_S1x1x1x128_S4x8192x8x128_0_1_2_3 (broadcastInDim S1x1x1x128 ![3] bcast_S128_S1x1x1x128_3 (shapeCast _ g shapeCasts_S128x1_S128)))) (broadcastInDim S4x8192x8x128 ![] bcast_S_S4x8192x8x128 (constant S_ .f32 0x3F24FD5C#32))) shapeCasts_S4x8192x8x128_S4x8192x1024) bitsLt_bf16_f32

/-- The result of the reference is these stages one after another. -/
theorem res_eq (m : (ℓ : Loc nD τ sig) → Buf (Elt Ideal) ℓ) (c : Dev nD) :
    res_out0 m c = nh (oh (m ((c.tc : Thread nD τ).loc main_arg1)) (ah (wh (sh (qh (m ((c.tc : Thread nD τ).loc main_arg0))) (kh (m ((c.tc : Thread nD τ).loc main_arg0))))) (lh (m ((c.tc : Thread nD τ).loc main_arg2))))) (m ((c.tc : Thread nD τ).loc main_arg3)) := by
  unfold res_out0 res_main_v70
  rfl

/-! ## The stages at an index -/

/-- A maximum over the last axis, at an index. -/
theorem rowmax {a b c d n : ℕ} (s : FVec Ideal ⟨5, ![a, b, c, d, n]⟩ .f32) (z : FVec Ideal S_ .f32)
    (hr : (⟨5, ![a, b, c, d, n]⟩ : Shape).ReducesTo [4] ⟨4, ![a, b, c, d]⟩) (hu : 0 < S_.numel) (i : Fin a) (j : Fin b) (k : Fin c) (l : Fin d) :
    (Host.reduce (FloatOps.maximumf (F := Ideal) (φ := .f32)) s z hr hu (ix4 i j k l) : EReal)
      = (Finset.univ : Finset (Fin n)).fold max (z ix0 : EReal) fun x => s (ix5 i j k l x) := by
  pointwise
  rw [show Shape.Idx.first hu = ix0 from funext fun a => a.elim0]

/-- A query's entry, scaled. -/
theorem qh_at (p : FVec Ideal S4x8192x3072 .bf16) (b : Fin 4) (i : Fin 8192) (h : Fin 8) (x : Fin 2) (d : Fin 64) :
    (qh p (ix5 b i h x d) : EReal) = p (ix3 b i ⟨h.val * 128 + x.val * 64 + d.val, by omega⟩) * ((1 / 8 : ℝ) : EReal) := by
  rw [← Cert.Consts.ofBits_eighth]
  unfold qh
  pointwise

/-- A key's entry. -/
theorem kh_at (p : FVec Ideal S4x8192x3072 .bf16) (b : Fin 4) (i : Fin 8192) (h : Fin 8) (x : Fin 2) (d : Fin 64) :
    (kh p (ix5 b i h x d) : EReal) = p (ix3 b i ⟨1024 + (h.val * 128 + x.val * 64 + d.val), by omega⟩) := by
  unfold kh
  pointwise

/-- Words of naturals below `2 ^ 31` compare as the naturals do. -/
theorem sle_at (j i : Fin 8192) : IntOp.cmpi .sle (BitVec.ofNat 32 j.val) (BitVec.ofNat 32 i.val) = if j.val < i.val + 1 then 1#1 else 0#1 := by
  have e : ∀ x : Fin 8192, (BitVec.ofNat 32 x.val).toInt = x.val := by
    intro x
    have := x.isLt
    simp only [BitVec.toInt_eq_toNat_cond, BitVec.toNat_ofNat]
    omega
  rcases BitVec.eq_zero_or_eq_one (IntOp.cmpi .sle (BitVec.ofNat 32 j.val) (BitVec.ofNat 32 i.val)) with h | h
  · rw [h, if_neg]
    intro hji
    have := IntOp.cmpi_sle.2 (show (BitVec.ofNat 32 j.val).toInt ≤ (BitVec.ofNat 32 i.val).toInt by rw [e, e]; omega)
    rw [h] at this
    exact absurd this (by decide)
  · rw [h, if_pos]
    have := IntOp.cmpi_sle.1 h
    rw [e, e] at this
    omega

/-- A score: a product of rows up to the diagonal, `-∞` after it. -/
theorem sh_at (q k : FVec Ideal S4x8192x8x2x64 .f32) (b : Fin 4) (h : Fin 8) (x : Fin 2) (i j : Fin 8192) :
    (sh q k (ix5 b h x i j) : EReal) = if j.val < i.val + 1 then ∑ d, q (ix5 b i h x d) * k (ix5 b j h x d) else ⊥ := by
  unfold sh
  pointwise
  rw [sle_at]
  split
  · rfl
  · exact Cert.Consts.ofBits_negInf

/-- A row's largest score. -/
theorem mh_at (s : FVec Ideal S4x8x2x8192x8192 .f32) (b : Fin 4) (h : Fin 8) (x : Fin 2) (i : Fin 8192) :
    (mh s (ix4 b h x i) : EReal) = (Finset.univ : Finset (Fin 8192)).fold max ⊥ fun j => s (ix5 b h x i j) := by
  rw [← Cert.Consts.ofBits_negInf]
  exact rowmax s _ _ _ b h x i

/-- An exponential. -/
theorem eh_at (s : FVec Ideal S4x8x2x8192x8192 .f32) (m : FVec Ideal S4x8x2x8192 .f32) (b : Fin 4) (h : Fin 8) (x : Fin 2) (i j : Fin 8192) :
    (eh s m (ix5 b h x i j) : EReal) = Ideal.exp (s (ix5 b h x i j) - m (ix4 b h x i)) := by
  unfold eh
  pointwise
  rw [Cert.Consts.ofBits_negInf, max_eq_right bot_le]

/-- A weight. -/
theorem ph_at (s : FVec Ideal S4x8x2x8192x8192 .f32) (b : Fin 4) (h : Fin 8) (x : Fin 2) (i j : Fin 8192) :
    (ph s (ix5 b h x i j) : EReal) = Ideal.div (s (ix5 b h x i j)) (∑ j, s (ix5 b h x i j)) := by
  unfold ph
  pointwise

/-- The mixing weight. -/
theorem lh_at (l : FVec Ideal S4x64 .f32) : (lh l ix0 : EReal) = lamE (fun a d => l (ix2 a d)) := by
  unfold lh lamE
  pointwise

/-- A difference of weights. -/
theorem ah_at (w : FVec Ideal S4x8x2x8192x8192 .f32) (l : FVec Ideal S_ .f32) (b : Fin 4) (h : Fin 8) (i j : Fin 8192) :
    (ah w l (ix4 b h i j) : EReal) = w (ix5 b h 0 i j) - l ix0 * w (ix5 b h 1 i j) := by
  unfold ah
  pointwise

/-- A mixed value. -/
theorem oh_at (v : FVec Ideal S4x1024x8192 .bf16) (a : FVec Ideal S4x8x8192x8192 .f32) (b : Fin 4) (h : Fin 8) (i : Fin 8192) (e : Fin 128) :
    (oh v a (ix4 b i h e) : EReal) = ∑ j, v (ix3 b ⟨h.val * 128 + e.val, by omega⟩ j) * a (ix4 b h i j) := by
  unfold oh
  pointwise

/-- A normed entry, at a lane of the result, -/
theorem nh_lane (o : FVec Ideal S4x8192x8x128 .f32) (g : FVec Ideal S128x1 .f32) (b : Fin 4) (i : Fin 8192) (l : Fin 1024) :
    (nh o g (ix3 b i l) : EReal) = normE (fun e => o (ix4 b i ⟨l.val / 128, by omega⟩ e)) (fun e => g (ix2 e 0)) ⟨l.val % 128, by omega⟩ := by
  unfold nh normE
  pointwise

/-- and at a row of a head. -/
theorem nh_at (o : FVec Ideal S4x8192x8x128 .f32) (g : FVec Ideal S128x1 .f32) (b : Fin 4) (i : Fin 8192) (h : Fin 8) (e : Fin 128) :
    (nh o g (ix3 b i ⟨h.val * 128 + e.val, by omega⟩) : EReal) = normE (fun e => o (ix4 b i h e)) (fun e => g (ix2 e 0)) e := by
  rw [nh_lane]
  have hh : (⟨(h.val * 128 + e.val) / 128, by omega⟩ : Fin 8) = h := Fin.ext (by dsimp only; omega)
  have he : (⟨(h.val * 128 + e.val) % 128, by omega⟩ : Fin 128) = e := Fin.ext (by dsimp only; omega)
  simp only [hh, he]

/-! ## The rows -/

/-- The exponentials of a row of scores, none of them `∞`, that ends at `c`. -/
theorem exp_row {c : ℕ} (t : ℕ → EReal) (ht : ∀ j ∈ Finset.range c, t j ≠ ⊤) (M : ℝ) (j : ℕ) :
    Ideal.exp ((if j < c then t j else ⊥) - (M : EReal)) = ((if j < c then e1 (t j) * Real.exp (-M) else 0 : ℝ) : EReal) := by
  split
  · rename_i h
    have hj := ht j (Finset.mem_range.2 h)
    generalize t j = x at hj
    induction x using EReal.rec with
    | bot => rw [EReal.bot_sub, Ideal.exp_bot, e1_bot, zero_mul]; rfl
    | top => exact absurd rfl hj
    | coe x => rw [← EReal.coe_sub, Ideal.exp_coe, e1_coe, sub_eq_add_neg, Real.exp_add]
  · rw [EReal.bot_sub, Ideal.exp_bot]; rfl

/-- A sum over a row that ends at `c`. -/
theorem sum_row {n c : ℕ} (hc : c ≤ n) (f : ℕ → ℝ) : (∑ j : Fin n, if j.val < c then f j.val else 0) = ∑ k ∈ Finset.range c, f k := by
  rw [Fin.sum_univ_eq_sum_range (fun j => if j < c then f j else 0) n, ← Finset.sum_filter]
  congr 1
  ext j; simp only [Finset.mem_filter, Finset.mem_range]; omega

/-- A row of weights. -/
def wr (c : ℕ) (t : ℕ → EReal) (M : ℝ) (j : ℕ) : ℝ := (if j < c then e1 (t j) * Real.exp (-M) else 0) / ∑ k ∈ Finset.range c, e1 (t k) * Real.exp (-M)

/-- The values under a row of weights: the largest score does not matter. -/
theorem mean_row {n c : ℕ} (hc : c ≤ n) (t : ℕ → EReal) (w : ℕ → ℝ) (M : ℝ) :
    (∑ j : Fin n, w j.val * wr c t M j.val) = Qt (Finset.range c) t w := by
  have hM : Real.exp (-M) ≠ 0 := (Real.exp_pos _).ne'
  unfold wr Qt
  rw [← Finset.sum_mul]
  calc (∑ j : Fin n, w j.val * ((if j.val < c then e1 (t j.val) * Real.exp (-M) else 0) / ((∑ k ∈ Finset.range c, e1 (t k)) * Real.exp (-M))))
      = (∑ j : Fin n, if j.val < c then w j.val * e1 (t j.val) * Real.exp (-M) else 0) / ((∑ k ∈ Finset.range c, e1 (t k)) * Real.exp (-M)) := by
        rw [Finset.sum_div]
        refine Finset.sum_congr rfl fun j _ => ?_
        split <;> simp [mul_div_assoc, mul_assoc]
    _ = _ := by
        rw [sum_row hc (fun j => w j * e1 (t j) * Real.exp (-M)), ← Finset.sum_mul, mul_div_mul_right _ _ hM]

/-- The weights `w` of a row with the scores `t` below `c`: those of the softmax, or zero by zero where it has none. -/
def IsRow (c : ℕ) (t : ℕ → EReal) (w : Fin 8192 → EReal) : Prop :=
  (Ok (Finset.range c) t ∧ ∃ M : ℝ, ∀ j, w j = ((wr c t M j.val : ℝ) : EReal)) ∨ (¬ Ok (Finset.range c) t ∧ ∀ j, w j = ⊥)

/-- A row of the weights is such. -/
theorem wh_at (s : FVec Ideal S4x8x2x8192x8192 .f32) (b : Fin 4) (h : Fin 8) (x : Fin 2) (i : Fin 8192) (t : ℕ → EReal)
    (hs : ∀ j : Fin 8192, (s (ix5 b h x i j) : EReal) = if j.val < i.val + 1 then t j.val else ⊥) :
    IsRow (i.val + 1) t fun j => wh s (ix5 b h x i j) := by
  have hi := i.isLt
  have hT := fold_max_top 8192 0 (i.val + 1) (by omega) t (fun j => s (ix5 b h x i j)) (fun j => by rw [hs, Nat.zero_add])
  rw [← mh_at, show Finset.Ico 0 (0 + (i.val + 1)) = Finset.range (i.val + 1) by rw [Nat.zero_add, Finset.range_eq_Ico]] at hT
  by_cases hO : Ok (Finset.range (i.val + 1)) t
  · refine .inl ⟨hO, ?_⟩
    have h1 : (mh s (ix4 b h x i) : EReal) ≠ ⊤ := fun hm => by
      obtain ⟨k, hk, hkt⟩ := hT.1.1 hm
      exact hO.1 k hk hkt
    have h2 : (mh s (ix4 b h x i) : EReal) ≠ ⊥ := fun hm => by
      obtain ⟨k, hk, hkb⟩ := hO.2
      exact hkb (hT.2.1 hm k hk)
    obtain ⟨M, hM⟩ : ∃ M : ℝ, (mh s (ix4 b h x i) : EReal) = (M : EReal) := ⟨_, (EReal.coe_toReal h1 h2).symm⟩
    refine ⟨M, fun j => ?_⟩
    have he : ∀ j : Fin 8192, (eh s (mh s) (ix5 b h x i j) : EReal) = ((if j.val < i.val + 1 then e1 (t j.val) * Real.exp (-M) else 0 : ℝ) : EReal) := by
      intro j
      rw [eh_at, hM, hs, exp_row t hO.1]
    have hp : 0 < ∑ k ∈ Finset.range (i.val + 1), e1 (t k) * Real.exp (-M) := by
      rw [← Finset.sum_mul]; exact mul_pos hO.pos (Real.exp_pos _)
    show (wh s (ix5 b h x i j) : EReal) = _
    unfold wh wr
    rw [ph_at, he, Finset.sum_congr rfl (fun j _ => he j), ← coe_sum, sum_row (by omega) (fun j => e1 (t j) * Real.exp (-M)), Ideal.div_coe hp.ne', ← EReal.coe_mul, mul_one_div]
  · refine .inr ⟨hO, fun j => ?_⟩
    have he : ∀ j : Fin 8192, (eh s (mh s) (ix5 b h x i j) : EReal) = 0 := by
      intro j
      rw [eh_at]
      by_cases hm : (mh s (ix4 b h x i) : EReal) = ⊤
      · rw [hm, sub_eq_add_neg, EReal.neg_top, EReal.add_bot, Ideal.exp_bot]
      · have hb : (s (ix5 b h x i j) : EReal) = ⊥ := by
          rw [hs]
          split
          · rename_i hj
            by_contra hn
            exact hO ⟨fun k hk hkt => hm (hT.1.2 ⟨k, hk, hkt⟩), j.val, Finset.mem_range.2 hj, hn⟩
          · rfl
        rw [hb, EReal.bot_sub, Ideal.exp_bot]
    show (wh s (ix5 b h x i j) : EReal) = _
    unfold wh
    rw [ph_at, he, Finset.sum_congr rfl (fun j _ => he j), Finset.sum_const_zero, div_zero_zero]

/-- An extended real that is infinite or zero. -/
def Inf (x : EReal) : Prop := x = ⊤ ∨ x = ⊥ ∨ x = 0

/-- Such numbers add up to such a number. -/
theorem Inf.sum {ι : Type} (T : Finset ι) (f : ι → EReal) (h : ∀ k ∈ T, Inf (f k)) : Inf (∑ k ∈ T, f k) := by
  refine Finset.sum_induction f Inf (fun x y hx hy => ?_) (.inr (.inr rfl)) h
  unfold Inf at hx hy ⊢
  rcases hx with rfl | rfl | rfl
  · rcases hy with rfl | rfl | rfl <;> simp
  · rw [EReal.bot_add]; exact .inr (.inl rfl)
  · rw [zero_add]; exact hy

/-- A real times an infinite number is such. -/
theorem Inf.mul (x : ℝ) {z : EReal} (hz : z = ⊤ ∨ z = ⊥) : Inf ((x : EReal) * z) := by
  unfold Inf
  rcases lt_trichotomy x 0 with hx | rfl | hx
  · rcases hz with rfl | rfl
    · rw [EReal.coe_mul_top_of_neg hx]; exact .inr (.inl rfl)
    · rw [EReal.coe_mul_bot_of_neg hx]; exact .inl rfl
  · rw [EReal.coe_zero, zero_mul]; exact .inr (.inr rfl)
  · rcases hz with rfl | rfl
    · rw [EReal.coe_mul_top_of_pos hx]; exact .inl rfl
    · rw [EReal.coe_mul_bot_of_pos hx]; exact .inr (.inl rfl)

/-- The norm of a column of infinite numbers and zeros is zero. -/
theorem norm_zero (o g : Fin 128 → EReal) (h : ∀ e, Inf (o e)) (e : Fin 128) : normE o g e = 0 := by
  unfold normE
  by_cases h0 : o e = 0
  · rw [h0, zero_mul, zero_mul, zero_mul]
  · have hsq : ∀ e', 0 ≤ o e' * o e' := by
      intro e'
      rcases h e' with h | h | h <;> rw [h] <;> simp
    have ht : o e * o e = ⊤ := by
      rcases h e with h | h | h
      · rw [h]; simp
      · rw [h]; simp
      · exact absurd h h0
    have hs : (∑ e', o e' * o e') = ⊤ := by
      rw [← top_le_iff, ← ht]
      exact Finset.single_le_sum (f := fun e' => o e' * o e') (fun e' _ => hsq e') (Finset.mem_univ e)
    obtain ⟨z, hz⟩ := Cert.Consts.ofBits_eps
    have hr : Ideal.rsqrt ⊤ = 0 := rfl
    rw [hs, hz, Cert.Consts.ofBits_128, Ideal.div_coe (by norm_num), EReal.top_mul_coe_of_pos (by norm_num), EReal.top_add_coe, hr, mul_zero, zero_mul, zero_mul]

/-- The norm of the quotients' difference is that of the values under the weights' difference: the columns are the same, or
    both hold nothing but infinite numbers and zeros. -/
theorem mix {c : ℕ} (hc : c ≤ 8192) (t0 t1 : ℕ → EReal) (w0 w1 : Fin 8192 → EReal) (h0 : IsRow c t0 w0) (h1 : IsRow c t1 w1) (r : ℝ)
    (u : Fin 128 → ℕ → ℝ) (g : Fin 128 → EReal) (e : Fin 128) :
    normE (fun e => ∑ j : Fin 8192, ((u e j.val : ℝ) : EReal) * (w0 j - (r : EReal) * w1 j)) g e
      = normE (fun e => QtE (Finset.range c) t0 (u e) - (r : EReal) * QtE (Finset.range c) t1 (u e)) g e := by
  have far : ∀ z : EReal, (z = ⊤ ∨ z = ⊥) → (∀ j, w0 j - (r : EReal) * w1 j = z) →
      (∀ e, QtE (Finset.range c) t0 (u e) - (r : EReal) * QtE (Finset.range c) t1 (u e) = z) →
      normE (fun e => ∑ j : Fin 8192, ((u e j.val : ℝ) : EReal) * (w0 j - (r : EReal) * w1 j)) g e
        = normE (fun e => QtE (Finset.range c) t0 (u e) - (r : EReal) * QtE (Finset.range c) t1 (u e)) g e := by
    intro z hz hw hq
    rw [norm_zero _ g (fun e => Inf.sum _ _ fun j _ => by rw [hw]; exact Inf.mul _ hz), norm_zero _ g (fun e => by
      rw [hq]; exact hz.elim .inl fun h => .inr (.inl h))]
  rcases h0 with ⟨o0, M0, h0⟩ | ⟨o0, h0⟩
  · have q0 : ∀ e, QtE (Finset.range c) t0 (u e) = ((Qt (Finset.range c) t0 (u e) : ℝ) : EReal) := fun e => if_pos o0
    rcases h1 with ⟨o1, M1, h1⟩ | ⟨o1, h1⟩
    · have q1 : ∀ e, QtE (Finset.range c) t1 (u e) = ((Qt (Finset.range c) t1 (u e) : ℝ) : EReal) := fun e => if_pos o1
      congr 1
      funext e
      rw [q0, q1, ← mean_row hc _ _ M0, ← mean_row hc _ _ M1, ← EReal.coe_mul, ← EReal.coe_sub, Finset.mul_sum, ← Finset.sum_sub_distrib, coe_sum]
      refine Finset.sum_congr rfl fun j _ => ?_
      rw [h0, h1, ← EReal.coe_mul, ← EReal.coe_sub, ← EReal.coe_mul, EReal.coe_eq_coe_iff]
      ring
    · have q1 : ∀ e, QtE (Finset.range c) t1 (u e) = ⊥ := fun e => if_neg o1
      rcases lt_trichotomy r 0 with hr | rfl | hr
      · refine far ⊥ (.inr rfl) (fun j => ?_) (fun e => ?_)
        · rw [h0, h1, EReal.coe_mul_bot_of_neg hr, sub_eq_add_neg, EReal.neg_top, EReal.add_bot]
        · rw [q0, q1, EReal.coe_mul_bot_of_neg hr, sub_eq_add_neg, EReal.neg_top, EReal.add_bot]
      · congr 1
        funext e
        rw [q0, EReal.coe_zero, zero_mul, sub_zero, ← mean_row hc _ _ M0, coe_sum]
        refine Finset.sum_congr rfl fun j _ => ?_
        rw [h0, zero_mul, sub_zero, ← EReal.coe_mul]
      · refine far ⊤ (.inl rfl) (fun j => ?_) (fun e => ?_)
        · rw [h0, h1, EReal.coe_mul_bot_of_pos hr, EReal.coe_sub_bot]
        · rw [q0, q1, EReal.coe_mul_bot_of_pos hr, EReal.coe_sub_bot]
  · exact far ⊥ (.inr rfl) (fun j => by rw [h0, EReal.bot_sub]) (fun e => by rw [show QtE (Finset.range c) t0 (u e) = ⊥ from if_neg o0, EReal.bot_sub])

/-- The weight of the second map is real for real parameters. -/
theorem lamE_real (l : Fin 4 → Fin 64 → ℝ) : ∃ r : ℝ, lamE (fun a d => ((l a d : ℝ) : EReal)) = (r : EReal) := by
  obtain ⟨z, hz⟩ := Cert.Consts.ofBits_lambda
  refine ⟨Real.exp (∑ d, l 0 d * l 1 d) - Real.exp (∑ d, l 2 d * l 3 d) + z, ?_⟩
  unfold lamE
  rw [hz]
  simp only [← EReal.coe_mul, ← coe_sum]
  rw [Ideal.exp_coe, Ideal.exp_coe, ← EReal.coe_sub, ← EReal.coe_add]

/-- The reference's result for real values and parameters, at a query `i` of batch `b` and row `e` of head `h`. -/
theorem ref_at (p : FVec Ideal S4x8192x3072 .bf16) (v : FVec Ideal S4x1024x8192 .bf16) (l : FVec Ideal S4x64 .f32) (g : FVec Ideal S128x1 .f32)
    (P : Fin 4 → ℕ → ℕ → EReal) (U : Fin 4 → ℕ → ℕ → ℝ) (lr : Fin 4 → Fin 64 → ℝ)
    (hp : ∀ (b : Fin 4) (i : Fin 8192) (d : Fin 3072), p (ix3 b i d) = P b i.val d.val)
    (hv : ∀ (b : Fin 4) (d : Fin 1024) (j : Fin 8192), v (ix3 b d j) = ((U b d.val j.val : ℝ) : EReal))
    (hl : ∀ (a : Fin 4) (d : Fin 64), l (ix2 a d) = ((lr a d : ℝ) : EReal)) (b : Fin 4) (i : Fin 8192) (h : Fin 8) (e : Fin 128) :
    (nh (oh v (ah (wh (sh (qh p) (kh p))) (lh l))) g (ix3 b i ⟨h.val * 128 + e.val, by omega⟩) : EReal)
      = normE (fun e => QtE (Finset.range (i.val + 1)) (tt (fun q d => P b q (128 * h.val + d)) (fun j d => P b j (1024 + 128 * h.val + d)) 0 i.val) (U b (128 * h.val + e.val))
          - lamE (fun a d => l (ix2 a d)) * QtE (Finset.range (i.val + 1)) (tt (fun q d => P b q (128 * h.val + d)) (fun j d => P b j (1024 + 128 * h.val + d)) 1 i.val) (U b (128 * h.val + e.val)))
        (fun e => g (ix2 e 0)) e := by
  have hs : ∀ (x : Fin 2) (j : Fin 8192), (sh (qh p) (kh p) (ix5 b h x i j) : EReal)
      = if j.val < i.val + 1 then tt (fun q d => P b q (128 * h.val + d)) (fun j d => P b j (1024 + 128 * h.val + d)) x.val i.val j.val else ⊥ := by
    intro x j
    rw [sh_at]
    congr 1
    unfold tt
    rw [← Fin.sum_univ_eq_sum_range (fun d => P b j.val (1024 + 128 * h.val + (64 * x.val + d)) * (P b i.val (128 * h.val + (64 * x.val + d)) * ((1 / 8 : ℝ) : EReal))) 64]
    refine Finset.sum_congr rfl fun d _ => ?_
    rw [qh_at, kh_at, hp, hp, mul_comm]
    congr 3 <;> (dsimp only; omega)
  obtain ⟨r, hr⟩ := lamE_real lr
  have hi := i.isLt
  have hlam : lamE (fun a d => l (ix2 a d)) = (r : EReal) := by rw [← hr]; simp only [hl]
  rw [nh_at, hlam]
  refine Eq.trans ?_ (mix (by omega) _ _ _ _ (wh_at _ b h 0 i _ (hs 0)) (wh_at _ b h 1 i _ (hs 1)) r (fun e => U b (128 * h.val + e.val)) (fun e => g (ix2 e 0)) e)
  congr 1
  funext e
  rw [oh_at]
  refine Finset.sum_congr rfl fun j _ => ?_
  rw [ah_at, lh_at, hlam, hv]
  dsimp only
  rw [show h.val * 128 + e.val = 128 * h.val + e.val by omega]

end Cert.Proof.ReferenceIdeal

end
-- ==== Proof.Value.lean ====
module

public import proofs.«01_k».proof.Proof.Point
public import proofs.«01_k».proof.Proof.RefValue
public import proofs.«01_k».proof.Proof.Launch
public import Idealize.ShloMosaic.Lib.Pipeline.ValueKit

@[expose] public section

set_option maxRecDepth 65536

noncomputable section

/-! The kernel's result array: its blocks put together are the reference's result. -/

namespace Cert.Proof.KernelIdeal

open Cert.KernelIdeal Cert.KernelIdeal.Gen Cert.Proof.Attn
open Cert.Proof.ReferenceIdeal (nh oh ah wh sh qh kh lh ref_at)
open Idealize.ShloMosaic Idealize.ShloMosaic.TcCoe Idealize.SL.Sem
open Idealize.ShloMosaic.Pipeline (Dat RDat Cfg Window)

/-! ## Where a point's blocks lie -/

/-- The batch, the head and the block of queries of a point. -/
def bb (t : Fin cfg0.N) : Fin 4 := grid0.coords t 0
def hh (t : Fin cfg0.N) : Fin 8 := grid0.coords t 1
def ii (t : Fin cfg0.N) : Fin 4 := grid0.coords t 2

/-- The block of the queries at a point, -/
theorem index_0 (t : Fin cfg0.N) : win0_0.index t = ![(bb t).val, (ii t).val, (hh t).val] :=
  (by decide +kernel : ∀ t : Fin grid0.N, win0_0.index t = ![(grid0.coords t 0).val, (grid0.coords t 2).val, (grid0.coords t 1).val]) t
/-- of the keys, -/
theorem index_1 (t : Fin cfg0.N) : win0_1.index t = ![(bb t).val, 0, 8 + (hh t).val] :=
  (by decide +kernel : ∀ t : Fin grid0.N, win0_1.index t = ![(grid0.coords t 0).val, 0, 8 + (grid0.coords t 1).val]) t
/-- of the values, -/
theorem index_2 (t : Fin cfg0.N) : win0_2.index t = ![(bb t).val, (hh t).val, 0] :=
  (by decide +kernel : ∀ t : Fin grid0.N, win0_2.index t = ![(grid0.coords t 0).val, (grid0.coords t 1).val, 0]) t
/-- of the second map's parameters, -/
theorem index_3 (t : Fin cfg0.N) : win0_3.index t = ![0, 0] := rfl
/-- of the norm's scale, -/
theorem index_4 (t : Fin cfg0.N) : win0_4.index t = ![0, 0] := rfl
/-- and of the result. -/
theorem index_5 (t : Fin cfg0.N) : win0_5.index t = ![(bb t).val, (ii t).val, (hh t).val] :=
  (by decide +kernel : ∀ t : Fin grid0.N, win0_5.index t = ![(grid0.coords t 0).val, (grid0.coords t 2).val, (grid0.coords t 1).val]) t

/-- The result's blocks cover it. -/
theorem covers : (cfg0.win 5).Covers := by decide +kernel

section
variable (m : (ℓ : Loc nD τ sig) → Buf (Elt Ideal) ℓ) (c : Dev nD) (t : Fin cfg0.N)

/-- What a point reads of the queries, -/
theorem iblk_0 (q : Fin 2048) (d : Fin 128) : iblk m c 0 t (ix3 (0 : Fin 1) q d)
    = m ((c.tc : Thread nD τ).loc main_arg0) (ix3 (bb t) (⟨2048 * (ii t).val + q.val, by omega⟩ : Fin 8192) (⟨128 * (hh t).val + d.val, by omega⟩ : Fin 3072)) := by
  blk_simp [iblk]
  refine congrArg (V m c main_arg0) ?_
  blk_ext [index_0]

/-- of the keys, -/
theorem iblk_1 (j : Fin 8192) (d : Fin 128) : iblk m c 1 t (ix3 (0 : Fin 1) j d)
    = m ((c.tc : Thread nD τ).loc main_arg0) (ix3 (bb t) j (⟨1024 + 128 * (hh t).val + d.val, by omega⟩ : Fin 3072)) := by
  blk_simp [iblk]
  refine congrArg (V m c main_arg0) ?_
  blk_ext [index_1]

/-- of the values, -/
theorem iblk_2 (e : Fin 128) (j : Fin 8192) : iblk m c 2 t (ix3 (0 : Fin 1) e j)
    = m ((c.tc : Thread nD τ).loc main_arg1) (ix3 (bb t) (⟨128 * (hh t).val + e.val, by omega⟩ : Fin 1024) j) := by
  blk_simp [iblk]
  refine congrArg (V m c main_arg1) ?_
  blk_ext [index_2]

/-- of the second map's parameters -/
theorem iblk_3 (a : Fin 4) (d : Fin 64) : iblk m c 3 t (ix2 a d) = m ((c.tc : Thread nD τ).loc main_arg2) (ix2 a d) := by
  blk_simp [iblk]
  refine congrArg (V m c main_arg2) ?_
  blk_ext [index_3]

/-- and of the norm's scale. -/
theorem iblk_4 (e : Fin 128) : iblk m c 4 t (ix2 e (0 : Fin 1)) = m ((c.tc : Thread nD τ).loc main_arg3) (ix2 e (0 : Fin 1)) := by
  blk_simp [iblk]
  refine congrArg (V m c main_arg3) ?_
  blk_ext [index_4]

/-! ## The result -/

/-- The reference's result as a term of the four arrays. -/
def G (p : FVec Ideal S4x8192x3072 .bf16) (v : FVec Ideal S4x1024x8192 .bf16) (l : FVec Ideal S4x64 .f32) (g : FVec Ideal S128x1 .f32) : FVec Ideal S4x8192x1024 .bf16 :=
  nh (oh v (ah (wh (sh (qh p) (kh p))) (lh l))) g

variable (P : Fin 4 → ℕ → ℕ → EReal) (U : Fin 4 → ℕ → ℕ → ℝ) (lr : Fin 4 → Fin 64 → ℝ)
  (hp : ∀ (b : Fin 4) (i : Fin 8192) (d : Fin 3072), m ((c.tc : Thread nD τ).loc main_arg0) (ix3 b i d) = P b i.val d.val)
  (hv : ∀ (b : Fin 4) (d : Fin 1024) (j : Fin 8192), m ((c.tc : Thread nD τ).loc main_arg1) (ix3 b d j) = ((U b d.val j.val : ℝ) : EReal))
  (hl : ∀ (a : Fin 4) (d : Fin 64), m ((c.tc : Thread nD τ).loc main_arg2) (ix2 a d) = ((lr a d : ℝ) : EReal))
include hp hv hl

/-- A point's block is the reference's result there. -/
theorem block_at (X : FVec Ideal S1x2048x128 .bf16)
    (hO : Out (F := Ideal) (grid0.coords t) (iblk m c 0 t) (iblk m c 1 t) (iblk m c 2 t) (iblk m c 3 t) (iblk m c 4 t) X) (q : Fin 2048) (e : Fin 128) :
    (X (ix3 (0 : Fin 1) q e) : EReal) = G (m ((c.tc : Thread nD τ).loc main_arg0)) (m ((c.tc : Thread nD τ).loc main_arg1)) (m ((c.tc : Thread nD τ).loc main_arg2)) (m ((c.tc : Thread nD τ).loc main_arg3))
      (ix3 (bb t) (⟨2048 * (ii t).val + q.val, by omega⟩ : Fin 8192) (⟨(hh t).val * 128 + e.val, by omega⟩ : Fin 1024)) := by
  refine (out_at (grid0.coords t) _ _ _ _ _ X hO (fun q d => P (bb t) (2048 * (ii t).val + q) (128 * (hh t).val + d))
    (fun j d => P (bb t) j (1024 + 128 * (hh t).val + d)) (fun e j => U (bb t) (128 * (hh t).val + e.val) j)
    (fun q d => (iblk_0 m c t q d).trans (hp ..)) (fun j d => (iblk_1 m c t j d).trans (hp ..)) (fun e j => (iblk_2 m c t e j).trans (hv ..)) q e).trans ?_
  refine Eq.trans ?_ (ref_at _ _ _ _ P U lr hp hv hl (bb t) ⟨2048 * (ii t).val + q.val, by omega⟩ (hh t) e).symm
  simp only [iblk_3, iblk_4]
  rfl

omit t in
/-- What a run leaves in the result array. -/
theorem result {r : PUnit × MemSt nD τ sig (Elt Ideal)} (h : RDat.FramePost cfg0 (fun c => (dat m c).toRRel fgt (Rl m c)) (V m) r) :
    r.2.mem ((c.tc : Thread nD τ).loc main_v0) = G (m ((c.tc : Thread nD τ).loc main_arg0)) (m ((c.tc : Thread nD τ).loc main_arg1)) (m ((c.tc : Thread nD τ).loc main_arg2)) (m ((c.tc : Thread nD τ).loc main_arg3)) := by
  obtain ⟨after, hL, hA⟩ := RDat.FramePost.exists_exact h c
  refine (hA 5).trans (Dat.arrAt_eq_of_covers _ 5 _ covers fun t hf y => ?_)
  have hO := Dat.toRRel_leaves (dat m c) rfl (hL 5 t hf)
  have hB := block_at m c t P U lr hp hv hl (after 5 t) hO (y 1) (y 2)
  have hy : y = ix3 (0 : Fin 1) (y 1) (y 2) := by blk_ext []
  blk_simp
  rw [hy]
  refine hB.trans (congrArg (G _ _ _ _) ?_)
  blk_ext [index_5]

end

end Cert.Proof.KernelIdeal

end
-- ==== Proof.Finite.lean ====
module

public import proofs.«01_k».proof.Defs
public import proofs.«01_k».proof.Proof.Gen.KernelIdeal
public import Idealize.ShloMosaic.Lib.Pointwise
public import Idealize.ShloMosaic.Lib.ReduceAll
public import Idealize.ShloMosaic.Lib.Decide

@[expose] public section

set_option maxRecDepth 65536

noncomputable section

/-! The precondition read back: the arrays it names hold reals. -/

namespace Cert.Pre_finite

open Idealize.ShloMosaic

/-- The side conditions of the precondition's operations. -/
instance facts : Facts where
  bitsLt_bf16_f32 := by decide
  h_S_ := by decide
  bcast_S_S4x1024x8192 := by decide
  reducesTo_S4x1024x8192_S_d0_1_2 := by decide
  bcast_S_S4x64 := by decide
  reducesTo_S4x64_S_d0_1 := by decide

/-- A number of absolute value below infinity is real. -/
theorem real_of_lt {x : EReal} (h : FloatOps.cmpf (F := Ideal) (φ := .f32) .olt (FloatOps.absf (F := Ideal) (φ := .f32) x) (Ideal.ofBits .f32 0x7F800000#32) = 1#1) :
    x = ((x.toReal : ℝ) : EReal) := by
  have ht : Ideal.ofBits .f32 0x7F800000#32 = ⊤ := by simp [Ideal.ofBits, Ideal.ieee]
  have hlt : max x (-x) < (⊤ : EReal) := by
    by_contra hn
    rw [ht] at h
    have h0 : Ideal.cmp .olt (max x (-x)) ⊤ = 0#1 := by simp [Ideal.cmp, hn]
    exact absurd (h.symm.trans h0) (by decide)
  rw [max_lt_iff] at hlt
  refine (EReal.coe_toReal hlt.1.ne fun hb => ?_).symm
  rw [hb] at hlt
  exact absurd hlt.2 (by simp)

/-- Where the precondition holds, the values and the parameters of the second map are reals. -/
theorem real_of_fn (p : FVec Ideal S4x8192x3072 .bf16) (v : FVec Ideal S4x1024x8192 .bf16) (l : FVec Ideal S4x64 .f32) (g : FVec Ideal S128x1 .f32)
    (h : fn (F := Ideal) p v l g = fun _ => 1#1) :
    (∀ i, (v i : EReal) = ((v i : EReal).toReal : EReal)) ∧ (∀ i, (l i : EReal) = ((l i : EReal).toReal : EReal)) := by
  have h0 := congrFun h ix0
  dsimp only [fn] at h0
  obtain ⟨hv, hl⟩ := IntOp.andi_eq_one.1 h0
  haveI : Subsingleton S_.Idx := ⟨fun a b => funext fun i => i.elim0⟩
  exact ⟨fun i => real_of_lt (Host.reduce_andi_all _ _ _ _ _ hv i), fun i => real_of_lt (Host.reduce_andi_all _ _ _ _ _ hl i)⟩

end Cert.Pre_finite

end
-- ==== Proof.Named.lean ====
module

public import proofs.«01_k».proof.Defs
public import Idealize.ShloMosaic.Lib.Pointwise
public import Idealize.ShloMosaic.Lib.ReduceAll
public import Idealize.ShloMosaic.Lib.Decide
public import Idealize.ShloMosaic.Lib.StableHlo.Predicate

@[expose] public section

set_option maxRecDepth 65536

noncomputable section

/-! The experts' precondition read back: every tile names one of the 32 experts. -/

namespace Cert.Pre_experts_named

open Idealize.ShloMosaic

/-- The side conditions of the precondition's operations. -/
instance facts : Facts where
  bcast_S_S96 := by decide
  reducesTo_S96_S_d0 := by decide
  h_S_ := by decide

/-- A word between 0 and 32 as a signed number is below 32 as a natural one. -/
theorem lt_of_signed {x : BitVec 32} (h : IntOp.andi (IntOp.cmpi .sge x 0#32) (IntOp.cmpi .slt x 32#32) = 1#1) : x.toNat < 32 := by
  obtain ⟨h0, h1⟩ := IntOp.andi_eq_one.1 h
  have g0 : 0 ≤ x.toInt := by
    by_contra hn
    simp [IntOp.cmpi, BitVec.sle, hn] at h0
  have g1 : x.toInt < 32 := by
    by_contra hn
    simp [IntOp.cmpi, BitVec.slt, hn] at h1
  have := x.isLt
  rw [BitVec.toInt_eq_toNat_cond] at g0 g1
  split at g0 <;> split at g1 <;> omega

/-- Where the precondition holds, every tile's expert is below 32. -/
theorem lt_of_fn {F : FTy → Type} [FloatOps F] (xs : FVec F S2x196608x256 .bf16) (te : IVec S96 32) (nu : IVec S1 32) (wg : FVec F S2x32x1024x512 .f32)
    (wd : FVec F S2x32x256x1024 .f32) (h : fn (F := F) xs te nu wg wd = fun _ => 1#1) (i : S96.Idx) : (te i).toNat < 32 := by
  have h0 := congrFun h ix0
  dsimp only [fn] at h0
  haveI : Subsingleton S_.Idx := ⟨fun a b => funext fun i => i.elim0⟩
  exact lt_of_signed (Host.reduce_andi_all _ _ _ _ _ h0 i)

end Cert.Pre_experts_named

end
-- ==== Proof.ExpertsFrame.lean ====
module

public import proofs.«01_k».proof.Proof.Named
public import proofs.«01_k».proof.Proof.Gen.Experts
public import proofs.«01_k».proof.Proof.Gen.Experts.Launch
public import proofs.«01_k».proof.Proof.Gen.Experts.Flash.Runs
public import Idealize.ShloMosaic.Lib.Pipeline.DatRel
public import Idealize.ShloMosaic.Lib.Pipeline.ArrRel
public import Idealize.ShloMosaic.Lib.Pipeline.TableIdle

@[expose] public section

set_option maxRecDepth 65536

noncomputable section

/-! The experts' kernel on words: it runs from any memory whose tiles name experts, and leaves its arguments alone. -/

namespace Cert.Proof.Experts

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

local notation "𝕄" => MT nD τ sig Unit (Elt Bits) ℕ (UR sig nD τ) ℕ

/-! ## The tables -/

/-- The tables as launched. -/
def tabs (T0 : S96.Idx → BitVec 32) (T1 : S1.Idx → BitVec 32) : pre0.Contents (Elt Bits) := fun
  | ⟨0, _⟩ => T0
  | ⟨1, _⟩ => T1
  | ⟨_ + 2, h⟩ => absurd h (by simp)

/-- Tables that name experts are in range. -/
theorem tabs_ok (T0 : S96.Idx → BitVec 32) (T1 : S1.Idx → BitVec 32) (h : ∀ i, (T0 i).toNat < 32) : ok0 (F := Bits) (tabs T0 T1) := by
  have key : ∀ i : S96.Idx, ∀ a : Fin 4, ((![0, (T0 i).toNat, 0, 0] : Fin 4 → ℕ) a + 1) * S1x1x1024x512.size a ≤ S2x32x1024x512.size a := fun i a => by
    have := h i
    fin_cases a <;> simp <;> omega
  have key' : ∀ i : S96.Idx, ∀ a : Fin 4, ((![0, (T0 i).toNat, 0, 0] : Fin 4 → ℕ) a + 1) * S1x1x256x1024.size a ≤ S2x32x256x1024.size a := fun i a => by
    have := h i
    fin_cases a <;> simp <;> omega
  exact ⟨fun i => ⟨key _, .inl rfl⟩, fun i => ⟨key' _, .inl rfl⟩⟩

section
variable (T0 : S96.Idx → BitVec 32) (T1 : S1.Idx → BitVec 32) (hT : ∀ i, (T0 i).toNat < 32)

/-- The tables with their evidence. -/
abbrev adm : (p : Fin 1) → (pcfgs (F := Bits) p).Adm := fun _ => ⟨tabs T0 T1, tabs_ok T0 T1 hT⟩

/-- The pipeline at them. -/
abbrev cfgT : Cfg sig Λ₀ := cfg0 (F := Bits) (adm T0 T1 hT 0)

/-! ## The body at a point -/

/-- The body, run on whole buffers, gives them back: the inputs and the tables as they were. -/
theorem body (c : Dev nD) (i : grid0.Coords) (arg3 : Memref sig .tc .vmem S2x2048x256 .bf16) (harg3 : arg3.IsWhole) (arg4 : Memref sig .tc .vmem S1x1x1024x512 .f32)
    (harg4 : arg4.IsWhole) (arg5 : Memref sig .tc .vmem S1x1x256x1024 .f32) (harg5 : arg5.IsWhole) (arg6 : Memref sig .tc .vmem S2x2048x256 .bf16) (harg6 : arg6.IsWhole)
    (x0 : S2x2048x256.Idx → Elt Bits .bf16) (x1 : S1x1x1024x512.Idx → Elt Bits .f32) (x2 : S1x1x256x1024.Idx → Elt Bits .f32) (y : S2x2048x256.Idx → Elt Bits .bf16)
    (s0 : Buf (Elt Bits) ((c : Thread nD τ).loc cc0_scratch0)) (s1 : Buf (Elt Bits) ((c : Thread nD τ).loc cc0_scratch1)) (K : PUnit → sProp 𝕄) :
    iprop(owns (c : Thread nD τ) arg3 fullShare x0 ∗ owns (c : Thread nD τ) arg4 fullShare x1 ∗ owns (c : Thread nD τ) arg5 fullShare x2
      ∗ owns (c : Thread nD τ) arg6 fullShare y
      ∗ (tbM0_0.view.loc (c : Thread nD τ) ↦{fullShare.right} T0) ∗ (tbM0_1.view.loc (c : Thread nD τ) ↦{fullShare.right} T1)
      ∗ (scM0_0.view.loc (c : Thread nD τ) ↦{fullShare} s0) ∗ (scM0_1.view.loc (c : Thread nD τ) ↦{fullShare} s1)
      ∗ (iprop(owns (c : Thread nD τ) arg3 fullShare x0 ∗ owns (c : Thread nD τ) arg4 fullShare x1 ∗ owns (c : Thread nD τ) arg5 fullShare x2
        ∗ (∃ y, owns (c : Thread nD τ) arg6 fullShare y)
        ∗ (tbM0_0.view.loc (c : Thread nD τ) ↦{fullShare.right} T0) ∗ (tbM0_1.view.loc (c : Thread nD τ) ↦{fullShare.right} T1)
        ∗ (∃ f : Buf (Elt Bits) ((c : Thread nD τ).loc cc0_scratch0), scM0_0.view.loc (c : Thread nD τ) ↦{fullShare} f)
        ∗ (∃ f : Buf (Elt Bits) ((c : Thread nD τ).loc cc0_scratch1), scM0_1.view.loc (c : Thread nD τ) ↦{fullShare} f)) -∗ K ⟨⟩))
      ⊢ wp Idealize.ShloMosaic.frame (wpE (defs₀ (F := Bits)) Variants.none (c : Thread nD τ) none) Set.univ
        (cc0_moe_experts i tbM0_0 (Memref.isWhole_whole _) tbM0_1 (Memref.isWhole_whole _) arg3 harg3 arg4 harg4 arg5 harg5 arg6 harg6
          scM0_0 (Memref.isWhole_whole _) scM0_1 (Memref.isWhole_whole _)) K := by
  by_cases h1 : k0_cond1 i (View.readAt (Elt Bits) (tbM0_1).view (Rect.unit (s := S1) ![0] S1.size inb_S1_S1_0).toLoadRect T1 (Shape.Idx.first (numel1_S1.symm ▸ Nat.one_pos))) = 1#1
  · by_cases hc : (Scalar.cmpi .ne (Scalar.extui (Scalar.ori (Scalar.cmpi .eq (BitVec.ofNat 32 (i 0).val) 0#32) (Scalar.cmpi .ne
        (View.readAt (Elt Bits) (tbM0_0).view (Rect.unit (s := S96) (k0_off2 i) S1.size (k0_off2_inb i)).toLoadRect T0 (Shape.Idx.first (numel1_S1.symm ▸ Nat.one_pos)))
        (View.readAt (Elt Bits) (tbM0_0).view (Rect.unit (s := S96) (k0_off3 i) S1.size (k0_off3_inb i)).toLoadRect T0 (Shape.Idx.first (numel1_S1.symm ▸ Nat.one_pos)))))) 0#32) = 1#1
    · iintro ⟨H0, H1, H2, H3, HT0, HT1, HS0, HS1, Hk⟩
      iapply (kernelRun0_A c i arg3 harg3 arg4 harg4 arg5 harg5 arg6 harg6 T0 T1 x0 x1 x2 h1 hc).2.2.2 s0 s1 K
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f, H3⟩, HS0, HS1⟩
      iapply Hk
      isplitl [H0]; · iapply owns_of_rep; iexact H0
      isplitl [H1]; · iapply owns_of_rep; iexact H1
      isplitl [H2]; · iapply owns_of_rep; iexact H2
      isplitl [H3]
      · iexists _
        iapply owns_of_rep
        iapply pointsTo_rep_entails
        iexact H3
      isplitl [HT0]; · iexact HT0
      isplitl [HT1]; · iexact HT1
      isplitl [HS0]; · iexists _; iexact HS0
      iexists _; iexact HS1
    · iintro ⟨H0, H1, H2, H3, HT0, HT1, HS0, HS1, Hk⟩
      iapply (kernelRun0_B c i arg3 harg3 arg4 harg4 arg5 harg5 arg6 harg6 T0 T1 x0 x1 x2 s0 s1 h1 hc).2.2.2 K
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f, H3⟩, HS0, HS1⟩
      iapply Hk
      isplitl [H0]; · iapply owns_of_rep; iexact H0
      isplitl [H1]; · iapply owns_of_rep; iexact H1
      isplitl [H2]; · iapply owns_of_rep; iexact H2
      isplitl [H3]
      · iexists _
        iapply owns_of_rep
        iapply pointsTo_rep_entails
        iexact H3
      isplitl [HT0]; · iexact HT0
      isplitl [HT1]; · iexact HT1
      isplitl [HS0]; · iexists _; iexact HS0
      iexists _; iexact HS1
  · rw [cc0_moe_experts_eq_skeleton]; unfold cc0_moe_experts_skel
    iintro ⟨H0, H1, H2, H3, HT0, HT1, HS0, HS1, Hk⟩
    have hT1 : tbM0_1.IsWhole := Memref.isWhole_whole _
    sl_exec! (disch := first | (guard_target = ¬(k0_cond1 _ _ = _); exact h1))
    sl_step
    iapply Hk
    isplitl [H0]; · iexact H0
    isplitl [H1]; · iexact H1
    isplitl [H2]; · iexact H2
    isplitl [H3]; · iexists _; iexact H3
    isplitl [HT0]; · iexact HT0
    isplitl [HT1]; · iexact HT1
    isplitl [HS0]; · iexists _; iexact HS0
    iexists _; iexact HS1

/-! ## The launch -/

/-- What the tables' half of the pipeline's resources is: the two tables. -/
theorem tables_eq (c : Dev nD) (v : pre0.Contents (Elt Bits)) :
    (Pipeline.ΦT pre0 v c : sProp 𝕄) = iprop((tbM0_0.view.loc (c : Thread nD τ) ↦{fullShare.right} v 0) ∗ (tbM0_1.view.loc (c : Thread nD τ) ↦{fullShare.right} v 1)) := by
  unfold Pipeline.ΦT Pipeline.prefHeld
  rw [show (Finset.univ : Finset (Fin 2)) = insert 0 {1} from by decide, bigSep_insert (by decide), bigSep_singleton]
  rfl

variable (m : (ℓ : Loc nD τ sig) → Buf (Elt Bits) ℓ) (ρ : Dev nD → PrngReg)

/-- The contents the launch finds. -/
abbrev V (c : Dev nD) (b : Ref sig .tc) : Buf (Elt Bits) ((c : Thread nD τ).loc b) := m ((c : Thread nD τ).loc b)

/-- A window's block at a point. -/
def iblk (c : Dev nD) (w : Fin (cfgT T0 T1 hT).W) (t : Fin (cfgT T0 T1 hT).N) :
    (((cfgT T0 T1 hT).win w).xblock ((cfgT T0 T1 hT).grid.coords t)).Idx → Elt Bits ((cfgT T0 T1 hT).win w).elt :=
  (((cfgT T0 T1 hT).win w).blk t).view.read (Elt Bits) (V m c (Pipeline.arrRef spec0 w))

/-- The proof data: the input windows hold their blocks and keep them; -/
def dat (c : Dev nD) : Dat τ (Elt Bits) Unit ℕ (UR sig nD τ) ℕ (cfgT T0 T1 hT) c where
  A w := V m c (Pipeline.arrRef spec0 w)
  after w t := match w with
    | ⟨0, _⟩ => iblk T0 T1 hT m c 0 t
    | ⟨1, _⟩ => iblk T0 T1 hT m c 1 t
    | ⟨2, _⟩ => iblk T0 T1 hT m c 2 t
    | ⟨3, _⟩ => fun _ => Classical.choice inferInstance
  Φ _ := iprop(Pipeline.ΦA spec0 c ∗ Pipeline.ΦT pre0 (tabs T0 T1) c)
  q w := Pipeline.shareOf spec0 w
  owed _ := 0

/-- the output window may hold anything. -/
def fgt : Fin (cfgT T0 T1 hT).W → Bool := fun w => match w with
  | ⟨3, _⟩ => true
  | _ => false

/-- No relation is claimed of it. -/
def Rl : (w : Fin (cfgT T0 T1 hT).W) → Fin (cfgT T0 T1 hT).N → (((cfgT T0 T1 hT).win w).block.Idx → Elt Bits ((cfgT T0 T1 hT).win w).elt) → Prop :=
  fun _ _ _ => True

/-- The staging buffers at a point. -/
abbrev st0 (t : Fin (cfgT T0 T1 hT).N) := ((cfgT T0 T1 hT).win 0).stage ((cfgT T0 T1 hT).slots t 0)
abbrev st1 (t : Fin (cfgT T0 T1 hT).N) := ((cfgT T0 T1 hT).win 1).stage ((cfgT T0 T1 hT).slots t 1)
abbrev st2 (t : Fin (cfgT T0 T1 hT).N) := ((cfgT T0 T1 hT).win 2).stage ((cfgT T0 T1 hT).slots t 2)
abbrev st3 (t : Fin (cfgT T0 T1 hT).N) := ((cfgT T0 T1 hT).win 3).stage ((cfgT T0 T1 hT).slots t 3)

/-- The body at a point, on what the pipeline hands it. -/
abbrev bodyAt (t : Fin (cfgT T0 T1 hT).N) : Prog (TpuEff nD τ sig (Elt Bits) Λ₀ .tc) PUnit :=
  cc0_moe_experts (grid0.coords t) tbM0_0 (Memref.isWhole_whole _) tbM0_1 (Memref.isWhole_whole _)
    (st0 T0 T1 hT t) (hstage0_0 (((cfgT T0 T1 hT).slots t 0).cast nbuf0_0)) (st1 T0 T1 hT t) (hstage0_1 (((cfgT T0 T1 hT).slots t 1).cast nbuf0_1))
    (st2 T0 T1 hT t) (hstage0_2 (((cfgT T0 T1 hT).slots t 2).cast nbuf0_2)) (st3 T0 T1 hT t) (hstage0_3 (((cfgT T0 T1 hT).slots t 3).cast nbuf0_3))
    scM0_0 (Memref.isWhole_whole _) scM0_1 (Memref.isWhole_whole _)

/-- The body called at a point is the body at the blocks of that point. -/
theorem defs₀_row (t : Fin (cfgT T0 T1 hT).N) :
    defs₀ (F := Bits) .tc (cfgT T0 T1 hT).body ((cfgT T0 T1 hT).bodyArgs t ((cfgT T0 T1 hT).slots t)) = bodyAt T0 T1 hT t := by
  unfold defs₀; rw [Defs.onTc_tc]; rfl

/-- What the input windows hold before a point: their blocks. -/
theorem before_0 (c : Dev nD) (t : Fin (cfgT T0 T1 hT).N) (d) : (dat T0 T1 hT m c).before 0 t d = iblk T0 T1 hT m c 0 t :=
  ((dat T0 T1 hT m c).before_in_eq_fetched 0 rfl (fun _ => rfl) (fun _ _ _ => rfl) (fun t => by unfold Dat.blockOf; rfl) t d).trans
    (by unfold Dat.fetched Dat.blockOf iblk; rfl)
theorem before_1 (c : Dev nD) (t : Fin (cfgT T0 T1 hT).N) (d) : (dat T0 T1 hT m c).before 1 t d = iblk T0 T1 hT m c 1 t :=
  ((dat T0 T1 hT m c).before_in_eq_fetched 1 rfl (fun _ => rfl) (fun _ _ _ => rfl) (fun t => by unfold Dat.blockOf; rfl) t d).trans
    (by unfold Dat.fetched Dat.blockOf iblk; rfl)
theorem before_2 (c : Dev nD) (t : Fin (cfgT T0 T1 hT).N) (d) : (dat T0 T1 hT m c).before 2 t d = iblk T0 T1 hT m c 2 t :=
  ((dat T0 T1 hT m c).before_in_eq_fetched 2 rfl (fun _ => rfl) (fun _ _ _ => rfl) (fun t => by unfold Dat.blockOf; rfl) t d).trans
    (by unfold Dat.fetched Dat.blockOf iblk; rfl)

/-- The body meets its obligation at every point. -/
theorem obligation (c : Dev nD) : BodyObligationRel (dat T0 T1 hT m c) (defs₀ (F := Bits)) Variants.none () Set.univ (fgt T0 T1 hT) (Rl T0 T1 hT) := fun t => by
  rw [bigSep_W0, bigSep_W0, defs₀_row]
  have hP : iprop((Pipeline.ΦA spec0 c ∗ Pipeline.ΦT pre0 (tabs T0 T1) c : sProp 𝕄) ∗ (dat T0 T1 hT m c).owesAt () t.castSucc
      ∗ (∃ d, owns (c : Thread nD τ) (st0 T0 T1 hT t) fullShare ((dat T0 T1 hT m c).before 0 t d))
      ∗ (∃ d, owns (c : Thread nD τ) (st1 T0 T1 hT t) fullShare ((dat T0 T1 hT m c).before 1 t d))
      ∗ (∃ d, owns (c : Thread nD τ) (st2 T0 T1 hT t) fullShare ((dat T0 T1 hT m c).before 2 t d))
      ∗ (∃ Y, ⌜((dat T0 T1 hT m c).toRRel (fgt T0 T1 hT) (Rl T0 T1 hT)).Finds 3 t Y⌝ ∗ owns (c : Thread nD τ) (st3 T0 T1 hT t) fullShare Y)) ⊢
      wp (M := 𝕄) Idealize.ShloMosaic.frame (wpE (defs₀ (F := Bits)) Variants.none (c : Thread nD τ) none) Set.univ (bodyAt T0 T1 hT t) fun _ =>
      iprop((Pipeline.ΦA spec0 c ∗ Pipeline.ΦT pre0 (tabs T0 T1) c : sProp 𝕄) ∗ (dat T0 T1 hT m c).owesAt () t.castSucc
      ∗ owns (c : Thread nD τ) (st0 T0 T1 hT t) fullShare (iblk T0 T1 hT m c 0 t)
      ∗ owns (c : Thread nD τ) (st1 T0 T1 hT t) fullShare (iblk T0 T1 hT m c 1 t)
      ∗ owns (c : Thread nD τ) (st2 T0 T1 hT t) fullShare (iblk T0 T1 hT m c 2 t)
      ∗ ∃ X, ⌜Rl T0 T1 hT 3 t X⌝ ∗ owns (c : Thread nD τ) (st3 T0 T1 hT t) fullShare X) := by
    rw [tables_eq]
    unfold Pipeline.ΦA
    rw [scopedRest0_eq]
    iintro ⟨⟨⟨⟨⟨%f0, HS0⟩, ⟨%f1, HS1⟩⟩, Hρ⟩, ⟨HT0, HT1⟩⟩, Ho, ⟨%d0, H0⟩, ⟨%d1, H1⟩, ⟨%d2, H2⟩, ⟨%Y, -, H3⟩⟩
    rw [before_0, before_1, before_2]
    iapply body T0 T1 c (grid0.coords t) (st0 T0 T1 hT t) _ (st1 T0 T1 hT t) _ (st2 T0 T1 hT t) _ (st3 T0 T1 hT t) _
      (iblk T0 T1 hT m c 0 t) (iblk T0 T1 hT m c 1 t) (iblk T0 T1 hT m c 2 t) Y f0 f1
    isplitl [H0]; · iexact H0
    isplitl [H1]; · iexact H1
    isplitl [H2]; · iexact H2
    isplitl [H3]; · iexact H3
    isplitl [HT0]; · iexact HT0
    isplitl [HT1]; · iexact HT1
    isplitl [HS0]; · iexact HS0
    isplitl [HS1]; · iexact HS1
    iintro ⟨H0, H1, H2, ⟨%y, H3⟩, HT0, HT1, HS0, HS1⟩
    isplitl [HS0 HS1 Hρ HT0 HT1]
    · isplitl [HS0 HS1 Hρ]
      · isplitl [HS0 HS1]
        · isplitl [HS0]; · iexact HS0
          iexact HS1
        · iexact Hρ
      · isplitl [HT0]; · iexact HT0
        iexact HT1
    isplitl [Ho]; · iexact Ho
    isplitl [H0]; · iexact H0
    isplitl [H1]; · iexact H1
    isplitl [H2]; · iexact H2
    iexists y
    isplitr; · ipureintro; exact trivial
    iexact H3
  exact triple_restated hP rfl .rfl fun _ => .rfl

/-- The whole program runs, to what the proof data say, and leaves every semaphore at zero. -/
theorem run (h0 : ∀ c, V m c main_arg1 = T0) (h1 : ∀ c, V m c main_arg2 = T1) :
    θ_run (defs (F := Bits)) (onTc (τ := τ) (main (F := Bits))) ⟨m, fun _ => 0, ρ⟩
    (fun r => RDat.FramePost (cfgT T0 T1 hT) (fun c => (dat T0 T1 hT m c).toRRel (fgt T0 T1 hT) (Rl T0 T1 hT)) (V m) r ∧ r.2.sem = fun _ => 0) :=
  Pipeline.RDat.θ_run_frameP_track_shared pcfgs (adm T0 T1 hT) 0 launch0.to₀ defs₀ Variants.none (fun c => (dat T0 T1 hT m c).toRRel (fgt T0 T1 hT) (Rl T0 T1 hT)) m ρ main
    (fun c => (obligation T0 T1 hT m c).toRRel) (fun _ _ _ => rfl) (fun _ _ => rfl) (V m)
    (Pipeline.hmainP_region pcfgs 0 defs₀ Variants.none m main fun c => (main_chain c).trans rfl) (fun _ _ => rfl)
    (fun c k => match k with
      | ⟨0, _⟩ => h0 c
      | ⟨1, _⟩ => h1 c)
    (fun _ => .rfl) (fun c => by
      show iprop(Pipeline.ΦA spec0 c ∗ Pipeline.ΦT pre0 (tabs T0 T1) c) ⊢ Pipeline.ΦA spec0 c
      iintro ⟨H, -⟩; iexact H) _ (fun _ h => h)

/-- What a run to that says of the argument arrays: unchanged. -/
theorem args_of {r : PUnit × MemSt nD τ sig (Elt Bits)}
    (h : RDat.FramePost (cfgT T0 T1 hT) (fun c => (dat T0 T1 hT m c).toRRel (fgt T0 T1 hT) (Rl T0 T1 hT)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨h.arr_in c 0 rfl, (h c).2 main_arg1 (show main_arg1 ∈ Pipeline.restRefs sig spec0 from by decide),
    (h c).2 main_arg2 (show main_arg2 ∈ Pipeline.restRefs sig spec0 from by decide), h.arr_in c 1 rfl, h.arr_in c 2 rfl⟩

end

/-- The frame of the experts on words. -/
theorem frame (m : (ℓ : Loc nD τ sig) → Buf (Elt Bits) ℓ) (ρ : Dev nD → PrngReg)
    (hT : ∀ c : Dev nD, ∀ i : S96.Idx, BitVec.toNat (w := 32) (m ((c.tc : Thread nD τ).loc main_arg1) i) < 32) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun _ h => ⟨fun c => args_of _ _ (hT 0) m h.1 c, h.2⟩)
    (run (m (((0 : Dev nD).tc : Thread nD τ).loc main_arg1)) (m (((0 : Dev nD).tc : Thread nD τ).loc main_arg2)) (hT 0) m ρ
      (fun c => by rw [Subsingleton.elim c 0]) (fun c => by rw [Subsingleton.elim c 0]))

end Cert.Proof.Experts

end
-- ==== Proof.ExpertsBody.lean ====
module

public import proofs.«01_k».proof.Proof.Gen.ExpertsIdeal
public import proofs.«01_k».proof.Proof.Gen.ExpertsIdeal.Flash.Runs
public import Idealize.ShloMosaic.Lib.VecWindow
public import Idealize.ShloMosaic.Lib.Pipeline.ValueKit

@[expose] public section

set_option maxRecDepth 65536

noncomputable section

/-! What the experts' body leaves in its result block, as a value of the three blocks it reads. -/

namespace Cert.Proof.ExpertsIdeal

open Cert.ExpertsIdeal Cert.ExpertsIdeal.Gen
open Idealize.ShloMosaic Idealize.ShloMosaic.TcCoe

/-- A chunk's answer, from its two stretches of tokens, the first layer's weights and the second's. -/
def answer (r0 r1 : FVec Ideal S1x512x256 .bf16) (W : FVec Ideal S1024x512 .bf16) (D : FVec Ideal S256x1024 .bf16) : FVec Ideal S256x1024 .f32 :=
  k0_pay22 (k0_pay16 (k0_pay4 r0 r1) W) D

/-- The answer's first half as it is stored, -/
def half0 (y : FVec Ideal S256x1024 .f32) : FVec Ideal S1x512x256 .bf16 := k0_pay29 y
/-- and its second. -/
def half1 (y : FVec Ideal S256x1024 .f32) : FVec Ideal S1x512x256 .bf16 := k0_pay30 y

/-- The chunk of stretch `q` of a half `h` of a block of tokens. -/
def stretch (x : FVec Ideal S2x2048x256 .bf16) (h : Fin 2) (q : Fin 4) : FVec Ideal S1x512x256 .bf16 :=
  fun j => x (ix3 h (⟨512 * q.val + (j 1).val, by have : (j 1).val < 512 := (j 1).isLt; omega⟩ : Fin 2048) (⟨(j 2).val, (j 2).isLt⟩ : Fin 256))

/-- The eight stores, the last one first. -/
def stores (r : Fin 2 → Fin 4 → FVec Ideal S1x512x256 .bf16) (W : FVec Ideal S1024x512 .bf16) (D : FVec Ideal S256x1024 .bf16) :
    List (View.Piece (Elt Ideal) S2x2048x256 .bf16) :=
  [⟨Rect.unit ![1, 1536, 0] S1x512x256.size inb_S2x2048x256_S1x512x256_1_1536_0, half1 (answer (r 0 3) (r 1 3) W D)⟩,
    ⟨Rect.unit ![0, 1536, 0] S1x512x256.size inb_S2x2048x256_S1x512x256_0_1536_0, half0 (answer (r 0 3) (r 1 3) W D)⟩,
    ⟨Rect.unit ![1, 1024, 0] S1x512x256.size inb_S2x2048x256_S1x512x256_1_1024_0, half1 (answer (r 0 2) (r 1 2) W D)⟩,
    ⟨Rect.unit ![0, 1024, 0] S1x512x256.size inb_S2x2048x256_S1x512x256_0_1024_0, half0 (answer (r 0 2) (r 1 2) W D)⟩,
    ⟨Rect.unit ![1, 512, 0] S1x512x256.size inb_S2x2048x256_S1x512x256_1_512_0, half1 (answer (r 0 1) (r 1 1) W D)⟩,
    ⟨Rect.unit ![0, 512, 0] S1x512x256.size inb_S2x2048x256_S1x512x256_0_512_0, half0 (answer (r 0 1) (r 1 1) W D)⟩,
    ⟨Rect.unit ![1, 0, 0] S1x512x256.size inb_S2x2048x256_S1x512x256_1_0_0, half1 (answer (r 0 0) (r 1 0) W D)⟩,
    ⟨Rect.unit ![0, 0, 0] S1x512x256.size inb_S2x2048x256_S1x512x256_0_0_0, half0 (answer (r 0 0) (r 1 0) W D)⟩]

/-- A stretch lies in the block. -/
theorem stretch_in (h : Fin 2) (q : Fin 4) (a : Fin 3) : (![h.val, 512 * q.val, 0] : Fin 3 → ℕ) a + S1x512x256.size a ≤ S2x2048x256.size a := by
  have := h.isLt
  have := q.isLt
  match a with
  | ⟨0, _⟩ => show h.val + 1 ≤ 2; omega
  | ⟨1, _⟩ => show 512 * q.val + 512 ≤ 2048; omega
  | ⟨2, _⟩ => show 0 + 256 ≤ 256; omega

/-- The loads of the eight stretches. -/
def loads (arg3 : Memref sig .tc .vmem S2x2048x256 .bf16) (x : S2x2048x256.Idx → Elt Ideal .bf16) (h : Fin 2) (q : Fin 4) : S1x512x256.Idx → Elt Ideal .bf16 :=
  View.readAt (Elt Ideal) arg3.view (Rect.unit (s := S2x2048x256) ![h.val, 512 * q.val, 0] S1x512x256.size (stretch_in h q)).toLoadRect (arg3.view.rep x)

/-- The loads are the stretches. -/
theorem loads_eq (arg3 : Memref sig .tc .vmem S2x2048x256 .bf16) (x : S2x2048x256.Idx → Elt Ideal .bf16) (h : Fin 2) (q : Fin 4) : loads arg3 x h q = stretch x h q := by
  unfold loads
  rw [View.readAt_rep_unit arg3.view x (stretch_in h q) rfl (stretch_in h q)]
  refine funext fun j => congrArg x (funext fun a => ?_)
  have h0 : (j 0).val = 0 := by have : (j 0).val < 1 := (j 0).isLt; omega
  match a with
  | ⟨0, _⟩ => exact Fin.ext (show h.val + 1 * (j 0).val = h.val by omega)
  | ⟨1, _⟩ => exact Fin.ext (show 512 * q.val + 1 * (j 1).val = 512 * q.val + (j 1).val by omega)
  | ⟨2, _⟩ => exact Fin.ext (show 0 + 1 * (j 2).val = (j 2).val by omega)

/-- The stores of a point whose weights are kept, -/
theorem stores_B (c : Dev nD) (arg3 : Memref sig .tc .vmem S2x2048x256 .bf16) (x0 : S2x2048x256.Idx → Elt Ideal .bf16)
    (xa0 : Buf (Elt Ideal) ((c : Thread nD τ).loc cc0_scratch0)) (xa1 : Buf (Elt Ideal) ((c : Thread nD τ).loc cc0_scratch1)) :
    kernelRun0_B.sl.HO3_8 c arg3 x0 xa0 xa1 = stores (loads arg3 x0)
      (View.readAt (Elt Ideal) scM0_0.view (Rect.unit (s := S1024x512) ![0, 0] S1024x512.size inb_S1024x512_S1024x512_0_0).toLoadRect xa0)
      (View.readAt (Elt Ideal) scM0_1.view (Rect.unit (s := S256x1024) ![0, 0] S256x1024.size inb_S256x1024_S256x1024_0_0).toLoadRect xa1) := rfl

/-- and of one whose weights are loaded anew. -/
theorem stores_A (c : Dev nD) (arg3 : Memref sig .tc .vmem S2x2048x256 .bf16) (arg4 : Memref sig .tc .vmem S1x1x1024x512 .f32) (arg5 : Memref sig .tc .vmem S1x1x256x1024 .f32)
    (x0 : S2x2048x256.Idx → Elt Ideal .bf16) (x1 : S1x1x1024x512.Idx → Elt Ideal .f32) (x2 : S1x1x256x1024.Idx → Elt Ideal .f32) :
    kernelRun0_A.sl.HO3_8 arg3 arg4 arg5 x0 x1 x2 = stores (loads arg3 x0) (kernelRun0_A.sl.v95 arg4 x1) (kernelRun0_A.sl.v131 arg5 x2) := rfl

end Cert.Proof.ExpertsIdeal

end
-- ==== Proof.ExpertsChunk.lean ====
module

public import proofs.«01_k».proof.Proof.ExpertsBody
public import proofs.«01_k».proof.Proof.Column

@[expose] public section

set_option maxRecDepth 65536

noncomputable section

/-! The experts' body over the reals: a chunk's answer as sums, and where its entries lie in the block. -/

namespace Cert.Proof.ExpertsIdeal

open Cert.ExpertsIdeal Cert.ExpertsIdeal.Gen
open Cert.Proof.Attn (plain_at)
open Idealize.ShloMosaic Idealize.ShloMosaic.TcCoe

/-- A feature of a token, of the stretches the tokens lie in. -/
def feat (r0 r1 : FVec Ideal S1x512x256 .bf16) (t : Fin 256) (k : Fin 1024) : EReal :=
  if k.val < 512 then r0 (ix3 (0 : Fin 1) (⟨2 * t.val + k.val / 256 % 2, by omega⟩ : Fin 512) (⟨k.val % 256, by omega⟩ : Fin 256))
  else r1 (ix3 (0 : Fin 1) (⟨2 * t.val + k.val / 256 % 2, by omega⟩ : Fin 512) (⟨k.val % 256, by omega⟩ : Fin 256))

/-- The gathered tokens, piece by piece. -/
theorem tokens_raw (r0 r1 : FVec Ideal S1x512x256 .bf16) (t : Fin 256) (k : Fin 1024) : (k0_pay4 (F := Ideal) r0 r1 (ix2 t k) : EReal) =
    if h : k.val < 256 then r0 (ix3 (0 : Fin 1) (⟨2 * t.val, by omega⟩ : Fin 512) (⟨k.val, h⟩ : Fin 256))
    else if h : k.val - 256 < 256 then r0 (ix3 (0 : Fin 1) (⟨2 * t.val + 1, by omega⟩ : Fin 512) (⟨k.val - 256, h⟩ : Fin 256))
    else if h : k.val - 256 - 256 < 256 then r1 (ix3 (0 : Fin 1) (⟨2 * t.val, by omega⟩ : Fin 512) (⟨k.val - 256 - 256, h⟩ : Fin 256))
    else r1 (ix3 (0 : Fin 1) (⟨2 * t.val + 1, by omega⟩ : Fin 512) (⟨k.val - 256 - 256 - 256, by omega⟩ : Fin 256)) := by
  unfold k0_pay4
  pointwise

/-- The gathered tokens, at an index. -/
theorem tokens_at (r0 r1 : FVec Ideal S1x512x256 .bf16) (t : Fin 256) (k : Fin 1024) : (k0_pay4 (F := Ideal) r0 r1 (ix2 t k) : EReal) = feat r0 r1 t k := by
  rw [tokens_raw]
  unfold feat
  have hk := k.isLt
  have hr : ∀ (r : FVec Ideal S1x512x256 .bf16) (a a' : Fin 512) (b b' : Fin 256), a.val = a'.val → b.val = b'.val →
      r (ix3 (0 : Fin 1) a b) = r (ix3 (0 : Fin 1) a' b') := fun r a a' b b' ha hb => by rw [Fin.ext ha, Fin.ext hb]
  by_cases h1 : k.val < 256
  · rw [dif_pos h1, if_pos (by omega)]
    exact hr r0 _ _ _ _ (by show 2 * t.val = 2 * t.val + k.val / 256 % 2; omega) (by show k.val = k.val % 256; omega)
  · rw [dif_neg h1]
    by_cases h2 : k.val - 256 < 256
    · rw [dif_pos h2, if_pos (by omega)]
      exact hr r0 _ _ _ _ (by show 2 * t.val + 1 = 2 * t.val + k.val / 256 % 2; omega) (by show k.val - 256 = k.val % 256; omega)
    · rw [dif_neg h2, if_neg (by omega)]
      by_cases h3 : k.val - 256 - 256 < 256
      · rw [dif_pos h3]
        exact hr r1 _ _ _ _ (by show 2 * t.val = 2 * t.val + k.val / 256 % 2; omega) (by show k.val - 256 - 256 = k.val % 256; omega)
      · rw [dif_neg h3]
        exact hr r1 _ _ _ _ (by show 2 * t.val + 1 = 2 * t.val + k.val / 256 % 2; omega) (by show k.val - 256 - 256 - 256 = k.val % 256; omega)

/-- A gated activation, of the first layer's two products. -/
def act (g u : EReal) : EReal := g * (Ideal.logistic g) * u

/-- A chunk's activations, at an index. -/
theorem hidden_at (X : FVec Ideal S256x1024 .bf16) (W : FVec Ideal S1024x512 .bf16) (t f : Fin 256) :
    (k0_pay16 (F := Ideal) X W (ix2 t f) : EReal) = act (∑ k : Fin 1024, X (ix2 t k) * W (ix2 k (⟨f.val, by omega⟩ : Fin 512)))
      (∑ k : Fin 1024, X (ix2 t k) * W (ix2 k (⟨256 + f.val, by omega⟩ : Fin 512))) := by
  unfold act
  rw [← plain_at X W t (⟨f.val, by omega⟩ : Fin 512), ← plain_at X W t (⟨256 + f.val, by omega⟩ : Fin 512)]
  unfold k0_pay16
  pointwise

/-- A chunk's answer, at an index. -/
theorem answer_at (r0 r1 : FVec Ideal S1x512x256 .bf16) (W : FVec Ideal S1024x512 .bf16) (D : FVec Ideal S256x1024 .bf16) (t : Fin 256) (d : Fin 1024) :
    (answer r0 r1 W D (ix2 t d) : EReal) = ∑ f : Fin 256, act (∑ k : Fin 1024, feat r0 r1 t k * W (ix2 k (⟨f.val, by omega⟩ : Fin 512)))
      (∑ k : Fin 1024, feat r0 r1 t k * W (ix2 k (⟨256 + f.val, by omega⟩ : Fin 512))) * D (ix2 f d) := by
  unfold answer k0_pay22
  refine (plain_at _ D t d).trans (Finset.sum_congr rfl fun f _ => ?_)
  rw [hidden_at]
  simp only [tokens_at]

/-- The stored halves, at an index: -/
theorem half0_at (y : FVec Ideal S256x1024 .f32) (s : Fin 512) (c : Fin 256) :
    (half0 y (ix3 (0 : Fin 1) s c) : EReal) = y (ix2 (⟨s.val / 2, by omega⟩ : Fin 256) (⟨256 * (s.val % 2) + c.val, by omega⟩ : Fin 1024)) := by
  unfold half0 k0_pay29
  pointwise
  split
  · exact congrArg y (congrArg (ix2 _) (Fin.ext (show c.val = 256 * (s.val % 2) + c.val by omega)))
  · exact congrArg y (congrArg (ix2 _) (Fin.ext (show 256 + c.val = 256 * (s.val % 2) + c.val by omega)))
/-- the second. -/
theorem half1_at (y : FVec Ideal S256x1024 .f32) (s : Fin 512) (c : Fin 256) :
    (half1 y (ix3 (0 : Fin 1) s c) : EReal) = y (ix2 (⟨s.val / 2, by omega⟩ : Fin 256) (⟨512 + 256 * (s.val % 2) + c.val, by omega⟩ : Fin 1024)) := by
  unfold half1 k0_pay30
  pointwise
  split
  · exact congrArg y (congrArg (ix2 _) (Fin.ext (show 512 + c.val = 512 + 256 * (s.val % 2) + c.val by omega)))
  · exact congrArg y (congrArg (ix2 _) (Fin.ext (show 768 + c.val = 512 + 256 * (s.val % 2) + c.val by omega)))

/-- A feature of a token of a block. -/
def tok (x : FVec Ideal S2x2048x256 .bf16) (R : Fin 1024) (k : Fin 1024) : EReal :=
  x (ix3 (⟨k.val / 512, by omega⟩ : Fin 2) (⟨2 * R.val + k.val / 256 % 2, by omega⟩ : Fin 2048) (⟨k.val % 256, by omega⟩ : Fin 256))

/-- The stretches' features are the block's. -/
theorem feat_eq (x : FVec Ideal S2x2048x256 .bf16) (q : Fin 4) (t : Fin 256) (k : Fin 1024) :
    feat (stretch x 0 q) (stretch x 1 q) t k = tok x ⟨256 * q.val + t.val, by omega⟩ k := by
  have hk := k.isLt
  unfold feat tok stretch
  have hx : ∀ (a a' : Fin 2) (b b' : Fin 2048) (c c' : Fin 256), a.val = a'.val → b.val = b'.val → c.val = c'.val →
      x (ix3 a b c) = x (ix3 a' b' c') := fun a a' b b' c c' ha hb hc => by rw [Fin.ext ha, Fin.ext hb, Fin.ext hc]
  split
  · exact hx _ _ _ _ _ _ (by show 0 = k.val / 512; omega)
      (by show 512 * q.val + (2 * t.val + k.val / 256 % 2) = 2 * (256 * q.val + t.val) + k.val / 256 % 2; omega) rfl
  · exact hx _ _ _ _ _ _ (by show 1 = k.val / 512; omega)
      (by show 512 * q.val + (2 * t.val + k.val / 256 % 2) = 2 * (256 * q.val + t.val) + k.val / 256 % 2; omega) rfl

/-- The answer to a token of a block, a column of it. -/
def ans (x : FVec Ideal S2x2048x256 .bf16) (W : FVec Ideal S1024x512 .bf16) (D : FVec Ideal S256x1024 .bf16) (R : Fin 1024) (d : Fin 1024) : EReal :=
  ∑ f : Fin 256, act (∑ k : Fin 1024, tok x R k * W (ix2 k (⟨f.val, by omega⟩ : Fin 512)))
    (∑ k : Fin 1024, tok x R k * W (ix2 k (⟨256 + f.val, by omega⟩ : Fin 512))) * D (ix2 f d)

/-- A chunk's answer is the block's. -/
theorem answer_eq (x : FVec Ideal S2x2048x256 .bf16) (W : FVec Ideal S1024x512 .bf16) (D : FVec Ideal S256x1024 .bf16) (q : Fin 4) (t : Fin 256) (d : Fin 1024) :
    (answer (stretch x 0 q) (stretch x 1 q) W D (ix2 t d) : EReal) = ans x W D ⟨256 * q.val + t.val, by omega⟩ d := by
  rw [answer_at]
  simp only [feat_eq]
  rfl

/-- What a point leaves in its result block. -/
def Out (x : FVec Ideal S2x2048x256 .bf16) (W : FVec Ideal S1024x512 .bf16) (D : FVec Ideal S256x1024 .bf16) (X : FVec Ideal S2x2048x256 .bf16) : Prop :=
  ∀ (h : Fin 2) (s : Fin 2048) (c : Fin 256), (X (ix3 h s c) : EReal)
    = ans x W D ⟨s.val / 2, by omega⟩ ⟨512 * h.val + 256 * (s.val % 2) + c.val, by omega⟩

section
variable (v : View sig .tc .vmem S2x2048x256 .bf16) (f : v.ty.Contents (Elt Ideal)) (a b : ℕ)
  (inb : ∀ i, (![a, b, 0] : Fin 3 → ℕ) i + S1x512x256.size i ≤ S2x2048x256.size i)
  (w : S1x512x256.Idx → Elt Ideal .bf16) (L : List (View.Piece (Elt Ideal) S2x2048x256 .bf16))

/-- The last store read where it was made; -/
theorem hit {h : Fin 2} {s' : Fin 2048} (s : Fin 512) (c : Fin 256) (h0 : h.val = a) (h1 : s'.val = b + s.val) :
    v.read (Elt Ideal) (v.writes (Elt Ideal) f (⟨Rect.unit (s := S2x2048x256) ![a, b, 0] S1x512x256.size inb, w⟩ :: L)) (ix3 h s' c) = w (ix3 (0 : Fin 1) s c) :=
  View.read_writes_cons_unit_of_mem v f inb w L _ (ix3 (0 : Fin 1) s c) rfl fun i => by
    match i with
    | ⟨0, _⟩ => exact h0
    | ⟨1, _⟩ => exact h1
    | ⟨2, _⟩ => exact (Nat.zero_add _).symm
/-- a store to the other half; -/
theorem miss0 (h : Fin 2) (s' : Fin 2048) (c : Fin 256) (h0 : h.val < a ∨ a + 1 ≤ h.val) :
    v.read (Elt Ideal) (v.writes (Elt Ideal) f (⟨Rect.unit (s := S2x2048x256) ![a, b, 0] S1x512x256.size inb, w⟩ :: L)) (ix3 h s' c)
      = v.read (Elt Ideal) (v.writes (Elt Ideal) f L) (ix3 h s' c) :=
  View.read_writes_cons_unit_of_not_mem v f inb w L _ rfl (0 : Fin 3) h0
/-- one to another stretch. -/
theorem miss1 (h : Fin 2) (s' : Fin 2048) (c : Fin 256) (h1 : s'.val < b ∨ b + 512 ≤ s'.val) :
    v.read (Elt Ideal) (v.writes (Elt Ideal) f (⟨Rect.unit (s := S2x2048x256) ![a, b, 0] S1x512x256.size inb, w⟩ :: L)) (ix3 h s' c)
      = v.read (Elt Ideal) (v.writes (Elt Ideal) f L) (ix3 h s' c) :=
  View.read_writes_cons_unit_of_not_mem v f inb w L _ rfl (1 : Fin 3) h1
end

/-- The stored half. -/
def half : Fin 2 → FVec Ideal S256x1024 .f32 → FVec Ideal S1x512x256 .bf16
  | ⟨0, _⟩ => half0
  | ⟨1, _⟩ => half1

/-- The stores, at an index. -/
theorem stored_at (v : View sig .tc .vmem S2x2048x256 .bf16) (f : v.ty.Contents (Elt Ideal)) (r : Fin 2 → Fin 4 → FVec Ideal S1x512x256 .bf16)
    (W : FVec Ideal S1024x512 .bf16) (D : FVec Ideal S256x1024 .bf16) (s' : Fin 2048) (s : Fin 512) (c : Fin 256) : (h : Fin 2) → (q : Fin 4) → (s'.val = 512 * q.val + s.val) →
    v.read (Elt Ideal) (v.writes (Elt Ideal) f (stores r W D)) (ix3 h s' c) = half h (answer (r 0 q) (r 1 q) W D) (ix3 (0 : Fin 1) s c)
  | ⟨0, _⟩, ⟨0, _⟩, hs => by
    replace hs : s'.val = 0 + s.val := hs
    exact (miss0 v f _ _ _ _ _ _ _ _ (by simp)).trans <| (miss1 v f _ _ _ _ _ _ _ _ (.inl (by have := s.isLt; omega))).trans <| (miss0 v f _ _ _ _ _ _ _ _ (by simp)).trans <| (miss1 v f _ _ _ _ _ _ _ _ (.inl (by have := s.isLt; omega))).trans <| (miss0 v f _ _ _ _ _ _ _ _ (by simp)).trans <| (miss1 v f _ _ _ _ _ _ _ _ (.inl (by have := s.isLt; omega))).trans <| (miss0 v f _ _ _ _ _ _ _ _ (by simp)).trans <| hit v f _ _ _ _ _ s c rfl (by rw [hs])
  | ⟨0, _⟩, ⟨1, _⟩, hs => by
    replace hs : s'.val = 512 + s.val := hs
    exact (miss0 v f _ _ _ _ _ _ _ _ (by simp)).trans <| (miss1 v f _ _ _ _ _ _ _ _ (.inl (by have := s.isLt; omega))).trans <| (miss0 v f _ _ _ _ _ _ _ _ (by simp)).trans <| (miss1 v f _ _ _ _ _ _ _ _ (.inl (by have := s.isLt; omega))).trans <| (miss0 v f _ _ _ _ _ _ _ _ (by simp)).trans <| hit v f _ _ _ _ _ s c rfl (by rw [hs])
  | ⟨0, _⟩, ⟨2, _⟩, hs => by
    replace hs : s'.val = 1024 + s.val := hs
    exact (miss0 v f _ _ _ _ _ _ _ _ (by simp)).trans <| (miss1 v f _ _ _ _ _ _ _ _ (.inl (by have := s.isLt; omega))).trans <| (miss0 v f _ _ _ _ _ _ _ _ (by simp)).trans <| hit v f _ _ _ _ _ s c rfl (by rw [hs])
  | ⟨0, _⟩, ⟨3, _⟩, hs => by
    replace hs : s'.val = 1536 + s.val := hs
    exact (miss0 v f _ _ _ _ _ _ _ _ (by simp)).trans <| hit v f _ _ _ _ _ s c rfl (by rw [hs])
  | ⟨1, _⟩, ⟨0, _⟩, hs => by
    replace hs : s'.val = 0 + s.val := hs
    exact (miss1 v f _ _ _ _ _ _ _ _ (.inl (by have := s.isLt; omega))).trans <| (miss0 v f _ _ _ _ _ _ _ _ (by simp)).trans <| (miss1 v f _ _ _ _ _ _ _ _ (.inl (by have := s.isLt; omega))).trans <| (miss0 v f _ _ _ _ _ _ _ _ (by simp)).trans <| (miss1 v f _ _ _ _ _ _ _ _ (.inl (by have := s.isLt; omega))).trans <| (miss0 v f _ _ _ _ _ _ _ _ (by simp)).trans <| hit v f _ _ _ _ _ s c rfl (by rw [hs])
  | ⟨1, _⟩, ⟨1, _⟩, hs => by
    replace hs : s'.val = 512 + s.val := hs
    exact (miss1 v f _ _ _ _ _ _ _ _ (.inl (by have := s.isLt; omega))).trans <| (miss0 v f _ _ _ _ _ _ _ _ (by simp)).trans <| (miss1 v f _ _ _ _ _ _ _ _ (.inl (by have := s.isLt; omega))).trans <| (miss0 v f _ _ _ _ _ _ _ _ (by simp)).trans <| hit v f _ _ _ _ _ s c rfl (by rw [hs])
  | ⟨1, _⟩, ⟨2, _⟩, hs => by
    replace hs : s'.val = 1024 + s.val := hs
    exact (miss1 v f _ _ _ _ _ _ _ _ (.inl (by have := s.isLt; omega))).trans <| (miss0 v f _ _ _ _ _ _ _ _ (by simp)).trans <| hit v f _ _ _ _ _ s c rfl (by rw [hs])
  | ⟨1, _⟩, ⟨3, _⟩, hs => by
    replace hs : s'.val = 1536 + s.val := hs
    exact hit v f _ _ _ _ _ s c rfl (by rw [hs])

/-- A stored half, at an index. -/
theorem half_at (y : FVec Ideal S256x1024 .f32) (s : Fin 512) (c : Fin 256) : (h : Fin 2) →
    (half h y (ix3 (0 : Fin 1) s c) : EReal) = y (ix2 (⟨s.val / 2, by omega⟩ : Fin 256) (⟨512 * h.val + 256 * (s.val % 2) + c.val, by omega⟩ : Fin 1024))
  | ⟨0, _⟩ => (half0_at y s c).trans (congrArg y (congrArg (ix2 _) (Fin.ext (by show 256 * (s.val % 2) + c.val = 512 * 0 + 256 * (s.val % 2) + c.val; omega))))
  | ⟨1, _⟩ => (half1_at y s c).trans (congrArg y (congrArg (ix2 _) (Fin.ext (by show 512 + 256 * (s.val % 2) + c.val = 512 * 1 + 256 * (s.val % 2) + c.val; omega))))

/-- What the stores leave. -/
theorem out_stores (v : View sig .tc .vmem S2x2048x256 .bf16) (f : v.ty.Contents (Elt Ideal)) (x : FVec Ideal S2x2048x256 .bf16)
    (W : FVec Ideal S1024x512 .bf16) (D : FVec Ideal S256x1024 .bf16) : Out x W D (v.read (Elt Ideal) (v.writes (Elt Ideal) f (stores (stretch x) W D))) := by
  intro h s' c
  have hs := s'.isLt
  refine (stored_at v f (stretch x) W D s' ⟨s'.val % 512, by omega⟩ c h ⟨s'.val / 512, by omega⟩ (by show s'.val = 512 * (s'.val / 512) + s'.val % 512; omega)).trans ?_
  refine (half_at _ _ c h).trans ((answer_eq x W D _ _ _).trans ?_)
  exact congrArg₂ (ans x W D) (Fin.ext (by show 256 * (s'.val / 512) + s'.val % 512 / 2 = s'.val / 2; omega))
    (Fin.ext (by show 512 * h.val + 256 * (s'.val % 512 % 2) + c.val = 512 * h.val + 256 * (s'.val % 2) + c.val; omega))

end Cert.Proof.ExpertsIdeal

end
-- ==== Proof.ExpertsWords.lean ====
module

public import proofs.«01_k».proof.Proof.Gen.ExpertsIdeal
public import proofs.«01_k».proof.Proof.Gen.ExpertsIdeal.Flash.Runs
public import Idealize.ShloMosaic.Lib.Pipeline.ValueKit

@[expose] public section

set_option maxRecDepth 65536

noncomputable section

/-! The words of the tables the experts' body decides by. -/

namespace Cert.Proof.ExpertsIdeal

open Cert.ExpertsIdeal Cert.ExpertsIdeal.Gen
open Idealize.ShloMosaic Idealize.ShloMosaic.TcCoe

/-- Whether a point's tile is used, as the body decides it. -/
abbrev Used (i : grid0.Coords) (T1 : S1.Idx → BitVec 32) : Prop :=
  k0_cond1 i (View.readAt (Elt Ideal) (tbM0_1).view (Rect.unit (s := S1) ![0] S1.size inb_S1_S1_0).toLoadRect T1 (Shape.Idx.first (numel1_S1.symm ▸ Nat.one_pos))) = 1#1

/-- Whether a point loads its weights anew, as the body decides it. -/
abbrev Anew (i : grid0.Coords) (T0 : S96.Idx → BitVec 32) : Prop :=
  (Scalar.cmpi .ne (Scalar.extui (Scalar.ori (Scalar.cmpi .eq (BitVec.ofNat 32 (i 0).val) 0#32) (Scalar.cmpi .ne
        (View.readAt (Elt Ideal) (tbM0_0).view (Rect.unit (s := S96) (k0_off2 i) S1.size (k0_off2_inb i)).toLoadRect T0 (Shape.Idx.first (numel1_S1.symm ▸ Nat.one_pos)))
        (View.readAt (Elt Ideal) (tbM0_0).view (Rect.unit (s := S96) (k0_off3 i) S1.size (k0_off3_inb i)).toLoadRect T0 (Shape.Idx.first (numel1_S1.symm ▸ Nat.one_pos)))))) 0#32) = 1#1

/-- A bit widened is not zero just when it is one. -/
theorem widened (b : BitVec 1) : (Scalar.cmpi .ne (Scalar.extui b : BitVec 32) 0#32 = 1#1) ↔ b = 1#1 := by
  revert b; decide

/-- A small coordinate as a signed word. -/
theorem toInt_coord (n : ℕ) (h : n < 96) : (BitVec.ofNat 32 n).toInt = n := by
  simp only [BitVec.toInt_eq_toNat_cond, BitVec.toNat_ofNat]
  omega

/-- A tile is used when its number is under the count. -/
theorem used_iff (i : grid0.Coords) (T1 : S1.Idx → BitVec 32) : Used i T1 ↔ ((i 0).val : ℤ) < (T1 (ix1 (0 : Fin 1))).toInt := by
  have hi : (i 0).val < 96 := (i 0).isLt
  have e : View.readAt (Elt Ideal) (tbM0_1).view (Rect.unit (s := S1) ![0] S1.size inb_S1_S1_0).toLoadRect T1 (Shape.Idx.first (numel1_S1.symm ▸ Nat.one_pos))
      = T1 (ix1 (0 : Fin 1)) := by
    show T1 _ = T1 _
    refine congrArg T1 (funext fun a => ?_)
    match a with
    | ⟨0, _⟩ => exact Subsingleton.elim (α := Fin 1) _ _
  unfold Used
  rw [e]
  unfold k0_cond1
  refine (widened _).trans ?_
  rw [← toInt_coord _ hi]
  exact IntOp.cmpi_slt

/-- A table's word, loaded. -/
theorem word_at (T0 : S96.Idx → BitVec 32) (off : Fin 1 → ℕ) (h : ∀ a, off a + S1.size a ≤ S96.size a) (j : Fin 96) (hj : off 0 = j.val) :
    View.readAt (Elt Ideal) (tbM0_0).view (Rect.unit (s := S96) off S1.size h).toLoadRect T0 (Shape.Idx.first (numel1_S1.symm ▸ Nat.one_pos)) = T0 (ix1 j) := by
  show T0 _ = T0 _
  refine congrArg T0 (funext fun a => ?_)
  match a with
  | ⟨0, _⟩ => exact Fin.ext (show off 0 + 1 * _ = j.val by rw [hj]; simp [Shape.Idx.first])

/-- A point that keeps its weights has one before it of the same expert. -/
theorem kept_of (i : grid0.Coords) (T0 : S96.Idx → BitVec 32) (h : ¬ Anew i T0) :
    ∃ j : Fin 96, j.val + 1 = (i 0).val ∧ T0 (ix1 j) = T0 (ix1 (i 0)) := by
  have hi : (i 0).val < 96 := (i 0).isLt
  unfold Anew at h
  rw [widened] at h
  by_cases h0 : (i 0).val = 0
  · exact absurd (by rw [h0]; generalize Scalar.cmpi .ne _ _ = b; revert b; decide) h
  · refine ⟨⟨(i 0).val - 1, by omega⟩, by show (i 0).val - 1 + 1 = _; omega, ?_⟩
    have e2 : k0_off2 i 0 = (i 0).val := by
      unfold k0_off2
      show ((BitVec.ofNat 32 (i 0).val)).toNat = _
      rw [BitVec.toNat_ofNat]; omega
    have e3 : k0_off3 i 0 = (i 0).val - 1 := by
      have key : ∀ n : Fin 96, n.val ≠ 0 → (Scalar.indexCast (Scalar.maxsi (Scalar.subi (BitVec.ofNat 32 n.val) 1#32) 0#32) : Index).toNat = n.val - 1 := by decide +kernel
      exact key ⟨(i 0).val, hi⟩ h0
    rw [word_at T0 (k0_off2 i) (k0_off2_inb i) (i 0) e2, word_at T0 (k0_off3 i) (k0_off3_inb i) ⟨(i 0).val - 1, by omega⟩ e3] at h
    by_contra hne
    refine h ?_
    have h1 : Scalar.cmpi .ne (T0 (ix1 (i 0))) (T0 (ix1 (⟨(i 0).val - 1, by omega⟩ : Fin 96))) = 1#1 := IntOp.cmpi_ne.2 fun e => hne e.symm
    rw [h1]
    generalize Scalar.cmpi .eq _ _ = b
    revert b; decide

end Cert.Proof.ExpertsIdeal

end
-- ==== Proof.ExpertsIdealFrame.lean ====
module

public import proofs.«01_k».proof.Proof.Named
public import proofs.«01_k».proof.Proof.Gen.ExpertsIdeal
public import proofs.«01_k».proof.Proof.Gen.ExpertsIdeal.Launch
public import proofs.«01_k».proof.Proof.Gen.ExpertsIdeal.Flash.Runs
public import Idealize.ShloMosaic.Lib.Pipeline.DatRel
public import Idealize.ShloMosaic.Lib.Pipeline.ArrRel
public import Idealize.ShloMosaic.Lib.Pipeline.TableIdle
public import proofs.«01_k».proof.Proof.ExpertsChunk
public import proofs.«01_k».proof.Proof.ExpertsWords

@[expose] public section

set_option maxRecDepth 65536

noncomputable section

/-! The experts' kernel over the reals: it runs from any memory whose tiles name experts, and leaves its arguments alone. -/

namespace Cert.Proof.ExpertsIdeal

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

local notation "𝕄" => MT nD τ sig Unit (Elt Ideal) ℕ (UR sig nD τ) ℕ

/-! ## The tables -/

/-- The tables as launched. -/
def tabs (T0 : S96.Idx → BitVec 32) (T1 : S1.Idx → BitVec 32) : pre0.Contents (Elt Ideal) := fun
  | ⟨0, _⟩ => T0
  | ⟨1, _⟩ => T1
  | ⟨_ + 2, h⟩ => absurd h (by simp)

/-- Tables that name experts are in range. -/
theorem tabs_ok (T0 : S96.Idx → BitVec 32) (T1 : S1.Idx → BitVec 32) (h : ∀ i, (T0 i).toNat < 32) : ok0 (F := Ideal) (tabs T0 T1) := by
  have key : ∀ i : S96.Idx, ∀ a : Fin 4, ((![0, (T0 i).toNat, 0, 0] : Fin 4 → ℕ) a + 1) * S1x1x1024x512.size a ≤ S2x32x1024x512.size a := fun i a => by
    have := h i
    fin_cases a <;> simp <;> omega
  have key' : ∀ i : S96.Idx, ∀ a : Fin 4, ((![0, (T0 i).toNat, 0, 0] : Fin 4 → ℕ) a + 1) * S1x1x256x1024.size a ≤ S2x32x256x1024.size a := fun i a => by
    have := h i
    fin_cases a <;> simp <;> omega
  exact ⟨fun i => ⟨key _, .inl rfl⟩, fun i => ⟨key' _, .inl rfl⟩⟩

section
variable (T0 : S96.Idx → BitVec 32) (T1 : S1.Idx → BitVec 32) (hT : ∀ i, (T0 i).toNat < 32)

/-- The tables with their evidence. -/
abbrev adm : (p : Fin 1) → (pcfgs (F := Ideal) p).Adm := fun _ => ⟨tabs T0 T1, tabs_ok T0 T1 hT⟩

/-- The pipeline at them. -/
abbrev cfgT : Cfg sig Λ₀ := cfg0 (F := Ideal) (adm T0 T1 hT 0)

/-! ## The body at a point -/

/-- The first layer's weights as a scratch holds them, -/
def rd0 (f : S1024x512.Idx → Elt Ideal .bf16) : FVec Ideal S1024x512 .bf16 :=
  View.readAt (Elt Ideal) scM0_0.view (Rect.unit (s := S1024x512) ![0, 0] S1024x512.size inb_S1024x512_S1024x512_0_0).toLoadRect f
/-- and the second's. -/
def rd1 (f : S256x1024.Idx → Elt Ideal .bf16) : FVec Ideal S256x1024 .bf16 :=
  View.readAt (Elt Ideal) scM0_1.view (Rect.unit (s := S256x1024) ![0, 0] S256x1024.size inb_S256x1024_S256x1024_0_0).toLoadRect f

/-- What a point of a used tile leaves: the answers of its tokens under the weights it holds, anew or kept. -/
def Aft (i : grid0.Coords) (T0 : S96.Idx → BitVec 32) (T1 : S1.Idx → BitVec 32) (x0 : S2x2048x256.Idx → Elt Ideal .bf16) (x1 : S1x1x1024x512.Idx → Elt Ideal .f32)
    (x2 : S1x1x256x1024.Idx → Elt Ideal .f32) (s0 : S1024x512.Idx → Elt Ideal .bf16) (s1 : S256x1024.Idx → Elt Ideal .bf16) (X : S2x2048x256.Idx → Elt Ideal .bf16)
    (f0 : S1024x512.Idx → Elt Ideal .bf16) (f1 : S256x1024.Idx → Elt Ideal .bf16) : Prop :=
  Used i T1 → (Anew i T0 → rd0 f0 = k0_pay2 x1 ∧ rd1 f1 = k0_pay3 x2) ∧ (¬ Anew i T0 → rd0 f0 = rd0 s0 ∧ rd1 f1 = rd1 s1) ∧ Out x0 (rd0 f0) (rd1 f1) X

/-- The eight stores leave the answers, from the loads too. -/
theorem out_loads (arg3 arg6 : Memref sig .tc .vmem S2x2048x256 .bf16) (x0 : S2x2048x256.Idx → Elt Ideal .bf16) (f : arg6.view.ty.Contents (Elt Ideal))
    (W : FVec Ideal S1024x512 .bf16) (D : FVec Ideal S256x1024 .bf16) :
    Out x0 W D (arg6.view.read (Elt Ideal) (arg6.view.writes (Elt Ideal) f (stores (loads arg3 x0) W D))) := by
  rw [show loads arg3 x0 = stretch x0 from funext fun h => funext fun q => loads_eq arg3 x0 h q]
  exact out_stores arg6.view f x0 W D

/-- Weights loaded anew are the block's, -/
theorem anew_0 (arg4 : Memref sig .tc .vmem S1x1x1024x512 .f32) (x1 : S1x1x1024x512.Idx → Elt Ideal .f32) (g : (View.whole cc0_scratch0).ty.Contents (Elt Ideal)) :
    rd0 ((View.whole cc0_scratch0).writes (Elt Ideal) g (kernelRun0_A.sl.HS0_1 arg4 x1)) = k0_pay2 x1 :=
  (View.readAt_writes_full (View.whole cc0_scratch0) g inb_S1024x512_S1024x512_0_0 inb_S1024x512_S1024x512_0_0 _ []).trans
    (congrArg k0_pay2 (View.readAt_rep_full arg4.view x1 _))
/-- in both layers, -/
theorem anew_1 (arg5 : Memref sig .tc .vmem S1x1x256x1024 .f32) (x2 : S1x1x256x1024.Idx → Elt Ideal .f32) (g : (View.whole cc0_scratch1).ty.Contents (Elt Ideal)) :
    rd1 ((View.whole cc0_scratch1).writes (Elt Ideal) g (kernelRun0_A.sl.HS1_1 arg5 x2)) = k0_pay3 x2 :=
  (View.readAt_writes_full (View.whole cc0_scratch1) g inb_S256x1024_S256x1024_0_0 inb_S256x1024_S256x1024_0_0 _ []).trans
    (congrArg k0_pay3 (View.readAt_rep_full arg5.view x2 _))

/-- and read so. -/
theorem weights_0 (arg4 : Memref sig .tc .vmem S1x1x1024x512 .f32) (x1 : S1x1x1024x512.Idx → Elt Ideal .f32) : kernelRun0_A.sl.v95 arg4 x1 = k0_pay2 x1 :=
  (View.readCov_full (View.whole cc0_scratch0) inb_S1024x512_S1024x512_0_0 inb_S1024x512_S1024x512_0_0 _ []).trans
    (congrArg k0_pay2 (View.readAt_rep_full arg4.view x1 _))
theorem weights_1 (arg5 : Memref sig .tc .vmem S1x1x256x1024 .f32) (x2 : S1x1x256x1024.Idx → Elt Ideal .f32) : kernelRun0_A.sl.v131 arg5 x2 = k0_pay3 x2 :=
  (View.readCov_full (View.whole cc0_scratch1) inb_S256x1024_S256x1024_0_0 inb_S256x1024_S256x1024_0_0 _ []).trans
    (congrArg k0_pay3 (View.readAt_rep_full arg5.view x2 _))

/-- A point that loads anew leaves what it should, -/
theorem aft_A (i : grid0.Coords) (T0 : S96.Idx → BitVec 32) (T1 : S1.Idx → BitVec 32) (arg3 : Memref sig .tc .vmem S2x2048x256 .bf16) (arg4 : Memref sig .tc .vmem S1x1x1024x512 .f32)
    (arg5 : Memref sig .tc .vmem S1x1x256x1024 .f32) (arg6 : Memref sig .tc .vmem S2x2048x256 .bf16) (x0 : S2x2048x256.Idx → Elt Ideal .bf16) (x1 : S1x1x1024x512.Idx → Elt Ideal .f32)
    (x2 : S1x1x256x1024.Idx → Elt Ideal .f32) (s0 : S1024x512.Idx → Elt Ideal .bf16) (s1 : S256x1024.Idx → Elt Ideal .bf16) (hc : Anew i T0) (f : arg6.view.ty.Contents (Elt Ideal))
    (g0 : (View.whole cc0_scratch0).ty.Contents (Elt Ideal)) (g1 : (View.whole cc0_scratch1).ty.Contents (Elt Ideal)) :
    Aft i T0 T1 x0 x1 x2 s0 s1 (arg6.view.read (Elt Ideal) (arg6.view.writes (Elt Ideal) f (kernelRun0_A.sl.HO3_8 arg3 arg4 arg5 x0 x1 x2)))
      ((View.whole cc0_scratch0).writes (Elt Ideal) g0 (kernelRun0_A.sl.HS0_1 arg4 x1)) ((View.whole cc0_scratch1).writes (Elt Ideal) g1 (kernelRun0_A.sl.HS1_1 arg5 x2)) :=
  fun _ => ⟨fun _ => ⟨anew_0 .., anew_1 ..⟩, fun h => absurd hc h, by
    rw [anew_0, anew_1, stores_A 0, weights_0, weights_1]
    exact out_loads arg3 arg6 x0 f _ _⟩

/-- and so does one that keeps. -/
theorem aft_B (c : Dev nD) (i : grid0.Coords) (T0 : S96.Idx → BitVec 32) (T1 : S1.Idx → BitVec 32) (arg3 arg6 : Memref sig .tc .vmem S2x2048x256 .bf16) (x0 : S2x2048x256.Idx → Elt Ideal .bf16)
    (x1 : S1x1x1024x512.Idx → Elt Ideal .f32) (x2 : S1x1x256x1024.Idx → Elt Ideal .f32)
    (s0 : Buf (Elt Ideal) ((c : Thread nD τ).loc cc0_scratch0)) (s1 : Buf (Elt Ideal) ((c : Thread nD τ).loc cc0_scratch1))
    (hc : ¬ Anew i T0) (f : arg6.view.ty.Contents (Elt Ideal)) :
    Aft i T0 T1 x0 x1 x2 s0 s1 (arg6.view.read (Elt Ideal) (arg6.view.writes (Elt Ideal) f (kernelRun0_B.sl.HO3_8 c arg3 x0 s0 s1))) s0 s1 :=
  fun _ => ⟨fun h => absurd h hc, fun _ => ⟨rfl, rfl⟩, by rw [stores_B]; exact out_loads arg3 arg6 x0 f _ _⟩

set_option maxHeartbeats 4000000 in
/-- So a run that loads anew leaves it, -/
theorem run_A (c : Dev nD) (i : grid0.Coords) (arg3 : Memref sig .tc .vmem S2x2048x256 .bf16) (harg3 : arg3.IsWhole) (arg4 : Memref sig .tc .vmem S1x1x1024x512 .f32)
    (harg4 : arg4.IsWhole) (arg5 : Memref sig .tc .vmem S1x1x256x1024 .f32) (harg5 : arg5.IsWhole) (arg6 : Memref sig .tc .vmem S2x2048x256 .bf16) (harg6 : arg6.IsWhole)
    (T0 : S96.Idx → BitVec 32) (T1 : S1.Idx → BitVec 32)
    (x0 : S2x2048x256.Idx → Elt Ideal .bf16) (x1 : S1x1x1024x512.Idx → Elt Ideal .f32) (x2 : S1x1x256x1024.Idx → Elt Ideal .f32)
    (h1 : Used i T1) (hc : Anew i T0) (s0 : Buf (Elt Ideal) ((c : Thread nD τ).loc cc0_scratch0)) (s1 : Buf (Elt Ideal) ((c : Thread nD τ).loc cc0_scratch1)) (f : arg6.view.ty.Contents (Elt Ideal)) :
    Aft i T0 T1 x0 x1 x2 s0 s1
      (arg6.view.read (Elt Ideal) (arg6.view.writes (Elt Ideal) f (kernelRun0_A c i arg3 harg3 arg4 harg4 arg5 harg5 arg6 harg6 T0 T1 x0 x1 x2 h1 hc).1))
      (kernelRun0_A c i arg3 harg3 arg4 harg4 arg5 harg5 arg6 harg6 T0 T1 x0 x1 x2 h1 hc).2.1
      (kernelRun0_A c i arg3 harg3 arg4 harg4 arg5 harg5 arg6 harg6 T0 T1 x0 x1 x2 h1 hc).2.2.1 := by
  unfold kernelRun0_A
  dsimp only
  exact aft_A i T0 T1 arg3 arg4 arg5 arg6 x0 x1 x2 s0 s1 hc f _ _

set_option maxHeartbeats 4000000 in
/-- and one that keeps. -/
theorem run_B (c : Dev nD) (i : grid0.Coords) (arg3 : Memref sig .tc .vmem S2x2048x256 .bf16) (harg3 : arg3.IsWhole) (arg4 : Memref sig .tc .vmem S1x1x1024x512 .f32)
    (harg4 : arg4.IsWhole) (arg5 : Memref sig .tc .vmem S1x1x256x1024 .f32) (harg5 : arg5.IsWhole) (arg6 : Memref sig .tc .vmem S2x2048x256 .bf16) (harg6 : arg6.IsWhole)
    (T0 : S96.Idx → BitVec 32) (T1 : S1.Idx → BitVec 32)
    (x0 : S2x2048x256.Idx → Elt Ideal .bf16) (x1 : S1x1x1024x512.Idx → Elt Ideal .f32) (x2 : S1x1x256x1024.Idx → Elt Ideal .f32) (s0 : Buf (Elt Ideal) ((c : Thread nD τ).loc cc0_scratch0)) (s1 : Buf (Elt Ideal) ((c : Thread nD τ).loc cc0_scratch1))
    (h1 : Used i T1) (hc : ¬ Anew i T0) (f : arg6.view.ty.Contents (Elt Ideal)) :
    Aft i T0 T1 x0 x1 x2 s0 s1
      (arg6.view.read (Elt Ideal) (arg6.view.writes (Elt Ideal) f (kernelRun0_B c i arg3 harg3 arg4 harg4 arg5 harg5 arg6 harg6 T0 T1 x0 x1 x2 s0 s1 h1 hc).1))
      (kernelRun0_B c i arg3 harg3 arg4 harg4 arg5 harg5 arg6 harg6 T0 T1 x0 x1 x2 s0 s1 h1 hc).2.1
      (kernelRun0_B c i arg3 harg3 arg4 harg4 arg5 harg5 arg6 harg6 T0 T1 x0 x1 x2 s0 s1 h1 hc).2.2.1 := by
  unfold kernelRun0_B
  dsimp only
  exact aft_B c i T0 T1 arg3 arg6 x0 x1 x2 s0 s1 hc f

/-- The body, run on whole buffers, gives them back: the inputs and the tables as they were, the result block and the weights as `Aft` says. -/
theorem body (c : Dev nD) (i : grid0.Coords) (arg3 : Memref sig .tc .vmem S2x2048x256 .bf16) (harg3 : arg3.IsWhole) (arg4 : Memref sig .tc .vmem S1x1x1024x512 .f32)
    (harg4 : arg4.IsWhole) (arg5 : Memref sig .tc .vmem S1x1x256x1024 .f32) (harg5 : arg5.IsWhole) (arg6 : Memref sig .tc .vmem S2x2048x256 .bf16) (harg6 : arg6.IsWhole)
    (x0 : S2x2048x256.Idx → Elt Ideal .bf16) (x1 : S1x1x1024x512.Idx → Elt Ideal .f32) (x2 : S1x1x256x1024.Idx → Elt Ideal .f32) (y : S2x2048x256.Idx → Elt Ideal .bf16)
    (s0 : Buf (Elt Ideal) ((c : Thread nD τ).loc cc0_scratch0)) (s1 : Buf (Elt Ideal) ((c : Thread nD τ).loc cc0_scratch1)) (K : PUnit → sProp 𝕄) :
    iprop(owns (c : Thread nD τ) arg3 fullShare x0 ∗ owns (c : Thread nD τ) arg4 fullShare x1 ∗ owns (c : Thread nD τ) arg5 fullShare x2
      ∗ owns (c : Thread nD τ) arg6 fullShare y
      ∗ (tbM0_0.view.loc (c : Thread nD τ) ↦{fullShare.right} T0) ∗ (tbM0_1.view.loc (c : Thread nD τ) ↦{fullShare.right} T1)
      ∗ (scM0_0.view.loc (c : Thread nD τ) ↦{fullShare} s0) ∗ (scM0_1.view.loc (c : Thread nD τ) ↦{fullShare} s1)
      ∗ (iprop(owns (c : Thread nD τ) arg3 fullShare x0 ∗ owns (c : Thread nD τ) arg4 fullShare x1 ∗ owns (c : Thread nD τ) arg5 fullShare x2
        ∗ (tbM0_0.view.loc (c : Thread nD τ) ↦{fullShare.right} T0) ∗ (tbM0_1.view.loc (c : Thread nD τ) ↦{fullShare.right} T1)
        ∗ (∃ X, ∃ f0 : Buf (Elt Ideal) ((c : Thread nD τ).loc cc0_scratch0), ∃ f1 : Buf (Elt Ideal) ((c : Thread nD τ).loc cc0_scratch1),
          ⌜Aft i T0 T1 x0 x1 x2 s0 s1 X f0 f1⌝ ∗ owns (c : Thread nD τ) arg6 fullShare X
          ∗ (scM0_0.view.loc (c : Thread nD τ) ↦{fullShare} f0) ∗ (scM0_1.view.loc (c : Thread nD τ) ↦{fullShare} f1))) -∗ K ⟨⟩))
      ⊢ wp Idealize.ShloMosaic.frame (wpE (defs₀ (F := Ideal)) Variants.none (c : Thread nD τ) none) Set.univ
        (cc0_moe_experts i tbM0_0 (Memref.isWhole_whole _) tbM0_1 (Memref.isWhole_whole _) arg3 harg3 arg4 harg4 arg5 harg5 arg6 harg6
          scM0_0 (Memref.isWhole_whole _) scM0_1 (Memref.isWhole_whole _)) K := by
  by_cases h1 : k0_cond1 i (View.readAt (Elt Ideal) (tbM0_1).view (Rect.unit (s := S1) ![0] S1.size inb_S1_S1_0).toLoadRect T1 (Shape.Idx.first (numel1_S1.symm ▸ Nat.one_pos))) = 1#1
  · by_cases hc : (Scalar.cmpi .ne (Scalar.extui (Scalar.ori (Scalar.cmpi .eq (BitVec.ofNat 32 (i 0).val) 0#32) (Scalar.cmpi .ne
        (View.readAt (Elt Ideal) (tbM0_0).view (Rect.unit (s := S96) (k0_off2 i) S1.size (k0_off2_inb i)).toLoadRect T0 (Shape.Idx.first (numel1_S1.symm ▸ Nat.one_pos)))
        (View.readAt (Elt Ideal) (tbM0_0).view (Rect.unit (s := S96) (k0_off3 i) S1.size (k0_off3_inb i)).toLoadRect T0 (Shape.Idx.first (numel1_S1.symm ▸ Nat.one_pos)))))) 0#32) = 1#1
    · iintro ⟨H0, H1, H2, H3, HT0, HT1, HS0, HS1, Hk⟩
      iapply (kernelRun0_A c i arg3 harg3 arg4 harg4 arg5 harg5 arg6 harg6 T0 T1 x0 x1 x2 h1 hc).2.2.2 s0 s1 K
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f, H3⟩, HS0, HS1⟩
      iapply Hk
      isplitl [H0]; · iapply owns_of_rep; iexact H0
      isplitl [H1]; · iapply owns_of_rep; iexact H1
      isplitl [H2]; · iapply owns_of_rep; iexact H2
      isplitl [HT0]; · iexact HT0
      isplitl [HT1]; · iexact HT1
      iexists _, _, _
      isplitr
      rotate_left
      · isplitl [H3]
        · iapply owns_of_rep
          iapply pointsTo_rep_entails
          iexact H3
        isplitl [HS0]; · iexact HS0
        iexact HS1
      · ipureintro
        exact run_A c i arg3 harg3 arg4 harg4 arg5 harg5 arg6 harg6 T0 T1 x0 x1 x2 h1 hc s0 s1 f
    · iintro ⟨H0, H1, H2, H3, HT0, HT1, HS0, HS1, Hk⟩
      iapply (kernelRun0_B c i arg3 harg3 arg4 harg4 arg5 harg5 arg6 harg6 T0 T1 x0 x1 x2 s0 s1 h1 hc).2.2.2 K
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f, H3⟩, HS0, HS1⟩
      iapply Hk
      isplitl [H0]; · iapply owns_of_rep; iexact H0
      isplitl [H1]; · iapply owns_of_rep; iexact H1
      isplitl [H2]; · iapply owns_of_rep; iexact H2
      isplitl [HT0]; · iexact HT0
      isplitl [HT1]; · iexact HT1
      iexists _, _, _
      isplitr
      rotate_left
      · isplitl [H3]
        · iapply owns_of_rep
          iapply pointsTo_rep_entails
          iexact H3
        isplitl [HS0]; · iexact HS0
        iexact HS1
      · ipureintro
        exact run_B c i arg3 harg3 arg4 harg4 arg5 harg5 arg6 harg6 T0 T1 x0 x1 x2 s0 s1 h1 hc f
  · rw [cc0_moe_experts_eq_skeleton]; unfold cc0_moe_experts_skel
    iintro ⟨H0, H1, H2, H3, HT0, HT1, HS0, HS1, Hk⟩
    have hT1 : tbM0_1.IsWhole := Memref.isWhole_whole _
    sl_exec! (disch := first | (guard_target = ¬(k0_cond1 _ _ = _); exact h1))
    sl_step
    iapply Hk
    isplitl [H0]; · iexact H0
    isplitl [H1]; · iexact H1
    isplitl [H2]; · iexact H2
    isplitl [HT0]; · iexact HT0
    isplitl [HT1]; · iexact HT1
    iexists y, s0, s1
    isplitr; · ipureintro; exact fun h => absurd h h1
    isplitl [H3]; · iexact H3
    isplitl [HS0]; · iexact HS0
    iexact HS1

/-! ## The launch -/

/-- What the tables' half of the pipeline's resources is: the two tables. -/
theorem tables_eq (c : Dev nD) (v : pre0.Contents (Elt Ideal)) :
    (Pipeline.ΦT pre0 v c : sProp 𝕄) = iprop((tbM0_0.view.loc (c : Thread nD τ) ↦{fullShare.right} v 0) ∗ (tbM0_1.view.loc (c : Thread nD τ) ↦{fullShare.right} v 1)) := by
  unfold Pipeline.ΦT Pipeline.prefHeld
  rw [show (Finset.univ : Finset (Fin 2)) = insert 0 {1} from by decide, bigSep_insert (by decide), bigSep_singleton]
  rfl

variable (m : (ℓ : Loc nD τ sig) → Buf (Elt Ideal) ℓ) (ρ : Dev nD → PrngReg)

/-- The contents the launch finds. -/
abbrev V (c : Dev nD) (b : Ref sig .tc) : Buf (Elt Ideal) ((c : Thread nD τ).loc b) := m ((c : Thread nD τ).loc b)

/-- A window's block at a point. -/
def iblk (c : Dev nD) (w : Fin (cfgT T0 T1 hT).W) (t : Fin (cfgT T0 T1 hT).N) :
    (((cfgT T0 T1 hT).win w).xblock ((cfgT T0 T1 hT).grid.coords t)).Idx → Elt Ideal ((cfgT T0 T1 hT).win w).elt :=
  (((cfgT T0 T1 hT).win w).blk t).view.read (Elt Ideal) (V m c (Pipeline.arrRef spec0 w))

/-- The block of the tokens at a point, -/
theorem index_0 (t : Fin (cfgT T0 T1 hT).N) : ((pcfg0 (F := Ideal)).win (adm T0 T1 hT 0) 0).index t = ![0, t.val, 0] :=
  (by decide +kernel : ∀ t : Fin grid0.N, cc0_transform_0 (grid0.coords t) = ![0, t.val, 0]) t
/-- of the result, -/
theorem index_3 (t : Fin (cfgT T0 T1 hT).N) : ((pcfg0 (F := Ideal)).win (adm T0 T1 hT 0) 3).index t = ![0, t.val, 0] :=
  (by decide +kernel : ∀ t : Fin grid0.N, cc0_transform_3 (grid0.coords t) = ![0, t.val, 0]) t

/-- A point's coordinate is its number. -/
theorem coord (t : Fin (cfgT T0 T1 hT).N) : (grid0.coords t 0).val = t.val :=
  (by decide +kernel : ∀ t : Fin grid0.N, (grid0.coords t 0).val = t.val) t

/-- The expert of a point's tile. -/
def te (t : Fin (cfgT T0 T1 hT).N) : Fin 32 := ⟨(T0 (ix1 (grid0.coords t 0))).toNat, hT _⟩

omit hT in
/-- The word of the table an index map loads. -/
theorem table_at (i : grid0.Coords) : (tabs T0 T1).at 0 (Rect.unit (s := S96) ![(Scalar.indexCast (BitVec.ofNat 32 (i 0).val)).toNat] S1.size (k0_off1_inb i)) numel1_S1
    = T0 (ix1 (i 0)) := by
  have hi : (i 0).val < 96 := (i 0).isLt
  show T0 _ = T0 _
  refine congrArg T0 (funext fun a => ?_)
  match a with
  | ⟨0, _⟩ =>
    refine Fin.ext ?_
    show (BitVec.ofNat 32 (i 0).val).toNat + 1 * _ = (i 0).val
    rw [BitVec.toNat_ofNat, Nat.mod_eq_of_lt (by omega)]
    simp [Shape.Idx.first]

/-- of the first layer's weights -/
theorem index_1 (t : Fin (cfgT T0 T1 hT).N) : ((pcfg0 (F := Ideal)).win (adm T0 T1 hT 0) 1).index t = ![0, (te T0 T1 hT t).val, 0, 0] := by
  show cc0_transform_1 k0_off1_inb numel1_S1 (tabs T0 T1) (grid0.coords t) = _
  unfold cc0_transform_1 te
  dsimp only
  rw [table_at]
  rfl
/-- and of the second's. -/
theorem index_2 (t : Fin (cfgT T0 T1 hT).N) : ((pcfg0 (F := Ideal)).win (adm T0 T1 hT 0) 2).index t = ![0, (te T0 T1 hT t).val, 0, 0] := by
  show cc0_transform_2 k0_off1_inb numel1_S1 (tabs T0 T1) (grid0.coords t) = _
  unfold cc0_transform_2 te
  dsimp only
  rw [table_at]
  rfl

/-- What a point reads of the tokens, -/
theorem iblk_0 (c : Dev nD) (t : Fin (cfgT T0 T1 hT).N) (h : Fin 2) (s : Fin 2048) (d : Fin 256) : iblk T0 T1 hT m c 0 t (ix3 h s d)
    = m ((c.tc : Thread nD τ).loc main_arg0) (ix3 h (⟨2048 * t.val + s.val, by have : t.val < 96 := t.isLt; omega⟩ : Fin 196608) d) := by
  blk_simp [iblk]
  refine congrArg (V m c main_arg0) ?_
  blk_ext []
  · refine (congrArg (fun n => n * 2 + h.val) (congrFun (index_0 T0 T1 hT t) 0)).trans ?_; show 0 * 2 + h.val = h.val; omega
  · refine (congrArg (fun n => n * 2048 + s.val) (congrFun (index_0 T0 T1 hT t) 1)).trans ?_; show t.val * 2048 + s.val = 2048 * t.val + s.val; omega
  · refine (congrArg (fun n => n * 256 + d.val) (congrFun (index_0 T0 T1 hT t) 2)).trans ?_; show 0 * 256 + d.val = d.val; omega

/-- of the first layer's weights -/
theorem iblk_1 (c : Dev nD) (t : Fin (cfgT T0 T1 hT).N) (k : Fin 1024) (f : Fin 512) : iblk T0 T1 hT m c 1 t (ix4 (0 : Fin 1) (0 : Fin 1) k f)
    = m ((c.tc : Thread nD τ).loc main_arg3) (ix4 (0 : Fin 2) (te T0 T1 hT t) k f) := by
  blk_simp [iblk]
  refine congrArg (V m c main_arg3) ?_
  blk_ext []
  · refine (congrArg (fun n => n + 0) (congrFun (index_1 T0 T1 hT t) 0)).trans ?_; show 0 + 0 = 0; omega
  · refine (congrArg (fun n => n + 0) (congrFun (index_1 T0 T1 hT t) 1)).trans ?_; show (te T0 T1 hT t).val + 0 = (te T0 T1 hT t).val; omega
  · refine (congrArg (fun n => n * 1024 + k.val) (congrFun (index_1 T0 T1 hT t) 2)).trans ?_; show 0 * 1024 + k.val = k.val; omega
  · refine (congrArg (fun n => n * 512 + f.val) (congrFun (index_1 T0 T1 hT t) 3)).trans ?_; show 0 * 512 + f.val = f.val; omega

/-- and of the second's. -/
theorem iblk_2 (c : Dev nD) (t : Fin (cfgT T0 T1 hT).N) (f : Fin 256) (d : Fin 1024) : iblk T0 T1 hT m c 2 t (ix4 (0 : Fin 1) (0 : Fin 1) f d)
    = m ((c.tc : Thread nD τ).loc main_arg4) (ix4 (0 : Fin 2) (te T0 T1 hT t) f d) := by
  blk_simp [iblk]
  refine congrArg (V m c main_arg4) ?_
  blk_ext []
  · refine (congrArg (fun n => n + 0) (congrFun (index_2 T0 T1 hT t) 0)).trans ?_; show 0 + 0 = 0; omega
  · refine (congrArg (fun n => n + 0) (congrFun (index_2 T0 T1 hT t) 1)).trans ?_; show (te T0 T1 hT t).val + 0 = (te T0 T1 hT t).val; omega
  · refine (congrArg (fun n => n * 256 + f.val) (congrFun (index_2 T0 T1 hT t) 2)).trans ?_; show 0 * 256 + f.val = f.val; omega
  · refine (congrArg (fun n => n * 1024 + d.val) (congrFun (index_2 T0 T1 hT t) 3)).trans ?_; show 0 * 1024 + d.val = d.val; omega

/-- The first layer's weights a point needs -/
def W1 (c : Dev nD) (t : Fin (cfgT T0 T1 hT).N) : FVec Ideal S1024x512 .bf16 := k0_pay2 (iblk T0 T1 hT m c 1 t)
/-- and the second's. -/
def W2 (c : Dev nD) (t : Fin (cfgT T0 T1 hT).N) : FVec Ideal S256x1024 .bf16 := k0_pay3 (iblk T0 T1 hT m c 2 t)

/-- They are the expert's, -/
theorem W1_at (c : Dev nD) (t : Fin (cfgT T0 T1 hT).N) (k : Fin 1024) (f : Fin 512) : (W1 T0 T1 hT m c t (ix2 k f) : EReal)
    = m ((c.tc : Thread nD τ).loc main_arg3) (ix4 (0 : Fin 2) (te T0 T1 hT t) k f) := by
  refine Eq.trans ?_ (iblk_1 T0 T1 hT m c t k f)
  unfold W1
  generalize iblk T0 T1 hT m c 1 t = x
  unfold k0_pay2
  pointwise
/-- in both layers. -/
theorem W2_at (c : Dev nD) (t : Fin (cfgT T0 T1 hT).N) (f : Fin 256) (d : Fin 1024) : (W2 T0 T1 hT m c t (ix2 f d) : EReal)
    = m ((c.tc : Thread nD τ).loc main_arg4) (ix4 (0 : Fin 2) (te T0 T1 hT t) f d) := by
  refine Eq.trans ?_ (iblk_2 T0 T1 hT m c t f d)
  unfold W2
  generalize iblk T0 T1 hT m c 2 t = x
  unfold k0_pay3
  pointwise

/-- Points of one expert need the same weights, -/
theorem W1_same (c : Dev nD) (t u : Fin (cfgT T0 T1 hT).N) (h : te T0 T1 hT t = te T0 T1 hT u) : W1 T0 T1 hT m c t = W1 T0 T1 hT m c u :=
  funext fun j => by
    rw [show j = ix2 (j 0 : Fin 1024) (j 1 : Fin 512) by blk_ext []]
    exact (W1_at T0 T1 hT m c t _ _).trans ((congrArg (fun e => m ((c.tc : Thread nD τ).loc main_arg3) (ix4 (0 : Fin 2) e (j 0 : Fin 1024) (j 1 : Fin 512))) h).trans (W1_at T0 T1 hT m c u _ _).symm)
/-- in both layers. -/
theorem W2_same (c : Dev nD) (t u : Fin (cfgT T0 T1 hT).N) (h : te T0 T1 hT t = te T0 T1 hT u) : W2 T0 T1 hT m c t = W2 T0 T1 hT m c u :=
  funext fun j => by
    rw [show j = ix2 (j 0 : Fin 256) (j 1 : Fin 1024) by blk_ext []]
    exact (W2_at T0 T1 hT m c t _ _).trans ((congrArg (fun e => m ((c.tc : Thread nD τ).loc main_arg4) (ix4 (0 : Fin 2) e (j 0 : Fin 256) (j 1 : Fin 1024))) h).trans (W2_at T0 T1 hT m c u _ _).symm)

/-- What the scratches hold before a point: the weights of the point before it, where its tile was used. -/
def Kept (c : Dev nD) (j : ℕ) (f0 : S1024x512.Idx → Elt Ideal .bf16) (f1 : S256x1024.Idx → Elt Ideal .bf16) : Prop :=
  ∀ t : Fin (cfgT T0 T1 hT).N, t.val + 1 = j → Used (grid0.coords t) T1 → rd0 f0 = W1 T0 T1 hT m c t ∧ rd1 f1 = W2 T0 T1 hT m c t

/-- A point run on kept weights keeps its own and answers its tokens. -/
theorem step (c : Dev nD) (t : Fin (cfgT T0 T1 hT).N) (s0 : S1024x512.Idx → Elt Ideal .bf16) (s1 : S256x1024.Idx → Elt Ideal .bf16) (X : S2x2048x256.Idx → Elt Ideal .bf16)
    (f0 : S1024x512.Idx → Elt Ideal .bf16) (f1 : S256x1024.Idx → Elt Ideal .bf16) (hK : Kept T0 T1 hT m c t.val s0 s1)
    (hA : Aft (grid0.coords t) T0 T1 (iblk T0 T1 hT m c 0 t) (iblk T0 T1 hT m c 1 t) (iblk T0 T1 hT m c 2 t) s0 s1 X f0 f1) :
    Kept T0 T1 hT m c (t.val + 1) f0 f1 ∧ (Used (grid0.coords t) T1 → Out (iblk T0 T1 hT m c 0 t) (W1 T0 T1 hT m c t) (W2 T0 T1 hT m c t) X) := by
  have main : Used (grid0.coords t) T1 → (rd0 f0 = W1 T0 T1 hT m c t ∧ rd1 f1 = W2 T0 T1 hT m c t) := fun hu => by
    obtain ⟨ha, hk, -⟩ := hA hu
    by_cases hc : Anew (grid0.coords t) T0
    · exact ha hc
    · obtain ⟨j, hj, he⟩ := kept_of _ T0 hc
      have ht := coord T0 T1 hT t
      have hu' : Used (grid0.coords (⟨j.val, j.isLt⟩ : Fin (cfgT T0 T1 hT).N)) T1 := by
        rw [used_iff] at hu ⊢
        rw [coord T0 T1 hT] at hu ⊢
        show ((j.val : ℕ) : ℤ) < _
        omega
      obtain ⟨k0, k1⟩ := hK ⟨j.val, j.isLt⟩ (by show j.val + 1 = t.val; omega) hu'
      have hte : te T0 T1 hT (⟨j.val, j.isLt⟩ : Fin (cfgT T0 T1 hT).N) = te T0 T1 hT t := Fin.ext (by
        show (T0 (ix1 _)).toNat = (T0 (ix1 _)).toNat
        rw [show grid0.coords (⟨j.val, j.isLt⟩ : Fin (cfgT T0 T1 hT).N) 0 = j from Fin.ext (coord T0 T1 hT ⟨j.val, j.isLt⟩), he])
      rw [(hk hc).1, (hk hc).2, k0, k1, W1_same T0 T1 hT m c _ _ hte, W2_same T0 T1 hT m c _ _ hte]
      exact ⟨rfl, rfl⟩
  refine ⟨fun u hu hU => ?_, fun hU => ?_⟩
  · obtain rfl : u = t := Fin.ext (by omega)
    exact main hU
  · have := (hA hU).2.2
    rw [(main hU).1, (main hU).2] at this
    exact this

/-- The weights held before a point. -/
def held (c : Dev nD) (j : ℕ) : sProp 𝕄 :=
  iprop(∃ f0 : Buf (Elt Ideal) ((c : Thread nD τ).loc cc0_scratch0), ∃ f1 : Buf (Elt Ideal) ((c : Thread nD τ).loc cc0_scratch1),
    ⌜Kept T0 T1 hT m c j f0 f1⌝ ∗ (scM0_0.view.loc (c : Thread nD τ) ↦{fullShare} f0) ∗ (scM0_1.view.loc (c : Thread nD τ) ↦{fullShare} f1))

/-- The proof data: the input windows hold their blocks and keep them, the scratches the weights; -/
def dat (c : Dev nD) : Dat τ (Elt Ideal) Unit ℕ (UR sig nD τ) ℕ (cfgT T0 T1 hT) c where
  A w := V m c (Pipeline.arrRef spec0 w)
  after w t := match w with
    | ⟨0, _⟩ => iblk T0 T1 hT m c 0 t
    | ⟨1, _⟩ => iblk T0 T1 hT m c 1 t
    | ⟨2, _⟩ => iblk T0 T1 hT m c 2 t
    | ⟨3, _⟩ => fun _ => Classical.choice inferInstance
  Φ j := iprop((held T0 T1 hT m c j.val ∗ ∃ r, prngReg c r) ∗ Pipeline.ΦT pre0 (tabs T0 T1) c)
  q w := Pipeline.shareOf spec0 w
  owed _ := 0

/-- the output window is held to a relation: -/
def fgt : Fin (cfgT T0 T1 hT).W → Bool := fun w => match w with
  | ⟨3, _⟩ => true
  | _ => false

/-- where its tile is used, the answers of its tokens. -/
def Rl (c : Dev nD) : (w : Fin (cfgT T0 T1 hT).W) → Fin (cfgT T0 T1 hT).N → (((cfgT T0 T1 hT).win w).block.Idx → Elt Ideal ((cfgT T0 T1 hT).win w).elt) → Prop := fun w => match w with
  | ⟨3, _⟩ => fun t X => Used (grid0.coords t) T1 → Out (iblk T0 T1 hT m c 0 t) (W1 T0 T1 hT m c t) (W2 T0 T1 hT m c t) X
  | _ => fun _ _ => True

/-- The staging buffers at a point. -/
abbrev st0 (t : Fin (cfgT T0 T1 hT).N) := ((cfgT T0 T1 hT).win 0).stage ((cfgT T0 T1 hT).slots t 0)
abbrev st1 (t : Fin (cfgT T0 T1 hT).N) := ((cfgT T0 T1 hT).win 1).stage ((cfgT T0 T1 hT).slots t 1)
abbrev st2 (t : Fin (cfgT T0 T1 hT).N) := ((cfgT T0 T1 hT).win 2).stage ((cfgT T0 T1 hT).slots t 2)
abbrev st3 (t : Fin (cfgT T0 T1 hT).N) := ((cfgT T0 T1 hT).win 3).stage ((cfgT T0 T1 hT).slots t 3)

/-- The body at a point, on what the pipeline hands it. -/
abbrev bodyAt (t : Fin (cfgT T0 T1 hT).N) : Prog (TpuEff nD τ sig (Elt Ideal) Λ₀ .tc) PUnit :=
  cc0_moe_experts (grid0.coords t) tbM0_0 (Memref.isWhole_whole _) tbM0_1 (Memref.isWhole_whole _)
    (st0 T0 T1 hT t) (hstage0_0 (((cfgT T0 T1 hT).slots t 0).cast nbuf0_0)) (st1 T0 T1 hT t) (hstage0_1 (((cfgT T0 T1 hT).slots t 1).cast nbuf0_1))
    (st2 T0 T1 hT t) (hstage0_2 (((cfgT T0 T1 hT).slots t 2).cast nbuf0_2)) (st3 T0 T1 hT t) (hstage0_3 (((cfgT T0 T1 hT).slots t 3).cast nbuf0_3))
    scM0_0 (Memref.isWhole_whole _) scM0_1 (Memref.isWhole_whole _)

/-- The body called at a point is the body at the blocks of that point. -/
theorem defs₀_row (t : Fin (cfgT T0 T1 hT).N) :
    defs₀ (F := Ideal) .tc (cfgT T0 T1 hT).body ((cfgT T0 T1 hT).bodyArgs t ((cfgT T0 T1 hT).slots t)) = bodyAt T0 T1 hT t := by
  unfold defs₀; rw [Defs.onTc_tc]; rfl

/-- What the input windows hold before a point: their blocks. -/
theorem before_0 (c : Dev nD) (t : Fin (cfgT T0 T1 hT).N) (d) : (dat T0 T1 hT m c).before 0 t d = iblk T0 T1 hT m c 0 t :=
  ((dat T0 T1 hT m c).before_in_eq_fetched 0 rfl (fun _ => rfl) (fun _ _ _ => rfl) (fun t => by unfold Dat.blockOf; rfl) t d).trans
    (by unfold Dat.fetched Dat.blockOf iblk; rfl)
theorem before_1 (c : Dev nD) (t : Fin (cfgT T0 T1 hT).N) (d) : (dat T0 T1 hT m c).before 1 t d = iblk T0 T1 hT m c 1 t :=
  ((dat T0 T1 hT m c).before_in_eq_fetched 1 rfl (fun _ => rfl) (fun _ _ _ => rfl) (fun t => by unfold Dat.blockOf; rfl) t d).trans
    (by unfold Dat.fetched Dat.blockOf iblk; rfl)
theorem before_2 (c : Dev nD) (t : Fin (cfgT T0 T1 hT).N) (d) : (dat T0 T1 hT m c).before 2 t d = iblk T0 T1 hT m c 2 t :=
  ((dat T0 T1 hT m c).before_in_eq_fetched 2 rfl (fun _ => rfl) (fun _ _ _ => rfl) (fun t => by unfold Dat.blockOf; rfl) t d).trans
    (by unfold Dat.fetched Dat.blockOf iblk; rfl)

/-- The body meets its obligation at every point. -/
theorem obligation (c : Dev nD) : BodyObligationRel (dat T0 T1 hT m c) (defs₀ (F := Ideal)) Variants.none () Set.univ (fgt T0 T1 hT) (Rl T0 T1 hT m c) := fun t => by
  rw [bigSep_W0, bigSep_W0, defs₀_row]
  have hP : iprop(((held T0 T1 hT m c t.val ∗ ∃ r, prngReg c r) ∗ Pipeline.ΦT pre0 (tabs T0 T1) c : sProp 𝕄) ∗ (dat T0 T1 hT m c).owesAt () t.castSucc
      ∗ (∃ d, owns (c : Thread nD τ) (st0 T0 T1 hT t) fullShare ((dat T0 T1 hT m c).before 0 t d))
      ∗ (∃ d, owns (c : Thread nD τ) (st1 T0 T1 hT t) fullShare ((dat T0 T1 hT m c).before 1 t d))
      ∗ (∃ d, owns (c : Thread nD τ) (st2 T0 T1 hT t) fullShare ((dat T0 T1 hT m c).before 2 t d))
      ∗ (∃ Y, ⌜((dat T0 T1 hT m c).toRRel (fgt T0 T1 hT) (Rl T0 T1 hT m c)).Finds 3 t Y⌝ ∗ owns (c : Thread nD τ) (st3 T0 T1 hT t) fullShare Y)) ⊢
      wp (M := 𝕄) Idealize.ShloMosaic.frame (wpE (defs₀ (F := Ideal)) Variants.none (c : Thread nD τ) none) Set.univ (bodyAt T0 T1 hT t) fun _ =>
      iprop(((held T0 T1 hT m c (t.val + 1) ∗ ∃ r, prngReg c r) ∗ Pipeline.ΦT pre0 (tabs T0 T1) c : sProp 𝕄) ∗ (dat T0 T1 hT m c).owesAt () t.castSucc
      ∗ owns (c : Thread nD τ) (st0 T0 T1 hT t) fullShare (iblk T0 T1 hT m c 0 t)
      ∗ owns (c : Thread nD τ) (st1 T0 T1 hT t) fullShare (iblk T0 T1 hT m c 1 t)
      ∗ owns (c : Thread nD τ) (st2 T0 T1 hT t) fullShare (iblk T0 T1 hT m c 2 t)
      ∗ ∃ X, ⌜Used (grid0.coords t) T1 → Out (iblk T0 T1 hT m c 0 t) (W1 T0 T1 hT m c t) (W2 T0 T1 hT m c t) X⌝ ∗ owns (c : Thread nD τ) (st3 T0 T1 hT t) fullShare X) := by
    rw [tables_eq]
    unfold held
    iintro ⟨⟨⟨⟨%f0, %f1, %hK, HS0, HS1⟩, Hρ⟩, ⟨HT0, HT1⟩⟩, Ho, ⟨%d0, H0⟩, ⟨%d1, H1⟩, ⟨%d2, H2⟩, ⟨%Y, -, H3⟩⟩
    rw [before_0, before_1, before_2]
    iapply body T0 T1 c (grid0.coords t) (st0 T0 T1 hT t) _ (st1 T0 T1 hT t) _ (st2 T0 T1 hT t) _ (st3 T0 T1 hT t) _
      (iblk T0 T1 hT m c 0 t) (iblk T0 T1 hT m c 1 t) (iblk T0 T1 hT m c 2 t) Y f0 f1
    isplitl [H0]; · iexact H0
    isplitl [H1]; · iexact H1
    isplitl [H2]; · iexact H2
    isplitl [H3]; · iexact H3
    isplitl [HT0]; · iexact HT0
    isplitl [HT1]; · iexact HT1
    isplitl [HS0]; · iexact HS0
    isplitl [HS1]; · iexact HS1
    iintro ⟨H0, H1, H2, HT0, HT1, ⟨%X, %g0, %g1, %hA, H3, HS0, HS1⟩⟩
    have hS := step T0 T1 hT m c t f0 f1 X g0 g1 hK hA
    isplitl [HS0 HS1 Hρ HT0 HT1]
    · isplitl [HS0 HS1 Hρ]
      · isplitl [HS0 HS1]
        · iexists g0, g1
          isplitr; · ipureintro; exact hS.1
          isplitl [HS0]; · iexact HS0
          iexact HS1
        · iexact Hρ
      · isplitl [HT0]; · iexact HT0
        iexact HT1
    isplitl [Ho]; · iexact Ho
    isplitl [H0]; · iexact H0
    isplitl [H1]; · iexact H1
    isplitl [H2]; · iexact H2
    iexists X
    isplitr; · ipureintro; exact hS.2
    iexact H3
  exact triple_restated hP rfl .rfl fun _ => .rfl

/-- The whole program runs, to what the proof data say, and leaves every semaphore at zero. -/
theorem run (h0 : ∀ c, V m c main_arg1 = T0) (h1 : ∀ c, V m c main_arg2 = T1) :
    θ_run (defs (F := Ideal)) (onTc (τ := τ) (main (F := Ideal))) ⟨m, fun _ => 0, ρ⟩
    (fun r => RDat.FramePost (cfgT T0 T1 hT) (fun c => (dat T0 T1 hT m c).toRRel (fgt T0 T1 hT) (Rl T0 T1 hT m c)) (V m) r ∧ r.2.sem = fun _ => 0) :=
  Pipeline.RDat.θ_run_frameP_track_shared pcfgs (adm T0 T1 hT) 0 launch0.to₀ defs₀ Variants.none (fun c => (dat T0 T1 hT m c).toRRel (fgt T0 T1 hT) (Rl T0 T1 hT m c)) m ρ main
    (fun c => (obligation T0 T1 hT m c).toRRel) (fun _ _ _ => rfl) (fun _ _ => rfl) (V m)
    (Pipeline.hmainP_region pcfgs 0 defs₀ Variants.none m main fun c => (main_chain c).trans rfl) (fun _ _ => rfl)
    (fun c k => match k with
      | ⟨0, _⟩ => h0 c
      | ⟨1, _⟩ => h1 c)
    (fun c => by
      show iprop(Pipeline.ΦA spec0 c ∗ Pipeline.ΦT pre0 (tabs T0 T1) c) ⊢ iprop((held T0 T1 hT m c 0 ∗ ∃ r, prngReg c r) ∗ Pipeline.ΦT pre0 (tabs T0 T1) c)
      unfold Pipeline.ΦA held
      rw [scopedRest0_eq]
      iintro ⟨⟨⟨⟨%f0, HS0⟩, ⟨%f1, HS1⟩⟩, Hρ⟩, HT⟩
      isplitl [HS0 HS1 Hρ]
      · isplitl [HS0 HS1]
        · iexists f0, f1
          isplitr; · ipureintro; exact fun t h => absurd h (by omega)
          isplitl [HS0]; · iexact HS0
          iexact HS1
        · iexact Hρ
      · iexact HT)
    (fun c => by
      show iprop((held T0 T1 hT m c _ ∗ ∃ r, prngReg c r) ∗ Pipeline.ΦT pre0 (tabs T0 T1) c) ⊢ Pipeline.ΦA spec0 c
      unfold Pipeline.ΦA held
      rw [scopedRest0_eq]
      iintro ⟨⟨⟨%f0, %f1, -, HS0, HS1⟩, Hρ⟩, -⟩
      isplitl [HS0 HS1]
      · isplitl [HS0]; · iexists f0; iexact HS0
        iexists f1; iexact HS1
      · iexact Hρ) _ (fun _ h => h)

/-- What a run to that says of the argument arrays: unchanged. -/
theorem args_of {r : PUnit × MemSt nD τ sig (Elt Ideal)}
    (h : RDat.FramePost (cfgT T0 T1 hT) (fun c => (dat T0 T1 hT m c).toRRel (fgt T0 T1 hT) (Rl T0 T1 hT m c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨h.arr_in c 0 rfl, (h c).2 main_arg1 (show main_arg1 ∈ Pipeline.restRefs sig spec0 from by decide),
    (h c).2 main_arg2 (show main_arg2 ∈ Pipeline.restRefs sig spec0 from by decide), h.arr_in c 1 rfl, h.arr_in c 2 rfl⟩

end

/-- The frame of the experts over the reals. -/
theorem frame (m : (ℓ : Loc nD τ sig) → Buf (Elt Ideal) ℓ) (ρ : Dev nD → PrngReg)
    (hT : ∀ c : Dev nD, ∀ i : S96.Idx, BitVec.toNat (w := 32) (m ((c.tc : Thread nD τ).loc main_arg1) i) < 32) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun _ h => ⟨fun c => args_of _ _ (hT 0) m h.1 c, h.2⟩)
    (run (m (((0 : Dev nD).tc : Thread nD τ).loc main_arg1)) (m (((0 : Dev nD).tc : Thread nD τ).loc main_arg2)) (hT 0) m ρ
      (fun c => by rw [Subsingleton.elim c 0]) (fun c => by rw [Subsingleton.elim c 0]))

end Cert.Proof.ExpertsIdeal

end
-- ==== Proof.ExpertsRef.lean ====
module

public import proofs.«01_k».proof.Proof.ExpertsChunk
public import proofs.«01_k».proof.Proof.Gen.ExpertsReferenceIdeal.Run
public import Idealize.ShloMosaic.Lib.Pointwise
public import Idealize.ShloMosaic.Lib.IdealHost

@[expose] public section

set_option maxRecDepth 65536

noncomputable section

/-! The experts' reference stage by stage: a token's answer is its tile's expert's. -/

namespace Cert.Proof.ExpertsReferenceIdeal

open Cert.ExpertsReferenceIdeal Cert.ExpertsReferenceIdeal.Gen Cert.ExpertsReferenceIdeal.Value
open Cert.Proof.ExpertsIdeal (act)
open Idealize.ShloMosaic Idealize.ShloMosaic.TcCoe Idealize.SL.Sem

/-- The tokens' features. -/
def xh (x : FVec Ideal S2x196608x256 .bf16) : FVec Ideal S96x1024x1024 .f32 :=
  shapeCast _ (transpose S96x1024x2x2x256 [1, 2, 0, 3, 4] (shapeCast _ (extf .f32 x bitsLt_bf16_f32) shapeCasts_S2x196608x256_S2x96x1024x2x256) transposes_S2x96x1024x2x256_S96x1024x2x2x256_1_2_0_3_4) shapeCasts_S96x1024x2x2x256_S96x1024x1024

/-- Every expert's first layer of every token. -/
def uh (x : FVec Ideal S96x1024x1024 .f32) (w : FVec Ideal S2x32x1024x512 .f32) : FVec Ideal S96x1024x32x512 .f32 :=
  Host.dotGeneral dot_S96x1024x1024_S32x1024x512_S96x1024x32x512_2_1_01_02_n_n none x (shapeCast _ (extractStridedSlice S1x32x1024x512 ![0, 0, 0, 0] w slices_S2x32x1024x512_S1x32x1024x512_0_0_0_0) shapeCasts_S1x32x1024x512_S32x1024x512)

/-- Which expert a tile has. -/
def eh (e : IVec S96 32) : FVec Ideal S96x32 .f32 :=
  sitofp .f32 (extui 32 (cmpi .eq (broadcastInDim S96x32 ![0, 1] bcast_S96x1_S96x32_0_1 (broadcastInDim S96x1 ![0] bcast_S96_S96x1_0 e)) (broadcastInDim S96x32 ![0, 1] bcast_S1x32_S96x32_0_1 (broadcastInDim S1x32 ![1] bcast_S32_S1x32_1 (iotaInDim S32 32 0)))) natLt_1_32)

/-- The gated activations, of the tile's expert alone. -/
def ah (u : FVec Ideal S96x1024x32x512 .f32) (g : FVec Ideal S96x32 .f32) : FVec Ideal S96x1024x32x256 .f32 :=
  mulf (mulf (mulf (extractStridedSlice S96x1024x32x256 ![0, 0, 0, 0] u slices_S96x1024x32x512_S96x1024x32x256_0_0_0_0) (Host.divf (broadcastInDim S96x1024x32x256 ![] bcast_S_S96x1024x32x256 (constant S_ .f32 0x3F800000#32)) (addf (broadcastInDim S96x1024x32x256 ![] bcast_S_S96x1024x32x256 (constant S_ .f32 0x3F800000#32)) (Host.exp (Host.negf (extractStridedSlice S96x1024x32x256 ![0, 0, 0, 0] u slices_S96x1024x32x512_S96x1024x32x256_0_0_0_0)))))) (extractStridedSlice S96x1024x32x256 ![0, 0, 0, 256] u slices_S96x1024x32x512_S96x1024x32x256_0_0_0_256)) (broadcastInDim S96x1024x32x256 ![0, 1, 2, 3] bcast_S96x1x32x1_S96x1024x32x256_0_1_2_3 (broadcastInDim S96x1x32x1 ![0, 2] bcast_S96x32_S96x1x32x1_0_2 g))

/-- The second layer, over every expert. -/
def yh (a : FVec Ideal S96x1024x32x256 .f32) (w : FVec Ideal S2x32x256x1024 .f32) : FVec Ideal S96x1024x1024 .f32 :=
  Host.dotGeneral dot_S96x1024x32x256_S32x256x1024_S96x1024x1024_23_01_01_2_n_n none a (shapeCast _ (extractStridedSlice S1x32x256x1024 ![0, 0, 0, 0] w slices_S2x32x256x1024_S1x32x256x1024_0_0_0_0) shapeCasts_S1x32x256x1024_S32x256x1024)

/-- The answers in the layout of the tokens. -/
def rh (y : FVec Ideal S96x1024x1024 .f32) : FVec Ideal S2x196608x256 .bf16 :=
  truncf .bf16 (shapeCast _ (transpose S2x96x1024x2x256 [2, 0, 1, 3, 4] (shapeCast _ y shapeCasts_S96x1024x1024_S96x1024x2x2x256) transposes_S96x1024x2x2x256_S2x96x1024x2x256_2_0_1_3_4) shapeCasts_S2x96x1024x2x256_S2x196608x256) bitsLt_bf16_f32

/-- The reference's result, of the four arrays it reads. -/
def G (x : FVec Ideal S2x196608x256 .bf16) (e : IVec S96 32) (w : FVec Ideal S2x32x1024x512 .f32) (d : FVec Ideal S2x32x256x1024 .f32) : FVec Ideal S2x196608x256 .bf16 :=
  rh (yh (ah (uh (xh x) w) (eh e)) d)

/-! ## The stages at an index -/

/-- A feature of a token. -/
theorem xh_at (x : FVec Ideal S2x196608x256 .bf16) (t : Fin 96) (R k : Fin 1024) : (xh x (ix3 t R k) : EReal)
    = x (ix3 (⟨k.val / 512, by omega⟩ : Fin 2) (⟨t.val * 2048 + R.val * 2 + k.val / 256 % 2, by omega⟩ : Fin 196608) (⟨k.val % 256, by omega⟩ : Fin 256)) := by
  unfold xh
  pointwise

/-- A first layer's product. -/
theorem uh_at (x : FVec Ideal S96x1024x1024 .f32) (w : FVec Ideal S2x32x1024x512 .f32) (t : Fin 96) (R : Fin 1024) (e : Fin 32) (f : Fin 512) :
    (uh x w (ix4 t R e f) : EReal) = ∑ k : Fin 1024, x (ix3 t R k) * w (ix4 (0 : Fin 2) e k f) := by
  unfold uh
  pointwise

/-- An activation. -/
theorem ah_at (u : FVec Ideal S96x1024x32x512 .f32) (g : FVec Ideal S96x32 .f32) (t : Fin 96) (R : Fin 1024) (e : Fin 32) (f : Fin 256) :
    (ah u g (ix4 t R e f) : EReal) = act (u (ix4 t R e (⟨f.val, by omega⟩ : Fin 512))) (u (ix4 t R e (⟨256 + f.val, by omega⟩ : Fin 512))) * g (ix2 t e) := by
  unfold ah act Ideal.logistic
  rw [← Ideal.ofBits_one_f32]
  pointwise

/-- The second layer's sum. -/
theorem yh_at (a : FVec Ideal S96x1024x32x256 .f32) (w : FVec Ideal S2x32x256x1024 .f32) (t : Fin 96) (R d : Fin 1024) :
    (yh a w (ix3 t R d) : EReal) = ∑ e : Fin 32, ∑ f : Fin 256, a (ix4 t R e f) * w (ix4 (0 : Fin 2) e f d) := by
  unfold yh
  pointwise

/-- An answer where it lies. -/
theorem rh_at (y : FVec Ideal S96x1024x1024 .f32) (h : Fin 2) (r : Fin 196608) (c : Fin 256) : (rh y (ix3 h r c) : EReal)
    = y (ix3 (⟨r.val / 2048, by omega⟩ : Fin 96) (⟨r.val / 2 % 1024, by omega⟩ : Fin 1024) (⟨h.val * 512 + r.val % 2 * 256 + c.val, by omega⟩ : Fin 1024)) := by
  unfold rh
  pointwise

/-- Whether a tile has an expert. -/
theorem eh_at (e : IVec S96 32) (t : Fin 96) (j : Fin 32) : (eh e (ix2 t j) : EReal) = if (e (ix1 t)).toNat = j.val then 1 else 0 := by
  unfold eh
  pointwise
  have hj := j.isLt
  by_cases h : (e (ix1 t)).toNat = j.val
  · have h1 : IntOp.cmpi .eq (e (ix1 t)) (BitVec.ofNat 32 j.val) = 1#1 := IntOp.cmpi_eq.2 (BitVec.eq_of_toNat_eq (by rw [BitVec.toNat_ofNat, h]; omega))
    rw [h1, if_pos h]
    show (((1#32 : BitVec 32).toInt : ℝ) : EReal) = 1
    norm_num
  · have h0 : IntOp.cmpi .eq (e (ix1 t)) (BitVec.ofNat 32 j.val) = 0#1 := by
      rcases BitVec.eq_zero_or_eq_one (IntOp.cmpi .eq (e (ix1 t)) (BitVec.ofNat 32 j.val)) with h' | h'
      · exact h'
      · refine absurd ?_ h
        rw [IntOp.cmpi_eq.1 h', BitVec.toNat_ofNat]
        omega
    rw [h0, if_neg h]
    show (((0#32 : BitVec 32).toInt : ℝ) : EReal) = 0
    norm_num

/-- A token's answer: its tile's expert's. -/
theorem G_at (x : FVec Ideal S2x196608x256 .bf16) (e : IVec S96 32) (w : FVec Ideal S2x32x1024x512 .f32) (d : FVec Ideal S2x32x256x1024 .f32)
    (h : Fin 2) (r : Fin 196608) (c : Fin 256) (E : Fin 32) (hE : (e (ix1 (⟨r.val / 2048, by omega⟩ : Fin 96))).toNat = E.val) :
    (G x e w d (ix3 h r c) : EReal) = ∑ f : Fin 256,
      act (∑ k : Fin 1024, xh x (ix3 (⟨r.val / 2048, by omega⟩ : Fin 96) (⟨r.val / 2 % 1024, by omega⟩ : Fin 1024) k) * w (ix4 (0 : Fin 2) E k (⟨f.val, by omega⟩ : Fin 512)))
        (∑ k : Fin 1024, xh x (ix3 (⟨r.val / 2048, by omega⟩ : Fin 96) (⟨r.val / 2 % 1024, by omega⟩ : Fin 1024) k) * w (ix4 (0 : Fin 2) E k (⟨256 + f.val, by omega⟩ : Fin 512)))
      * d (ix4 (0 : Fin 2) E f (⟨h.val * 512 + r.val % 2 * 256 + c.val, by omega⟩ : Fin 1024)) := by
  unfold G
  rw [rh_at, yh_at, Finset.sum_eq_single E]
  · refine Finset.sum_congr rfl fun f _ => ?_
    rw [ah_at, eh_at, if_pos hE, mul_one, uh_at, uh_at]
  · intro j _ hj
    refine Finset.sum_eq_zero fun f _ => ?_
    rw [ah_at, eh_at, if_neg fun h => hj (Fin.ext (h.symm.trans hE)), mul_zero, zero_mul]
  · intro h
    exact absurd (Finset.mem_univ _) h

/-- The reference runs to `G` of its arguments, and leaves them alone. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = G (m ((c.tc : Thread nD τ).loc main_arg0)) (m ((c.tc : Thread nD τ).loc main_arg1))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ExpertsReferenceIdeal.Value.run (F := Ideal) m ρ

end Cert.Proof.ExpertsReferenceIdeal

end
-- ==== Proof.ExpertsValue.lean ====
module

public import proofs.«01_k».proof.Proof.ExpertsIdealFrame
public import proofs.«01_k».proof.Proof.ExpertsRef
public import proofs.«01_k».proof.Proof.Gen.On_tiles_used
public import Idealize.ShloMosaic.Lib.Pipeline.ValueKit

@[expose] public section

set_option maxRecDepth 65536

noncomputable section

/-! The experts' result array: where a tile is used, the reference's result. -/

namespace Cert.Proof.ExpertsIdeal

open Cert.ExpertsIdeal Cert.ExpertsIdeal.Gen
open Cert.Proof.ExpertsReferenceIdeal (G G_at xh xh_at)
open Idealize.ShloMosaic Idealize.ShloMosaic.TcCoe Idealize.SL.Sem
open Idealize.ShloMosaic.Pipeline (Dat RDat Cfg Window)

/-- What the mask says at an index. -/
theorem mask_at (x : FVec Ideal S2x196608x256 .bf16) (e : IVec S96 32) (n : IVec S1 32) (w : FVec Ideal S2x32x1024x512 .f32) (d : FVec Ideal S2x32x256x1024 .f32)
    (h : Fin 2) (r : Fin 196608) (c : Fin 256) :
    Cert.On_tiles_used.fn (F := Ideal) x e n w d (ix3 h r c) = IntOp.cmpi .slt (BitVec.ofNat 32 (r.val / 2048)) (n (ix1 (0 : Fin 1))) := by
  unfold Cert.On_tiles_used.fn
  dsimp only
  pointwise

section
variable (T0 : S96.Idx → BitVec 32) (T1 : S1.Idx → BitVec 32) (hT : ∀ i, (T0 i).toNat < 32)
variable (m : (ℓ : Loc nD τ sig) → Buf (Elt Ideal) ℓ) (c : Dev nD)

/-- Every point writes its block back. -/
theorem flushes (t : Fin (cfgT T0 T1 hT).N) : ((cfgT T0 T1 hT).win 3).flush t = true :=
  (Pipeline.Window.flush_eq_flushOf _ t).trans ((by decide +kernel : ∀ t : Fin grid0.N, Pipeline.Window.flushOf grid0 true cc0_transform_3 t = true) t)

/-- Where a point's block lies in the result. -/
theorem emb_at (t : Fin (cfgT T0 T1 hT).N) (h : Fin 2) (s : Fin 2048) (b : Fin 256) :
    (((cfgT T0 T1 hT).win 3).blk t).view.emb (ix3 h s b) = (ix3 h (⟨2048 * t.val + s.val, by have : t.val < 96 := t.isLt; omega⟩ : Fin 196608) b : S2x196608x256.Idx) := by
  blk_ext []
  · refine (congrArg (fun n => n * 2 + h.val) (congrFun (index_3 T0 T1 hT t) 0)).trans ?_; show 0 * 2 + h.val = h.val; omega
  · refine (congrArg (fun n => n * 2048 + s.val) (congrFun (index_3 T0 T1 hT t) 1)).trans ?_; show t.val * 2048 + s.val = 2048 * t.val + s.val; omega
  · refine (congrArg (fun n => n * 256 + b.val) (congrFun (index_3 T0 T1 hT t) 2)).trans ?_; show 0 * 256 + b.val = b.val; omega

/-- The blocks cover the result. -/
theorem cover (i : S2x196608x256.Idx) : ∃ t : Fin (cfgT T0 T1 hT).N, ((cfgT T0 T1 hT).win 3).flush t = true ∧ i ∈ (((cfgT T0 T1 hT).win 3).blk t).view.set := by
  have h1 : (i 1).val < 196608 := (i 1).isLt
  refine ⟨⟨(i 1).val / 2048, by show (i 1).val / 2048 < 96; omega⟩, flushes T0 T1 hT _, ?_⟩
  have e := emb_at T0 T1 hT ⟨(i 1).val / 2048, by show (i 1).val / 2048 < 96; omega⟩ (i 0) (⟨(i 1).val % 2048, by omega⟩ : Fin 2048) (i 2)
  have hi : (ix3 (i 0) (⟨2048 * ((i 1).val / 2048) + (i 1).val % 2048, by omega⟩ : Fin 196608) (i 2) : S2x196608x256.Idx) = i := funext fun a => by
    match a with
    | ⟨0, _⟩ => rfl
    | ⟨1, _⟩ => exact Fin.ext (show 2048 * ((i 1).val / 2048) + (i 1).val % 2048 = (i 1).val by omega)
    | ⟨2, _⟩ => rfl
  have e' := e.trans hi
  exact Eq.mp (congrArg (fun x => x ∈ (((cfgT T0 T1 hT).win 3).blk _).view.set) e') (View.emb_mem_set _ _)

/-- What is claimed of an entry of the result: the reference's, where its tile is used. -/
def Good (i : S2x196608x256.Idx) (v : EReal) : Prop :=
  IntOp.cmpi .slt (BitVec.ofNat 32 ((i 1).val / 2048)) (T1 (ix1 (0 : Fin 1))) = 1#1 →
    v = G (m ((c.tc : Thread nD τ).loc main_arg0)) T0 (m ((c.tc : Thread nD τ).loc main_arg3)) (m ((c.tc : Thread nD τ).loc main_arg4)) i

/-- A point's block is the reference's result there. -/
theorem block_at (t : Fin (cfgT T0 T1 hT).N) (X : FVec Ideal S2x2048x256 .bf16)
    (hO : Out (iblk T0 T1 hT m c 0 t) (W1 T0 T1 hT m c t) (W2 T0 T1 hT m c t) X) (h : Fin 2) (s : Fin 2048) (b : Fin 256) :
    (X (ix3 h s b) : EReal) = G (m ((c.tc : Thread nD τ).loc main_arg0)) T0 (m ((c.tc : Thread nD τ).loc main_arg3)) (m ((c.tc : Thread nD τ).loc main_arg4))
      (ix3 h (⟨2048 * t.val + s.val, by have : t.val < 96 := t.isLt; omega⟩ : Fin 196608) b) := by
  have ht : t.val < 96 := t.isLt
  have hs := s.isLt
  have hE : (T0 (ix1 (⟨(2048 * t.val + s.val) / 2048, by omega⟩ : Fin 96))).toNat = (te T0 T1 hT t).val := by
    show (T0 _).toNat = (T0 _).toNat
    rw [show (⟨(2048 * t.val + s.val) / 2048, by omega⟩ : Fin 96) = grid0.coords t 0 from
      Fin.ext (show (2048 * t.val + s.val) / 2048 = (grid0.coords t 0).val by rw [coord T0 T1 hT t]; omega)]
  rw [hO h s b, G_at _ _ _ _ h _ b (te T0 T1 hT t) hE]
  unfold ans
  have hx : ∀ k : Fin 1024, tok (iblk T0 T1 hT m c 0 t) ⟨s.val / 2, by omega⟩ k
      = xh (m ((c.tc : Thread nD τ).loc main_arg0)) (ix3 (⟨(2048 * t.val + s.val) / 2048, by omega⟩ : Fin 96) (⟨(2048 * t.val + s.val) / 2 % 1024, by omega⟩ : Fin 1024) k) := fun k => by
    unfold tok
    rw [xh_at, iblk_0]
    refine congrArg (fun a => m ((c.tc : Thread nD τ).loc main_arg0) (ix3 (⟨k.val / 512, by omega⟩ : Fin 2) a (⟨k.val % 256, by omega⟩ : Fin 256))) (Fin.ext ?_)
    show 2048 * t.val + (2 * (s.val / 2) + k.val / 256 % 2) = (2048 * t.val + s.val) / 2048 * 2048 + (2048 * t.val + s.val) / 2 % 1024 * 2 + k.val / 256 % 2
    omega
  refine Finset.sum_congr rfl fun f _ => ?_
  simp only [W1_at, W2_at, hx]
  refine congrArg (fun a => _ * m ((c.tc : Thread nD τ).loc main_arg4) (ix4 (0 : Fin 2) (te T0 T1 hT t) f a)) (Fin.ext ?_)
  show 512 * h.val + 256 * (s.val % 2) + b.val = h.val * 512 + (2048 * t.val + s.val) % 2 * 256 + b.val
  omega

/-- It holds of a block a point leaves. -/
theorem good_at (t : Fin (cfgT T0 T1 hT).N) (X : FVec Ideal S2x2048x256 .bf16)
    (hO : Used (grid0.coords t) T1 → Out (iblk T0 T1 hT m c 0 t) (W1 T0 T1 hT m c t) (W2 T0 T1 hT m c t) X) (h : Fin 2) (s : Fin 2048) (b : Fin 256) :
    Good T0 T1 m c (ix3 h (⟨2048 * t.val + s.val, by have : t.val < 96 := t.isLt; omega⟩ : Fin 196608) b) (X (ix3 h s b)) := fun hu => by
  have ht : t.val < 96 := t.isLt
  have hs := s.isLt
  refine block_at T0 T1 hT m c t X (hO ?_) h s b
  rw [used_iff, coord T0 T1 hT t]
  have hu' := IntOp.cmpi_slt.1 hu
  have e : (2048 * t.val + s.val) / 2048 = t.val := by omega
  have e' : (BitVec.ofNat 32 ((2048 * t.val + s.val) / 2048)).toInt < (T1 (ix1 (0 : Fin 1))).toInt := hu'
  rw [e, toInt_coord _ ht] at e'
  exact e'

/-- What a run leaves in the result array. -/
theorem result {r : PUnit × MemSt nD τ sig (Elt Ideal)}
    (hr : RDat.FramePost (cfgT T0 T1 hT) (fun c => (dat T0 T1 hT m c).toRRel (fgt T0 T1 hT) (Rl T0 T1 hT m c)) (V m) r) (i : S2x196608x256.Idx) :
    Good T0 T1 m c i (r.2.mem ((c.tc : Thread nD τ).loc main_v0) i) := by
  obtain ⟨after, hL, hA⟩ := RDat.FramePost.exists_exact hr c
  have h3 := congrFun (hA 3) i
  have hG : ∀ t : Fin (cfgT T0 T1 hT).N, ((cfgT T0 T1 hT).win 3).flush t = true → ∀ (h : Fin 2) (s : Fin 2048) (b : Fin 256),
      Good T0 T1 m c (ix3 h (⟨2048 * t.val + s.val, by have : t.val < 96 := t.isLt; omega⟩ : Fin 196608) b) (after 3 t (ix3 h s b)) :=
    fun t hf => good_at T0 T1 hT m c t (after 3 t) (Dat.toRRel_leaves (dat T0 T1 hT m c) rfl (hL 3 t hf))
  have hY : ∀ t : Fin (cfgT T0 T1 hT).N, ((cfgT T0 T1 hT).win 3).flush t = true → ∀ y : S2x2048x256.Idx,
      Good T0 T1 m c ((((cfgT T0 T1 hT).win 3).blk t).view.emb y) (after 3 t y) := fun t hf y => by
    have hy : y = ix3 (y 0) (y 1) (y 2) := by blk_ext []
    rw [hy]
    exact Eq.mpr (congrArg (fun j => Good T0 T1 m c j (after 3 t (ix3 (y 0) (y 1) (y 2)))) (emb_at T0 T1 hT t (y 0) (y 1) (y 2))) (hG t hf (y 0) (y 1) (y 2))
  refine Eq.mpr (congrArg (Good T0 T1 m c i) h3) ?_
  refine Dat.arrAt_forall_of_cover (c := c) (Val := Elt Ideal) (cfg := cfgT T0 T1 hT) _ 3 (fun j v => Good T0 T1 m c j v) (fun t hf y => ?_) (cover T0 T1 hT) i
  exact hY t hf y

end

end Cert.Proof.ExpertsIdeal

end
-- ==== Proof.NextExpertsFrame.lean ====
module

public import proofs.«01_k».proof.Proof.Named
public import proofs.«01_k».proof.Proof.Gen.NextExperts
public import proofs.«01_k».proof.Proof.Gen.NextExperts.Launch
public import proofs.«01_k».proof.Proof.Gen.NextExperts.Flash.Runs
public import Idealize.ShloMosaic.Lib.Pipeline.DatRel
public import Idealize.ShloMosaic.Lib.Pipeline.ArrRel
public import Idealize.ShloMosaic.Lib.Pipeline.TableIdle

@[expose] public section

set_option maxRecDepth 65536

noncomputable section

/-! The second layer's experts' kernel on words: it runs from any memory whose tiles name experts, and leaves its arguments alone. -/

namespace Cert.Proof.NextExperts

open Cert.NextExperts Cert.NextExperts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

local notation "𝕄" => MT nD τ sig Unit (Elt Bits) ℕ (UR sig nD τ) ℕ

/-! ## The tables -/

/-- The tables as launched. -/
def tabs (T0 : S96.Idx → BitVec 32) (T1 : S1.Idx → BitVec 32) : pre0.Contents (Elt Bits) := fun
  | ⟨0, _⟩ => T0
  | ⟨1, _⟩ => T1
  | ⟨_ + 2, h⟩ => absurd h (by simp)

/-- Tables that name experts are in range. -/
theorem tabs_ok (T0 : S96.Idx → BitVec 32) (T1 : S1.Idx → BitVec 32) (h : ∀ i, (T0 i).toNat < 32) : ok0 (F := Bits) (tabs T0 T1) := by
  have key : ∀ i : S96.Idx, ∀ a : Fin 4, ((![1, (T0 i).toNat, 0, 0] : Fin 4 → ℕ) a + 1) * S1x1x1024x512.size a ≤ S2x32x1024x512.size a := fun i a => by
    have := h i
    fin_cases a <;> simp <;> omega
  have key' : ∀ i : S96.Idx, ∀ a : Fin 4, ((![1, (T0 i).toNat, 0, 0] : Fin 4 → ℕ) a + 1) * S1x1x256x1024.size a ≤ S2x32x256x1024.size a := fun i a => by
    have := h i
    fin_cases a <;> simp <;> omega
  exact ⟨fun i => ⟨key _, .inl rfl⟩, fun i => ⟨key' _, .inl rfl⟩⟩

section
variable (T0 : S96.Idx → BitVec 32) (T1 : S1.Idx → BitVec 32) (hT : ∀ i, (T0 i).toNat < 32)

/-- The tables with their evidence. -/
abbrev adm : (p : Fin 1) → (pcfgs (F := Bits) p).Adm := fun _ => ⟨tabs T0 T1, tabs_ok T0 T1 hT⟩

/-- The pipeline at them. -/
abbrev cfgT : Cfg sig Λ₀ := cfg0 (F := Bits) (adm T0 T1 hT 0)

/-! ## The body at a point -/

/-- The body, run on whole buffers, gives them back: the inputs and the tables as they were. -/
theorem body (c : Dev nD) (i : grid0.Coords) (arg3 : Memref sig .tc .vmem S2x2048x256 .bf16) (harg3 : arg3.IsWhole) (arg4 : Memref sig .tc .vmem S1x1x1024x512 .f32)
    (harg4 : arg4.IsWhole) (arg5 : Memref sig .tc .vmem S1x1x256x1024 .f32) (harg5 : arg5.IsWhole) (arg6 : Memref sig .tc .vmem S2x2048x256 .bf16) (harg6 : arg6.IsWhole)
    (x0 : S2x2048x256.Idx → Elt Bits .bf16) (x1 : S1x1x1024x512.Idx → Elt Bits .f32) (x2 : S1x1x256x1024.Idx → Elt Bits .f32) (y : S2x2048x256.Idx → Elt Bits .bf16)
    (s0 : Buf (Elt Bits) ((c : Thread nD τ).loc cc0_scratch0)) (s1 : Buf (Elt Bits) ((c : Thread nD τ).loc cc0_scratch1)) (K : PUnit → sProp 𝕄) :
    iprop(owns (c : Thread nD τ) arg3 fullShare x0 ∗ owns (c : Thread nD τ) arg4 fullShare x1 ∗ owns (c : Thread nD τ) arg5 fullShare x2
      ∗ owns (c : Thread nD τ) arg6 fullShare y
      ∗ (tbM0_0.view.loc (c : Thread nD τ) ↦{fullShare.right} T0) ∗ (tbM0_1.view.loc (c : Thread nD τ) ↦{fullShare.right} T1)
      ∗ (scM0_0.view.loc (c : Thread nD τ) ↦{fullShare} s0) ∗ (scM0_1.view.loc (c : Thread nD τ) ↦{fullShare} s1)
      ∗ (iprop(owns (c : Thread nD τ) arg3 fullShare x0 ∗ owns (c : Thread nD τ) arg4 fullShare x1 ∗ owns (c : Thread nD τ) arg5 fullShare x2
        ∗ (∃ y, owns (c : Thread nD τ) arg6 fullShare y)
        ∗ (tbM0_0.view.loc (c : Thread nD τ) ↦{fullShare.right} T0) ∗ (tbM0_1.view.loc (c : Thread nD τ) ↦{fullShare.right} T1)
        ∗ (∃ f : Buf (Elt Bits) ((c : Thread nD τ).loc cc0_scratch0), scM0_0.view.loc (c : Thread nD τ) ↦{fullShare} f)
        ∗ (∃ f : Buf (Elt Bits) ((c : Thread nD τ).loc cc0_scratch1), scM0_1.view.loc (c : Thread nD τ) ↦{fullShare} f)) -∗ K ⟨⟩))
      ⊢ wp Idealize.ShloMosaic.frame (wpE (defs₀ (F := Bits)) Variants.none (c : Thread nD τ) none) Set.univ
        (cc0_moe_experts i tbM0_0 (Memref.isWhole_whole _) tbM0_1 (Memref.isWhole_whole _) arg3 harg3 arg4 harg4 arg5 harg5 arg6 harg6
          scM0_0 (Memref.isWhole_whole _) scM0_1 (Memref.isWhole_whole _)) K := by
  by_cases h1 : k0_cond1 i (View.readAt (Elt Bits) (tbM0_1).view (Rect.unit (s := S1) ![0] S1.size inb_S1_S1_0).toLoadRect T1 (Shape.Idx.first (numel1_S1.symm ▸ Nat.one_pos))) = 1#1
  · by_cases hc : (Scalar.cmpi .ne (Scalar.extui (Scalar.ori (Scalar.cmpi .eq (BitVec.ofNat 32 (i 0).val) 0#32) (Scalar.cmpi .ne
        (View.readAt (Elt Bits) (tbM0_0).view (Rect.unit (s := S96) (k0_off2 i) S1.size (k0_off2_inb i)).toLoadRect T0 (Shape.Idx.first (numel1_S1.symm ▸ Nat.one_pos)))
        (View.readAt (Elt Bits) (tbM0_0).view (Rect.unit (s := S96) (k0_off3 i) S1.size (k0_off3_inb i)).toLoadRect T0 (Shape.Idx.first (numel1_S1.symm ▸ Nat.one_pos)))))) 0#32) = 1#1
    · iintro ⟨H0, H1, H2, H3, HT0, HT1, HS0, HS1, Hk⟩
      iapply (kernelRun0_A c i arg3 harg3 arg4 harg4 arg5 harg5 arg6 harg6 T0 T1 x0 x1 x2 h1 hc).2.2.2 s0 s1 K
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f, H3⟩, HS0, HS1⟩
      iapply Hk
      isplitl [H0]; · iapply owns_of_rep; iexact H0
      isplitl [H1]; · iapply owns_of_rep; iexact H1
      isplitl [H2]; · iapply owns_of_rep; iexact H2
      isplitl [H3]
      · iexists _
        iapply owns_of_rep
        iapply pointsTo_rep_entails
        iexact H3
      isplitl [HT0]; · iexact HT0
      isplitl [HT1]; · iexact HT1
      isplitl [HS0]; · iexists _; iexact HS0
      iexists _; iexact HS1
    · iintro ⟨H0, H1, H2, H3, HT0, HT1, HS0, HS1, Hk⟩
      iapply (kernelRun0_B c i arg3 harg3 arg4 harg4 arg5 harg5 arg6 harg6 T0 T1 x0 x1 x2 s0 s1 h1 hc).2.2.2 K
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f, H3⟩, HS0, HS1⟩
      iapply Hk
      isplitl [H0]; · iapply owns_of_rep; iexact H0
      isplitl [H1]; · iapply owns_of_rep; iexact H1
      isplitl [H2]; · iapply owns_of_rep; iexact H2
      isplitl [H3]
      · iexists _
        iapply owns_of_rep
        iapply pointsTo_rep_entails
        iexact H3
      isplitl [HT0]; · iexact HT0
      isplitl [HT1]; · iexact HT1
      isplitl [HS0]; · iexists _; iexact HS0
      iexists _; iexact HS1
  · rw [cc0_moe_experts_eq_skeleton]; unfold cc0_moe_experts_skel
    iintro ⟨H0, H1, H2, H3, HT0, HT1, HS0, HS1, Hk⟩
    have hT1 : tbM0_1.IsWhole := Memref.isWhole_whole _
    sl_exec! (disch := first | (guard_target = ¬(k0_cond1 _ _ = _); exact h1))
    sl_step
    iapply Hk
    isplitl [H0]; · iexact H0
    isplitl [H1]; · iexact H1
    isplitl [H2]; · iexact H2
    isplitl [H3]; · iexists _; iexact H3
    isplitl [HT0]; · iexact HT0
    isplitl [HT1]; · iexact HT1
    isplitl [HS0]; · iexists _; iexact HS0
    iexists _; iexact HS1

/-! ## The launch -/

/-- What the tables' half of the pipeline's resources is: the two tables. -/
theorem tables_eq (c : Dev nD) (v : pre0.Contents (Elt Bits)) :
    (Pipeline.ΦT pre0 v c : sProp 𝕄) = iprop((tbM0_0.view.loc (c : Thread nD τ) ↦{fullShare.right} v 0) ∗ (tbM0_1.view.loc (c : Thread nD τ) ↦{fullShare.right} v 1)) := by
  unfold Pipeline.ΦT Pipeline.prefHeld
  rw [show (Finset.univ : Finset (Fin 2)) = insert 0 {1} from by decide, bigSep_insert (by decide), bigSep_singleton]
  rfl

variable (m : (ℓ : Loc nD τ sig) → Buf (Elt Bits) ℓ) (ρ : Dev nD → PrngReg)

/-- The contents the launch finds. -/
abbrev V (c : Dev nD) (b : Ref sig .tc) : Buf (Elt Bits) ((c : Thread nD τ).loc b) := m ((c : Thread nD τ).loc b)

/-- A window's block at a point. -/
def iblk (c : Dev nD) (w : Fin (cfgT T0 T1 hT).W) (t : Fin (cfgT T0 T1 hT).N) :
    (((cfgT T0 T1 hT).win w).xblock ((cfgT T0 T1 hT).grid.coords t)).Idx → Elt Bits ((cfgT T0 T1 hT).win w).elt :=
  (((cfgT T0 T1 hT).win w).blk t).view.read (Elt Bits) (V m c (Pipeline.arrRef spec0 w))

/-- The proof data: the input windows hold their blocks and keep them; -/
def dat (c : Dev nD) : Dat τ (Elt Bits) Unit ℕ (UR sig nD τ) ℕ (cfgT T0 T1 hT) c where
  A w := V m c (Pipeline.arrRef spec0 w)
  after w t := match w with
    | ⟨0, _⟩ => iblk T0 T1 hT m c 0 t
    | ⟨1, _⟩ => iblk T0 T1 hT m c 1 t
    | ⟨2, _⟩ => iblk T0 T1 hT m c 2 t
    | ⟨3, _⟩ => fun _ => Classical.choice inferInstance
  Φ _ := iprop(Pipeline.ΦA spec0 c ∗ Pipeline.ΦT pre0 (tabs T0 T1) c)
  q w := Pipeline.shareOf spec0 w
  owed _ := 0

/-- the output window may hold anything. -/
def fgt : Fin (cfgT T0 T1 hT).W → Bool := fun w => match w with
  | ⟨3, _⟩ => true
  | _ => false

/-- No relation is claimed of it. -/
def Rl : (w : Fin (cfgT T0 T1 hT).W) → Fin (cfgT T0 T1 hT).N → (((cfgT T0 T1 hT).win w).block.Idx → Elt Bits ((cfgT T0 T1 hT).win w).elt) → Prop :=
  fun _ _ _ => True

/-- The staging buffers at a point. -/
abbrev st0 (t : Fin (cfgT T0 T1 hT).N) := ((cfgT T0 T1 hT).win 0).stage ((cfgT T0 T1 hT).slots t 0)
abbrev st1 (t : Fin (cfgT T0 T1 hT).N) := ((cfgT T0 T1 hT).win 1).stage ((cfgT T0 T1 hT).slots t 1)
abbrev st2 (t : Fin (cfgT T0 T1 hT).N) := ((cfgT T0 T1 hT).win 2).stage ((cfgT T0 T1 hT).slots t 2)
abbrev st3 (t : Fin (cfgT T0 T1 hT).N) := ((cfgT T0 T1 hT).win 3).stage ((cfgT T0 T1 hT).slots t 3)

/-- The body at a point, on what the pipeline hands it. -/
abbrev bodyAt (t : Fin (cfgT T0 T1 hT).N) : Prog (TpuEff nD τ sig (Elt Bits) Λ₀ .tc) PUnit :=
  cc0_moe_experts (grid0.coords t) tbM0_0 (Memref.isWhole_whole _) tbM0_1 (Memref.isWhole_whole _)
    (st0 T0 T1 hT t) (hstage0_0 (((cfgT T0 T1 hT).slots t 0).cast nbuf0_0)) (st1 T0 T1 hT t) (hstage0_1 (((cfgT T0 T1 hT).slots t 1).cast nbuf0_1))
    (st2 T0 T1 hT t) (hstage0_2 (((cfgT T0 T1 hT).slots t 2).cast nbuf0_2)) (st3 T0 T1 hT t) (hstage0_3 (((cfgT T0 T1 hT).slots t 3).cast nbuf0_3))
    scM0_0 (Memref.isWhole_whole _) scM0_1 (Memref.isWhole_whole _)

/-- The body called at a point is the body at the blocks of that point. -/
theorem defs₀_row (t : Fin (cfgT T0 T1 hT).N) :
    defs₀ (F := Bits) .tc (cfgT T0 T1 hT).body ((cfgT T0 T1 hT).bodyArgs t ((cfgT T0 T1 hT).slots t)) = bodyAt T0 T1 hT t := by
  unfold defs₀; rw [Defs.onTc_tc]; rfl

/-- What the input windows hold before a point: their blocks. -/
theorem before_0 (c : Dev nD) (t : Fin (cfgT T0 T1 hT).N) (d) : (dat T0 T1 hT m c).before 0 t d = iblk T0 T1 hT m c 0 t :=
  ((dat T0 T1 hT m c).before_in_eq_fetched 0 rfl (fun _ => rfl) (fun _ _ _ => rfl) (fun t => by unfold Dat.blockOf; rfl) t d).trans
    (by unfold Dat.fetched Dat.blockOf iblk; rfl)
theorem before_1 (c : Dev nD) (t : Fin (cfgT T0 T1 hT).N) (d) : (dat T0 T1 hT m c).before 1 t d = iblk T0 T1 hT m c 1 t :=
  ((dat T0 T1 hT m c).before_in_eq_fetched 1 rfl (fun _ => rfl) (fun _ _ _ => rfl) (fun t => by unfold Dat.blockOf; rfl) t d).trans
    (by unfold Dat.fetched Dat.blockOf iblk; rfl)
theorem before_2 (c : Dev nD) (t : Fin (cfgT T0 T1 hT).N) (d) : (dat T0 T1 hT m c).before 2 t d = iblk T0 T1 hT m c 2 t :=
  ((dat T0 T1 hT m c).before_in_eq_fetched 2 rfl (fun _ => rfl) (fun _ _ _ => rfl) (fun t => by unfold Dat.blockOf; rfl) t d).trans
    (by unfold Dat.fetched Dat.blockOf iblk; rfl)

/-- The body meets its obligation at every point. -/
theorem obligation (c : Dev nD) : BodyObligationRel (dat T0 T1 hT m c) (defs₀ (F := Bits)) Variants.none () Set.univ (fgt T0 T1 hT) (Rl T0 T1 hT) := fun t => by
  rw [bigSep_W0, bigSep_W0, defs₀_row]
  have hP : iprop((Pipeline.ΦA spec0 c ∗ Pipeline.ΦT pre0 (tabs T0 T1) c : sProp 𝕄) ∗ (dat T0 T1 hT m c).owesAt () t.castSucc
      ∗ (∃ d, owns (c : Thread nD τ) (st0 T0 T1 hT t) fullShare ((dat T0 T1 hT m c).before 0 t d))
      ∗ (∃ d, owns (c : Thread nD τ) (st1 T0 T1 hT t) fullShare ((dat T0 T1 hT m c).before 1 t d))
      ∗ (∃ d, owns (c : Thread nD τ) (st2 T0 T1 hT t) fullShare ((dat T0 T1 hT m c).before 2 t d))
      ∗ (∃ Y, ⌜((dat T0 T1 hT m c).toRRel (fgt T0 T1 hT) (Rl T0 T1 hT)).Finds 3 t Y⌝ ∗ owns (c : Thread nD τ) (st3 T0 T1 hT t) fullShare Y)) ⊢
      wp (M := 𝕄) Idealize.ShloMosaic.frame (wpE (defs₀ (F := Bits)) Variants.none (c : Thread nD τ) none) Set.univ (bodyAt T0 T1 hT t) fun _ =>
      iprop((Pipeline.ΦA spec0 c ∗ Pipeline.ΦT pre0 (tabs T0 T1) c : sProp 𝕄) ∗ (dat T0 T1 hT m c).owesAt () t.castSucc
      ∗ owns (c : Thread nD τ) (st0 T0 T1 hT t) fullShare (iblk T0 T1 hT m c 0 t)
      ∗ owns (c : Thread nD τ) (st1 T0 T1 hT t) fullShare (iblk T0 T1 hT m c 1 t)
      ∗ owns (c : Thread nD τ) (st2 T0 T1 hT t) fullShare (iblk T0 T1 hT m c 2 t)
      ∗ ∃ X, ⌜Rl T0 T1 hT 3 t X⌝ ∗ owns (c : Thread nD τ) (st3 T0 T1 hT t) fullShare X) := by
    rw [tables_eq]
    unfold Pipeline.ΦA
    rw [scopedRest0_eq]
    iintro ⟨⟨⟨⟨⟨%f0, HS0⟩, ⟨%f1, HS1⟩⟩, Hρ⟩, ⟨HT0, HT1⟩⟩, Ho, ⟨%d0, H0⟩, ⟨%d1, H1⟩, ⟨%d2, H2⟩, ⟨%Y, -, H3⟩⟩
    rw [before_0, before_1, before_2]
    iapply body T0 T1 c (grid0.coords t) (st0 T0 T1 hT t) _ (st1 T0 T1 hT t) _ (st2 T0 T1 hT t) _ (st3 T0 T1 hT t) _
      (iblk T0 T1 hT m c 0 t) (iblk T0 T1 hT m c 1 t) (iblk T0 T1 hT m c 2 t) Y f0 f1
    isplitl [H0]; · iexact H0
    isplitl [H1]; · iexact H1
    isplitl [H2]; · iexact H2
    isplitl [H3]; · iexact H3
    isplitl [HT0]; · iexact HT0
    isplitl [HT1]; · iexact HT1
    isplitl [HS0]; · iexact HS0
    isplitl [HS1]; · iexact HS1
    iintro ⟨H0, H1, H2, ⟨%y, H3⟩, HT0, HT1, HS0, HS1⟩
    isplitl [HS0 HS1 Hρ HT0 HT1]
    · isplitl [HS0 HS1 Hρ]
      · isplitl [HS0 HS1]
        · isplitl [HS0]; · iexact HS0
          iexact HS1
        · iexact Hρ
      · isplitl [HT0]; · iexact HT0
        iexact HT1
    isplitl [Ho]; · iexact Ho
    isplitl [H0]; · iexact H0
    isplitl [H1]; · iexact H1
    isplitl [H2]; · iexact H2
    iexists y
    isplitr; · ipureintro; exact trivial
    iexact H3
  exact triple_restated hP rfl .rfl fun _ => .rfl

/-- The whole program runs, to what the proof data say, and leaves every semaphore at zero. -/
theorem run (h0 : ∀ c, V m c main_arg1 = T0) (h1 : ∀ c, V m c main_arg2 = T1) :
    θ_run (defs (F := Bits)) (onTc (τ := τ) (main (F := Bits))) ⟨m, fun _ => 0, ρ⟩
    (fun r => RDat.FramePost (cfgT T0 T1 hT) (fun c => (dat T0 T1 hT m c).toRRel (fgt T0 T1 hT) (Rl T0 T1 hT)) (V m) r ∧ r.2.sem = fun _ => 0) :=
  Pipeline.RDat.θ_run_frameP_track_shared pcfgs (adm T0 T1 hT) 0 launch0.to₀ defs₀ Variants.none (fun c => (dat T0 T1 hT m c).toRRel (fgt T0 T1 hT) (Rl T0 T1 hT)) m ρ main
    (fun c => (obligation T0 T1 hT m c).toRRel) (fun _ _ _ => rfl) (fun _ _ => rfl) (V m)
    (Pipeline.hmainP_region pcfgs 0 defs₀ Variants.none m main fun c => (main_chain c).trans rfl) (fun _ _ => rfl)
    (fun c k => match k with
      | ⟨0, _⟩ => h0 c
      | ⟨1, _⟩ => h1 c)
    (fun _ => .rfl) (fun c => by
      show iprop(Pipeline.ΦA spec0 c ∗ Pipeline.ΦT pre0 (tabs T0 T1) c) ⊢ Pipeline.ΦA spec0 c
      iintro ⟨H, -⟩; iexact H) _ (fun _ h => h)

/-- What a run to that says of the argument arrays: unchanged. -/
theorem args_of {r : PUnit × MemSt nD τ sig (Elt Bits)}
    (h : RDat.FramePost (cfgT T0 T1 hT) (fun c => (dat T0 T1 hT m c).toRRel (fgt T0 T1 hT) (Rl T0 T1 hT)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨h.arr_in c 0 rfl, (h c).2 main_arg1 (show main_arg1 ∈ Pipeline.restRefs sig spec0 from by decide),
    (h c).2 main_arg2 (show main_arg2 ∈ Pipeline.restRefs sig spec0 from by decide), h.arr_in c 1 rfl, h.arr_in c 2 rfl⟩

end

/-- The frame of the experts on words. -/
theorem frame (m : (ℓ : Loc nD τ sig) → Buf (Elt Bits) ℓ) (ρ : Dev nD → PrngReg)
    (hT : ∀ c : Dev nD, ∀ i : S96.Idx, BitVec.toNat (w := 32) (m ((c.tc : Thread nD τ).loc main_arg1) i) < 32) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun _ h => ⟨fun c => args_of _ _ (hT 0) m h.1 c, h.2⟩)
    (run (m (((0 : Dev nD).tc : Thread nD τ).loc main_arg1)) (m (((0 : Dev nD).tc : Thread nD τ).loc main_arg2)) (hT 0) m ρ
      (fun c => by rw [Subsingleton.elim c 0]) (fun c => by rw [Subsingleton.elim c 0]))

end Cert.Proof.NextExperts

end
-- ==== Proof.NextExpertsBody.lean ====
module

public import proofs.«01_k».proof.Proof.Gen.NextExpertsIdeal
public import proofs.«01_k».proof.Proof.Gen.NextExpertsIdeal.Flash.Runs
public import Idealize.ShloMosaic.Lib.VecWindow
public import Idealize.ShloMosaic.Lib.Pipeline.ValueKit

@[expose] public section

set_option maxRecDepth 65536

noncomputable section

/-! What the second layer's experts' body leaves in its result block, as a value of the three blocks it reads. -/

namespace Cert.Proof.NextExpertsIdeal

open Cert.NextExpertsIdeal Cert.NextExpertsIdeal.Gen
open Idealize.ShloMosaic Idealize.ShloMosaic.TcCoe

/-- A chunk's answer, from its two stretches of tokens, the first layer's weights and the second's. -/
def answer (r0 r1 : FVec Ideal S1x512x256 .bf16) (W : FVec Ideal S1024x512 .bf16) (D : FVec Ideal S256x1024 .bf16) : FVec Ideal S256x1024 .f32 :=
  k0_pay22 (k0_pay16 (k0_pay4 r0 r1) W) D

/-- The answer's first half as it is stored, -/
def half0 (y : FVec Ideal S256x1024 .f32) : FVec Ideal S1x512x256 .bf16 := k0_pay29 y
/-- and its second. -/
def half1 (y : FVec Ideal S256x1024 .f32) : FVec Ideal S1x512x256 .bf16 := k0_pay30 y

/-- The chunk of stretch `q` of a half `h` of a block of tokens. -/
def stretch (x : FVec Ideal S2x2048x256 .bf16) (h : Fin 2) (q : Fin 4) : FVec Ideal S1x512x256 .bf16 :=
  fun j => x (ix3 h (⟨512 * q.val + (j 1).val, by have : (j 1).val < 512 := (j 1).isLt; omega⟩ : Fin 2048) (⟨(j 2).val, (j 2).isLt⟩ : Fin 256))

/-- The eight stores, the last one first. -/
def stores (r : Fin 2 → Fin 4 → FVec Ideal S1x512x256 .bf16) (W : FVec Ideal S1024x512 .bf16) (D : FVec Ideal S256x1024 .bf16) :
    List (View.Piece (Elt Ideal) S2x2048x256 .bf16) :=
  [⟨Rect.unit ![1, 1536, 0] S1x512x256.size inb_S2x2048x256_S1x512x256_1_1536_0, half1 (answer (r 0 3) (r 1 3) W D)⟩,
    ⟨Rect.unit ![0, 1536, 0] S1x512x256.size inb_S2x2048x256_S1x512x256_0_1536_0, half0 (answer (r 0 3) (r 1 3) W D)⟩,
    ⟨Rect.unit ![1, 1024, 0] S1x512x256.size inb_S2x2048x256_S1x512x256_1_1024_0, half1 (answer (r 0 2) (r 1 2) W D)⟩,
    ⟨Rect.unit ![0, 1024, 0] S1x512x256.size inb_S2x2048x256_S1x512x256_0_1024_0, half0 (answer (r 0 2) (r 1 2) W D)⟩,
    ⟨Rect.unit ![1, 512, 0] S1x512x256.size inb_S2x2048x256_S1x512x256_1_512_0, half1 (answer (r 0 1) (r 1 1) W D)⟩,
    ⟨Rect.unit ![0, 512, 0] S1x512x256.size inb_S2x2048x256_S1x512x256_0_512_0, half0 (answer (r 0 1) (r 1 1) W D)⟩,
    ⟨Rect.unit ![1, 0, 0] S1x512x256.size inb_S2x2048x256_S1x512x256_1_0_0, half1 (answer (r 0 0) (r 1 0) W D)⟩,
    ⟨Rect.unit ![0, 0, 0] S1x512x256.size inb_S2x2048x256_S1x512x256_0_0_0, half0 (answer (r 0 0) (r 1 0) W D)⟩]

/-- A stretch lies in the block. -/
theorem stretch_in (h : Fin 2) (q : Fin 4) (a : Fin 3) : (![h.val, 512 * q.val, 0] : Fin 3 → ℕ) a + S1x512x256.size a ≤ S2x2048x256.size a := by
  have := h.isLt
  have := q.isLt
  match a with
  | ⟨0, _⟩ => show h.val + 1 ≤ 2; omega
  | ⟨1, _⟩ => show 512 * q.val + 512 ≤ 2048; omega
  | ⟨2, _⟩ => show 0 + 256 ≤ 256; omega

/-- The loads of the eight stretches. -/
def loads (arg3 : Memref sig .tc .vmem S2x2048x256 .bf16) (x : S2x2048x256.Idx → Elt Ideal .bf16) (h : Fin 2) (q : Fin 4) : S1x512x256.Idx → Elt Ideal .bf16 :=
  View.readAt (Elt Ideal) arg3.view (Rect.unit (s := S2x2048x256) ![h.val, 512 * q.val, 0] S1x512x256.size (stretch_in h q)).toLoadRect (arg3.view.rep x)

/-- The loads are the stretches. -/
theorem loads_eq (arg3 : Memref sig .tc .vmem S2x2048x256 .bf16) (x : S2x2048x256.Idx → Elt Ideal .bf16) (h : Fin 2) (q : Fin 4) : loads arg3 x h q = stretch x h q := by
  unfold loads
  rw [View.readAt_rep_unit arg3.view x (stretch_in h q) rfl (stretch_in h q)]
  refine funext fun j => congrArg x (funext fun a => ?_)
  have h0 : (j 0).val = 0 := by have : (j 0).val < 1 := (j 0).isLt; omega
  match a with
  | ⟨0, _⟩ => exact Fin.ext (show h.val + 1 * (j 0).val = h.val by omega)
  | ⟨1, _⟩ => exact Fin.ext (show 512 * q.val + 1 * (j 1).val = 512 * q.val + (j 1).val by omega)
  | ⟨2, _⟩ => exact Fin.ext (show 0 + 1 * (j 2).val = (j 2).val by omega)

/-- The stores of a point whose weights are kept, -/
theorem stores_B (c : Dev nD) (arg3 : Memref sig .tc .vmem S2x2048x256 .bf16) (x0 : S2x2048x256.Idx → Elt Ideal .bf16)
    (xa0 : Buf (Elt Ideal) ((c : Thread nD τ).loc cc0_scratch0)) (xa1 : Buf (Elt Ideal) ((c : Thread nD τ).loc cc0_scratch1)) :
    kernelRun0_B.sl.HO3_8 c arg3 x0 xa0 xa1 = stores (loads arg3 x0)
      (View.readAt (Elt Ideal) scM0_0.view (Rect.unit (s := S1024x512) ![0, 0] S1024x512.size inb_S1024x512_S1024x512_0_0).toLoadRect xa0)
      (View.readAt (Elt Ideal) scM0_1.view (Rect.unit (s := S256x1024) ![0, 0] S256x1024.size inb_S256x1024_S256x1024_0_0).toLoadRect xa1) := rfl

/-- and of one whose weights are loaded anew. -/
theorem stores_A (c : Dev nD) (arg3 : Memref sig .tc .vmem S2x2048x256 .bf16) (arg4 : Memref sig .tc .vmem S1x1x1024x512 .f32) (arg5 : Memref sig .tc .vmem S1x1x256x1024 .f32)
    (x0 : S2x2048x256.Idx → Elt Ideal .bf16) (x1 : S1x1x1024x512.Idx → Elt Ideal .f32) (x2 : S1x1x256x1024.Idx → Elt Ideal .f32) :
    kernelRun0_A.sl.HO3_8 arg3 arg4 arg5 x0 x1 x2 = stores (loads arg3 x0) (kernelRun0_A.sl.v95 arg4 x1) (kernelRun0_A.sl.v131 arg5 x2) := rfl

end Cert.Proof.NextExpertsIdeal

end
-- ==== Proof.NextExpertsChunk.lean ====
module

public import proofs.«01_k».proof.Proof.NextExpertsBody
public import proofs.«01_k».proof.Proof.Column

@[expose] public section

set_option maxRecDepth 65536

noncomputable section

/-! The second layer's experts' body over the reals: a chunk's answer as sums, and where its entries lie in the block. -/

namespace Cert.Proof.NextExpertsIdeal

open Cert.NextExpertsIdeal Cert.NextExpertsIdeal.Gen
open Cert.Proof.Attn (plain_at)
open Idealize.ShloMosaic Idealize.ShloMosaic.TcCoe

/-- A feature of a token, of the stretches the tokens lie in. -/
def feat (r0 r1 : FVec Ideal S1x512x256 .bf16) (t : Fin 256) (k : Fin 1024) : EReal :=
  if k.val < 512 then r0 (ix3 (0 : Fin 1) (⟨2 * t.val + k.val / 256 % 2, by omega⟩ : Fin 512) (⟨k.val % 256, by omega⟩ : Fin 256))
  else r1 (ix3 (0 : Fin 1) (⟨2 * t.val + k.val / 256 % 2, by omega⟩ : Fin 512) (⟨k.val % 256, by omega⟩ : Fin 256))

/-- The gathered tokens, piece by piece. -/
theorem tokens_raw (r0 r1 : FVec Ideal S1x512x256 .bf16) (t : Fin 256) (k : Fin 1024) : (k0_pay4 (F := Ideal) r0 r1 (ix2 t k) : EReal) =
    if h : k.val < 256 then r0 (ix3 (0 : Fin 1) (⟨2 * t.val, by omega⟩ : Fin 512) (⟨k.val, h⟩ : Fin 256))
    else if h : k.val - 256 < 256 then r0 (ix3 (0 : Fin 1) (⟨2 * t.val + 1, by omega⟩ : Fin 512) (⟨k.val - 256, h⟩ : Fin 256))
    else if h : k.val - 256 - 256 < 256 then r1 (ix3 (0 : Fin 1) (⟨2 * t.val, by omega⟩ : Fin 512) (⟨k.val - 256 - 256, h⟩ : Fin 256))
    else r1 (ix3 (0 : Fin 1) (⟨2 * t.val + 1, by omega⟩ : Fin 512) (⟨k.val - 256 - 256 - 256, by omega⟩ : Fin 256)) := by
  unfold k0_pay4
  pointwise

/-- The gathered tokens, at an index. -/
theorem tokens_at (r0 r1 : FVec Ideal S1x512x256 .bf16) (t : Fin 256) (k : Fin 1024) : (k0_pay4 (F := Ideal) r0 r1 (ix2 t k) : EReal) = feat r0 r1 t k := by
  rw [tokens_raw]
  unfold feat
  have hk := k.isLt
  have hr : ∀ (r : FVec Ideal S1x512x256 .bf16) (a a' : Fin 512) (b b' : Fin 256), a.val = a'.val → b.val = b'.val →
      r (ix3 (0 : Fin 1) a b) = r (ix3 (0 : Fin 1) a' b') := fun r a a' b b' ha hb => by rw [Fin.ext ha, Fin.ext hb]
  by_cases h1 : k.val < 256
  · rw [dif_pos h1, if_pos (by omega)]
    exact hr r0 _ _ _ _ (by show 2 * t.val = 2 * t.val + k.val / 256 % 2; omega) (by show k.val = k.val % 256; omega)
  · rw [dif_neg h1]
    by_cases h2 : k.val - 256 < 256
    · rw [dif_pos h2, if_pos (by omega)]
      exact hr r0 _ _ _ _ (by show 2 * t.val + 1 = 2 * t.val + k.val / 256 % 2; omega) (by show k.val - 256 = k.val % 256; omega)
    · rw [dif_neg h2, if_neg (by omega)]
      by_cases h3 : k.val - 256 - 256 < 256
      · rw [dif_pos h3]
        exact hr r1 _ _ _ _ (by show 2 * t.val = 2 * t.val + k.val / 256 % 2; omega) (by show k.val - 256 - 256 = k.val % 256; omega)
      · rw [dif_neg h3]
        exact hr r1 _ _ _ _ (by show 2 * t.val + 1 = 2 * t.val + k.val / 256 % 2; omega) (by show k.val - 256 - 256 - 256 = k.val % 256; omega)

/-- A gated activation, of the first layer's two products. -/
def act (g u : EReal) : EReal := g * (Ideal.logistic g) * u

/-- A chunk's activations, at an index. -/
theorem hidden_at (X : FVec Ideal S256x1024 .bf16) (W : FVec Ideal S1024x512 .bf16) (t f : Fin 256) :
    (k0_pay16 (F := Ideal) X W (ix2 t f) : EReal) = act (∑ k : Fin 1024, X (ix2 t k) * W (ix2 k (⟨f.val, by omega⟩ : Fin 512)))
      (∑ k : Fin 1024, X (ix2 t k) * W (ix2 k (⟨256 + f.val, by omega⟩ : Fin 512))) := by
  unfold act
  rw [← plain_at X W t (⟨f.val, by omega⟩ : Fin 512), ← plain_at X W t (⟨256 + f.val, by omega⟩ : Fin 512)]
  unfold k0_pay16
  pointwise

/-- A chunk's answer, at an index. -/
theorem answer_at (r0 r1 : FVec Ideal S1x512x256 .bf16) (W : FVec Ideal S1024x512 .bf16) (D : FVec Ideal S256x1024 .bf16) (t : Fin 256) (d : Fin 1024) :
    (answer r0 r1 W D (ix2 t d) : EReal) = ∑ f : Fin 256, act (∑ k : Fin 1024, feat r0 r1 t k * W (ix2 k (⟨f.val, by omega⟩ : Fin 512)))
      (∑ k : Fin 1024, feat r0 r1 t k * W (ix2 k (⟨256 + f.val, by omega⟩ : Fin 512))) * D (ix2 f d) := by
  unfold answer k0_pay22
  refine (plain_at _ D t d).trans (Finset.sum_congr rfl fun f _ => ?_)
  rw [hidden_at]
  simp only [tokens_at]

/-- The stored halves, at an index: -/
theorem half0_at (y : FVec Ideal S256x1024 .f32) (s : Fin 512) (c : Fin 256) :
    (half0 y (ix3 (0 : Fin 1) s c) : EReal) = y (ix2 (⟨s.val / 2, by omega⟩ : Fin 256) (⟨256 * (s.val % 2) + c.val, by omega⟩ : Fin 1024)) := by
  unfold half0 k0_pay29
  pointwise
  split
  · exact congrArg y (congrArg (ix2 _) (Fin.ext (show c.val = 256 * (s.val % 2) + c.val by omega)))
  · exact congrArg y (congrArg (ix2 _) (Fin.ext (show 256 + c.val = 256 * (s.val % 2) + c.val by omega)))
/-- the second. -/
theorem half1_at (y : FVec Ideal S256x1024 .f32) (s : Fin 512) (c : Fin 256) :
    (half1 y (ix3 (0 : Fin 1) s c) : EReal) = y (ix2 (⟨s.val / 2, by omega⟩ : Fin 256) (⟨512 + 256 * (s.val % 2) + c.val, by omega⟩ : Fin 1024)) := by
  unfold half1 k0_pay30
  pointwise
  split
  · exact congrArg y (congrArg (ix2 _) (Fin.ext (show 512 + c.val = 512 + 256 * (s.val % 2) + c.val by omega)))
  · exact congrArg y (congrArg (ix2 _) (Fin.ext (show 768 + c.val = 512 + 256 * (s.val % 2) + c.val by omega)))

/-- A feature of a token of a block. -/
def tok (x : FVec Ideal S2x2048x256 .bf16) (R : Fin 1024) (k : Fin 1024) : EReal :=
  x (ix3 (⟨k.val / 512, by omega⟩ : Fin 2) (⟨2 * R.val + k.val / 256 % 2, by omega⟩ : Fin 2048) (⟨k.val % 256, by omega⟩ : Fin 256))

/-- The stretches' features are the block's. -/
theorem feat_eq (x : FVec Ideal S2x2048x256 .bf16) (q : Fin 4) (t : Fin 256) (k : Fin 1024) :
    feat (stretch x 0 q) (stretch x 1 q) t k = tok x ⟨256 * q.val + t.val, by omega⟩ k := by
  have hk := k.isLt
  unfold feat tok stretch
  have hx : ∀ (a a' : Fin 2) (b b' : Fin 2048) (c c' : Fin 256), a.val = a'.val → b.val = b'.val → c.val = c'.val →
      x (ix3 a b c) = x (ix3 a' b' c') := fun a a' b b' c c' ha hb hc => by rw [Fin.ext ha, Fin.ext hb, Fin.ext hc]
  split
  · exact hx _ _ _ _ _ _ (by show 0 = k.val / 512; omega)
      (by show 512 * q.val + (2 * t.val + k.val / 256 % 2) = 2 * (256 * q.val + t.val) + k.val / 256 % 2; omega) rfl
  · exact hx _ _ _ _ _ _ (by show 1 = k.val / 512; omega)
      (by show 512 * q.val + (2 * t.val + k.val / 256 % 2) = 2 * (256 * q.val + t.val) + k.val / 256 % 2; omega) rfl

/-- The answer to a token of a block, a column of it. -/
def ans (x : FVec Ideal S2x2048x256 .bf16) (W : FVec Ideal S1024x512 .bf16) (D : FVec Ideal S256x1024 .bf16) (R : Fin 1024) (d : Fin 1024) : EReal :=
  ∑ f : Fin 256, act (∑ k : Fin 1024, tok x R k * W (ix2 k (⟨f.val, by omega⟩ : Fin 512)))
    (∑ k : Fin 1024, tok x R k * W (ix2 k (⟨256 + f.val, by omega⟩ : Fin 512))) * D (ix2 f d)

/-- A chunk's answer is the block's. -/
theorem answer_eq (x : FVec Ideal S2x2048x256 .bf16) (W : FVec Ideal S1024x512 .bf16) (D : FVec Ideal S256x1024 .bf16) (q : Fin 4) (t : Fin 256) (d : Fin 1024) :
    (answer (stretch x 0 q) (stretch x 1 q) W D (ix2 t d) : EReal) = ans x W D ⟨256 * q.val + t.val, by omega⟩ d := by
  rw [answer_at]
  simp only [feat_eq]
  rfl

/-- What a point leaves in its result block. -/
def Out (x : FVec Ideal S2x2048x256 .bf16) (W : FVec Ideal S1024x512 .bf16) (D : FVec Ideal S256x1024 .bf16) (X : FVec Ideal S2x2048x256 .bf16) : Prop :=
  ∀ (h : Fin 2) (s : Fin 2048) (c : Fin 256), (X (ix3 h s c) : EReal)
    = ans x W D ⟨s.val / 2, by omega⟩ ⟨512 * h.val + 256 * (s.val % 2) + c.val, by omega⟩

section
variable (v : View sig .tc .vmem S2x2048x256 .bf16) (f : v.ty.Contents (Elt Ideal)) (a b : ℕ)
  (inb : ∀ i, (![a, b, 0] : Fin 3 → ℕ) i + S1x512x256.size i ≤ S2x2048x256.size i)
  (w : S1x512x256.Idx → Elt Ideal .bf16) (L : List (View.Piece (Elt Ideal) S2x2048x256 .bf16))

/-- The last store read where it was made; -/
theorem hit {h : Fin 2} {s' : Fin 2048} (s : Fin 512) (c : Fin 256) (h0 : h.val = a) (h1 : s'.val = b + s.val) :
    v.read (Elt Ideal) (v.writes (Elt Ideal) f (⟨Rect.unit (s := S2x2048x256) ![a, b, 0] S1x512x256.size inb, w⟩ :: L)) (ix3 h s' c) = w (ix3 (0 : Fin 1) s c) :=
  View.read_writes_cons_unit_of_mem v f inb w L _ (ix3 (0 : Fin 1) s c) rfl fun i => by
    match i with
    | ⟨0, _⟩ => exact h0
    | ⟨1, _⟩ => exact h1
    | ⟨2, _⟩ => exact (Nat.zero_add _).symm
/-- a store to the other half; -/
theorem miss0 (h : Fin 2) (s' : Fin 2048) (c : Fin 256) (h0 : h.val < a ∨ a + 1 ≤ h.val) :
    v.read (Elt Ideal) (v.writes (Elt Ideal) f (⟨Rect.unit (s := S2x2048x256) ![a, b, 0] S1x512x256.size inb, w⟩ :: L)) (ix3 h s' c)
      = v.read (Elt Ideal) (v.writes (Elt Ideal) f L) (ix3 h s' c) :=
  View.read_writes_cons_unit_of_not_mem v f inb w L _ rfl (0 : Fin 3) h0
/-- one to another stretch. -/
theorem miss1 (h : Fin 2) (s' : Fin 2048) (c : Fin 256) (h1 : s'.val < b ∨ b + 512 ≤ s'.val) :
    v.read (Elt Ideal) (v.writes (Elt Ideal) f (⟨Rect.unit (s := S2x2048x256) ![a, b, 0] S1x512x256.size inb, w⟩ :: L)) (ix3 h s' c)
      = v.read (Elt Ideal) (v.writes (Elt Ideal) f L) (ix3 h s' c) :=
  View.read_writes_cons_unit_of_not_mem v f inb w L _ rfl (1 : Fin 3) h1
end

/-- The stored half. -/
def half : Fin 2 → FVec Ideal S256x1024 .f32 → FVec Ideal S1x512x256 .bf16
  | ⟨0, _⟩ => half0
  | ⟨1, _⟩ => half1

/-- The stores, at an index. -/
theorem stored_at (v : View sig .tc .vmem S2x2048x256 .bf16) (f : v.ty.Contents (Elt Ideal)) (r : Fin 2 → Fin 4 → FVec Ideal S1x512x256 .bf16)
    (W : FVec Ideal S1024x512 .bf16) (D : FVec Ideal S256x1024 .bf16) (s' : Fin 2048) (s : Fin 512) (c : Fin 256) : (h : Fin 2) → (q : Fin 4) → (s'.val = 512 * q.val + s.val) →
    v.read (Elt Ideal) (v.writes (Elt Ideal) f (stores r W D)) (ix3 h s' c) = half h (answer (r 0 q) (r 1 q) W D) (ix3 (0 : Fin 1) s c)
  | ⟨0, _⟩, ⟨0, _⟩, hs => by
    replace hs : s'.val = 0 + s.val := hs
    exact (miss0 v f _ _ _ _ _ _ _ _ (by simp)).trans <| (miss1 v f _ _ _ _ _ _ _ _ (.inl (by have := s.isLt; omega))).trans <| (miss0 v f _ _ _ _ _ _ _ _ (by simp)).trans <| (miss1 v f _ _ _ _ _ _ _ _ (.inl (by have := s.isLt; omega))).trans <| (miss0 v f _ _ _ _ _ _ _ _ (by simp)).trans <| (miss1 v f _ _ _ _ _ _ _ _ (.inl (by have := s.isLt; omega))).trans <| (miss0 v f _ _ _ _ _ _ _ _ (by simp)).trans <| hit v f _ _ _ _ _ s c rfl (by rw [hs])
  | ⟨0, _⟩, ⟨1, _⟩, hs => by
    replace hs : s'.val = 512 + s.val := hs
    exact (miss0 v f _ _ _ _ _ _ _ _ (by simp)).trans <| (miss1 v f _ _ _ _ _ _ _ _ (.inl (by have := s.isLt; omega))).trans <| (miss0 v f _ _ _ _ _ _ _ _ (by simp)).trans <| (miss1 v f _ _ _ _ _ _ _ _ (.inl (by have := s.isLt; omega))).trans <| (miss0 v f _ _ _ _ _ _ _ _ (by simp)).trans <| hit v f _ _ _ _ _ s c rfl (by rw [hs])
  | ⟨0, _⟩, ⟨2, _⟩, hs => by
    replace hs : s'.val = 1024 + s.val := hs
    exact (miss0 v f _ _ _ _ _ _ _ _ (by simp)).trans <| (miss1 v f _ _ _ _ _ _ _ _ (.inl (by have := s.isLt; omega))).trans <| (miss0 v f _ _ _ _ _ _ _ _ (by simp)).trans <| hit v f _ _ _ _ _ s c rfl (by rw [hs])
  | ⟨0, _⟩, ⟨3, _⟩, hs => by
    replace hs : s'.val = 1536 + s.val := hs
    exact (miss0 v f _ _ _ _ _ _ _ _ (by simp)).trans <| hit v f _ _ _ _ _ s c rfl (by rw [hs])
  | ⟨1, _⟩, ⟨0, _⟩, hs => by
    replace hs : s'.val = 0 + s.val := hs
    exact (miss1 v f _ _ _ _ _ _ _ _ (.inl (by have := s.isLt; omega))).trans <| (miss0 v f _ _ _ _ _ _ _ _ (by simp)).trans <| (miss1 v f _ _ _ _ _ _ _ _ (.inl (by have := s.isLt; omega))).trans <| (miss0 v f _ _ _ _ _ _ _ _ (by simp)).trans <| (miss1 v f _ _ _ _ _ _ _ _ (.inl (by have := s.isLt; omega))).trans <| (miss0 v f _ _ _ _ _ _ _ _ (by simp)).trans <| hit v f _ _ _ _ _ s c rfl (by rw [hs])
  | ⟨1, _⟩, ⟨1, _⟩, hs => by
    replace hs : s'.val = 512 + s.val := hs
    exact (miss1 v f _ _ _ _ _ _ _ _ (.inl (by have := s.isLt; omega))).trans <| (miss0 v f _ _ _ _ _ _ _ _ (by simp)).trans <| (miss1 v f _ _ _ _ _ _ _ _ (.inl (by have := s.isLt; omega))).trans <| (miss0 v f _ _ _ _ _ _ _ _ (by simp)).trans <| hit v f _ _ _ _ _ s c rfl (by rw [hs])
  | ⟨1, _⟩, ⟨2, _⟩, hs => by
    replace hs : s'.val = 1024 + s.val := hs
    exact (miss1 v f _ _ _ _ _ _ _ _ (.inl (by have := s.isLt; omega))).trans <| (miss0 v f _ _ _ _ _ _ _ _ (by simp)).trans <| hit v f _ _ _ _ _ s c rfl (by rw [hs])
  | ⟨1, _⟩, ⟨3, _⟩, hs => by
    replace hs : s'.val = 1536 + s.val := hs
    exact hit v f _ _ _ _ _ s c rfl (by rw [hs])

/-- A stored half, at an index. -/
theorem half_at (y : FVec Ideal S256x1024 .f32) (s : Fin 512) (c : Fin 256) : (h : Fin 2) →
    (half h y (ix3 (0 : Fin 1) s c) : EReal) = y (ix2 (⟨s.val / 2, by omega⟩ : Fin 256) (⟨512 * h.val + 256 * (s.val % 2) + c.val, by omega⟩ : Fin 1024))
  | ⟨0, _⟩ => (half0_at y s c).trans (congrArg y (congrArg (ix2 _) (Fin.ext (by show 256 * (s.val % 2) + c.val = 512 * 0 + 256 * (s.val % 2) + c.val; omega))))
  | ⟨1, _⟩ => (half1_at y s c).trans (congrArg y (congrArg (ix2 _) (Fin.ext (by show 512 + 256 * (s.val % 2) + c.val = 512 * 1 + 256 * (s.val % 2) + c.val; omega))))

/-- What the stores leave. -/
theorem out_stores (v : View sig .tc .vmem S2x2048x256 .bf16) (f : v.ty.Contents (Elt Ideal)) (x : FVec Ideal S2x2048x256 .bf16)
    (W : FVec Ideal S1024x512 .bf16) (D : FVec Ideal S256x1024 .bf16) : Out x W D (v.read (Elt Ideal) (v.writes (Elt Ideal) f (stores (stretch x) W D))) := by
  intro h s' c
  have hs := s'.isLt
  refine (stored_at v f (stretch x) W D s' ⟨s'.val % 512, by omega⟩ c h ⟨s'.val / 512, by omega⟩ (by show s'.val = 512 * (s'.val / 512) + s'.val % 512; omega)).trans ?_
  refine (half_at _ _ c h).trans ((answer_eq x W D _ _ _).trans ?_)
  exact congrArg₂ (ans x W D) (Fin.ext (by show 256 * (s'.val / 512) + s'.val % 512 / 2 = s'.val / 2; omega))
    (Fin.ext (by show 512 * h.val + 256 * (s'.val % 512 % 2) + c.val = 512 * h.val + 256 * (s'.val % 2) + c.val; omega))

end Cert.Proof.NextExpertsIdeal

end
-- ==== Proof.NextExpertsWords.lean ====
module

public import proofs.«01_k».proof.Proof.Gen.NextExpertsIdeal
public import proofs.«01_k».proof.Proof.Gen.NextExpertsIdeal.Flash.Runs
public import Idealize.ShloMosaic.Lib.Pipeline.ValueKit

@[expose] public section

set_option maxRecDepth 65536

noncomputable section

/-! The words of the tables the second layer's experts' body decides by. -/

namespace Cert.Proof.NextExpertsIdeal

open Cert.NextExpertsIdeal Cert.NextExpertsIdeal.Gen
open Idealize.ShloMosaic Idealize.ShloMosaic.TcCoe

/-- Whether a point's tile is used, as the body decides it. -/
abbrev Used (i : grid0.Coords) (T1 : S1.Idx → BitVec 32) : Prop :=
  k0_cond1 i (View.readAt (Elt Ideal) (tbM0_1).view (Rect.unit (s := S1) ![0] S1.size inb_S1_S1_0).toLoadRect T1 (Shape.Idx.first (numel1_S1.symm ▸ Nat.one_pos))) = 1#1

/-- Whether a point loads its weights anew, as the body decides it. -/
abbrev Anew (i : grid0.Coords) (T0 : S96.Idx → BitVec 32) : Prop :=
  (Scalar.cmpi .ne (Scalar.extui (Scalar.ori (Scalar.cmpi .eq (BitVec.ofNat 32 (i 0).val) 0#32) (Scalar.cmpi .ne
        (View.readAt (Elt Ideal) (tbM0_0).view (Rect.unit (s := S96) (k0_off2 i) S1.size (k0_off2_inb i)).toLoadRect T0 (Shape.Idx.first (numel1_S1.symm ▸ Nat.one_pos)))
        (View.readAt (Elt Ideal) (tbM0_0).view (Rect.unit (s := S96) (k0_off3 i) S1.size (k0_off3_inb i)).toLoadRect T0 (Shape.Idx.first (numel1_S1.symm ▸ Nat.one_pos)))))) 0#32) = 1#1

/-- A bit widened is not zero just when it is one. -/
theorem widened (b : BitVec 1) : (Scalar.cmpi .ne (Scalar.extui b : BitVec 32) 0#32 = 1#1) ↔ b = 1#1 := by
  revert b; decide

/-- A small coordinate as a signed word. -/
theorem toInt_coord (n : ℕ) (h : n < 96) : (BitVec.ofNat 32 n).toInt = n := by
  simp only [BitVec.toInt_eq_toNat_cond, BitVec.toNat_ofNat]
  omega

/-- A tile is used when its number is under the count. -/
theorem used_iff (i : grid0.Coords) (T1 : S1.Idx → BitVec 32) : Used i T1 ↔ ((i 0).val : ℤ) < (T1 (ix1 (0 : Fin 1))).toInt := by
  have hi : (i 0).val < 96 := (i 0).isLt
  have e : View.readAt (Elt Ideal) (tbM0_1).view (Rect.unit (s := S1) ![0] S1.size inb_S1_S1_0).toLoadRect T1 (Shape.Idx.first (numel1_S1.symm ▸ Nat.one_pos))
      = T1 (ix1 (0 : Fin 1)) := by
    show T1 _ = T1 _
    refine congrArg T1 (funext fun a => ?_)
    match a with
    | ⟨0, _⟩ => exact Subsingleton.elim (α := Fin 1) _ _
  unfold Used
  rw [e]
  unfold k0_cond1
  refine (widened _).trans ?_
  rw [← toInt_coord _ hi]
  exact IntOp.cmpi_slt

/-- A table's word, loaded. -/
theorem word_at (T0 : S96.Idx → BitVec 32) (off : Fin 1 → ℕ) (h : ∀ a, off a + S1.size a ≤ S96.size a) (j : Fin 96) (hj : off 0 = j.val) :
    View.readAt (Elt Ideal) (tbM0_0).view (Rect.unit (s := S96) off S1.size h).toLoadRect T0 (Shape.Idx.first (numel1_S1.symm ▸ Nat.one_pos)) = T0 (ix1 j) := by
  show T0 _ = T0 _
  refine congrArg T0 (funext fun a => ?_)
  match a with
  | ⟨0, _⟩ => exact Fin.ext (show off 0 + 1 * _ = j.val by rw [hj]; simp [Shape.Idx.first])

/-- A point that keeps its weights has one before it of the same expert. -/
theorem kept_of (i : grid0.Coords) (T0 : S96.Idx → BitVec 32) (h : ¬ Anew i T0) :
    ∃ j : Fin 96, j.val + 1 = (i 0).val ∧ T0 (ix1 j) = T0 (ix1 (i 0)) := by
  have hi : (i 0).val < 96 := (i 0).isLt
  unfold Anew at h
  rw [widened] at h
  by_cases h0 : (i 0).val = 0
  · exact absurd (by rw [h0]; generalize Scalar.cmpi .ne _ _ = b; revert b; decide) h
  · refine ⟨⟨(i 0).val - 1, by omega⟩, by show (i 0).val - 1 + 1 = _; omega, ?_⟩
    have e2 : k0_off2 i 0 = (i 0).val := by
      unfold k0_off2
      show ((BitVec.ofNat 32 (i 0).val)).toNat = _
      rw [BitVec.toNat_ofNat]; omega
    have e3 : k0_off3 i 0 = (i 0).val - 1 := by
      have key : ∀ n : Fin 96, n.val ≠ 0 → (Scalar.indexCast (Scalar.maxsi (Scalar.subi (BitVec.ofNat 32 n.val) 1#32) 0#32) : Index).toNat = n.val - 1 := by decide +kernel
      exact key ⟨(i 0).val, hi⟩ h0
    rw [word_at T0 (k0_off2 i) (k0_off2_inb i) (i 0) e2, word_at T0 (k0_off3 i) (k0_off3_inb i) ⟨(i 0).val - 1, by omega⟩ e3] at h
    by_contra hne
    refine h ?_
    have h1 : Scalar.cmpi .ne (T0 (ix1 (i 0))) (T0 (ix1 (⟨(i 0).val - 1, by omega⟩ : Fin 96))) = 1#1 := IntOp.cmpi_ne.2 fun e => hne e.symm
    rw [h1]
    generalize Scalar.cmpi .eq _ _ = b
    revert b; decide

end Cert.Proof.NextExpertsIdeal

end
-- ==== Proof.NextExpertsIdealFrame.lean ====
module

public import proofs.«01_k».proof.Proof.Named
public import proofs.«01_k».proof.Proof.Gen.NextExpertsIdeal
public import proofs.«01_k».proof.Proof.Gen.NextExpertsIdeal.Launch
public import proofs.«01_k».proof.Proof.Gen.NextExpertsIdeal.Flash.Runs
public import Idealize.ShloMosaic.Lib.Pipeline.DatRel
public import Idealize.ShloMosaic.Lib.Pipeline.ArrRel
public import Idealize.ShloMosaic.Lib.Pipeline.TableIdle
public import proofs.«01_k».proof.Proof.NextExpertsChunk
public import proofs.«01_k».proof.Proof.NextExpertsWords

@[expose] public section

set_option maxRecDepth 65536

noncomputable section

/-! The second layer's experts' kernel over the reals: it runs from any memory whose tiles name experts, and leaves its arguments alone. -/

namespace Cert.Proof.NextExpertsIdeal

open Cert.NextExpertsIdeal Cert.NextExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

local notation "𝕄" => MT nD τ sig Unit (Elt Ideal) ℕ (UR sig nD τ) ℕ

/-! ## The tables -/

/-- The tables as launched. -/
def tabs (T0 : S96.Idx → BitVec 32) (T1 : S1.Idx → BitVec 32) : pre0.Contents (Elt Ideal) := fun
  | ⟨0, _⟩ => T0
  | ⟨1, _⟩ => T1
  | ⟨_ + 2, h⟩ => absurd h (by simp)

/-- Tables that name experts are in range. -/
theorem tabs_ok (T0 : S96.Idx → BitVec 32) (T1 : S1.Idx → BitVec 32) (h : ∀ i, (T0 i).toNat < 32) : ok0 (F := Ideal) (tabs T0 T1) := by
  have key : ∀ i : S96.Idx, ∀ a : Fin 4, ((![1, (T0 i).toNat, 0, 0] : Fin 4 → ℕ) a + 1) * S1x1x1024x512.size a ≤ S2x32x1024x512.size a := fun i a => by
    have := h i
    fin_cases a <;> simp <;> omega
  have key' : ∀ i : S96.Idx, ∀ a : Fin 4, ((![1, (T0 i).toNat, 0, 0] : Fin 4 → ℕ) a + 1) * S1x1x256x1024.size a ≤ S2x32x256x1024.size a := fun i a => by
    have := h i
    fin_cases a <;> simp <;> omega
  exact ⟨fun i => ⟨key _, .inl rfl⟩, fun i => ⟨key' _, .inl rfl⟩⟩

section
variable (T0 : S96.Idx → BitVec 32) (T1 : S1.Idx → BitVec 32) (hT : ∀ i, (T0 i).toNat < 32)

/-- The tables with their evidence. -/
abbrev adm : (p : Fin 1) → (pcfgs (F := Ideal) p).Adm := fun _ => ⟨tabs T0 T1, tabs_ok T0 T1 hT⟩

/-- The pipeline at them. -/
abbrev cfgT : Cfg sig Λ₀ := cfg0 (F := Ideal) (adm T0 T1 hT 0)

/-! ## The body at a point -/

/-- The first layer's weights as a scratch holds them, -/
def rd0 (f : S1024x512.Idx → Elt Ideal .bf16) : FVec Ideal S1024x512 .bf16 :=
  View.readAt (Elt Ideal) scM0_0.view (Rect.unit (s := S1024x512) ![0, 0] S1024x512.size inb_S1024x512_S1024x512_0_0).toLoadRect f
/-- and the second's. -/
def rd1 (f : S256x1024.Idx → Elt Ideal .bf16) : FVec Ideal S256x1024 .bf16 :=
  View.readAt (Elt Ideal) scM0_1.view (Rect.unit (s := S256x1024) ![0, 0] S256x1024.size inb_S256x1024_S256x1024_0_0).toLoadRect f

/-- What a point of a used tile leaves: the answers of its tokens under the weights it holds, anew or kept. -/
def Aft (i : grid0.Coords) (T0 : S96.Idx → BitVec 32) (T1 : S1.Idx → BitVec 32) (x0 : S2x2048x256.Idx → Elt Ideal .bf16) (x1 : S1x1x1024x512.Idx → Elt Ideal .f32)
    (x2 : S1x1x256x1024.Idx → Elt Ideal .f32) (s0 : S1024x512.Idx → Elt Ideal .bf16) (s1 : S256x1024.Idx → Elt Ideal .bf16) (X : S2x2048x256.Idx → Elt Ideal .bf16)
    (f0 : S1024x512.Idx → Elt Ideal .bf16) (f1 : S256x1024.Idx → Elt Ideal .bf16) : Prop :=
  Used i T1 → (Anew i T0 → rd0 f0 = k0_pay2 x1 ∧ rd1 f1 = k0_pay3 x2) ∧ (¬ Anew i T0 → rd0 f0 = rd0 s0 ∧ rd1 f1 = rd1 s1) ∧ Out x0 (rd0 f0) (rd1 f1) X

/-- The eight stores leave the answers, from the loads too. -/
theorem out_loads (arg3 arg6 : Memref sig .tc .vmem S2x2048x256 .bf16) (x0 : S2x2048x256.Idx → Elt Ideal .bf16) (f : arg6.view.ty.Contents (Elt Ideal))
    (W : FVec Ideal S1024x512 .bf16) (D : FVec Ideal S256x1024 .bf16) :
    Out x0 W D (arg6.view.read (Elt Ideal) (arg6.view.writes (Elt Ideal) f (stores (loads arg3 x0) W D))) := by
  rw [show loads arg3 x0 = stretch x0 from funext fun h => funext fun q => loads_eq arg3 x0 h q]
  exact out_stores arg6.view f x0 W D

/-- Weights loaded anew are the block's, -/
theorem anew_0 (arg4 : Memref sig .tc .vmem S1x1x1024x512 .f32) (x1 : S1x1x1024x512.Idx → Elt Ideal .f32) (g : (View.whole cc0_scratch0).ty.Contents (Elt Ideal)) :
    rd0 ((View.whole cc0_scratch0).writes (Elt Ideal) g (kernelRun0_A.sl.HS0_1 arg4 x1)) = k0_pay2 x1 :=
  (View.readAt_writes_full (View.whole cc0_scratch0) g inb_S1024x512_S1024x512_0_0 inb_S1024x512_S1024x512_0_0 _ []).trans
    (congrArg k0_pay2 (View.readAt_rep_full arg4.view x1 _))
/-- in both layers, -/
theorem anew_1 (arg5 : Memref sig .tc .vmem S1x1x256x1024 .f32) (x2 : S1x1x256x1024.Idx → Elt Ideal .f32) (g : (View.whole cc0_scratch1).ty.Contents (Elt Ideal)) :
    rd1 ((View.whole cc0_scratch1).writes (Elt Ideal) g (kernelRun0_A.sl.HS1_1 arg5 x2)) = k0_pay3 x2 :=
  (View.readAt_writes_full (View.whole cc0_scratch1) g inb_S256x1024_S256x1024_0_0 inb_S256x1024_S256x1024_0_0 _ []).trans
    (congrArg k0_pay3 (View.readAt_rep_full arg5.view x2 _))

/-- and read so. -/
theorem weights_0 (arg4 : Memref sig .tc .vmem S1x1x1024x512 .f32) (x1 : S1x1x1024x512.Idx → Elt Ideal .f32) : kernelRun0_A.sl.v95 arg4 x1 = k0_pay2 x1 :=
  (View.readCov_full (View.whole cc0_scratch0) inb_S1024x512_S1024x512_0_0 inb_S1024x512_S1024x512_0_0 _ []).trans
    (congrArg k0_pay2 (View.readAt_rep_full arg4.view x1 _))
theorem weights_1 (arg5 : Memref sig .tc .vmem S1x1x256x1024 .f32) (x2 : S1x1x256x1024.Idx → Elt Ideal .f32) : kernelRun0_A.sl.v131 arg5 x2 = k0_pay3 x2 :=
  (View.readCov_full (View.whole cc0_scratch1) inb_S256x1024_S256x1024_0_0 inb_S256x1024_S256x1024_0_0 _ []).trans
    (congrArg k0_pay3 (View.readAt_rep_full arg5.view x2 _))

/-- A point that loads anew leaves what it should, -/
theorem aft_A (i : grid0.Coords) (T0 : S96.Idx → BitVec 32) (T1 : S1.Idx → BitVec 32) (arg3 : Memref sig .tc .vmem S2x2048x256 .bf16) (arg4 : Memref sig .tc .vmem S1x1x1024x512 .f32)
    (arg5 : Memref sig .tc .vmem S1x1x256x1024 .f32) (arg6 : Memref sig .tc .vmem S2x2048x256 .bf16) (x0 : S2x2048x256.Idx → Elt Ideal .bf16) (x1 : S1x1x1024x512.Idx → Elt Ideal .f32)
    (x2 : S1x1x256x1024.Idx → Elt Ideal .f32) (s0 : S1024x512.Idx → Elt Ideal .bf16) (s1 : S256x1024.Idx → Elt Ideal .bf16) (hc : Anew i T0) (f : arg6.view.ty.Contents (Elt Ideal))
    (g0 : (View.whole cc0_scratch0).ty.Contents (Elt Ideal)) (g1 : (View.whole cc0_scratch1).ty.Contents (Elt Ideal)) :
    Aft i T0 T1 x0 x1 x2 s0 s1 (arg6.view.read (Elt Ideal) (arg6.view.writes (Elt Ideal) f (kernelRun0_A.sl.HO3_8 arg3 arg4 arg5 x0 x1 x2)))
      ((View.whole cc0_scratch0).writes (Elt Ideal) g0 (kernelRun0_A.sl.HS0_1 arg4 x1)) ((View.whole cc0_scratch1).writes (Elt Ideal) g1 (kernelRun0_A.sl.HS1_1 arg5 x2)) :=
  fun _ => ⟨fun _ => ⟨anew_0 .., anew_1 ..⟩, fun h => absurd hc h, by
    rw [anew_0, anew_1, stores_A 0, weights_0, weights_1]
    exact out_loads arg3 arg6 x0 f _ _⟩

/-- and so does one that keeps. -/
theorem aft_B (c : Dev nD) (i : grid0.Coords) (T0 : S96.Idx → BitVec 32) (T1 : S1.Idx → BitVec 32) (arg3 arg6 : Memref sig .tc .vmem S2x2048x256 .bf16) (x0 : S2x2048x256.Idx → Elt Ideal .bf16)
    (x1 : S1x1x1024x512.Idx → Elt Ideal .f32) (x2 : S1x1x256x1024.Idx → Elt Ideal .f32)
    (s0 : Buf (Elt Ideal) ((c : Thread nD τ).loc cc0_scratch0)) (s1 : Buf (Elt Ideal) ((c : Thread nD τ).loc cc0_scratch1))
    (hc : ¬ Anew i T0) (f : arg6.view.ty.Contents (Elt Ideal)) :
    Aft i T0 T1 x0 x1 x2 s0 s1 (arg6.view.read (Elt Ideal) (arg6.view.writes (Elt Ideal) f (kernelRun0_B.sl.HO3_8 c arg3 x0 s0 s1))) s0 s1 :=
  fun _ => ⟨fun h => absurd h hc, fun _ => ⟨rfl, rfl⟩, by rw [stores_B]; exact out_loads arg3 arg6 x0 f _ _⟩

set_option maxHeartbeats 4000000 in
/-- So a run that loads anew leaves it, -/
theorem run_A (c : Dev nD) (i : grid0.Coords) (arg3 : Memref sig .tc .vmem S2x2048x256 .bf16) (harg3 : arg3.IsWhole) (arg4 : Memref sig .tc .vmem S1x1x1024x512 .f32)
    (harg4 : arg4.IsWhole) (arg5 : Memref sig .tc .vmem S1x1x256x1024 .f32) (harg5 : arg5.IsWhole) (arg6 : Memref sig .tc .vmem S2x2048x256 .bf16) (harg6 : arg6.IsWhole)
    (T0 : S96.Idx → BitVec 32) (T1 : S1.Idx → BitVec 32)
    (x0 : S2x2048x256.Idx → Elt Ideal .bf16) (x1 : S1x1x1024x512.Idx → Elt Ideal .f32) (x2 : S1x1x256x1024.Idx → Elt Ideal .f32)
    (h1 : Used i T1) (hc : Anew i T0) (s0 : Buf (Elt Ideal) ((c : Thread nD τ).loc cc0_scratch0)) (s1 : Buf (Elt Ideal) ((c : Thread nD τ).loc cc0_scratch1)) (f : arg6.view.ty.Contents (Elt Ideal)) :
    Aft i T0 T1 x0 x1 x2 s0 s1
      (arg6.view.read (Elt Ideal) (arg6.view.writes (Elt Ideal) f (kernelRun0_A c i arg3 harg3 arg4 harg4 arg5 harg5 arg6 harg6 T0 T1 x0 x1 x2 h1 hc).1))
      (kernelRun0_A c i arg3 harg3 arg4 harg4 arg5 harg5 arg6 harg6 T0 T1 x0 x1 x2 h1 hc).2.1
      (kernelRun0_A c i arg3 harg3 arg4 harg4 arg5 harg5 arg6 harg6 T0 T1 x0 x1 x2 h1 hc).2.2.1 := by
  unfold kernelRun0_A
  dsimp only
  exact aft_A i T0 T1 arg3 arg4 arg5 arg6 x0 x1 x2 s0 s1 hc f _ _

set_option maxHeartbeats 4000000 in
/-- and one that keeps. -/
theorem run_B (c : Dev nD) (i : grid0.Coords) (arg3 : Memref sig .tc .vmem S2x2048x256 .bf16) (harg3 : arg3.IsWhole) (arg4 : Memref sig .tc .vmem S1x1x1024x512 .f32)
    (harg4 : arg4.IsWhole) (arg5 : Memref sig .tc .vmem S1x1x256x1024 .f32) (harg5 : arg5.IsWhole) (arg6 : Memref sig .tc .vmem S2x2048x256 .bf16) (harg6 : arg6.IsWhole)
    (T0 : S96.Idx → BitVec 32) (T1 : S1.Idx → BitVec 32)
    (x0 : S2x2048x256.Idx → Elt Ideal .bf16) (x1 : S1x1x1024x512.Idx → Elt Ideal .f32) (x2 : S1x1x256x1024.Idx → Elt Ideal .f32) (s0 : Buf (Elt Ideal) ((c : Thread nD τ).loc cc0_scratch0)) (s1 : Buf (Elt Ideal) ((c : Thread nD τ).loc cc0_scratch1))
    (h1 : Used i T1) (hc : ¬ Anew i T0) (f : arg6.view.ty.Contents (Elt Ideal)) :
    Aft i T0 T1 x0 x1 x2 s0 s1
      (arg6.view.read (Elt Ideal) (arg6.view.writes (Elt Ideal) f (kernelRun0_B c i arg3 harg3 arg4 harg4 arg5 harg5 arg6 harg6 T0 T1 x0 x1 x2 s0 s1 h1 hc).1))
      (kernelRun0_B c i arg3 harg3 arg4 harg4 arg5 harg5 arg6 harg6 T0 T1 x0 x1 x2 s0 s1 h1 hc).2.1
      (kernelRun0_B c i arg3 harg3 arg4 harg4 arg5 harg5 arg6 harg6 T0 T1 x0 x1 x2 s0 s1 h1 hc).2.2.1 := by
  unfold kernelRun0_B
  dsimp only
  exact aft_B c i T0 T1 arg3 arg6 x0 x1 x2 s0 s1 hc f

/-- The body, run on whole buffers, gives them back: the inputs and the tables as they were, the result block and the weights as `Aft` says. -/
theorem body (c : Dev nD) (i : grid0.Coords) (arg3 : Memref sig .tc .vmem S2x2048x256 .bf16) (harg3 : arg3.IsWhole) (arg4 : Memref sig .tc .vmem S1x1x1024x512 .f32)
    (harg4 : arg4.IsWhole) (arg5 : Memref sig .tc .vmem S1x1x256x1024 .f32) (harg5 : arg5.IsWhole) (arg6 : Memref sig .tc .vmem S2x2048x256 .bf16) (harg6 : arg6.IsWhole)
    (x0 : S2x2048x256.Idx → Elt Ideal .bf16) (x1 : S1x1x1024x512.Idx → Elt Ideal .f32) (x2 : S1x1x256x1024.Idx → Elt Ideal .f32) (y : S2x2048x256.Idx → Elt Ideal .bf16)
    (s0 : Buf (Elt Ideal) ((c : Thread nD τ).loc cc0_scratch0)) (s1 : Buf (Elt Ideal) ((c : Thread nD τ).loc cc0_scratch1)) (K : PUnit → sProp 𝕄) :
    iprop(owns (c : Thread nD τ) arg3 fullShare x0 ∗ owns (c : Thread nD τ) arg4 fullShare x1 ∗ owns (c : Thread nD τ) arg5 fullShare x2
      ∗ owns (c : Thread nD τ) arg6 fullShare y
      ∗ (tbM0_0.view.loc (c : Thread nD τ) ↦{fullShare.right} T0) ∗ (tbM0_1.view.loc (c : Thread nD τ) ↦{fullShare.right} T1)
      ∗ (scM0_0.view.loc (c : Thread nD τ) ↦{fullShare} s0) ∗ (scM0_1.view.loc (c : Thread nD τ) ↦{fullShare} s1)
      ∗ (iprop(owns (c : Thread nD τ) arg3 fullShare x0 ∗ owns (c : Thread nD τ) arg4 fullShare x1 ∗ owns (c : Thread nD τ) arg5 fullShare x2
        ∗ (tbM0_0.view.loc (c : Thread nD τ) ↦{fullShare.right} T0) ∗ (tbM0_1.view.loc (c : Thread nD τ) ↦{fullShare.right} T1)
        ∗ (∃ X, ∃ f0 : Buf (Elt Ideal) ((c : Thread nD τ).loc cc0_scratch0), ∃ f1 : Buf (Elt Ideal) ((c : Thread nD τ).loc cc0_scratch1),
          ⌜Aft i T0 T1 x0 x1 x2 s0 s1 X f0 f1⌝ ∗ owns (c : Thread nD τ) arg6 fullShare X
          ∗ (scM0_0.view.loc (c : Thread nD τ) ↦{fullShare} f0) ∗ (scM0_1.view.loc (c : Thread nD τ) ↦{fullShare} f1))) -∗ K ⟨⟩))
      ⊢ wp Idealize.ShloMosaic.frame (wpE (defs₀ (F := Ideal)) Variants.none (c : Thread nD τ) none) Set.univ
        (cc0_moe_experts i tbM0_0 (Memref.isWhole_whole _) tbM0_1 (Memref.isWhole_whole _) arg3 harg3 arg4 harg4 arg5 harg5 arg6 harg6
          scM0_0 (Memref.isWhole_whole _) scM0_1 (Memref.isWhole_whole _)) K := by
  by_cases h1 : k0_cond1 i (View.readAt (Elt Ideal) (tbM0_1).view (Rect.unit (s := S1) ![0] S1.size inb_S1_S1_0).toLoadRect T1 (Shape.Idx.first (numel1_S1.symm ▸ Nat.one_pos))) = 1#1
  · by_cases hc : (Scalar.cmpi .ne (Scalar.extui (Scalar.ori (Scalar.cmpi .eq (BitVec.ofNat 32 (i 0).val) 0#32) (Scalar.cmpi .ne
        (View.readAt (Elt Ideal) (tbM0_0).view (Rect.unit (s := S96) (k0_off2 i) S1.size (k0_off2_inb i)).toLoadRect T0 (Shape.Idx.first (numel1_S1.symm ▸ Nat.one_pos)))
        (View.readAt (Elt Ideal) (tbM0_0).view (Rect.unit (s := S96) (k0_off3 i) S1.size (k0_off3_inb i)).toLoadRect T0 (Shape.Idx.first (numel1_S1.symm ▸ Nat.one_pos)))))) 0#32) = 1#1
    · iintro ⟨H0, H1, H2, H3, HT0, HT1, HS0, HS1, Hk⟩
      iapply (kernelRun0_A c i arg3 harg3 arg4 harg4 arg5 harg5 arg6 harg6 T0 T1 x0 x1 x2 h1 hc).2.2.2 s0 s1 K
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f, H3⟩, HS0, HS1⟩
      iapply Hk
      isplitl [H0]; · iapply owns_of_rep; iexact H0
      isplitl [H1]; · iapply owns_of_rep; iexact H1
      isplitl [H2]; · iapply owns_of_rep; iexact H2
      isplitl [HT0]; · iexact HT0
      isplitl [HT1]; · iexact HT1
      iexists _, _, _
      isplitr
      rotate_left
      · isplitl [H3]
        · iapply owns_of_rep
          iapply pointsTo_rep_entails
          iexact H3
        isplitl [HS0]; · iexact HS0
        iexact HS1
      · ipureintro
        exact run_A c i arg3 harg3 arg4 harg4 arg5 harg5 arg6 harg6 T0 T1 x0 x1 x2 h1 hc s0 s1 f
    · iintro ⟨H0, H1, H2, H3, HT0, HT1, HS0, HS1, Hk⟩
      iapply (kernelRun0_B c i arg3 harg3 arg4 harg4 arg5 harg5 arg6 harg6 T0 T1 x0 x1 x2 s0 s1 h1 hc).2.2.2 K
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f, H3⟩, HS0, HS1⟩
      iapply Hk
      isplitl [H0]; · iapply owns_of_rep; iexact H0
      isplitl [H1]; · iapply owns_of_rep; iexact H1
      isplitl [H2]; · iapply owns_of_rep; iexact H2
      isplitl [HT0]; · iexact HT0
      isplitl [HT1]; · iexact HT1
      iexists _, _, _
      isplitr
      rotate_left
      · isplitl [H3]
        · iapply owns_of_rep
          iapply pointsTo_rep_entails
          iexact H3
        isplitl [HS0]; · iexact HS0
        iexact HS1
      · ipureintro
        exact run_B c i arg3 harg3 arg4 harg4 arg5 harg5 arg6 harg6 T0 T1 x0 x1 x2 s0 s1 h1 hc f
  · rw [cc0_moe_experts_eq_skeleton]; unfold cc0_moe_experts_skel
    iintro ⟨H0, H1, H2, H3, HT0, HT1, HS0, HS1, Hk⟩
    have hT1 : tbM0_1.IsWhole := Memref.isWhole_whole _
    sl_exec! (disch := first | (guard_target = ¬(k0_cond1 _ _ = _); exact h1))
    sl_step
    iapply Hk
    isplitl [H0]; · iexact H0
    isplitl [H1]; · iexact H1
    isplitl [H2]; · iexact H2
    isplitl [HT0]; · iexact HT0
    isplitl [HT1]; · iexact HT1
    iexists y, s0, s1
    isplitr; · ipureintro; exact fun h => absurd h h1
    isplitl [H3]; · iexact H3
    isplitl [HS0]; · iexact HS0
    iexact HS1

/-! ## The launch -/

/-- What the tables' half of the pipeline's resources is: the two tables. -/
theorem tables_eq (c : Dev nD) (v : pre0.Contents (Elt Ideal)) :
    (Pipeline.ΦT pre0 v c : sProp 𝕄) = iprop((tbM0_0.view.loc (c : Thread nD τ) ↦{fullShare.right} v 0) ∗ (tbM0_1.view.loc (c : Thread nD τ) ↦{fullShare.right} v 1)) := by
  unfold Pipeline.ΦT Pipeline.prefHeld
  rw [show (Finset.univ : Finset (Fin 2)) = insert 0 {1} from by decide, bigSep_insert (by decide), bigSep_singleton]
  rfl

variable (m : (ℓ : Loc nD τ sig) → Buf (Elt Ideal) ℓ) (ρ : Dev nD → PrngReg)

/-- The contents the launch finds. -/
abbrev V (c : Dev nD) (b : Ref sig .tc) : Buf (Elt Ideal) ((c : Thread nD τ).loc b) := m ((c : Thread nD τ).loc b)

/-- A window's block at a point. -/
def iblk (c : Dev nD) (w : Fin (cfgT T0 T1 hT).W) (t : Fin (cfgT T0 T1 hT).N) :
    (((cfgT T0 T1 hT).win w).xblock ((cfgT T0 T1 hT).grid.coords t)).Idx → Elt Ideal ((cfgT T0 T1 hT).win w).elt :=
  (((cfgT T0 T1 hT).win w).blk t).view.read (Elt Ideal) (V m c (Pipeline.arrRef spec0 w))

/-- The block of the tokens at a point, -/
theorem index_0 (t : Fin (cfgT T0 T1 hT).N) : ((pcfg0 (F := Ideal)).win (adm T0 T1 hT 0) 0).index t = ![0, t.val, 0] :=
  (by decide +kernel : ∀ t : Fin grid0.N, cc0_transform_0 (grid0.coords t) = ![0, t.val, 0]) t
/-- of the result, -/
theorem index_3 (t : Fin (cfgT T0 T1 hT).N) : ((pcfg0 (F := Ideal)).win (adm T0 T1 hT 0) 3).index t = ![0, t.val, 0] :=
  (by decide +kernel : ∀ t : Fin grid0.N, cc0_transform_3 (grid0.coords t) = ![0, t.val, 0]) t

/-- A point's coordinate is its number. -/
theorem coord (t : Fin (cfgT T0 T1 hT).N) : (grid0.coords t 0).val = t.val :=
  (by decide +kernel : ∀ t : Fin grid0.N, (grid0.coords t 0).val = t.val) t

/-- The expert of a point's tile. -/
def te (t : Fin (cfgT T0 T1 hT).N) : Fin 32 := ⟨(T0 (ix1 (grid0.coords t 0))).toNat, hT _⟩

omit hT in
/-- The word of the table an index map loads. -/
theorem table_at (i : grid0.Coords) : (tabs T0 T1).at 0 (Rect.unit (s := S96) ![(Scalar.indexCast (BitVec.ofNat 32 (i 0).val)).toNat] S1.size (k0_off1_inb i)) numel1_S1
    = T0 (ix1 (i 0)) := by
  have hi : (i 0).val < 96 := (i 0).isLt
  show T0 _ = T0 _
  refine congrArg T0 (funext fun a => ?_)
  match a with
  | ⟨0, _⟩ =>
    refine Fin.ext ?_
    show (BitVec.ofNat 32 (i 0).val).toNat + 1 * _ = (i 0).val
    rw [BitVec.toNat_ofNat, Nat.mod_eq_of_lt (by omega)]
    simp [Shape.Idx.first]

/-- of the first layer's weights -/
theorem index_1 (t : Fin (cfgT T0 T1 hT).N) : ((pcfg0 (F := Ideal)).win (adm T0 T1 hT 0) 1).index t = ![1, (te T0 T1 hT t).val, 0, 0] := by
  show cc0_transform_1 k0_off1_inb numel1_S1 (tabs T0 T1) (grid0.coords t) = _
  unfold cc0_transform_1 te
  dsimp only
  rw [table_at]
  rfl
/-- and of the second's. -/
theorem index_2 (t : Fin (cfgT T0 T1 hT).N) : ((pcfg0 (F := Ideal)).win (adm T0 T1 hT 0) 2).index t = ![1, (te T0 T1 hT t).val, 0, 0] := by
  show cc0_transform_2 k0_off1_inb numel1_S1 (tabs T0 T1) (grid0.coords t) = _
  unfold cc0_transform_2 te
  dsimp only
  rw [table_at]
  rfl

/-- What a point reads of the tokens, -/
theorem iblk_0 (c : Dev nD) (t : Fin (cfgT T0 T1 hT).N) (h : Fin 2) (s : Fin 2048) (d : Fin 256) : iblk T0 T1 hT m c 0 t (ix3 h s d)
    = m ((c.tc : Thread nD τ).loc main_arg0) (ix3 h (⟨2048 * t.val + s.val, by have : t.val < 96 := t.isLt; omega⟩ : Fin 196608) d) := by
  blk_simp [iblk]
  refine congrArg (V m c main_arg0) ?_
  blk_ext []
  · refine (congrArg (fun n => n * 2 + h.val) (congrFun (index_0 T0 T1 hT t) 0)).trans ?_; show 0 * 2 + h.val = h.val; omega
  · refine (congrArg (fun n => n * 2048 + s.val) (congrFun (index_0 T0 T1 hT t) 1)).trans ?_; show t.val * 2048 + s.val = 2048 * t.val + s.val; omega
  · refine (congrArg (fun n => n * 256 + d.val) (congrFun (index_0 T0 T1 hT t) 2)).trans ?_; show 0 * 256 + d.val = d.val; omega

/-- of the first layer's weights -/
theorem iblk_1 (c : Dev nD) (t : Fin (cfgT T0 T1 hT).N) (k : Fin 1024) (f : Fin 512) : iblk T0 T1 hT m c 1 t (ix4 (0 : Fin 1) (0 : Fin 1) k f)
    = m ((c.tc : Thread nD τ).loc main_arg3) (ix4 (1 : Fin 2) (te T0 T1 hT t) k f) := by
  blk_simp [iblk]
  refine congrArg (V m c main_arg3) ?_
  blk_ext []
  · refine (congrArg (fun n => n + 0) (congrFun (index_1 T0 T1 hT t) 0)).trans ?_; show 1 + 0 = 1; omega
  · refine (congrArg (fun n => n + 0) (congrFun (index_1 T0 T1 hT t) 1)).trans ?_; show (te T0 T1 hT t).val + 0 = (te T0 T1 hT t).val; omega
  · refine (congrArg (fun n => n * 1024 + k.val) (congrFun (index_1 T0 T1 hT t) 2)).trans ?_; show 0 * 1024 + k.val = k.val; omega
  · refine (congrArg (fun n => n * 512 + f.val) (congrFun (index_1 T0 T1 hT t) 3)).trans ?_; show 0 * 512 + f.val = f.val; omega

/-- and of the second's. -/
theorem iblk_2 (c : Dev nD) (t : Fin (cfgT T0 T1 hT).N) (f : Fin 256) (d : Fin 1024) : iblk T0 T1 hT m c 2 t (ix4 (0 : Fin 1) (0 : Fin 1) f d)
    = m ((c.tc : Thread nD τ).loc main_arg4) (ix4 (1 : Fin 2) (te T0 T1 hT t) f d) := by
  blk_simp [iblk]
  refine congrArg (V m c main_arg4) ?_
  blk_ext []
  · refine (congrArg (fun n => n + 0) (congrFun (index_2 T0 T1 hT t) 0)).trans ?_; show 1 + 0 = 1; omega
  · refine (congrArg (fun n => n + 0) (congrFun (index_2 T0 T1 hT t) 1)).trans ?_; show (te T0 T1 hT t).val + 0 = (te T0 T1 hT t).val; omega
  · refine (congrArg (fun n => n * 256 + f.val) (congrFun (index_2 T0 T1 hT t) 2)).trans ?_; show 0 * 256 + f.val = f.val; omega
  · refine (congrArg (fun n => n * 1024 + d.val) (congrFun (index_2 T0 T1 hT t) 3)).trans ?_; show 0 * 1024 + d.val = d.val; omega

/-- The first layer's weights a point needs -/
def W1 (c : Dev nD) (t : Fin (cfgT T0 T1 hT).N) : FVec Ideal S1024x512 .bf16 := k0_pay2 (iblk T0 T1 hT m c 1 t)
/-- and the second's. -/
def W2 (c : Dev nD) (t : Fin (cfgT T0 T1 hT).N) : FVec Ideal S256x1024 .bf16 := k0_pay3 (iblk T0 T1 hT m c 2 t)

/-- They are the expert's, -/
theorem W1_at (c : Dev nD) (t : Fin (cfgT T0 T1 hT).N) (k : Fin 1024) (f : Fin 512) : (W1 T0 T1 hT m c t (ix2 k f) : EReal)
    = m ((c.tc : Thread nD τ).loc main_arg3) (ix4 (1 : Fin 2) (te T0 T1 hT t) k f) := by
  refine Eq.trans ?_ (iblk_1 T0 T1 hT m c t k f)
  unfold W1
  generalize iblk T0 T1 hT m c 1 t = x
  unfold k0_pay2
  pointwise
/-- in both layers. -/
theorem W2_at (c : Dev nD) (t : Fin (cfgT T0 T1 hT).N) (f : Fin 256) (d : Fin 1024) : (W2 T0 T1 hT m c t (ix2 f d) : EReal)
    = m ((c.tc : Thread nD τ).loc main_arg4) (ix4 (1 : Fin 2) (te T0 T1 hT t) f d) := by
  refine Eq.trans ?_ (iblk_2 T0 T1 hT m c t f d)
  unfold W2
  generalize iblk T0 T1 hT m c 2 t = x
  unfold k0_pay3
  pointwise

/-- Points of one expert need the same weights, -/
theorem W1_same (c : Dev nD) (t u : Fin (cfgT T0 T1 hT).N) (h : te T0 T1 hT t = te T0 T1 hT u) : W1 T0 T1 hT m c t = W1 T0 T1 hT m c u :=
  funext fun j => by
    rw [show j = ix2 (j 0 : Fin 1024) (j 1 : Fin 512) by blk_ext []]
    exact (W1_at T0 T1 hT m c t _ _).trans ((congrArg (fun e => m ((c.tc : Thread nD τ).loc main_arg3) (ix4 (1 : Fin 2) e (j 0 : Fin 1024) (j 1 : Fin 512))) h).trans (W1_at T0 T1 hT m c u _ _).symm)
/-- in both layers. -/
theorem W2_same (c : Dev nD) (t u : Fin (cfgT T0 T1 hT).N) (h : te T0 T1 hT t = te T0 T1 hT u) : W2 T0 T1 hT m c t = W2 T0 T1 hT m c u :=
  funext fun j => by
    rw [show j = ix2 (j 0 : Fin 256) (j 1 : Fin 1024) by blk_ext []]
    exact (W2_at T0 T1 hT m c t _ _).trans ((congrArg (fun e => m ((c.tc : Thread nD τ).loc main_arg4) (ix4 (1 : Fin 2) e (j 0 : Fin 256) (j 1 : Fin 1024))) h).trans (W2_at T0 T1 hT m c u _ _).symm)

/-- What the scratches hold before a point: the weights of the point before it, where its tile was used. -/
def Kept (c : Dev nD) (j : ℕ) (f0 : S1024x512.Idx → Elt Ideal .bf16) (f1 : S256x1024.Idx → Elt Ideal .bf16) : Prop :=
  ∀ t : Fin (cfgT T0 T1 hT).N, t.val + 1 = j → Used (grid0.coords t) T1 → rd0 f0 = W1 T0 T1 hT m c t ∧ rd1 f1 = W2 T0 T1 hT m c t

/-- A point run on kept weights keeps its own and answers its tokens. -/
theorem step (c : Dev nD) (t : Fin (cfgT T0 T1 hT).N) (s0 : S1024x512.Idx → Elt Ideal .bf16) (s1 : S256x1024.Idx → Elt Ideal .bf16) (X : S2x2048x256.Idx → Elt Ideal .bf16)
    (f0 : S1024x512.Idx → Elt Ideal .bf16) (f1 : S256x1024.Idx → Elt Ideal .bf16) (hK : Kept T0 T1 hT m c t.val s0 s1)
    (hA : Aft (grid0.coords t) T0 T1 (iblk T0 T1 hT m c 0 t) (iblk T0 T1 hT m c 1 t) (iblk T0 T1 hT m c 2 t) s0 s1 X f0 f1) :
    Kept T0 T1 hT m c (t.val + 1) f0 f1 ∧ (Used (grid0.coords t) T1 → Out (iblk T0 T1 hT m c 0 t) (W1 T0 T1 hT m c t) (W2 T0 T1 hT m c t) X) := by
  have main : Used (grid0.coords t) T1 → (rd0 f0 = W1 T0 T1 hT m c t ∧ rd1 f1 = W2 T0 T1 hT m c t) := fun hu => by
    obtain ⟨ha, hk, -⟩ := hA hu
    by_cases hc : Anew (grid0.coords t) T0
    · exact ha hc
    · obtain ⟨j, hj, he⟩ := kept_of _ T0 hc
      have ht := coord T0 T1 hT t
      have hu' : Used (grid0.coords (⟨j.val, j.isLt⟩ : Fin (cfgT T0 T1 hT).N)) T1 := by
        rw [used_iff] at hu ⊢
        rw [coord T0 T1 hT] at hu ⊢
        show ((j.val : ℕ) : ℤ) < _
        omega
      obtain ⟨k0, k1⟩ := hK ⟨j.val, j.isLt⟩ (by show j.val + 1 = t.val; omega) hu'
      have hte : te T0 T1 hT (⟨j.val, j.isLt⟩ : Fin (cfgT T0 T1 hT).N) = te T0 T1 hT t := Fin.ext (by
        show (T0 (ix1 _)).toNat = (T0 (ix1 _)).toNat
        rw [show grid0.coords (⟨j.val, j.isLt⟩ : Fin (cfgT T0 T1 hT).N) 0 = j from Fin.ext (coord T0 T1 hT ⟨j.val, j.isLt⟩), he])
      rw [(hk hc).1, (hk hc).2, k0, k1, W1_same T0 T1 hT m c _ _ hte, W2_same T0 T1 hT m c _ _ hte]
      exact ⟨rfl, rfl⟩
  refine ⟨fun u hu hU => ?_, fun hU => ?_⟩
  · obtain rfl : u = t := Fin.ext (by omega)
    exact main hU
  · have := (hA hU).2.2
    rw [(main hU).1, (main hU).2] at this
    exact this

/-- The weights held before a point. -/
def held (c : Dev nD) (j : ℕ) : sProp 𝕄 :=
  iprop(∃ f0 : Buf (Elt Ideal) ((c : Thread nD τ).loc cc0_scratch0), ∃ f1 : Buf (Elt Ideal) ((c : Thread nD τ).loc cc0_scratch1),
    ⌜Kept T0 T1 hT m c j f0 f1⌝ ∗ (scM0_0.view.loc (c : Thread nD τ) ↦{fullShare} f0) ∗ (scM0_1.view.loc (c : Thread nD τ) ↦{fullShare} f1))

/-- The proof data: the input windows hold their blocks and keep them, the scratches the weights; -/
def dat (c : Dev nD) : Dat τ (Elt Ideal) Unit ℕ (UR sig nD τ) ℕ (cfgT T0 T1 hT) c where
  A w := V m c (Pipeline.arrRef spec0 w)
  after w t := match w with
    | ⟨0, _⟩ => iblk T0 T1 hT m c 0 t
    | ⟨1, _⟩ => iblk T0 T1 hT m c 1 t
    | ⟨2, _⟩ => iblk T0 T1 hT m c 2 t
    | ⟨3, _⟩ => fun _ => Classical.choice inferInstance
  Φ j := iprop((held T0 T1 hT m c j.val ∗ ∃ r, prngReg c r) ∗ Pipeline.ΦT pre0 (tabs T0 T1) c)
  q w := Pipeline.shareOf spec0 w
  owed _ := 0

/-- the output window is held to a relation: -/
def fgt : Fin (cfgT T0 T1 hT).W → Bool := fun w => match w with
  | ⟨3, _⟩ => true
  | _ => false

/-- where its tile is used, the answers of its tokens. -/
def Rl (c : Dev nD) : (w : Fin (cfgT T0 T1 hT).W) → Fin (cfgT T0 T1 hT).N → (((cfgT T0 T1 hT).win w).block.Idx → Elt Ideal ((cfgT T0 T1 hT).win w).elt) → Prop := fun w => match w with
  | ⟨3, _⟩ => fun t X => Used (grid0.coords t) T1 → Out (iblk T0 T1 hT m c 0 t) (W1 T0 T1 hT m c t) (W2 T0 T1 hT m c t) X
  | _ => fun _ _ => True

/-- The staging buffers at a point. -/
abbrev st0 (t : Fin (cfgT T0 T1 hT).N) := ((cfgT T0 T1 hT).win 0).stage ((cfgT T0 T1 hT).slots t 0)
abbrev st1 (t : Fin (cfgT T0 T1 hT).N) := ((cfgT T0 T1 hT).win 1).stage ((cfgT T0 T1 hT).slots t 1)
abbrev st2 (t : Fin (cfgT T0 T1 hT).N) := ((cfgT T0 T1 hT).win 2).stage ((cfgT T0 T1 hT).slots t 2)
abbrev st3 (t : Fin (cfgT T0 T1 hT).N) := ((cfgT T0 T1 hT).win 3).stage ((cfgT T0 T1 hT).slots t 3)

/-- The body at a point, on what the pipeline hands it. -/
abbrev bodyAt (t : Fin (cfgT T0 T1 hT).N) : Prog (TpuEff nD τ sig (Elt Ideal) Λ₀ .tc) PUnit :=
  cc0_moe_experts (grid0.coords t) tbM0_0 (Memref.isWhole_whole _) tbM0_1 (Memref.isWhole_whole _)
    (st0 T0 T1 hT t) (hstage0_0 (((cfgT T0 T1 hT).slots t 0).cast nbuf0_0)) (st1 T0 T1 hT t) (hstage0_1 (((cfgT T0 T1 hT).slots t 1).cast nbuf0_1))
    (st2 T0 T1 hT t) (hstage0_2 (((cfgT T0 T1 hT).slots t 2).cast nbuf0_2)) (st3 T0 T1 hT t) (hstage0_3 (((cfgT T0 T1 hT).slots t 3).cast nbuf0_3))
    scM0_0 (Memref.isWhole_whole _) scM0_1 (Memref.isWhole_whole _)

/-- The body called at a point is the body at the blocks of that point. -/
theorem defs₀_row (t : Fin (cfgT T0 T1 hT).N) :
    defs₀ (F := Ideal) .tc (cfgT T0 T1 hT).body ((cfgT T0 T1 hT).bodyArgs t ((cfgT T0 T1 hT).slots t)) = bodyAt T0 T1 hT t := by
  unfold defs₀; rw [Defs.onTc_tc]; rfl

/-- What the input windows hold before a point: their blocks. -/
theorem before_0 (c : Dev nD) (t : Fin (cfgT T0 T1 hT).N) (d) : (dat T0 T1 hT m c).before 0 t d = iblk T0 T1 hT m c 0 t :=
  ((dat T0 T1 hT m c).before_in_eq_fetched 0 rfl (fun _ => rfl) (fun _ _ _ => rfl) (fun t => by unfold Dat.blockOf; rfl) t d).trans
    (by unfold Dat.fetched Dat.blockOf iblk; rfl)
theorem before_1 (c : Dev nD) (t : Fin (cfgT T0 T1 hT).N) (d) : (dat T0 T1 hT m c).before 1 t d = iblk T0 T1 hT m c 1 t :=
  ((dat T0 T1 hT m c).before_in_eq_fetched 1 rfl (fun _ => rfl) (fun _ _ _ => rfl) (fun t => by unfold Dat.blockOf; rfl) t d).trans
    (by unfold Dat.fetched Dat.blockOf iblk; rfl)
theorem before_2 (c : Dev nD) (t : Fin (cfgT T0 T1 hT).N) (d) : (dat T0 T1 hT m c).before 2 t d = iblk T0 T1 hT m c 2 t :=
  ((dat T0 T1 hT m c).before_in_eq_fetched 2 rfl (fun _ => rfl) (fun _ _ _ => rfl) (fun t => by unfold Dat.blockOf; rfl) t d).trans
    (by unfold Dat.fetched Dat.blockOf iblk; rfl)

/-- The body meets its obligation at every point. -/
theorem obligation (c : Dev nD) : BodyObligationRel (dat T0 T1 hT m c) (defs₀ (F := Ideal)) Variants.none () Set.univ (fgt T0 T1 hT) (Rl T0 T1 hT m c) := fun t => by
  rw [bigSep_W0, bigSep_W0, defs₀_row]
  have hP : iprop(((held T0 T1 hT m c t.val ∗ ∃ r, prngReg c r) ∗ Pipeline.ΦT pre0 (tabs T0 T1) c : sProp 𝕄) ∗ (dat T0 T1 hT m c).owesAt () t.castSucc
      ∗ (∃ d, owns (c : Thread nD τ) (st0 T0 T1 hT t) fullShare ((dat T0 T1 hT m c).before 0 t d))
      ∗ (∃ d, owns (c : Thread nD τ) (st1 T0 T1 hT t) fullShare ((dat T0 T1 hT m c).before 1 t d))
      ∗ (∃ d, owns (c : Thread nD τ) (st2 T0 T1 hT t) fullShare ((dat T0 T1 hT m c).before 2 t d))
      ∗ (∃ Y, ⌜((dat T0 T1 hT m c).toRRel (fgt T0 T1 hT) (Rl T0 T1 hT m c)).Finds 3 t Y⌝ ∗ owns (c : Thread nD τ) (st3 T0 T1 hT t) fullShare Y)) ⊢
      wp (M := 𝕄) Idealize.ShloMosaic.frame (wpE (defs₀ (F := Ideal)) Variants.none (c : Thread nD τ) none) Set.univ (bodyAt T0 T1 hT t) fun _ =>
      iprop(((held T0 T1 hT m c (t.val + 1) ∗ ∃ r, prngReg c r) ∗ Pipeline.ΦT pre0 (tabs T0 T1) c : sProp 𝕄) ∗ (dat T0 T1 hT m c).owesAt () t.castSucc
      ∗ owns (c : Thread nD τ) (st0 T0 T1 hT t) fullShare (iblk T0 T1 hT m c 0 t)
      ∗ owns (c : Thread nD τ) (st1 T0 T1 hT t) fullShare (iblk T0 T1 hT m c 1 t)
      ∗ owns (c : Thread nD τ) (st2 T0 T1 hT t) fullShare (iblk T0 T1 hT m c 2 t)
      ∗ ∃ X, ⌜Used (grid0.coords t) T1 → Out (iblk T0 T1 hT m c 0 t) (W1 T0 T1 hT m c t) (W2 T0 T1 hT m c t) X⌝ ∗ owns (c : Thread nD τ) (st3 T0 T1 hT t) fullShare X) := by
    rw [tables_eq]
    unfold held
    iintro ⟨⟨⟨⟨%f0, %f1, %hK, HS0, HS1⟩, Hρ⟩, ⟨HT0, HT1⟩⟩, Ho, ⟨%d0, H0⟩, ⟨%d1, H1⟩, ⟨%d2, H2⟩, ⟨%Y, -, H3⟩⟩
    rw [before_0, before_1, before_2]
    iapply body T0 T1 c (grid0.coords t) (st0 T0 T1 hT t) _ (st1 T0 T1 hT t) _ (st2 T0 T1 hT t) _ (st3 T0 T1 hT t) _
      (iblk T0 T1 hT m c 0 t) (iblk T0 T1 hT m c 1 t) (iblk T0 T1 hT m c 2 t) Y f0 f1
    isplitl [H0]; · iexact H0
    isplitl [H1]; · iexact H1
    isplitl [H2]; · iexact H2
    isplitl [H3]; · iexact H3
    isplitl [HT0]; · iexact HT0
    isplitl [HT1]; · iexact HT1
    isplitl [HS0]; · iexact HS0
    isplitl [HS1]; · iexact HS1
    iintro ⟨H0, H1, H2, HT0, HT1, ⟨%X, %g0, %g1, %hA, H3, HS0, HS1⟩⟩
    have hS := step T0 T1 hT m c t f0 f1 X g0 g1 hK hA
    isplitl [HS0 HS1 Hρ HT0 HT1]
    · isplitl [HS0 HS1 Hρ]
      · isplitl [HS0 HS1]
        · iexists g0, g1
          isplitr; · ipureintro; exact hS.1
          isplitl [HS0]; · iexact HS0
          iexact HS1
        · iexact Hρ
      · isplitl [HT0]; · iexact HT0
        iexact HT1
    isplitl [Ho]; · iexact Ho
    isplitl [H0]; · iexact H0
    isplitl [H1]; · iexact H1
    isplitl [H2]; · iexact H2
    iexists X
    isplitr; · ipureintro; exact hS.2
    iexact H3
  exact triple_restated hP rfl .rfl fun _ => .rfl

/-- The whole program runs, to what the proof data say, and leaves every semaphore at zero. -/
theorem run (h0 : ∀ c, V m c main_arg1 = T0) (h1 : ∀ c, V m c main_arg2 = T1) :
    θ_run (defs (F := Ideal)) (onTc (τ := τ) (main (F := Ideal))) ⟨m, fun _ => 0, ρ⟩
    (fun r => RDat.FramePost (cfgT T0 T1 hT) (fun c => (dat T0 T1 hT m c).toRRel (fgt T0 T1 hT) (Rl T0 T1 hT m c)) (V m) r ∧ r.2.sem = fun _ => 0) :=
  Pipeline.RDat.θ_run_frameP_track_shared pcfgs (adm T0 T1 hT) 0 launch0.to₀ defs₀ Variants.none (fun c => (dat T0 T1 hT m c).toRRel (fgt T0 T1 hT) (Rl T0 T1 hT m c)) m ρ main
    (fun c => (obligation T0 T1 hT m c).toRRel) (fun _ _ _ => rfl) (fun _ _ => rfl) (V m)
    (Pipeline.hmainP_region pcfgs 0 defs₀ Variants.none m main fun c => (main_chain c).trans rfl) (fun _ _ => rfl)
    (fun c k => match k with
      | ⟨0, _⟩ => h0 c
      | ⟨1, _⟩ => h1 c)
    (fun c => by
      show iprop(Pipeline.ΦA spec0 c ∗ Pipeline.ΦT pre0 (tabs T0 T1) c) ⊢ iprop((held T0 T1 hT m c 0 ∗ ∃ r, prngReg c r) ∗ Pipeline.ΦT pre0 (tabs T0 T1) c)
      unfold Pipeline.ΦA held
      rw [scopedRest0_eq]
      iintro ⟨⟨⟨⟨%f0, HS0⟩, ⟨%f1, HS1⟩⟩, Hρ⟩, HT⟩
      isplitl [HS0 HS1 Hρ]
      · isplitl [HS0 HS1]
        · iexists f0, f1
          isplitr; · ipureintro; exact fun t h => absurd h (by omega)
          isplitl [HS0]; · iexact HS0
          iexact HS1
        · iexact Hρ
      · iexact HT)
    (fun c => by
      show iprop((held T0 T1 hT m c _ ∗ ∃ r, prngReg c r) ∗ Pipeline.ΦT pre0 (tabs T0 T1) c) ⊢ Pipeline.ΦA spec0 c
      unfold Pipeline.ΦA held
      rw [scopedRest0_eq]
      iintro ⟨⟨⟨%f0, %f1, -, HS0, HS1⟩, Hρ⟩, -⟩
      isplitl [HS0 HS1]
      · isplitl [HS0]; · iexists f0; iexact HS0
        iexists f1; iexact HS1
      · iexact Hρ) _ (fun _ h => h)

/-- What a run to that says of the argument arrays: unchanged. -/
theorem args_of {r : PUnit × MemSt nD τ sig (Elt Ideal)}
    (h : RDat.FramePost (cfgT T0 T1 hT) (fun c => (dat T0 T1 hT m c).toRRel (fgt T0 T1 hT) (Rl T0 T1 hT m c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨h.arr_in c 0 rfl, (h c).2 main_arg1 (show main_arg1 ∈ Pipeline.restRefs sig spec0 from by decide),
    (h c).2 main_arg2 (show main_arg2 ∈ Pipeline.restRefs sig spec0 from by decide), h.arr_in c 1 rfl, h.arr_in c 2 rfl⟩

end

/-- The frame of the experts over the reals. -/
theorem frame (m : (ℓ : Loc nD τ sig) → Buf (Elt Ideal) ℓ) (ρ : Dev nD → PrngReg)
    (hT : ∀ c : Dev nD, ∀ i : S96.Idx, BitVec.toNat (w := 32) (m ((c.tc : Thread nD τ).loc main_arg1) i) < 32) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun _ h => ⟨fun c => args_of _ _ (hT 0) m h.1 c, h.2⟩)
    (run (m (((0 : Dev nD).tc : Thread nD τ).loc main_arg1)) (m (((0 : Dev nD).tc : Thread nD τ).loc main_arg2)) (hT 0) m ρ
      (fun c => by rw [Subsingleton.elim c 0]) (fun c => by rw [Subsingleton.elim c 0]))

end Cert.Proof.NextExpertsIdeal

end
-- ==== Proof.NextExpertsRef.lean ====
module

public import proofs.«01_k».proof.Proof.NextExpertsChunk
public import proofs.«01_k».proof.Proof.Gen.NextExpertsReferenceIdeal.Run
public import Idealize.ShloMosaic.Lib.Pointwise
public import Idealize.ShloMosaic.Lib.IdealHost

@[expose] public section

set_option maxRecDepth 65536

noncomputable section

/-! The second layer's experts' reference stage by stage: a token's answer is its tile's expert's. -/

namespace Cert.Proof.NextExpertsReferenceIdeal

open Cert.NextExpertsReferenceIdeal Cert.NextExpertsReferenceIdeal.Gen Cert.NextExpertsReferenceIdeal.Value
open Cert.Proof.NextExpertsIdeal (act)
open Idealize.ShloMosaic Idealize.ShloMosaic.TcCoe Idealize.SL.Sem

/-- The tokens' features. -/
def xh (x : FVec Ideal S2x196608x256 .bf16) : FVec Ideal S96x1024x1024 .f32 :=
  shapeCast _ (transpose S96x1024x2x2x256 [1, 2, 0, 3, 4] (shapeCast _ (extf .f32 x bitsLt_bf16_f32) shapeCasts_S2x196608x256_S2x96x1024x2x256) transposes_S2x96x1024x2x256_S96x1024x2x2x256_1_2_0_3_4) shapeCasts_S96x1024x2x2x256_S96x1024x1024

/-- Every expert's first layer of every token. -/
def uh (x : FVec Ideal S96x1024x1024 .f32) (w : FVec Ideal S2x32x1024x512 .f32) : FVec Ideal S96x1024x32x512 .f32 :=
  Host.dotGeneral dot_S96x1024x1024_S32x1024x512_S96x1024x32x512_2_1_01_02_n_n none x (shapeCast _ (extractStridedSlice S1x32x1024x512 ![1, 0, 0, 0] w slices_S2x32x1024x512_S1x32x1024x512_1_0_0_0) shapeCasts_S1x32x1024x512_S32x1024x512)

/-- Which expert a tile has. -/
def eh (e : IVec S96 32) : FVec Ideal S96x32 .f32 :=
  sitofp .f32 (extui 32 (cmpi .eq (broadcastInDim S96x32 ![0, 1] bcast_S96x1_S96x32_0_1 (broadcastInDim S96x1 ![0] bcast_S96_S96x1_0 e)) (broadcastInDim S96x32 ![0, 1] bcast_S1x32_S96x32_0_1 (broadcastInDim S1x32 ![1] bcast_S32_S1x32_1 (iotaInDim S32 32 0)))) natLt_1_32)

/-- The gated activations, of the tile's expert alone. -/
def ah (u : FVec Ideal S96x1024x32x512 .f32) (g : FVec Ideal S96x32 .f32) : FVec Ideal S96x1024x32x256 .f32 :=
  mulf (mulf (mulf (extractStridedSlice S96x1024x32x256 ![0, 0, 0, 0] u slices_S96x1024x32x512_S96x1024x32x256_0_0_0_0) (Host.divf (broadcastInDim S96x1024x32x256 ![] bcast_S_S96x1024x32x256 (constant S_ .f32 0x3F800000#32)) (addf (broadcastInDim S96x1024x32x256 ![] bcast_S_S96x1024x32x256 (constant S_ .f32 0x3F800000#32)) (Host.exp (Host.negf (extractStridedSlice S96x1024x32x256 ![0, 0, 0, 0] u slices_S96x1024x32x512_S96x1024x32x256_0_0_0_0)))))) (extractStridedSlice S96x1024x32x256 ![0, 0, 0, 256] u slices_S96x1024x32x512_S96x1024x32x256_0_0_0_256)) (broadcastInDim S96x1024x32x256 ![0, 1, 2, 3] bcast_S96x1x32x1_S96x1024x32x256_0_1_2_3 (broadcastInDim S96x1x32x1 ![0, 2] bcast_S96x32_S96x1x32x1_0_2 g))

/-- The second layer, over every expert. -/
def yh (a : FVec Ideal S96x1024x32x256 .f32) (w : FVec Ideal S2x32x256x1024 .f32) : FVec Ideal S96x1024x1024 .f32 :=
  Host.dotGeneral dot_S96x1024x32x256_S32x256x1024_S96x1024x1024_23_01_01_2_n_n none a (shapeCast _ (extractStridedSlice S1x32x256x1024 ![1, 0, 0, 0] w slices_S2x32x256x1024_S1x32x256x1024_1_0_0_0) shapeCasts_S1x32x256x1024_S32x256x1024)

/-- The answers in the layout of the tokens. -/
def rh (y : FVec Ideal S96x1024x1024 .f32) : FVec Ideal S2x196608x256 .bf16 :=
  truncf .bf16 (shapeCast _ (transpose S2x96x1024x2x256 [2, 0, 1, 3, 4] (shapeCast _ y shapeCasts_S96x1024x1024_S96x1024x2x2x256) transposes_S96x1024x2x2x256_S2x96x1024x2x256_2_0_1_3_4) shapeCasts_S2x96x1024x2x256_S2x196608x256) bitsLt_bf16_f32

/-- The reference's result, of the four arrays it reads. -/
def G (x : FVec Ideal S2x196608x256 .bf16) (e : IVec S96 32) (w : FVec Ideal S2x32x1024x512 .f32) (d : FVec Ideal S2x32x256x1024 .f32) : FVec Ideal S2x196608x256 .bf16 :=
  rh (yh (ah (uh (xh x) w) (eh e)) d)

/-! ## The stages at an index -/

/-- A feature of a token. -/
theorem xh_at (x : FVec Ideal S2x196608x256 .bf16) (t : Fin 96) (R k : Fin 1024) : (xh x (ix3 t R k) : EReal)
    = x (ix3 (⟨k.val / 512, by omega⟩ : Fin 2) (⟨t.val * 2048 + R.val * 2 + k.val / 256 % 2, by omega⟩ : Fin 196608) (⟨k.val % 256, by omega⟩ : Fin 256)) := by
  unfold xh
  pointwise

/-- A first layer's product. -/
theorem uh_at (x : FVec Ideal S96x1024x1024 .f32) (w : FVec Ideal S2x32x1024x512 .f32) (t : Fin 96) (R : Fin 1024) (e : Fin 32) (f : Fin 512) :
    (uh x w (ix4 t R e f) : EReal) = ∑ k : Fin 1024, x (ix3 t R k) * w (ix4 (1 : Fin 2) e k f) := by
  unfold uh
  pointwise

/-- An activation. -/
theorem ah_at (u : FVec Ideal S96x1024x32x512 .f32) (g : FVec Ideal S96x32 .f32) (t : Fin 96) (R : Fin 1024) (e : Fin 32) (f : Fin 256) :
    (ah u g (ix4 t R e f) : EReal) = act (u (ix4 t R e (⟨f.val, by omega⟩ : Fin 512))) (u (ix4 t R e (⟨256 + f.val, by omega⟩ : Fin 512))) * g (ix2 t e) := by
  unfold ah act Ideal.logistic
  rw [← Ideal.ofBits_one_f32]
  pointwise

/-- The second layer's sum. -/
theorem yh_at (a : FVec Ideal S96x1024x32x256 .f32) (w : FVec Ideal S2x32x256x1024 .f32) (t : Fin 96) (R d : Fin 1024) :
    (yh a w (ix3 t R d) : EReal) = ∑ e : Fin 32, ∑ f : Fin 256, a (ix4 t R e f) * w (ix4 (1 : Fin 2) e f d) := by
  unfold yh
  pointwise

/-- An answer where it lies. -/
theorem rh_at (y : FVec Ideal S96x1024x1024 .f32) (h : Fin 2) (r : Fin 196608) (c : Fin 256) : (rh y (ix3 h r c) : EReal)
    = y (ix3 (⟨r.val / 2048, by omega⟩ : Fin 96) (⟨r.val / 2 % 1024, by omega⟩ : Fin 1024) (⟨h.val * 512 + r.val % 2 * 256 + c.val, by omega⟩ : Fin 1024)) := by
  unfold rh
  pointwise

/-- Whether a tile has an expert. -/
theorem eh_at (e : IVec S96 32) (t : Fin 96) (j : Fin 32) : (eh e (ix2 t j) : EReal) = if (e (ix1 t)).toNat = j.val then 1 else 0 := by
  unfold eh
  pointwise
  have hj := j.isLt
  by_cases h : (e (ix1 t)).toNat = j.val
  · have h1 : IntOp.cmpi .eq (e (ix1 t)) (BitVec.ofNat 32 j.val) = 1#1 := IntOp.cmpi_eq.2 (BitVec.eq_of_toNat_eq (by rw [BitVec.toNat_ofNat, h]; omega))
    rw [h1, if_pos h]
    show (((1#32 : BitVec 32).toInt : ℝ) : EReal) = 1
    norm_num
  · have h0 : IntOp.cmpi .eq (e (ix1 t)) (BitVec.ofNat 32 j.val) = 0#1 := by
      rcases BitVec.eq_zero_or_eq_one (IntOp.cmpi .eq (e (ix1 t)) (BitVec.ofNat 32 j.val)) with h' | h'
      · exact h'
      · refine absurd ?_ h
        rw [IntOp.cmpi_eq.1 h', BitVec.toNat_ofNat]
        omega
    rw [h0, if_neg h]
    show (((0#32 : BitVec 32).toInt : ℝ) : EReal) = 0
    norm_num

/-- A token's answer: its tile's expert's. -/
theorem G_at (x : FVec Ideal S2x196608x256 .bf16) (e : IVec S96 32) (w : FVec Ideal S2x32x1024x512 .f32) (d : FVec Ideal S2x32x256x1024 .f32)
    (h : Fin 2) (r : Fin 196608) (c : Fin 256) (E : Fin 32) (hE : (e (ix1 (⟨r.val / 2048, by omega⟩ : Fin 96))).toNat = E.val) :
    (G x e w d (ix3 h r c) : EReal) = ∑ f : Fin 256,
      act (∑ k : Fin 1024, xh x (ix3 (⟨r.val / 2048, by omega⟩ : Fin 96) (⟨r.val / 2 % 1024, by omega⟩ : Fin 1024) k) * w (ix4 (1 : Fin 2) E k (⟨f.val, by omega⟩ : Fin 512)))
        (∑ k : Fin 1024, xh x (ix3 (⟨r.val / 2048, by omega⟩ : Fin 96) (⟨r.val / 2 % 1024, by omega⟩ : Fin 1024) k) * w (ix4 (1 : Fin 2) E k (⟨256 + f.val, by omega⟩ : Fin 512)))
      * d (ix4 (1 : Fin 2) E f (⟨h.val * 512 + r.val % 2 * 256 + c.val, by omega⟩ : Fin 1024)) := by
  unfold G
  rw [rh_at, yh_at, Finset.sum_eq_single E]
  · refine Finset.sum_congr rfl fun f _ => ?_
    rw [ah_at, eh_at, if_pos hE, mul_one, uh_at, uh_at]
  · intro j _ hj
    refine Finset.sum_eq_zero fun f _ => ?_
    rw [ah_at, eh_at, if_neg fun h => hj (Fin.ext (h.symm.trans hE)), mul_zero, zero_mul]
  · intro h
    exact absurd (Finset.mem_univ _) h

/-- The reference runs to `G` of its arguments, and leaves them alone. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = G (m ((c.tc : Thread nD τ).loc main_arg0)) (m ((c.tc : Thread nD τ).loc main_arg1))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.NextExpertsReferenceIdeal.Value.run (F := Ideal) m ρ

end Cert.Proof.NextExpertsReferenceIdeal

end
-- ==== Proof.NextExpertsValue.lean ====
module

public import proofs.«01_k».proof.Proof.NextExpertsIdealFrame
public import proofs.«01_k».proof.Proof.NextExpertsRef
public import proofs.«01_k».proof.Proof.Gen.On_tiles_used
public import Idealize.ShloMosaic.Lib.Pipeline.ValueKit

@[expose] public section

set_option maxRecDepth 65536

noncomputable section

/-! The second layer's experts' result array: where a tile is used, the reference's result. -/

namespace Cert.Proof.NextExpertsIdeal

open Cert.NextExpertsIdeal Cert.NextExpertsIdeal.Gen
open Cert.Proof.NextExpertsReferenceIdeal (G G_at xh xh_at)
open Idealize.ShloMosaic Idealize.ShloMosaic.TcCoe Idealize.SL.Sem
open Idealize.ShloMosaic.Pipeline (Dat RDat Cfg Window)

/-- What the mask says at an index. -/
theorem mask_at (x : FVec Ideal S2x196608x256 .bf16) (e : IVec S96 32) (n : IVec S1 32) (w : FVec Ideal S2x32x1024x512 .f32) (d : FVec Ideal S2x32x256x1024 .f32)
    (h : Fin 2) (r : Fin 196608) (c : Fin 256) :
    Cert.On_tiles_used.fn (F := Ideal) x e n w d (ix3 h r c) = IntOp.cmpi .slt (BitVec.ofNat 32 (r.val / 2048)) (n (ix1 (0 : Fin 1))) := by
  unfold Cert.On_tiles_used.fn
  dsimp only
  pointwise

section
variable (T0 : S96.Idx → BitVec 32) (T1 : S1.Idx → BitVec 32) (hT : ∀ i, (T0 i).toNat < 32)
variable (m : (ℓ : Loc nD τ sig) → Buf (Elt Ideal) ℓ) (c : Dev nD)

/-- Every point writes its block back. -/
theorem flushes (t : Fin (cfgT T0 T1 hT).N) : ((cfgT T0 T1 hT).win 3).flush t = true :=
  (Pipeline.Window.flush_eq_flushOf _ t).trans ((by decide +kernel : ∀ t : Fin grid0.N, Pipeline.Window.flushOf grid0 true cc0_transform_3 t = true) t)

/-- Where a point's block lies in the result. -/
theorem emb_at (t : Fin (cfgT T0 T1 hT).N) (h : Fin 2) (s : Fin 2048) (b : Fin 256) :
    (((cfgT T0 T1 hT).win 3).blk t).view.emb (ix3 h s b) = (ix3 h (⟨2048 * t.val + s.val, by have : t.val < 96 := t.isLt; omega⟩ : Fin 196608) b : S2x196608x256.Idx) := by
  blk_ext []
  · refine (congrArg (fun n => n * 2 + h.val) (congrFun (index_3 T0 T1 hT t) 0)).trans ?_; show 0 * 2 + h.val = h.val; omega
  · refine (congrArg (fun n => n * 2048 + s.val) (congrFun (index_3 T0 T1 hT t) 1)).trans ?_; show t.val * 2048 + s.val = 2048 * t.val + s.val; omega
  · refine (congrArg (fun n => n * 256 + b.val) (congrFun (index_3 T0 T1 hT t) 2)).trans ?_; show 0 * 256 + b.val = b.val; omega

/-- The blocks cover the result. -/
theorem cover (i : S2x196608x256.Idx) : ∃ t : Fin (cfgT T0 T1 hT).N, ((cfgT T0 T1 hT).win 3).flush t = true ∧ i ∈ (((cfgT T0 T1 hT).win 3).blk t).view.set := by
  have h1 : (i 1).val < 196608 := (i 1).isLt
  refine ⟨⟨(i 1).val / 2048, by show (i 1).val / 2048 < 96; omega⟩, flushes T0 T1 hT _, ?_⟩
  have e := emb_at T0 T1 hT ⟨(i 1).val / 2048, by show (i 1).val / 2048 < 96; omega⟩ (i 0) (⟨(i 1).val % 2048, by omega⟩ : Fin 2048) (i 2)
  have hi : (ix3 (i 0) (⟨2048 * ((i 1).val / 2048) + (i 1).val % 2048, by omega⟩ : Fin 196608) (i 2) : S2x196608x256.Idx) = i := funext fun a => by
    match a with
    | ⟨0, _⟩ => rfl
    | ⟨1, _⟩ => exact Fin.ext (show 2048 * ((i 1).val / 2048) + (i 1).val % 2048 = (i 1).val by omega)
    | ⟨2, _⟩ => rfl
  have e' := e.trans hi
  exact Eq.mp (congrArg (fun x => x ∈ (((cfgT T0 T1 hT).win 3).blk _).view.set) e') (View.emb_mem_set _ _)

/-- What is claimed of an entry of the result: the reference's, where its tile is used. -/
def Good (i : S2x196608x256.Idx) (v : EReal) : Prop :=
  IntOp.cmpi .slt (BitVec.ofNat 32 ((i 1).val / 2048)) (T1 (ix1 (0 : Fin 1))) = 1#1 →
    v = G (m ((c.tc : Thread nD τ).loc main_arg0)) T0 (m ((c.tc : Thread nD τ).loc main_arg3)) (m ((c.tc : Thread nD τ).loc main_arg4)) i

/-- A point's block is the reference's result there. -/
theorem block_at (t : Fin (cfgT T0 T1 hT).N) (X : FVec Ideal S2x2048x256 .bf16)
    (hO : Out (iblk T0 T1 hT m c 0 t) (W1 T0 T1 hT m c t) (W2 T0 T1 hT m c t) X) (h : Fin 2) (s : Fin 2048) (b : Fin 256) :
    (X (ix3 h s b) : EReal) = G (m ((c.tc : Thread nD τ).loc main_arg0)) T0 (m ((c.tc : Thread nD τ).loc main_arg3)) (m ((c.tc : Thread nD τ).loc main_arg4))
      (ix3 h (⟨2048 * t.val + s.val, by have : t.val < 96 := t.isLt; omega⟩ : Fin 196608) b) := by
  have ht : t.val < 96 := t.isLt
  have hs := s.isLt
  have hE : (T0 (ix1 (⟨(2048 * t.val + s.val) / 2048, by omega⟩ : Fin 96))).toNat = (te T0 T1 hT t).val := by
    show (T0 _).toNat = (T0 _).toNat
    rw [show (⟨(2048 * t.val + s.val) / 2048, by omega⟩ : Fin 96) = grid0.coords t 0 from
      Fin.ext (show (2048 * t.val + s.val) / 2048 = (grid0.coords t 0).val by rw [coord T0 T1 hT t]; omega)]
  rw [hO h s b, G_at _ _ _ _ h _ b (te T0 T1 hT t) hE]
  unfold ans
  have hx : ∀ k : Fin 1024, tok (iblk T0 T1 hT m c 0 t) ⟨s.val / 2, by omega⟩ k
      = xh (m ((c.tc : Thread nD τ).loc main_arg0)) (ix3 (⟨(2048 * t.val + s.val) / 2048, by omega⟩ : Fin 96) (⟨(2048 * t.val + s.val) / 2 % 1024, by omega⟩ : Fin 1024) k) := fun k => by
    unfold tok
    rw [xh_at, iblk_0]
    refine congrArg (fun a => m ((c.tc : Thread nD τ).loc main_arg0) (ix3 (⟨k.val / 512, by omega⟩ : Fin 2) a (⟨k.val % 256, by omega⟩ : Fin 256))) (Fin.ext ?_)
    show 2048 * t.val + (2 * (s.val / 2) + k.val / 256 % 2) = (2048 * t.val + s.val) / 2048 * 2048 + (2048 * t.val + s.val) / 2 % 1024 * 2 + k.val / 256 % 2
    omega
  refine Finset.sum_congr rfl fun f _ => ?_
  simp only [W1_at, W2_at, hx]
  refine congrArg (fun a => _ * m ((c.tc : Thread nD τ).loc main_arg4) (ix4 (1 : Fin 2) (te T0 T1 hT t) f a)) (Fin.ext ?_)
  show 512 * h.val + 256 * (s.val % 2) + b.val = h.val * 512 + (2048 * t.val + s.val) % 2 * 256 + b.val
  omega

/-- It holds of a block a point leaves. -/
theorem good_at (t : Fin (cfgT T0 T1 hT).N) (X : FVec Ideal S2x2048x256 .bf16)
    (hO : Used (grid0.coords t) T1 → Out (iblk T0 T1 hT m c 0 t) (W1 T0 T1 hT m c t) (W2 T0 T1 hT m c t) X) (h : Fin 2) (s : Fin 2048) (b : Fin 256) :
    Good T0 T1 m c (ix3 h (⟨2048 * t.val + s.val, by have : t.val < 96 := t.isLt; omega⟩ : Fin 196608) b) (X (ix3 h s b)) := fun hu => by
  have ht : t.val < 96 := t.isLt
  have hs := s.isLt
  refine block_at T0 T1 hT m c t X (hO ?_) h s b
  rw [used_iff, coord T0 T1 hT t]
  have hu' := IntOp.cmpi_slt.1 hu
  have e : (2048 * t.val + s.val) / 2048 = t.val := by omega
  have e' : (BitVec.ofNat 32 ((2048 * t.val + s.val) / 2048)).toInt < (T1 (ix1 (0 : Fin 1))).toInt := hu'
  rw [e, toInt_coord _ ht] at e'
  exact e'

/-- What a run leaves in the result array. -/
theorem result {r : PUnit × MemSt nD τ sig (Elt Ideal)}
    (hr : RDat.FramePost (cfgT T0 T1 hT) (fun c => (dat T0 T1 hT m c).toRRel (fgt T0 T1 hT) (Rl T0 T1 hT m c)) (V m) r) (i : S2x196608x256.Idx) :
    Good T0 T1 m c i (r.2.mem ((c.tc : Thread nD τ).loc main_v0) i) := by
  obtain ⟨after, hL, hA⟩ := RDat.FramePost.exists_exact hr c
  have h3 := congrFun (hA 3) i
  have hG : ∀ t : Fin (cfgT T0 T1 hT).N, ((cfgT T0 T1 hT).win 3).flush t = true → ∀ (h : Fin 2) (s : Fin 2048) (b : Fin 256),
      Good T0 T1 m c (ix3 h (⟨2048 * t.val + s.val, by have : t.val < 96 := t.isLt; omega⟩ : Fin 196608) b) (after 3 t (ix3 h s b)) :=
    fun t hf => good_at T0 T1 hT m c t (after 3 t) (Dat.toRRel_leaves (dat T0 T1 hT m c) rfl (hL 3 t hf))
  have hY : ∀ t : Fin (cfgT T0 T1 hT).N, ((cfgT T0 T1 hT).win 3).flush t = true → ∀ y : S2x2048x256.Idx,
      Good T0 T1 m c ((((cfgT T0 T1 hT).win 3).blk t).view.emb y) (after 3 t y) := fun t hf y => by
    have hy : y = ix3 (y 0) (y 1) (y 2) := by blk_ext []
    rw [hy]
    exact Eq.mpr (congrArg (fun j => Good T0 T1 m c j (after 3 t (ix3 (y 0) (y 1) (y 2)))) (emb_at T0 T1 hT t (y 0) (y 1) (y 2))) (hG t hf (y 0) (y 1) (y 2))
  refine Eq.mpr (congrArg (Good T0 T1 m c i) h3) ?_
  refine Dat.arrAt_forall_of_cover (c := c) (Val := Elt Ideal) (cfg := cfgT T0 T1 hT) _ 3 (fun j v => Good T0 T1 m c j v) (fun t hf y => ?_) (cover T0 T1 hT) i
  exact hY t hf y

end

end Cert.Proof.NextExpertsIdeal

end
-- ==== Proof.lean ====
/- The claims of the differential attention and of the experts: the frames, the constant's value and the words' halves, and the
   equalities with the references. -/
module

public import proofs.«01_k».proof.Defs
public import proofs.«01_k».proof.Proof.Bits
public import proofs.«01_k».proof.Proof.Launch
public import proofs.«01_k».proof.Proof.Value
public import proofs.«01_k».proof.Proof.Finite
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Named
public import proofs.«01_k».proof.Proof.ExpertsFrame
public import proofs.«01_k».proof.Proof.ExpertsValue
public import proofs.«01_k».proof.Proof.Gen.Experts
public import proofs.«01_k».proof.Proof.Gen.Experts.Flash.Runs
public import proofs.«01_k».proof.Proof.Gen.Experts.Launch
public import proofs.«01_k».proof.Proof.Gen.ExpertsIdeal.Flash.Runs
public import proofs.«01_k».proof.Proof.Gen.ExpertsIdeal.Launch
public import proofs.«01_k».proof.Proof.Gen.ExpertsIdeal
public import proofs.«01_k».proof.Proof.Gen.ExpertsReferenceIdeal
public import proofs.«01_k».proof.Proof.Gen.ExpertsReferenceIdeal.Run
public import proofs.«01_k».proof.Proof.Gen.Pre_experts_named
public import proofs.«01_k».proof.Proof.Gen.On_tiles_used
public import proofs.«01_k».proof.Proof.NextExpertsFrame
public import proofs.«01_k».proof.Proof.NextExpertsValue
public import proofs.«01_k».proof.Proof.Gen.NextExperts
public import proofs.«01_k».proof.Proof.Gen.NextExperts.Flash.Runs
public import proofs.«01_k».proof.Proof.Gen.NextExperts.Launch
public import proofs.«01_k».proof.Proof.Gen.NextExpertsIdeal.Flash.Runs
public import proofs.«01_k».proof.Proof.Gen.NextExpertsIdeal.Launch
public import proofs.«01_k».proof.Proof.Gen.NextExpertsIdeal
public import proofs.«01_k».proof.Proof.Gen.NextExpertsReferenceIdeal
public import proofs.«01_k».proof.Proof.Gen.NextExpertsReferenceIdeal.Run
public import Idealize.ShloMosaic.Adequacy
public import Idealize.ShloMosaic.Lib.Bf16Pair
public import Idealize.ShloMosaic.Init

@[expose] public section

noncomputable section

namespace Cert.Proof

open Idealize.ShloMosaic Idealize.SL.Sem

/-- The printed program runs and leaves its arguments and semaphores. -/
theorem frame_p : Cert.quiescent_Kernel := fun m ρ _ => Kernel.frame m ρ

/-- So does the idealized one, -/
theorem frame_pi : Cert.quiescent_KernelIdeal := fun m ρ _ =>
  (θ_run Cert.KernelIdeal.defs _ _).mono (fun _ h => ⟨fun c => KernelIdeal.args_of m h.1 c, h.2⟩) (KernelIdeal.run (F := Ideal) m ρ)

/-- and the reference. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one named constant is the value the certificate's table gives it. -/
theorem preserves : Cert.preserves_Kernel_KernelIdeal :=
  IdealRules.named_const.statement Cert.KernelIdeal.κ "scale" .f32 0x3E38AA3B#32 (((1 / 8) * (Real.log 2)⁻¹ : ℝ) : EReal) rfl

/-- Over the extended reals the kernel's result is the reference's, where the values and the parameters of the second map's
    weight are real. -/
theorem algebraic : Cert.algebraic_KernelIdeal_ReferenceIdeal_pre_finite := by
  intro m ρ m' ρ' hpre hagree
  refine ⟨fun c => KernelIdeal.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · refine (θ_run Cert.KernelIdeal.defs _ _).mono (fun r h c => ⟨?_, KernelIdeal.args_of m h.1 c⟩) (KernelIdeal.run (F := Ideal) m ρ)
    obtain ⟨hv, hl⟩ := Cert.Pre_finite.real_of_fn _ _ _ _ (hpre c)
    refine KernelIdeal.result m c
      (fun b i d => if h : i < 8192 ∧ d < 3072 then m ((c.tc : Thread Cert.KernelIdeal.nD Cert.KernelIdeal.τ).loc Cert.KernelIdeal.main_arg0) (ix3 b (⟨i, h.1⟩ : Fin 8192) (⟨d, h.2⟩ : Fin 3072)) else 0)
      (fun b d j => if h : d < 1024 ∧ j < 8192 then EReal.toReal (m ((c.tc : Thread Cert.KernelIdeal.nD Cert.KernelIdeal.τ).loc Cert.KernelIdeal.main_arg1) (ix3 b (⟨d, h.1⟩ : Fin 1024) (⟨j, h.2⟩ : Fin 8192))) else 0)
      (fun a d => EReal.toReal (m ((c.tc : Thread Cert.KernelIdeal.nD Cert.KernelIdeal.τ).loc Cert.KernelIdeal.main_arg2) (ix2 a d)))
      (fun b i d => ?_) (fun b d j => ?_) (fun a d => hl _) h.1
    · rw [dif_pos ⟨i.isLt, d.isLt⟩]
    · rw [dif_pos ⟨d.isLt, j.isLt⟩]; exact hv _
  · refine (θ_run Cert.ReferenceIdeal.defs _ _).mono (fun _ h c => ⟨(h c).1.trans ?_, (h c).2⟩) (Cert.ReferenceIdeal.Value.run (F := Ideal) m' ρ')
    obtain ⟨e0, e1, e2, e3⟩ := hagree c
    refine (ReferenceIdeal.res_eq m' c).trans ?_
    rw [e0, e1, e2, e3]
    rfl

/-- The experts' printed program runs and leaves its arguments and semaphores, where every tile names an expert. -/
theorem frame_e : Cert.quiescent_Experts := fun m ρ h => Experts.frame m ρ fun c i => Cert.Pre_experts_named.lt_of_fn _ _ _ _ _ (h c) i

/-- So does the idealized one, -/
theorem frame_ei : Cert.quiescent_ExpertsIdeal := fun m ρ h => ExpertsIdeal.frame m ρ fun c i => Cert.Pre_experts_named.lt_of_fn _ _ _ _ _ (h c) i

/-- and the experts' reference, everywhere. -/
theorem frame_eri : Cert.quiescent_ExpertsReferenceIdeal := fun m ρ _ =>
  (θ_run Cert.ExpertsReferenceIdeal.defs _ _).mono (fun r h => ⟨fun c => (h c).2, sem_eq_zero_of_no_sems (by decide) r.2⟩)
    (ExpertsReferenceIdeal.run m ρ)

/-- The packed words are read as the halves they hold. -/
theorem preserves_e : Cert.preserves_Experts_ExpertsIdeal :=
  ⟨IdealRules.bf16_pair.statement _ _, IdealRules.bf16_pair.statement _ _, IdealRules.bf16_pair.packStatement _⟩

/-- Over the extended reals the experts' result is their reference's, where a row's tile is used. -/
theorem algebraic_e : Cert.algebraic_ExpertsIdeal_ExpertsReferenceIdeal_on_tiles_used := by
  intro m ρ m' ρ' hpre hagree
  have hT : ∀ i : Cert.ExpertsIdeal.S96.Idx, BitVec.toNat (w := 32) (m (((0 : Dev Cert.ExpertsIdeal.nD).tc : Thread Cert.ExpertsIdeal.nD Cert.ExpertsIdeal.τ).loc Cert.ExpertsIdeal.main_arg1) i) < 32 := fun i =>
    Cert.Pre_experts_named.lt_of_fn _ _ _ _ _ (hpre 0) i
  refine ⟨fun c => ExpertsReferenceIdeal.G (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)), ?_, ?_⟩
  · refine (θ_run Cert.ExpertsIdeal.defs _ _).mono (fun r h c => ⟨fun i hi => ?_, ExpertsIdeal.args_of _ _ hT m h.1 c⟩)
      (ExpertsIdeal.run (m (((0 : Dev Cert.ExpertsIdeal.nD).tc : Thread Cert.ExpertsIdeal.nD Cert.ExpertsIdeal.τ).loc Cert.ExpertsIdeal.main_arg1)) (m (((0 : Dev Cert.ExpertsIdeal.nD).tc : Thread Cert.ExpertsIdeal.nD Cert.ExpertsIdeal.τ).loc Cert.ExpertsIdeal.main_arg2)) hT m ρ (fun c => by rw [Subsingleton.elim c 0]) (fun c => by rw [Subsingleton.elim c 0]))
    obtain rfl : c = 0 := Subsingleton.elim c 0
    have e : i = ix3 (i 0) (i 1) (i 2) := funext fun a => by
      match a with
      | ⟨0, _⟩ => rfl
      | ⟨1, _⟩ => rfl
      | ⟨2, _⟩ => rfl
    rw [e] at hi
    exact ExpertsIdeal.result _ _ hT m 0 h.1 i ((ExpertsIdeal.mask_at _ _ _ _ _ (i 0) (i 1) (i 2)).symm.trans hi)
  · refine (θ_run Cert.ExpertsReferenceIdeal.defs _ _).mono (fun _ h c => ⟨fun i _ => congrFun ((h c).1.trans ?_) i, (h c).2⟩) (ExpertsReferenceIdeal.run m' ρ')
    obtain ⟨e0, e1, e2, e3, e4⟩ := hagree c
    rw [e0, e1, e3, e4]

/-- The printed program of the second layer's experts runs and leaves its arguments and semaphores, where every tile names an expert. -/
theorem frame_e_next : Cert.quiescent_NextExperts := fun m ρ h => NextExperts.frame m ρ fun c i => Cert.Pre_experts_named.lt_of_fn _ _ _ _ _ (h c) i

/-- So does the idealized one, -/
theorem frame_ei_next : Cert.quiescent_NextExpertsIdeal := fun m ρ h => NextExpertsIdeal.frame m ρ fun c i => Cert.Pre_experts_named.lt_of_fn _ _ _ _ _ (h c) i

/-- and their reference, everywhere. -/
theorem frame_eri_next : Cert.quiescent_NextExpertsReferenceIdeal := fun m ρ _ =>
  (θ_run Cert.NextExpertsReferenceIdeal.defs _ _).mono (fun r h => ⟨fun c => (h c).2, sem_eq_zero_of_no_sems (by decide) r.2⟩)
    (NextExpertsReferenceIdeal.run m ρ)

/-- Their packed words are read as the halves they hold. -/
theorem preserves_e_next : Cert.preserves_NextExperts_NextExpertsIdeal :=
  ⟨IdealRules.bf16_pair.statement _ _, IdealRules.bf16_pair.statement _ _, IdealRules.bf16_pair.packStatement _⟩

/-- Over the extended reals the second layer's experts' result is their reference's, where a row's tile is used. -/
theorem algebraic_e_next : Cert.algebraic_NextExpertsIdeal_NextExpertsReferenceIdeal_on_tiles_used := by
  intro m ρ m' ρ' hpre hagree
  have hT : ∀ i : Cert.NextExpertsIdeal.S96.Idx, BitVec.toNat (w := 32) (m (((0 : Dev Cert.NextExpertsIdeal.nD).tc : Thread Cert.NextExpertsIdeal.nD Cert.NextExpertsIdeal.τ).loc Cert.NextExpertsIdeal.main_arg1) i) < 32 := fun i =>
    Cert.Pre_experts_named.lt_of_fn _ _ _ _ _ (hpre 0) i
  refine ⟨fun c => NextExpertsReferenceIdeal.G (m ((c.tc : Thread Cert.NextExpertsIdeal.nD Cert.NextExpertsIdeal.τ).loc Cert.NextExpertsIdeal.main_arg0)) (m ((c.tc : Thread Cert.NextExpertsIdeal.nD Cert.NextExpertsIdeal.τ).loc Cert.NextExpertsIdeal.main_arg1)) (m ((c.tc : Thread Cert.NextExpertsIdeal.nD Cert.NextExpertsIdeal.τ).loc Cert.NextExpertsIdeal.main_arg3)) (m ((c.tc : Thread Cert.NextExpertsIdeal.nD Cert.NextExpertsIdeal.τ).loc Cert.NextExpertsIdeal.main_arg4)), ?_, ?_⟩
  · refine (θ_run Cert.NextExpertsIdeal.defs _ _).mono (fun r h c => ⟨fun i hi => ?_, NextExpertsIdeal.args_of _ _ hT m h.1 c⟩)
      (NextExpertsIdeal.run (m (((0 : Dev Cert.NextExpertsIdeal.nD).tc : Thread Cert.NextExpertsIdeal.nD Cert.NextExpertsIdeal.τ).loc Cert.NextExpertsIdeal.main_arg1)) (m (((0 : Dev Cert.NextExpertsIdeal.nD).tc : Thread Cert.NextExpertsIdeal.nD Cert.NextExpertsIdeal.τ).loc Cert.NextExpertsIdeal.main_arg2)) hT m ρ (fun c => by rw [Subsingleton.elim c 0]) (fun c => by rw [Subsingleton.elim c 0]))
    obtain rfl : c = 0 := Subsingleton.elim c 0
    have e : i = ix3 (i 0) (i 1) (i 2) := funext fun a => by
      match a with
      | ⟨0, _⟩ => rfl
      | ⟨1, _⟩ => rfl
      | ⟨2, _⟩ => rfl
    rw [e] at hi
    exact NextExpertsIdeal.result _ _ hT m 0 h.1 i ((NextExpertsIdeal.mask_at _ _ _ _ _ (i 0) (i 1) (i 2)).symm.trans hi)
  · refine (θ_run Cert.NextExpertsReferenceIdeal.defs _ _).mono (fun _ h c => ⟨fun i _ => congrFun ((h c).1.trans ?_) i, (h c).2⟩) (NextExpertsReferenceIdeal.run m' ρ')
    obtain ⟨e0, e1, e2, e3, e4⟩ := hagree c
    rw [e0, e1, e3, e4]

/-- All the claims, with the side conditions of the programs' operations. -/
theorem claim : Cert.Claim := ⟨Cert.Kernel.Gen.facts, Cert.KernelIdeal.Gen.facts, Cert.ReferenceIdeal.Gen.facts,
  Cert.Experts.Gen.facts, Cert.ExpertsIdeal.Gen.facts, Cert.ExpertsReferenceIdeal.Gen.facts,
  Cert.NextExperts.Gen.facts, Cert.NextExpertsIdeal.Gen.facts, Cert.NextExpertsReferenceIdeal.Gen.facts, Cert.Pre_finite.facts, Cert.Pre_experts_named.facts, Cert.On_tiles_used.Gen.facts,
  frame_p, frame_pi, fun m ρ _ => frame_pi m ρ trivial, frame_ri, fun m ρ _ => frame_ri m ρ trivial, frame_e, frame_ei, frame_eri, fun m ρ _ => frame_eri m ρ trivial,
  frame_e_next, frame_ei_next, frame_eri_next, fun m ρ _ => frame_eri_next m ρ trivial,
  preserves, algebraic, preserves_e, algebraic_e, preserves_e_next, algebraic_e_next⟩

end Cert.Proof

end
